-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_nonneg [hPre_scales_nonneg : Cert.Pre_scales_nonneg.Facts] (m : (ℓ : Loc Cert.KernelIdeal.nD Cert.KernelIdeal.τ Cert.KernelIdeal.sig) → Buf (Elt Ideal) ℓ) : Prop :=
  ∀ c : Dev Cert.KernelIdeal.nD,
    (Cert.Pre_scales_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_scales_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_nonneg [hPre_scales_nonneg : Cert.Pre_scales_nonneg.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_nonneg.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_scales_nonneg.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2 = (fun _ => 1#1)

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesIdeal_all_finite [hPre_all_finite : Cert.Pre_all_finite.Facts] (m : (ℓ : Loc Cert.GatesIdeal.nD Cert.GatesIdeal.τ Cert.GatesIdeal.sig) → Buf (Elt Ideal) ℓ) : Prop :=
  ∀ c : Dev Cert.GatesIdeal.nD,
    (Cert.Pre_all_finite.fn (F := Ideal) (m ((c.tc : Thread Cert.GatesIdeal.nD Cert.GatesIdeal.τ).loc Cert.GatesIdeal.main_arg0)) (m ((c.tc : Thread Cert.GatesIdeal.nD Cert.GatesIdeal.τ).loc Cert.GatesIdeal.main_arg1)) (m ((c.tc : Thread Cert.GatesIdeal.nD Cert.GatesIdeal.τ).loc Cert.GatesIdeal.main_arg2)) (m ((c.tc : Thread Cert.GatesIdeal.nD Cert.GatesIdeal.τ).loc Cert.GatesIdeal.main_arg3)) (m ((c.tc : Thread Cert.GatesIdeal.nD Cert.GatesIdeal.τ).loc Cert.GatesIdeal.main_arg4)) (m ((c.tc : Thread Cert.GatesIdeal.nD Cert.GatesIdeal.τ).loc Cert.GatesIdeal.main_arg5)) (m ((c.tc : Thread Cert.GatesIdeal.nD Cert.GatesIdeal.τ).loc Cert.GatesIdeal.main_arg6)) (m ((c.tc : Thread Cert.GatesIdeal.nD Cert.GatesIdeal.τ).loc Cert.GatesIdeal.main_arg7)) (m ((c.tc : Thread Cert.GatesIdeal.nD Cert.GatesIdeal.τ).loc Cert.GatesIdeal.main_arg8)) (m ((c.tc : Thread Cert.GatesIdeal.nD Cert.GatesIdeal.τ).loc Cert.GatesIdeal.main_arg9))).1 = (fun _ => 1#1)
    ∧ (Cert.Pre_all_finite.fn (F := Ideal) (m ((c.tc : Thread Cert.GatesIdeal.nD Cert.GatesIdeal.τ).loc Cert.GatesIdeal.main_arg0)) (m ((c.tc : Thread Cert.GatesIdeal.nD Cert.GatesIdeal.τ).loc Cert.GatesIdeal.main_arg1)) (m ((c.tc : Thread Cert.GatesIdeal.nD Cert.GatesIdeal.τ).loc Cert.GatesIdeal.main_arg2)) (m ((c.tc : Thread Cert.GatesIdeal.nD Cert.GatesIdeal.τ).loc Cert.GatesIdeal.main_arg3)) (m ((c.tc : Thread Cert.GatesIdeal.nD Cert.GatesIdeal.τ).loc Cert.GatesIdeal.main_arg4)) (m ((c.tc : Thread Cert.GatesIdeal.nD Cert.GatesIdeal.τ).loc Cert.GatesIdeal.main_arg5)) (m ((c.tc : Thread Cert.GatesIdeal.nD Cert.GatesIdeal.τ).loc Cert.GatesIdeal.main_arg6)) (m ((c.tc : Thread Cert.GatesIdeal.nD Cert.GatesIdeal.τ).loc Cert.GatesIdeal.main_arg7)) (m ((c.tc : Thread Cert.GatesIdeal.nD Cert.GatesIdeal.τ).loc Cert.GatesIdeal.main_arg8)) (m ((c.tc : Thread Cert.GatesIdeal.nD Cert.GatesIdeal.τ).loc Cert.GatesIdeal.main_arg9))).2.1 = (fun _ => 1#1)
    ∧ (Cert.Pre_all_finite.fn (F := Ideal) (m ((c.tc : Thread Cert.GatesIdeal.nD Cert.GatesIdeal.τ).loc Cert.GatesIdeal.main_arg0)) (m ((c.tc : Thread Cert.GatesIdeal.nD Cert.GatesIdeal.τ).loc Cert.GatesIdeal.main_arg1)) (m ((c.tc : Thread Cert.GatesIdeal.nD Cert.GatesIdeal.τ).loc Cert.GatesIdeal.main_arg2)) (m ((c.tc : Thread Cert.GatesIdeal.nD Cert.GatesIdeal.τ).loc Cert.GatesIdeal.main_arg3)) (m ((c.tc : Thread Cert.GatesIdeal.nD Cert.GatesIdeal.τ).loc Cert.GatesIdeal.main_arg4)) (m ((c.tc : Thread Cert.GatesIdeal.nD Cert.GatesIdeal.τ).loc Cert.GatesIdeal.main_arg5)) (m ((c.tc : Thread Cert.GatesIdeal.nD Cert.GatesIdeal.τ).loc Cert.GatesIdeal.main_arg6)) (m ((c.tc : Thread Cert.GatesIdeal.nD Cert.GatesIdeal.τ).loc Cert.GatesIdeal.main_arg7)) (m ((c.tc : Thread Cert.GatesIdeal.nD Cert.GatesIdeal.τ).loc Cert.GatesIdeal.main_arg8)) (m ((c.tc : Thread Cert.GatesIdeal.nD Cert.GatesIdeal.τ).loc Cert.GatesIdeal.main_arg9))).2.2.1 = (fun _ => 1#1)
    ∧ (Cert.Pre_all_finite.fn (F := Ideal) (m ((c.tc : Thread Cert.GatesIdeal.nD Cert.GatesIdeal.τ).loc Cert.GatesIdeal.main_arg0)) (m ((c.tc : Thread Cert.GatesIdeal.nD Cert.GatesIdeal.τ).loc Cert.GatesIdeal.main_arg1)) (m ((c.tc : Thread Cert.GatesIdeal.nD Cert.GatesIdeal.τ).loc Cert.GatesIdeal.main_arg2)) (m ((c.tc : Thread Cert.GatesIdeal.nD Cert.GatesIdeal.τ).loc Cert.GatesIdeal.main_arg3)) (m ((c.tc : Thread Cert.GatesIdeal.nD Cert.GatesIdeal.τ).loc Cert.GatesIdeal.main_arg4)) (m ((c.tc : Thread Cert.GatesIdeal.nD Cert.GatesIdeal.τ).loc Cert.GatesIdeal.main_arg5)) (m ((c.tc : Thread Cert.GatesIdeal.nD Cert.GatesIdeal.τ).loc Cert.GatesIdeal.main_arg6)) (m ((c.tc : Thread Cert.GatesIdeal.nD Cert.GatesIdeal.τ).loc Cert.GatesIdeal.main_arg7)) (m ((c.tc : Thread Cert.GatesIdeal.nD Cert.GatesIdeal.τ).loc Cert.GatesIdeal.main_arg8)) (m ((c.tc : Thread Cert.GatesIdeal.nD Cert.GatesIdeal.τ).loc Cert.GatesIdeal.main_arg9))).2.2.2.1 = (fun _ => 1#1)
    ∧ (Cert.Pre_all_finite.fn (F := Ideal) (m ((c.tc : Thread Cert.GatesIdeal.nD Cert.GatesIdeal.τ).loc Cert.GatesIdeal.main_arg0)) (m ((c.tc : Thread Cert.GatesIdeal.nD Cert.GatesIdeal.τ).loc Cert.GatesIdeal.main_arg1)) (m ((c.tc : Thread Cert.GatesIdeal.nD Cert.GatesIdeal.τ).loc Cert.GatesIdeal.main_arg2)) (m ((c.tc : Thread Cert.GatesIdeal.nD Cert.GatesIdeal.τ).loc Cert.GatesIdeal.main_arg3)) (m ((c.tc : Thread Cert.GatesIdeal.nD Cert.GatesIdeal.τ).loc Cert.GatesIdeal.main_arg4)) (m ((c.tc : Thread Cert.GatesIdeal.nD Cert.GatesIdeal.τ).loc Cert.GatesIdeal.main_arg5)) (m ((c.tc : Thread Cert.GatesIdeal.nD Cert.GatesIdeal.τ).loc Cert.GatesIdeal.main_arg6)) (m ((c.tc : Thread Cert.GatesIdeal.nD Cert.GatesIdeal.τ).loc Cert.GatesIdeal.main_arg7)) (m ((c.tc : Thread Cert.GatesIdeal.nD Cert.GatesIdeal.τ).loc Cert.GatesIdeal.main_arg8)) (m ((c.tc : Thread Cert.GatesIdeal.nD Cert.GatesIdeal.τ).loc Cert.GatesIdeal.main_arg9))).2.2.2.2.1 = (fun _ => 1#1)
    ∧ (Cert.Pre_all_finite.fn (F := Ideal) (m ((c.tc : Thread Cert.GatesIdeal.nD Cert.GatesIdeal.τ).loc Cert.GatesIdeal.main_arg0)) (m ((c.tc : Thread Cert.GatesIdeal.nD Cert.GatesIdeal.τ).loc Cert.GatesIdeal.main_arg1)) (m ((c.tc : Thread Cert.GatesIdeal.nD Cert.GatesIdeal.τ).loc Cert.GatesIdeal.main_arg2)) (m ((c.tc : Thread Cert.GatesIdeal.nD Cert.GatesIdeal.τ).loc Cert.GatesIdeal.main_arg3)) (m ((c.tc : Thread Cert.GatesIdeal.nD Cert.GatesIdeal.τ).loc Cert.GatesIdeal.main_arg4)) (m ((c.tc : Thread Cert.GatesIdeal.nD Cert.GatesIdeal.τ).loc Cert.GatesIdeal.main_arg5)) (m ((c.tc : Thread Cert.GatesIdeal.nD Cert.GatesIdeal.τ).loc Cert.GatesIdeal.main_arg6)) (m ((c.tc : Thread Cert.GatesIdeal.nD Cert.GatesIdeal.τ).loc Cert.GatesIdeal.main_arg7)) (m ((c.tc : Thread Cert.GatesIdeal.nD Cert.GatesIdeal.τ).loc Cert.GatesIdeal.main_arg8)) (m ((c.tc : Thread Cert.GatesIdeal.nD Cert.GatesIdeal.τ).loc Cert.GatesIdeal.main_arg9))).2.2.2.2.2.1 = (fun _ => 1#1)
    ∧ (Cert.Pre_all_finite.fn (F := Ideal) (m ((c.tc : Thread Cert.GatesIdeal.nD Cert.GatesIdeal.τ).loc Cert.GatesIdeal.main_arg0)) (m ((c.tc : Thread Cert.GatesIdeal.nD Cert.GatesIdeal.τ).loc Cert.GatesIdeal.main_arg1)) (m ((c.tc : Thread Cert.GatesIdeal.nD Cert.GatesIdeal.τ).loc Cert.GatesIdeal.main_arg2)) (m ((c.tc : Thread Cert.GatesIdeal.nD Cert.GatesIdeal.τ).loc Cert.GatesIdeal.main_arg3)) (m ((c.tc : Thread Cert.GatesIdeal.nD Cert.GatesIdeal.τ).loc Cert.GatesIdeal.main_arg4)) (m ((c.tc : Thread Cert.GatesIdeal.nD Cert.GatesIdeal.τ).loc Cert.GatesIdeal.main_arg5)) (m ((c.tc : Thread Cert.GatesIdeal.nD Cert.GatesIdeal.τ).loc Cert.GatesIdeal.main_arg6)) (m ((c.tc : Thread Cert.GatesIdeal.nD Cert.GatesIdeal.τ).loc Cert.GatesIdeal.main_arg7)) (m ((c.tc : Thread Cert.GatesIdeal.nD Cert.GatesIdeal.τ).loc Cert.GatesIdeal.main_arg8)) (m ((c.tc : Thread Cert.GatesIdeal.nD Cert.GatesIdeal.τ).loc Cert.GatesIdeal.main_arg9))).2.2.2.2.2.2.1 = (fun _ => 1#1)
    ∧ (Cert.Pre_all_finite.fn (F := Ideal) (m ((c.tc : Thread Cert.GatesIdeal.nD Cert.GatesIdeal.τ).loc Cert.GatesIdeal.main_arg0)) (m ((c.tc : Thread Cert.GatesIdeal.nD Cert.GatesIdeal.τ).loc Cert.GatesIdeal.main_arg1)) (m ((c.tc : Thread Cert.GatesIdeal.nD Cert.GatesIdeal.τ).loc Cert.GatesIdeal.main_arg2)) (m ((c.tc : Thread Cert.GatesIdeal.nD Cert.GatesIdeal.τ).loc Cert.GatesIdeal.main_arg3)) (m ((c.tc : Thread Cert.GatesIdeal.nD Cert.GatesIdeal.τ).loc Cert.GatesIdeal.main_arg4)) (m ((c.tc : Thread Cert.GatesIdeal.nD Cert.GatesIdeal.τ).loc Cert.GatesIdeal.main_arg5)) (m ((c.tc : Thread Cert.GatesIdeal.nD Cert.GatesIdeal.τ).loc Cert.GatesIdeal.main_arg6)) (m ((c.tc : Thread Cert.GatesIdeal.nD Cert.GatesIdeal.τ).loc Cert.GatesIdeal.main_arg7)) (m ((c.tc : Thread Cert.GatesIdeal.nD Cert.GatesIdeal.τ).loc Cert.GatesIdeal.main_arg8)) (m ((c.tc : Thread Cert.GatesIdeal.nD Cert.GatesIdeal.τ).loc Cert.GatesIdeal.main_arg9))).2.2.2.2.2.2.2.1 = (fun _ => 1#1)
    ∧ (Cert.Pre_all_finite.fn (F := Ideal) (m ((c.tc : Thread Cert.GatesIdeal.nD Cert.GatesIdeal.τ).loc Cert.GatesIdeal.main_arg0)) (m ((c.tc : Thread Cert.GatesIdeal.nD Cert.GatesIdeal.τ).loc Cert.GatesIdeal.main_arg1)) (m ((c.tc : Thread Cert.GatesIdeal.nD Cert.GatesIdeal.τ).loc Cert.GatesIdeal.main_arg2)) (m ((c.tc : Thread Cert.GatesIdeal.nD Cert.GatesIdeal.τ).loc Cert.GatesIdeal.main_arg3)) (m ((c.tc : Thread Cert.GatesIdeal.nD Cert.GatesIdeal.τ).loc Cert.GatesIdeal.main_arg4)) (m ((c.tc : Thread Cert.GatesIdeal.nD Cert.GatesIdeal.τ).loc Cert.GatesIdeal.main_arg5)) (m ((c.tc : Thread Cert.GatesIdeal.nD Cert.GatesIdeal.τ).loc Cert.GatesIdeal.main_arg6)) (m ((c.tc : Thread Cert.GatesIdeal.nD Cert.GatesIdeal.τ).loc Cert.GatesIdeal.main_arg7)) (m ((c.tc : Thread Cert.GatesIdeal.nD Cert.GatesIdeal.τ).loc Cert.GatesIdeal.main_arg8)) (m ((c.tc : Thread Cert.GatesIdeal.nD Cert.GatesIdeal.τ).loc Cert.GatesIdeal.main_arg9))).2.2.2.2.2.2.2.2.1 = (fun _ => 1#1)
    ∧ (Cert.Pre_all_finite.fn (F := Ideal) (m ((c.tc : Thread Cert.GatesIdeal.nD Cert.GatesIdeal.τ).loc Cert.GatesIdeal.main_arg0)) (m ((c.tc : Thread Cert.GatesIdeal.nD Cert.GatesIdeal.τ).loc Cert.GatesIdeal.main_arg1)) (m ((c.tc : Thread Cert.GatesIdeal.nD Cert.GatesIdeal.τ).loc Cert.GatesIdeal.main_arg2)) (m ((c.tc : Thread Cert.GatesIdeal.nD Cert.GatesIdeal.τ).loc Cert.GatesIdeal.main_arg3)) (m ((c.tc : Thread Cert.GatesIdeal.nD Cert.GatesIdeal.τ).loc Cert.GatesIdeal.main_arg4)) (m ((c.tc : Thread Cert.GatesIdeal.nD Cert.GatesIdeal.τ).loc Cert.GatesIdeal.main_arg5)) (m ((c.tc : Thread Cert.GatesIdeal.nD Cert.GatesIdeal.τ).loc Cert.GatesIdeal.main_arg6)) (m ((c.tc : Thread Cert.GatesIdeal.nD Cert.GatesIdeal.τ).loc Cert.GatesIdeal.main_arg7)) (m ((c.tc : Thread Cert.GatesIdeal.nD Cert.GatesIdeal.τ).loc Cert.GatesIdeal.main_arg8)) (m ((c.tc : Thread Cert.GatesIdeal.nD Cert.GatesIdeal.τ).loc Cert.GatesIdeal.main_arg9))).2.2.2.2.2.2.2.2.2 = (fun _ => 1#1)

def Pre_GatesReferenceIdeal (m : (ℓ : Loc Cert.GatesReferenceIdeal.nD Cert.GatesReferenceIdeal.τ Cert.GatesReferenceIdeal.sig) → Buf (Elt Ideal) ℓ) : Prop :=
  True

def Pre_GatesReferenceIdeal_all_finite [hPre_all_finite : Cert.Pre_all_finite.Facts] (m : (ℓ : Loc Cert.GatesReferenceIdeal.nD Cert.GatesReferenceIdeal.τ Cert.GatesReferenceIdeal.sig) → Buf (Elt Ideal) ℓ) : Prop :=
  ∀ c : Dev Cert.GatesReferenceIdeal.nD,
    (Cert.Pre_all_finite.fn (F := Ideal) (m ((c.tc : Thread Cert.GatesReferenceIdeal.nD Cert.GatesReferenceIdeal.τ).loc Cert.GatesReferenceIdeal.main_arg0)) (m ((c.tc : Thread Cert.GatesReferenceIdeal.nD Cert.GatesReferenceIdeal.τ).loc Cert.GatesReferenceIdeal.main_arg1)) (m ((c.tc : Thread Cert.GatesReferenceIdeal.nD Cert.GatesReferenceIdeal.τ).loc Cert.GatesReferenceIdeal.main_arg2)) (m ((c.tc : Thread Cert.GatesReferenceIdeal.nD Cert.GatesReferenceIdeal.τ).loc Cert.GatesReferenceIdeal.main_arg3)) (m ((c.tc : Thread Cert.GatesReferenceIdeal.nD Cert.GatesReferenceIdeal.τ).loc Cert.GatesReferenceIdeal.main_arg4)) (m ((c.tc : Thread Cert.GatesReferenceIdeal.nD Cert.GatesReferenceIdeal.τ).loc Cert.GatesReferenceIdeal.main_arg5)) (m ((c.tc : Thread Cert.GatesReferenceIdeal.nD Cert.GatesReferenceIdeal.τ).loc Cert.GatesReferenceIdeal.main_arg6)) (m ((c.tc : Thread Cert.GatesReferenceIdeal.nD Cert.GatesReferenceIdeal.τ).loc Cert.GatesReferenceIdeal.main_arg7)) (m ((c.tc : Thread Cert.GatesReferenceIdeal.nD Cert.GatesReferenceIdeal.τ).loc Cert.GatesReferenceIdeal.main_arg8)) (m ((c.tc : Thread Cert.GatesReferenceIdeal.nD Cert.GatesReferenceIdeal.τ).loc Cert.GatesReferenceIdeal.main_arg9))).1 = (fun _ => 1#1)
    ∧ (Cert.Pre_all_finite.fn (F := Ideal) (m ((c.tc : Thread Cert.GatesReferenceIdeal.nD Cert.GatesReferenceIdeal.τ).loc Cert.GatesReferenceIdeal.main_arg0)) (m ((c.tc : Thread Cert.GatesReferenceIdeal.nD Cert.GatesReferenceIdeal.τ).loc Cert.GatesReferenceIdeal.main_arg1)) (m ((c.tc : Thread Cert.GatesReferenceIdeal.nD Cert.GatesReferenceIdeal.τ).loc Cert.GatesReferenceIdeal.main_arg2)) (m ((c.tc : Thread Cert.GatesReferenceIdeal.nD Cert.GatesReferenceIdeal.τ).loc Cert.GatesReferenceIdeal.main_arg3)) (m ((c.tc : Thread Cert.GatesReferenceIdeal.nD Cert.GatesReferenceIdeal.τ).loc Cert.GatesReferenceIdeal.main_arg4)) (m ((c.tc : Thread Cert.GatesReferenceIdeal.nD Cert.GatesReferenceIdeal.τ).loc Cert.GatesReferenceIdeal.main_arg5)) (m ((c.tc : Thread Cert.GatesReferenceIdeal.nD Cert.GatesReferenceIdeal.τ).loc Cert.GatesReferenceIdeal.main_arg6)) (m ((c.tc : Thread Cert.GatesReferenceIdeal.nD Cert.GatesReferenceIdeal.τ).loc Cert.GatesReferenceIdeal.main_arg7)) (m ((c.tc : Thread Cert.GatesReferenceIdeal.nD Cert.GatesReferenceIdeal.τ).loc Cert.GatesReferenceIdeal.main_arg8)) (m ((c.tc : Thread Cert.GatesReferenceIdeal.nD Cert.GatesReferenceIdeal.τ).loc Cert.GatesReferenceIdeal.main_arg9))).2.1 = (fun _ => 1#1)
    ∧ (Cert.Pre_all_finite.fn (F := Ideal) (m ((c.tc : Thread Cert.GatesReferenceIdeal.nD Cert.GatesReferenceIdeal.τ).loc Cert.GatesReferenceIdeal.main_arg0)) (m ((c.tc : Thread Cert.GatesReferenceIdeal.nD Cert.GatesReferenceIdeal.τ).loc Cert.GatesReferenceIdeal.main_arg1)) (m ((c.tc : Thread Cert.GatesReferenceIdeal.nD Cert.GatesReferenceIdeal.τ).loc Cert.GatesReferenceIdeal.main_arg2)) (m ((c.tc : Thread Cert.GatesReferenceIdeal.nD Cert.GatesReferenceIdeal.τ).loc Cert.GatesReferenceIdeal.main_arg3)) (m ((c.tc : Thread Cert.GatesReferenceIdeal.nD Cert.GatesReferenceIdeal.τ).loc Cert.GatesReferenceIdeal.main_arg4)) (m ((c.tc : Thread Cert.GatesReferenceIdeal.nD Cert.GatesReferenceIdeal.τ).loc Cert.GatesReferenceIdeal.main_arg5)) (m ((c.tc : Thread Cert.GatesReferenceIdeal.nD Cert.GatesReferenceIdeal.τ).loc Cert.GatesReferenceIdeal.main_arg6)) (m ((c.tc : Thread Cert.GatesReferenceIdeal.nD Cert.GatesReferenceIdeal.τ).loc Cert.GatesReferenceIdeal.main_arg7)) (m ((c.tc : Thread Cert.GatesReferenceIdeal.nD Cert.GatesReferenceIdeal.τ).loc Cert.GatesReferenceIdeal.main_arg8)) (m ((c.tc : Thread Cert.GatesReferenceIdeal.nD Cert.GatesReferenceIdeal.τ).loc Cert.GatesReferenceIdeal.main_arg9))).2.2.1 = (fun _ => 1#1)
    ∧ (Cert.Pre_all_finite.fn (F := Ideal) (m ((c.tc : Thread Cert.GatesReferenceIdeal.nD Cert.GatesReferenceIdeal.τ).loc Cert.GatesReferenceIdeal.main_arg0)) (m ((c.tc : Thread Cert.GatesReferenceIdeal.nD Cert.GatesReferenceIdeal.τ).loc Cert.GatesReferenceIdeal.main_arg1)) (m ((c.tc : Thread Cert.GatesReferenceIdeal.nD Cert.GatesReferenceIdeal.τ).loc Cert.GatesReferenceIdeal.main_arg2)) (m ((c.tc : Thread Cert.GatesReferenceIdeal.nD Cert.GatesReferenceIdeal.τ).loc Cert.GatesReferenceIdeal.main_arg3)) (m ((c.tc : Thread Cert.GatesReferenceIdeal.nD Cert.GatesReferenceIdeal.τ).loc Cert.GatesReferenceIdeal.main_arg4)) (m ((c.tc : Thread Cert.GatesReferenceIdeal.nD Cert.GatesReferenceIdeal.τ).loc Cert.GatesReferenceIdeal.main_arg5)) (m ((c.tc : Thread Cert.GatesReferenceIdeal.nD Cert.GatesReferenceIdeal.τ).loc Cert.GatesReferenceIdeal.main_arg6)) (m ((c.tc : Thread Cert.GatesReferenceIdeal.nD Cert.GatesReferenceIdeal.τ).loc Cert.GatesReferenceIdeal.main_arg7)) (m ((c.tc : Thread Cert.GatesReferenceIdeal.nD Cert.GatesReferenceIdeal.τ).loc Cert.GatesReferenceIdeal.main_arg8)) (m ((c.tc : Thread Cert.GatesReferenceIdeal.nD Cert.GatesReferenceIdeal.τ).loc Cert.GatesReferenceIdeal.main_arg9))).2.2.2.1 = (fun _ => 1#1)
    ∧ (Cert.Pre_all_finite.fn (F := Ideal) (m ((c.tc : Thread Cert.GatesReferenceIdeal.nD Cert.GatesReferenceIdeal.τ).loc Cert.GatesReferenceIdeal.main_arg0)) (m ((c.tc : Thread Cert.GatesReferenceIdeal.nD Cert.GatesReferenceIdeal.τ).loc Cert.GatesReferenceIdeal.main_arg1)) (m ((c.tc : Thread Cert.GatesReferenceIdeal.nD Cert.GatesReferenceIdeal.τ).loc Cert.GatesReferenceIdeal.main_arg2)) (m ((c.tc : Thread Cert.GatesReferenceIdeal.nD Cert.GatesReferenceIdeal.τ).loc Cert.GatesReferenceIdeal.main_arg3)) (m ((c.tc : Thread Cert.GatesReferenceIdeal.nD Cert.GatesReferenceIdeal.τ).loc Cert.GatesReferenceIdeal.main_arg4)) (m ((c.tc : Thread Cert.GatesReferenceIdeal.nD Cert.GatesReferenceIdeal.τ).loc Cert.GatesReferenceIdeal.main_arg5)) (m ((c.tc : Thread Cert.GatesReferenceIdeal.nD Cert.GatesReferenceIdeal.τ).loc Cert.GatesReferenceIdeal.main_arg6)) (m ((c.tc : Thread Cert.GatesReferenceIdeal.nD Cert.GatesReferenceIdeal.τ).loc Cert.GatesReferenceIdeal.main_arg7)) (m ((c.tc : Thread Cert.GatesReferenceIdeal.nD Cert.GatesReferenceIdeal.τ).loc Cert.GatesReferenceIdeal.main_arg8)) (m ((c.tc : Thread Cert.GatesReferenceIdeal.nD Cert.GatesReferenceIdeal.τ).loc Cert.GatesReferenceIdeal.main_arg9))).2.2.2.2.1 = (fun _ => 1#1)
    ∧ (Cert.Pre_all_finite.fn (F := Ideal) (m ((c.tc : Thread Cert.GatesReferenceIdeal.nD Cert.GatesReferenceIdeal.τ).loc Cert.GatesReferenceIdeal.main_arg0)) (m ((c.tc : Thread Cert.GatesReferenceIdeal.nD Cert.GatesReferenceIdeal.τ).loc Cert.GatesReferenceIdeal.main_arg1)) (m ((c.tc : Thread Cert.GatesReferenceIdeal.nD Cert.GatesReferenceIdeal.τ).loc Cert.GatesReferenceIdeal.main_arg2)) (m ((c.tc : Thread Cert.GatesReferenceIdeal.nD Cert.GatesReferenceIdeal.τ).loc Cert.GatesReferenceIdeal.main_arg3)) (m ((c.tc : Thread Cert.GatesReferenceIdeal.nD Cert.GatesReferenceIdeal.τ).loc Cert.GatesReferenceIdeal.main_arg4)) (m ((c.tc : Thread Cert.GatesReferenceIdeal.nD Cert.GatesReferenceIdeal.τ).loc Cert.GatesReferenceIdeal.main_arg5)) (m ((c.tc : Thread Cert.GatesReferenceIdeal.nD Cert.GatesReferenceIdeal.τ).loc Cert.GatesReferenceIdeal.main_arg6)) (m ((c.tc : Thread Cert.GatesReferenceIdeal.nD Cert.GatesReferenceIdeal.τ).loc Cert.GatesReferenceIdeal.main_arg7)) (m ((c.tc : Thread Cert.GatesReferenceIdeal.nD Cert.GatesReferenceIdeal.τ).loc Cert.GatesReferenceIdeal.main_arg8)) (m ((c.tc : Thread Cert.GatesReferenceIdeal.nD Cert.GatesReferenceIdeal.τ).loc Cert.GatesReferenceIdeal.main_arg9))).2.2.2.2.2.1 = (fun _ => 1#1)
    ∧ (Cert.Pre_all_finite.fn (F := Ideal) (m ((c.tc : Thread Cert.GatesReferenceIdeal.nD Cert.GatesReferenceIdeal.τ).loc Cert.GatesReferenceIdeal.main_arg0)) (m ((c.tc : Thread Cert.GatesReferenceIdeal.nD Cert.GatesReferenceIdeal.τ).loc Cert.GatesReferenceIdeal.main_arg1)) (m ((c.tc : Thread Cert.GatesReferenceIdeal.nD Cert.GatesReferenceIdeal.τ).loc Cert.GatesReferenceIdeal.main_arg2)) (m ((c.tc : Thread Cert.GatesReferenceIdeal.nD Cert.GatesReferenceIdeal.τ).loc Cert.GatesReferenceIdeal.main_arg3)) (m ((c.tc : Thread Cert.GatesReferenceIdeal.nD Cert.GatesReferenceIdeal.τ).loc Cert.GatesReferenceIdeal.main_arg4)) (m ((c.tc : Thread Cert.GatesReferenceIdeal.nD Cert.GatesReferenceIdeal.τ).loc Cert.GatesReferenceIdeal.main_arg5)) (m ((c.tc : Thread Cert.GatesReferenceIdeal.nD Cert.GatesReferenceIdeal.τ).loc Cert.GatesReferenceIdeal.main_arg6)) (m ((c.tc : Thread Cert.GatesReferenceIdeal.nD Cert.GatesReferenceIdeal.τ).loc Cert.GatesReferenceIdeal.main_arg7)) (m ((c.tc : Thread Cert.GatesReferenceIdeal.nD Cert.GatesReferenceIdeal.τ).loc Cert.GatesReferenceIdeal.main_arg8)) (m ((c.tc : Thread Cert.GatesReferenceIdeal.nD Cert.GatesReferenceIdeal.τ).loc Cert.GatesReferenceIdeal.main_arg9))).2.2.2.2.2.2.1 = (fun _ => 1#1)
    ∧ (Cert.Pre_all_finite.fn (F := Ideal) (m ((c.tc : Thread Cert.GatesReferenceIdeal.nD Cert.GatesReferenceIdeal.τ).loc Cert.GatesReferenceIdeal.main_arg0)) (m ((c.tc : Thread Cert.GatesReferenceIdeal.nD Cert.GatesReferenceIdeal.τ).loc Cert.GatesReferenceIdeal.main_arg1)) (m ((c.tc : Thread Cert.GatesReferenceIdeal.nD Cert.GatesReferenceIdeal.τ).loc Cert.GatesReferenceIdeal.main_arg2)) (m ((c.tc : Thread Cert.GatesReferenceIdeal.nD Cert.GatesReferenceIdeal.τ).loc Cert.GatesReferenceIdeal.main_arg3)) (m ((c.tc : Thread Cert.GatesReferenceIdeal.nD Cert.GatesReferenceIdeal.τ).loc Cert.GatesReferenceIdeal.main_arg4)) (m ((c.tc : Thread Cert.GatesReferenceIdeal.nD Cert.GatesReferenceIdeal.τ).loc Cert.GatesReferenceIdeal.main_arg5)) (m ((c.tc : Thread Cert.GatesReferenceIdeal.nD Cert.GatesReferenceIdeal.τ).loc Cert.GatesReferenceIdeal.main_arg6)) (m ((c.tc : Thread Cert.GatesReferenceIdeal.nD Cert.GatesReferenceIdeal.τ).loc Cert.GatesReferenceIdeal.main_arg7)) (m ((c.tc : Thread Cert.GatesReferenceIdeal.nD Cert.GatesReferenceIdeal.τ).loc Cert.GatesReferenceIdeal.main_arg8)) (m ((c.tc : Thread Cert.GatesReferenceIdeal.nD Cert.GatesReferenceIdeal.τ).loc Cert.GatesReferenceIdeal.main_arg9))).2.2.2.2.2.2.2.1 = (fun _ => 1#1)
    ∧ (Cert.Pre_all_finite.fn (F := Ideal) (m ((c.tc : Thread Cert.GatesReferenceIdeal.nD Cert.GatesReferenceIdeal.τ).loc Cert.GatesReferenceIdeal.main_arg0)) (m ((c.tc : Thread Cert.GatesReferenceIdeal.nD Cert.GatesReferenceIdeal.τ).loc Cert.GatesReferenceIdeal.main_arg1)) (m ((c.tc : Thread Cert.GatesReferenceIdeal.nD Cert.GatesReferenceIdeal.τ).loc Cert.GatesReferenceIdeal.main_arg2)) (m ((c.tc : Thread Cert.GatesReferenceIdeal.nD Cert.GatesReferenceIdeal.τ).loc Cert.GatesReferenceIdeal.main_arg3)) (m ((c.tc : Thread Cert.GatesReferenceIdeal.nD Cert.GatesReferenceIdeal.τ).loc Cert.GatesReferenceIdeal.main_arg4)) (m ((c.tc : Thread Cert.GatesReferenceIdeal.nD Cert.GatesReferenceIdeal.τ).loc Cert.GatesReferenceIdeal.main_arg5)) (m ((c.tc : Thread Cert.GatesReferenceIdeal.nD Cert.GatesReferenceIdeal.τ).loc Cert.GatesReferenceIdeal.main_arg6)) (m ((c.tc : Thread Cert.GatesReferenceIdeal.nD Cert.GatesReferenceIdeal.τ).loc Cert.GatesReferenceIdeal.main_arg7)) (m ((c.tc : Thread Cert.GatesReferenceIdeal.nD Cert.GatesReferenceIdeal.τ).loc Cert.GatesReferenceIdeal.main_arg8)) (m ((c.tc : Thread Cert.GatesReferenceIdeal.nD Cert.GatesReferenceIdeal.τ).loc Cert.GatesReferenceIdeal.main_arg9))).2.2.2.2.2.2.2.2.1 = (fun _ => 1#1)
    ∧ (Cert.Pre_all_finite.fn (F := Ideal) (m ((c.tc : Thread Cert.GatesReferenceIdeal.nD Cert.GatesReferenceIdeal.τ).loc Cert.GatesReferenceIdeal.main_arg0)) (m ((c.tc : Thread Cert.GatesReferenceIdeal.nD Cert.GatesReferenceIdeal.τ).loc Cert.GatesReferenceIdeal.main_arg1)) (m ((c.tc : Thread Cert.GatesReferenceIdeal.nD Cert.GatesReferenceIdeal.τ).loc Cert.GatesReferenceIdeal.main_arg2)) (m ((c.tc : Thread Cert.GatesReferenceIdeal.nD Cert.GatesReferenceIdeal.τ).loc Cert.GatesReferenceIdeal.main_arg3)) (m ((c.tc : Thread Cert.GatesReferenceIdeal.nD Cert.GatesReferenceIdeal.τ).loc Cert.GatesReferenceIdeal.main_arg4)) (m ((c.tc : Thread Cert.GatesReferenceIdeal.nD Cert.GatesReferenceIdeal.τ).loc Cert.GatesReferenceIdeal.main_arg5)) (m ((c.tc : Thread Cert.GatesReferenceIdeal.nD Cert.GatesReferenceIdeal.τ).loc Cert.GatesReferenceIdeal.main_arg6)) (m ((c.tc : Thread Cert.GatesReferenceIdeal.nD Cert.GatesReferenceIdeal.τ).loc Cert.GatesReferenceIdeal.main_arg7)) (m ((c.tc : Thread Cert.GatesReferenceIdeal.nD Cert.GatesReferenceIdeal.τ).loc Cert.GatesReferenceIdeal.main_arg8)) (m ((c.tc : Thread Cert.GatesReferenceIdeal.nD Cert.GatesReferenceIdeal.τ).loc Cert.GatesReferenceIdeal.main_arg9))).2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_scales_nonneg [hKernelIdeal : Cert.KernelIdeal.Facts] [hPre_scales_nonneg : Cert.Pre_scales_nonneg.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_nonneg m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_scales_nonneg [hReferenceIdeal : Cert.ReferenceIdeal.Facts] [hPre_scales_nonneg : Cert.Pre_scales_nonneg.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_nonneg m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1)
      ∧ r.2.mem ((c.tc : Thread Cert.Gates.nD Cert.Gates.τ).loc Cert.Gates.main_arg2) = m ((c.tc : Thread Cert.Gates.nD Cert.Gates.τ).loc Cert.Gates.main_arg2)
      ∧ r.2.mem ((c.tc : Thread Cert.Gates.nD Cert.Gates.τ).loc Cert.Gates.main_arg3) = m ((c.tc : Thread Cert.Gates.nD Cert.Gates.τ).loc Cert.Gates.main_arg3)
      ∧ r.2.mem ((c.tc : Thread Cert.Gates.nD Cert.Gates.τ).loc Cert.Gates.main_arg4) = m ((c.tc : Thread Cert.Gates.nD Cert.Gates.τ).loc Cert.Gates.main_arg4)
      ∧ r.2.mem ((c.tc : Thread Cert.Gates.nD Cert.Gates.τ).loc Cert.Gates.main_arg5) = m ((c.tc : Thread Cert.Gates.nD Cert.Gates.τ).loc Cert.Gates.main_arg5)
      ∧ r.2.mem ((c.tc : Thread Cert.Gates.nD Cert.Gates.τ).loc Cert.Gates.main_arg6) = m ((c.tc : Thread Cert.Gates.nD Cert.Gates.τ).loc Cert.Gates.main_arg6)
      ∧ r.2.mem ((c.tc : Thread Cert.Gates.nD Cert.Gates.τ).loc Cert.Gates.main_arg7) = m ((c.tc : Thread Cert.Gates.nD Cert.Gates.τ).loc Cert.Gates.main_arg7)
      ∧ r.2.mem ((c.tc : Thread Cert.Gates.nD Cert.Gates.τ).loc Cert.Gates.main_arg8) = m ((c.tc : Thread Cert.Gates.nD Cert.Gates.τ).loc Cert.Gates.main_arg8)
      ∧ r.2.mem ((c.tc : Thread Cert.Gates.nD Cert.Gates.τ).loc Cert.Gates.main_arg9) = m ((c.tc : Thread Cert.Gates.nD Cert.Gates.τ).loc Cert.Gates.main_arg9))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
      ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2)
      ∧ r.2.mem ((c.tc : Thread Cert.GatesIdeal.nD Cert.GatesIdeal.τ).loc Cert.GatesIdeal.main_arg3) = m ((c.tc : Thread Cert.GatesIdeal.nD Cert.GatesIdeal.τ).loc Cert.GatesIdeal.main_arg3)
      ∧ r.2.mem ((c.tc : Thread Cert.GatesIdeal.nD Cert.GatesIdeal.τ).loc Cert.GatesIdeal.main_arg4) = m ((c.tc : Thread Cert.GatesIdeal.nD Cert.GatesIdeal.τ).loc Cert.GatesIdeal.main_arg4)
      ∧ r.2.mem ((c.tc : Thread Cert.GatesIdeal.nD Cert.GatesIdeal.τ).loc Cert.GatesIdeal.main_arg5) = m ((c.tc : Thread Cert.GatesIdeal.nD Cert.GatesIdeal.τ).loc Cert.GatesIdeal.main_arg5)
      ∧ r.2.mem ((c.tc : Thread Cert.GatesIdeal.nD Cert.GatesIdeal.τ).loc Cert.GatesIdeal.main_arg6) = m ((c.tc : Thread Cert.GatesIdeal.nD Cert.GatesIdeal.τ).loc Cert.GatesIdeal.main_arg6)
      ∧ r.2.mem ((c.tc : Thread Cert.GatesIdeal.nD Cert.GatesIdeal.τ).loc Cert.GatesIdeal.main_arg7) = m ((c.tc : Thread Cert.GatesIdeal.nD Cert.GatesIdeal.τ).loc Cert.GatesIdeal.main_arg7)
      ∧ r.2.mem ((c.tc : Thread Cert.GatesIdeal.nD Cert.GatesIdeal.τ).loc Cert.GatesIdeal.main_arg8) = m ((c.tc : Thread Cert.GatesIdeal.nD Cert.GatesIdeal.τ).loc Cert.GatesIdeal.main_arg8)
      ∧ r.2.mem ((c.tc : Thread Cert.GatesIdeal.nD Cert.GatesIdeal.τ).loc Cert.GatesIdeal.main_arg9) = m ((c.tc : Thread Cert.GatesIdeal.nD Cert.GatesIdeal.τ).loc Cert.GatesIdeal.main_arg9))
      ∧ r.2.sem = fun _ => 0)

def quiescent_GatesIdeal_pre_all_finite [hGatesIdeal : Cert.GatesIdeal.Facts] [hPre_all_finite : Cert.Pre_all_finite.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal_all_finite m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
      ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2)
      ∧ r.2.mem ((c.tc : Thread Cert.GatesIdeal.nD Cert.GatesIdeal.τ).loc Cert.GatesIdeal.main_arg3) = m ((c.tc : Thread Cert.GatesIdeal.nD Cert.GatesIdeal.τ).loc Cert.GatesIdeal.main_arg3)
      ∧ r.2.mem ((c.tc : Thread Cert.GatesIdeal.nD Cert.GatesIdeal.τ).loc Cert.GatesIdeal.main_arg4) = m ((c.tc : Thread Cert.GatesIdeal.nD Cert.GatesIdeal.τ).loc Cert.GatesIdeal.main_arg4)
      ∧ r.2.mem ((c.tc : Thread Cert.GatesIdeal.nD Cert.GatesIdeal.τ).loc Cert.GatesIdeal.main_arg5) = m ((c.tc : Thread Cert.GatesIdeal.nD Cert.GatesIdeal.τ).loc Cert.GatesIdeal.main_arg5)
      ∧ r.2.mem ((c.tc : Thread Cert.GatesIdeal.nD Cert.GatesIdeal.τ).loc Cert.GatesIdeal.main_arg6) = m ((c.tc : Thread Cert.GatesIdeal.nD Cert.GatesIdeal.τ).loc Cert.GatesIdeal.main_arg6)
      ∧ r.2.mem ((c.tc : Thread Cert.GatesIdeal.nD Cert.GatesIdeal.τ).loc Cert.GatesIdeal.main_arg7) = m ((c.tc : Thread Cert.GatesIdeal.nD Cert.GatesIdeal.τ).loc Cert.GatesIdeal.main_arg7)
      ∧ r.2.mem ((c.tc : Thread Cert.GatesIdeal.nD Cert.GatesIdeal.τ).loc Cert.GatesIdeal.main_arg8) = m ((c.tc : Thread Cert.GatesIdeal.nD Cert.GatesIdeal.τ).loc Cert.GatesIdeal.main_arg8)
      ∧ r.2.mem ((c.tc : Thread Cert.GatesIdeal.nD Cert.GatesIdeal.τ).loc Cert.GatesIdeal.main_arg9) = m ((c.tc : Thread Cert.GatesIdeal.nD Cert.GatesIdeal.τ).loc Cert.GatesIdeal.main_arg9))
      ∧ r.2.sem = fun _ => 0)

def quiescent_GatesReferenceIdeal [hGatesReferenceIdeal : Cert.GatesReferenceIdeal.Facts] : Prop :=
  ∀ (m : (ℓ : Loc Cert.GatesReferenceIdeal.nD Cert.GatesReferenceIdeal.τ Cert.GatesReferenceIdeal.sig) → Buf (Elt Ideal) ℓ) (g : Dev Cert.GatesReferenceIdeal.nD → PrngReg), Pre_GatesReferenceIdeal m →
    θ_run (Cert.GatesReferenceIdeal.defs (F := Ideal)) (onTc (τ := Cert.GatesReferenceIdeal.τ) (Cert.GatesReferenceIdeal.main (F := Ideal))) ⟨m, fun _ => 0, g⟩ (fun r => (∀ c : Dev Cert.GatesReferenceIdeal.nD,
      r.2.mem ((c.tc : Thread Cert.GatesReferenceIdeal.nD Cert.GatesReferenceIdeal.τ).loc Cert.GatesReferenceIdeal.main_arg0) = m ((c.tc : Thread Cert.GatesReferenceIdeal.nD Cert.GatesReferenceIdeal.τ).loc Cert.GatesReferenceIdeal.main_arg0)
      ∧ r.2.mem ((c.tc : Thread Cert.GatesReferenceIdeal.nD Cert.GatesReferenceIdeal.τ).loc Cert.GatesReferenceIdeal.main_arg1) = m ((c.tc : Thread Cert.GatesReferenceIdeal.nD Cert.GatesReferenceIdeal.τ).loc Cert.GatesReferenceIdeal.main_arg1)
      ∧ r.2.mem ((c.tc : Thread Cert.GatesReferenceIdeal.nD Cert.GatesReferenceIdeal.τ).loc Cert.GatesReferenceIdeal.main_arg2) = m ((c.tc : Thread Cert.GatesReferenceIdeal.nD Cert.GatesReferenceIdeal.τ).loc Cert.GatesReferenceIdeal.main_arg2)
      ∧ r.2.mem ((c.tc : Thread Cert.GatesReferenceIdeal.nD Cert.GatesReferenceIdeal.τ).loc Cert.GatesReferenceIdeal.main_arg3) = m ((c.tc : Thread Cert.GatesReferenceIdeal.nD Cert.GatesReferenceIdeal.τ).loc Cert.GatesReferenceIdeal.main_arg3)
      ∧ r.2.mem ((c.tc : Thread Cert.GatesReferenceIdeal.nD Cert.GatesReferenceIdeal.τ).loc Cert.GatesReferenceIdeal.main_arg4) = m ((c.tc : Thread Cert.GatesReferenceIdeal.nD Cert.GatesReferenceIdeal.τ).loc Cert.GatesReferenceIdeal.main_arg4)
      ∧ r.2.mem ((c.tc : Thread Cert.GatesReferenceIdeal.nD Cert.GatesReferenceIdeal.τ).loc Cert.GatesReferenceIdeal.main_arg5) = m ((c.tc : Thread Cert.GatesReferenceIdeal.nD Cert.GatesReferenceIdeal.τ).loc Cert.GatesReferenceIdeal.main_arg5)
      ∧ r.2.mem ((c.tc : Thread Cert.GatesReferenceIdeal.nD Cert.GatesReferenceIdeal.τ).loc Cert.GatesReferenceIdeal.main_arg6) = m ((c.tc : Thread Cert.GatesReferenceIdeal.nD Cert.GatesReferenceIdeal.τ).loc Cert.GatesReferenceIdeal.main_arg6)
      ∧ r.2.mem ((c.tc : Thread Cert.GatesReferenceIdeal.nD Cert.GatesReferenceIdeal.τ).loc Cert.GatesReferenceIdeal.main_arg7) = m ((c.tc : Thread Cert.GatesReferenceIdeal.nD Cert.GatesReferenceIdeal.τ).loc Cert.GatesReferenceIdeal.main_arg7)
      ∧ r.2.mem ((c.tc : Thread Cert.GatesReferenceIdeal.nD Cert.GatesReferenceIdeal.τ).loc Cert.GatesReferenceIdeal.main_arg8) = m ((c.tc : Thread Cert.GatesReferenceIdeal.nD Cert.GatesReferenceIdeal.τ).loc Cert.GatesReferenceIdeal.main_arg8)
      ∧ r.2.mem ((c.tc : Thread Cert.GatesReferenceIdeal.nD Cert.GatesReferenceIdeal.τ).loc Cert.GatesReferenceIdeal.main_arg9) = m ((c.tc : Thread Cert.GatesReferenceIdeal.nD Cert.GatesReferenceIdeal.τ).loc Cert.GatesReferenceIdeal.main_arg9))
      ∧ r.2.sem = fun _ => 0)

def quiescent_GatesReferenceIdeal_pre_all_finite [hGatesReferenceIdeal : Cert.GatesReferenceIdeal.Facts] [hPre_all_finite : Cert.Pre_all_finite.Facts] : Prop :=
  ∀ (m : (ℓ : Loc Cert.GatesReferenceIdeal.nD Cert.GatesReferenceIdeal.τ Cert.GatesReferenceIdeal.sig) → Buf (Elt Ideal) ℓ) (g : Dev Cert.GatesReferenceIdeal.nD → PrngReg), Pre_GatesReferenceIdeal_all_finite m →
    θ_run (Cert.GatesReferenceIdeal.defs (F := Ideal)) (onTc (τ := Cert.GatesReferenceIdeal.τ) (Cert.GatesReferenceIdeal.main (F := Ideal))) ⟨m, fun _ => 0, g⟩ (fun r => (∀ c : Dev Cert.GatesReferenceIdeal.nD,
      r.2.mem ((c.tc : Thread Cert.GatesReferenceIdeal.nD Cert.GatesReferenceIdeal.τ).loc Cert.GatesReferenceIdeal.main_arg0) = m ((c.tc : Thread Cert.GatesReferenceIdeal.nD Cert.GatesReferenceIdeal.τ).loc Cert.GatesReferenceIdeal.main_arg0)
      ∧ r.2.mem ((c.tc : Thread Cert.GatesReferenceIdeal.nD Cert.GatesReferenceIdeal.τ).loc Cert.GatesReferenceIdeal.main_arg1) = m ((c.tc : Thread Cert.GatesReferenceIdeal.nD Cert.GatesReferenceIdeal.τ).loc Cert.GatesReferenceIdeal.main_arg1)
      ∧ r.2.mem ((c.tc : Thread Cert.GatesReferenceIdeal.nD Cert.GatesReferenceIdeal.τ).loc Cert.GatesReferenceIdeal.main_arg2) = m ((c.tc : Thread Cert.GatesReferenceIdeal.nD Cert.GatesReferenceIdeal.τ).loc Cert.GatesReferenceIdeal.main_arg2)
      ∧ r.2.mem ((c.tc : Thread Cert.GatesReferenceIdeal.nD Cert.GatesReferenceIdeal.τ).loc Cert.GatesReferenceIdeal.main_arg3) = m ((c.tc : Thread Cert.GatesReferenceIdeal.nD Cert.GatesReferenceIdeal.τ).loc Cert.GatesReferenceIdeal.main_arg3)
      ∧ r.2.mem ((c.tc : Thread Cert.GatesReferenceIdeal.nD Cert.GatesReferenceIdeal.τ).loc Cert.GatesReferenceIdeal.main_arg4) = m ((c.tc : Thread Cert.GatesReferenceIdeal.nD Cert.GatesReferenceIdeal.τ).loc Cert.GatesReferenceIdeal.main_arg4)
      ∧ r.2.mem ((c.tc : Thread Cert.GatesReferenceIdeal.nD Cert.GatesReferenceIdeal.τ).loc Cert.GatesReferenceIdeal.main_arg5) = m ((c.tc : Thread Cert.GatesReferenceIdeal.nD Cert.GatesReferenceIdeal.τ).loc Cert.GatesReferenceIdeal.main_arg5)
      ∧ r.2.mem ((c.tc : Thread Cert.GatesReferenceIdeal.nD Cert.GatesReferenceIdeal.τ).loc Cert.GatesReferenceIdeal.main_arg6) = m ((c.tc : Thread Cert.GatesReferenceIdeal.nD Cert.GatesReferenceIdeal.τ).loc Cert.GatesReferenceIdeal.main_arg6)
      ∧ r.2.mem ((c.tc : Thread Cert.GatesReferenceIdeal.nD Cert.GatesReferenceIdeal.τ).loc Cert.GatesReferenceIdeal.main_arg7) = m ((c.tc : Thread Cert.GatesReferenceIdeal.nD Cert.GatesReferenceIdeal.τ).loc Cert.GatesReferenceIdeal.main_arg7)
      ∧ r.2.mem ((c.tc : Thread Cert.GatesReferenceIdeal.nD Cert.GatesReferenceIdeal.τ).loc Cert.GatesReferenceIdeal.main_arg8) = m ((c.tc : Thread Cert.GatesReferenceIdeal.nD Cert.GatesReferenceIdeal.τ).loc Cert.GatesReferenceIdeal.main_arg8)
      ∧ r.2.mem ((c.tc : Thread Cert.GatesReferenceIdeal.nD Cert.GatesReferenceIdeal.τ).loc Cert.GatesReferenceIdeal.main_arg9) = m ((c.tc : Thread Cert.GatesReferenceIdeal.nD Cert.GatesReferenceIdeal.τ).loc Cert.GatesReferenceIdeal.main_arg9))
      ∧ r.2.sem = fun _ => 0)

def preserves_Kernel_KernelIdeal : Prop :=
  True

def algebraic_KernelIdeal_ReferenceIdeal_pre_scales_nonneg [hKernelIdeal : Cert.KernelIdeal.Facts] [hReferenceIdeal : Cert.ReferenceIdeal.Facts] [hPre_scales_nonneg : Cert.Pre_scales_nonneg.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_nonneg m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Gates_GatesIdeal : Prop :=
  True

def algebraic_GatesIdeal_GatesReferenceIdeal_pre_all_finite [hGatesIdeal : Cert.GatesIdeal.Facts] [hGatesReferenceIdeal : Cert.GatesReferenceIdeal.Facts] [hPre_all_finite : Cert.Pre_all_finite.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesReferenceIdeal.nD Cert.GatesReferenceIdeal.τ Cert.GatesReferenceIdeal.sig) → Buf (Elt Ideal) ℓ) (g' : Dev Cert.GatesReferenceIdeal.nD → PrngReg), Pre_GatesIdeal_all_finite m →
    (∀ c : Dev Cert.GatesIdeal.nD,
      m' ((c.tc : Thread Cert.GatesReferenceIdeal.nD Cert.GatesReferenceIdeal.τ).loc Cert.GatesReferenceIdeal.main_arg0) = m ((c.tc : Thread Cert.GatesIdeal.nD Cert.GatesIdeal.τ).loc Cert.GatesIdeal.main_arg0)
      ∧ m' ((c.tc : Thread Cert.GatesReferenceIdeal.nD Cert.GatesReferenceIdeal.τ).loc Cert.GatesReferenceIdeal.main_arg1) = m ((c.tc : Thread Cert.GatesIdeal.nD Cert.GatesIdeal.τ).loc Cert.GatesIdeal.main_arg1)
      ∧ m' ((c.tc : Thread Cert.GatesReferenceIdeal.nD Cert.GatesReferenceIdeal.τ).loc Cert.GatesReferenceIdeal.main_arg2) = m ((c.tc : Thread Cert.GatesIdeal.nD Cert.GatesIdeal.τ).loc Cert.GatesIdeal.main_arg2)
      ∧ m' ((c.tc : Thread Cert.GatesReferenceIdeal.nD Cert.GatesReferenceIdeal.τ).loc Cert.GatesReferenceIdeal.main_arg3) = m ((c.tc : Thread Cert.GatesIdeal.nD Cert.GatesIdeal.τ).loc Cert.GatesIdeal.main_arg3)
      ∧ m' ((c.tc : Thread Cert.GatesReferenceIdeal.nD Cert.GatesReferenceIdeal.τ).loc Cert.GatesReferenceIdeal.main_arg4) = m ((c.tc : Thread Cert.GatesIdeal.nD Cert.GatesIdeal.τ).loc Cert.GatesIdeal.main_arg4)
      ∧ m' ((c.tc : Thread Cert.GatesReferenceIdeal.nD Cert.GatesReferenceIdeal.τ).loc Cert.GatesReferenceIdeal.main_arg5) = m ((c.tc : Thread Cert.GatesIdeal.nD Cert.GatesIdeal.τ).loc Cert.GatesIdeal.main_arg5)
      ∧ m' ((c.tc : Thread Cert.GatesReferenceIdeal.nD Cert.GatesReferenceIdeal.τ).loc Cert.GatesReferenceIdeal.main_arg6) = m ((c.tc : Thread Cert.GatesIdeal.nD Cert.GatesIdeal.τ).loc Cert.GatesIdeal.main_arg6)
      ∧ m' ((c.tc : Thread Cert.GatesReferenceIdeal.nD Cert.GatesReferenceIdeal.τ).loc Cert.GatesReferenceIdeal.main_arg7) = m ((c.tc : Thread Cert.GatesIdeal.nD Cert.GatesIdeal.τ).loc Cert.GatesIdeal.main_arg7)
      ∧ m' ((c.tc : Thread Cert.GatesReferenceIdeal.nD Cert.GatesReferenceIdeal.τ).loc Cert.GatesReferenceIdeal.main_arg8) = m ((c.tc : Thread Cert.GatesIdeal.nD Cert.GatesIdeal.τ).loc Cert.GatesIdeal.main_arg8)
      ∧ m' ((c.tc : Thread Cert.GatesReferenceIdeal.nD Cert.GatesReferenceIdeal.τ).loc Cert.GatesReferenceIdeal.main_arg9) = m ((c.tc : Thread Cert.GatesIdeal.nD Cert.GatesIdeal.τ).loc Cert.GatesIdeal.main_arg9)) →
    ∃ (v0 : (c : Dev Cert.GatesIdeal.nD) → Buf (Elt Ideal) ((c.tc : Thread Cert.GatesIdeal.nD Cert.GatesIdeal.τ).loc Cert.GatesIdeal.main_v7_3)) (v1 : (c : Dev Cert.GatesIdeal.nD) → Buf (Elt Ideal) ((c.tc : Thread Cert.GatesIdeal.nD Cert.GatesIdeal.τ).loc Cert.GatesIdeal.main_v7_4)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v7_3) = v0 c
          ∧ r.2.mem ((c.tc : Thread Cert.GatesIdeal.nD Cert.GatesIdeal.τ).loc Cert.GatesIdeal.main_v7_4) = v1 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
          ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2)
          ∧ r.2.mem ((c.tc : Thread Cert.GatesIdeal.nD Cert.GatesIdeal.τ).loc Cert.GatesIdeal.main_arg3) = m ((c.tc : Thread Cert.GatesIdeal.nD Cert.GatesIdeal.τ).loc Cert.GatesIdeal.main_arg3)
          ∧ r.2.mem ((c.tc : Thread Cert.GatesIdeal.nD Cert.GatesIdeal.τ).loc Cert.GatesIdeal.main_arg4) = m ((c.tc : Thread Cert.GatesIdeal.nD Cert.GatesIdeal.τ).loc Cert.GatesIdeal.main_arg4)
          ∧ r.2.mem ((c.tc : Thread Cert.GatesIdeal.nD Cert.GatesIdeal.τ).loc Cert.GatesIdeal.main_arg5) = m ((c.tc : Thread Cert.GatesIdeal.nD Cert.GatesIdeal.τ).loc Cert.GatesIdeal.main_arg5)
          ∧ r.2.mem ((c.tc : Thread Cert.GatesIdeal.nD Cert.GatesIdeal.τ).loc Cert.GatesIdeal.main_arg6) = m ((c.tc : Thread Cert.GatesIdeal.nD Cert.GatesIdeal.τ).loc Cert.GatesIdeal.main_arg6)
          ∧ r.2.mem ((c.tc : Thread Cert.GatesIdeal.nD Cert.GatesIdeal.τ).loc Cert.GatesIdeal.main_arg7) = m ((c.tc : Thread Cert.GatesIdeal.nD Cert.GatesIdeal.τ).loc Cert.GatesIdeal.main_arg7)
          ∧ r.2.mem ((c.tc : Thread Cert.GatesIdeal.nD Cert.GatesIdeal.τ).loc Cert.GatesIdeal.main_arg8) = m ((c.tc : Thread Cert.GatesIdeal.nD Cert.GatesIdeal.τ).loc Cert.GatesIdeal.main_arg8)
          ∧ r.2.mem ((c.tc : Thread Cert.GatesIdeal.nD Cert.GatesIdeal.τ).loc Cert.GatesIdeal.main_arg9) = m ((c.tc : Thread Cert.GatesIdeal.nD Cert.GatesIdeal.τ).loc Cert.GatesIdeal.main_arg9))
      ∧ θ_run (Cert.GatesReferenceIdeal.defs (F := Ideal)) (onTc (τ := Cert.GatesReferenceIdeal.τ) (Cert.GatesReferenceIdeal.main (F := Ideal))) ⟨m', fun _ => 0, g'⟩ (fun r => ∀ c : Dev Cert.GatesReferenceIdeal.nD,
          r.2.mem ((c.tc : Thread Cert.GatesReferenceIdeal.nD Cert.GatesReferenceIdeal.τ).loc Cert.GatesReferenceIdeal.main_v12_0) = v0 c
          ∧ r.2.mem ((c.tc : Thread Cert.GatesReferenceIdeal.nD Cert.GatesReferenceIdeal.τ).loc Cert.GatesReferenceIdeal.main_v12_1) = v1 c
          ∧ r.2.mem ((c.tc : Thread Cert.GatesReferenceIdeal.nD Cert.GatesReferenceIdeal.τ).loc Cert.GatesReferenceIdeal.main_arg0) = m' ((c.tc : Thread Cert.GatesReferenceIdeal.nD Cert.GatesReferenceIdeal.τ).loc Cert.GatesReferenceIdeal.main_arg0)
          ∧ r.2.mem ((c.tc : Thread Cert.GatesReferenceIdeal.nD Cert.GatesReferenceIdeal.τ).loc Cert.GatesReferenceIdeal.main_arg1) = m' ((c.tc : Thread Cert.GatesReferenceIdeal.nD Cert.GatesReferenceIdeal.τ).loc Cert.GatesReferenceIdeal.main_arg1)
          ∧ r.2.mem ((c.tc : Thread Cert.GatesReferenceIdeal.nD Cert.GatesReferenceIdeal.τ).loc Cert.GatesReferenceIdeal.main_arg2) = m' ((c.tc : Thread Cert.GatesReferenceIdeal.nD Cert.GatesReferenceIdeal.τ).loc Cert.GatesReferenceIdeal.main_arg2)
          ∧ r.2.mem ((c.tc : Thread Cert.GatesReferenceIdeal.nD Cert.GatesReferenceIdeal.τ).loc Cert.GatesReferenceIdeal.main_arg3) = m' ((c.tc : Thread Cert.GatesReferenceIdeal.nD Cert.GatesReferenceIdeal.τ).loc Cert.GatesReferenceIdeal.main_arg3)
          ∧ r.2.mem ((c.tc : Thread Cert.GatesReferenceIdeal.nD Cert.GatesReferenceIdeal.τ).loc Cert.GatesReferenceIdeal.main_arg4) = m' ((c.tc : Thread Cert.GatesReferenceIdeal.nD Cert.GatesReferenceIdeal.τ).loc Cert.GatesReferenceIdeal.main_arg4)
          ∧ r.2.mem ((c.tc : Thread Cert.GatesReferenceIdeal.nD Cert.GatesReferenceIdeal.τ).loc Cert.GatesReferenceIdeal.main_arg5) = m' ((c.tc : Thread Cert.GatesReferenceIdeal.nD Cert.GatesReferenceIdeal.τ).loc Cert.GatesReferenceIdeal.main_arg5)
          ∧ r.2.mem ((c.tc : Thread Cert.GatesReferenceIdeal.nD Cert.GatesReferenceIdeal.τ).loc Cert.GatesReferenceIdeal.main_arg6) = m' ((c.tc : Thread Cert.GatesReferenceIdeal.nD Cert.GatesReferenceIdeal.τ).loc Cert.GatesReferenceIdeal.main_arg6)
          ∧ r.2.mem ((c.tc : Thread Cert.GatesReferenceIdeal.nD Cert.GatesReferenceIdeal.τ).loc Cert.GatesReferenceIdeal.main_arg7) = m' ((c.tc : Thread Cert.GatesReferenceIdeal.nD Cert.GatesReferenceIdeal.τ).loc Cert.GatesReferenceIdeal.main_arg7)
          ∧ r.2.mem ((c.tc : Thread Cert.GatesReferenceIdeal.nD Cert.GatesReferenceIdeal.τ).loc Cert.GatesReferenceIdeal.main_arg8) = m' ((c.tc : Thread Cert.GatesReferenceIdeal.nD Cert.GatesReferenceIdeal.τ).loc Cert.GatesReferenceIdeal.main_arg8)
          ∧ r.2.mem ((c.tc : Thread Cert.GatesReferenceIdeal.nD Cert.GatesReferenceIdeal.τ).loc Cert.GatesReferenceIdeal.main_arg9) = m' ((c.tc : Thread Cert.GatesReferenceIdeal.nD Cert.GatesReferenceIdeal.τ).loc Cert.GatesReferenceIdeal.main_arg9))

def Claim : Prop :=
  ∃ (hKernel : Cert.Kernel.Facts) (hKernelIdeal : Cert.KernelIdeal.Facts) (hReferenceIdeal : Cert.ReferenceIdeal.Facts) (hGates : Cert.Gates.Facts) (hGatesIdeal : Cert.GatesIdeal.Facts) (hGatesReferenceIdeal : Cert.GatesReferenceIdeal.Facts) (hPre_scales_nonneg : Cert.Pre_scales_nonneg.Facts) (hPre_all_finite : Cert.Pre_all_finite.Facts),
    quiescent_Kernel (hKernel := hKernel)
    ∧ quiescent_KernelIdeal (hKernelIdeal := hKernelIdeal)
    ∧ quiescent_KernelIdeal_pre_scales_nonneg (hKernelIdeal := hKernelIdeal) (hPre_scales_nonneg := hPre_scales_nonneg)
    ∧ quiescent_ReferenceIdeal (hReferenceIdeal := hReferenceIdeal)
    ∧ quiescent_ReferenceIdeal_pre_scales_nonneg (hReferenceIdeal := hReferenceIdeal) (hPre_scales_nonneg := hPre_scales_nonneg)
    ∧ quiescent_Gates (hGates := hGates)
    ∧ quiescent_GatesIdeal (hGatesIdeal := hGatesIdeal)
    ∧ quiescent_GatesIdeal_pre_all_finite (hGatesIdeal := hGatesIdeal) (hPre_all_finite := hPre_all_finite)
    ∧ quiescent_GatesReferenceIdeal (hGatesReferenceIdeal := hGatesReferenceIdeal)
    ∧ quiescent_GatesReferenceIdeal_pre_all_finite (hGatesReferenceIdeal := hGatesReferenceIdeal) (hPre_all_finite := hPre_all_finite)
    ∧ preserves_Kernel_KernelIdeal
    ∧ algebraic_KernelIdeal_ReferenceIdeal_pre_scales_nonneg (hKernelIdeal := hKernelIdeal) (hReferenceIdeal := hReferenceIdeal) (hPre_scales_nonneg := hPre_scales_nonneg)
    ∧ preserves_Gates_GatesIdeal
    ∧ algebraic_GatesIdeal_GatesReferenceIdeal_pre_all_finite (hGatesIdeal := hGatesIdeal) (hGatesReferenceIdeal := hGatesReferenceIdeal) (hPre_all_finite := hPre_all_finite)
-- ==== Pre_all_finite.lean ====
abbrev S2x4096x7168 : Shape := ⟨3, ![2, 4096, 7168]⟩
abbrev S7168 : Shape := ⟨1, ![7168]⟩
abbrev S2x7168 : Shape := ⟨2, ![2, 7168]⟩
abbrev S2x4096x21504 : Shape := ⟨3, ![2, 4096, 21504]⟩
abbrev S2x4096 : Shape := ⟨2, ![2, 4096]⟩
abbrev S_ : Shape := ⟨0, ![]⟩

class Facts : Prop where
  bcast_S_S2x4096x7168 : S_.BroadcastsInDim S2x4096x7168 (![] : Fin 0 → Fin S2x4096x7168.rank)
  bcast_S_S7168 : S_.BroadcastsInDim S7168 (![] : Fin 0 → Fin S7168.rank)
  bcast_S_S2x7168 : S_.BroadcastsInDim S2x7168 (![] : Fin 0 → Fin S2x7168.rank)
  bcast_S_S2x4096x21504 : S_.BroadcastsInDim S2x4096x21504 (![] : Fin 0 → Fin S2x4096x21504.rank)
  bcast_S_S2x4096 : S_.BroadcastsInDim S2x4096 (![] : Fin 0 → Fin S2x4096.rank)
  natLt_8_32 : 8 < 32

variable [Facts]

def fn_part1 {F : FTy → Type} [FloatOps F] (main_arg6 : FVec F S2x7168 .f32) (main_arg7 : IVec S2x4096x7168 8) (main_arg8 : FVec F S2x4096 .f32) (main_arg9 : FVec F S2x7168 .f32) (main_v2 : IVec S2x4096x7168 1) (main_v5 : IVec S7168 1) (main_v8 : IVec S7168 1) (main_v11 : IVec S2x7168 1) (main_v14 : IVec S2x4096x21504 1) (main_v17 : IVec S2x4096x7168 1) : IVec S2x4096x7168 1 × IVec S7168 1 × IVec S7168 1 × IVec S2x7168 1 × IVec S2x4096x21504 1 × IVec S2x4096x7168 1 × IVec S2x7168 1 × IVec S2x4096 1 × IVec S2x7168 1 × IVec S2x4096x7168 1 :=
  let main_v18 : FVec F S2x7168 .f32 := Host.absf main_arg6
  let main_cst_5 : FVec F S_ .f32 := constant S_ .f32 0x7F800000#32
  let main_v19 : FVec F S2x7168 .f32 := broadcastInDim S2x7168 ![] bcast_S_S2x7168 main_cst_5
  let main_v20 : IVec S2x7168 1 := cmpf .olt main_v18 main_v19
  let main_v21 : FVec F S2x4096 .f32 := Host.absf main_arg8
  let main_cst_6 : FVec F S_ .f32 := constant S_ .f32 0x7F800000#32
  let main_v22 : FVec F S2x4096 .f32 := broadcastInDim S2x4096 ![] bcast_S_S2x4096 main_cst_6
  let main_v23 : IVec S2x4096 1 := cmpf .olt main_v21 main_v22
  let main_v24 : FVec F S2x7168 .f32 := Host.absf main_arg9
  let main_cst_7 : FVec F S_ .f32 := constant S_ .f32 0x7F800000#32
  let main_v25 : FVec F S2x7168 .f32 := broadcastInDim S2x7168 ![] bcast_S_S2x7168 main_cst_7
  let main_v26 : IVec S2x7168 1 := cmpf .olt main_v24 main_v25
  let main_v27 : IVec S2x4096x7168 32 := (extsi 32 · natLt_8_32) main_arg7
  let main_c : IVec S_ 32 := constantI S_ 32 124#32
  let main_v28 : IVec S2x4096x7168 32 := broadcastInDim S2x4096x7168 ![] bcast_S_S2x4096x7168 main_c
  let main_v29 : IVec S2x4096x7168 32 := andi main_v27 main_v28
  let main_c_8 : IVec S_ 32 := constantI S_ 32 124#32
  let main_v30 : IVec S2x4096x7168 32 := broadcastInDim S2x4096x7168 ![] bcast_S_S2x4096x7168 main_c_8
  let main_v31 : IVec S2x4096x7168 1 := cmpi .ne main_v29 main_v30
  (main_v2, main_v5, main_v8, main_v11, main_v14, main_v17, main_v20, main_v23, main_v26, main_v31)

def fn {F : FTy → Type} [FloatOps F] (main_arg0 : FVec F S2x4096x7168 .bf16) (main_arg1 : FVec F S7168 .f32) (main_arg2 : FVec F S7168 .f32) (main_arg3 : FVec F S2x7168 .f32) (main_arg4 : FVec F S2x4096x21504 .bf16) (main_arg5 : FVec F S2x4096x7168 .f32) (main_arg6 : FVec F S2x7168 .f32) (main_arg7 : IVec S2x4096x7168 8) (main_arg8 : FVec F S2x4096 .f32) (main_arg9 : FVec F S2x7168 .f32) : IVec S2x4096x7168 1 × IVec S7168 1 × IVec S7168 1 × IVec S2x7168 1 × IVec S2x4096x21504 1 × IVec S2x4096x7168 1 × IVec S2x7168 1 × IVec S2x4096 1 × IVec S2x7168 1 × IVec S2x4096x7168 1 :=
  let main_v0 : FVec F S2x4096x7168 .bf16 := Host.absf main_arg0
  let main_cst : FVec F S_ .bf16 := constant S_ .bf16 0x7F80#16
  let main_v1 : FVec F S2x4096x7168 .bf16 := broadcastInDim S2x4096x7168 ![] bcast_S_S2x4096x7168 main_cst
  let main_v2 : IVec S2x4096x7168 1 := cmpf .olt main_v0 main_v1
  let main_v3 : FVec F S7168 .f32 := Host.absf main_arg1
  let main_cst_0 : FVec F S_ .f32 := constant S_ .f32 0x7F800000#32
  let main_v4 : FVec F S7168 .f32 := broadcastInDim S7168 ![] bcast_S_S7168 main_cst_0
  let main_v5 : IVec S7168 1 := cmpf .olt main_v3 main_v4
  let main_v6 : FVec F S7168 .f32 := Host.absf main_arg2
  let main_cst_1 : FVec F S_ .f32 := constant S_ .f32 0x7F800000#32
  let main_v7 : FVec F S7168 .f32 := broadcastInDim S7168 ![] bcast_S_S7168 main_cst_1
  let main_v8 : IVec S7168 1 := cmpf .olt main_v6 main_v7
  let main_v9 : FVec F S2x7168 .f32 := Host.absf main_arg3
  let main_cst_2 : FVec F S_ .f32 := constant S_ .f32 0x7F800000#32
  let main_v10 : FVec F S2x7168 .f32 := broadcastInDim S2x7168 ![] bcast_S_S2x7168 main_cst_2
  let main_v11 : IVec S2x7168 1 := cmpf .olt main_v9 main_v10
  let main_v12 : FVec F S2x4096x21504 .bf16 := Host.absf main_arg4
  let main_cst_3 : FVec F S_ .bf16 := constant S_ .bf16 0x7F80#16
  let main_v13 : FVec F S2x4096x21504 .bf16 := broadcastInDim S2x4096x21504 ![] bcast_S_S2x4096x21504 main_cst_3
  let main_v14 : IVec S2x4096x21504 1 := cmpf .olt main_v12 main_v13
  let main_v15 : FVec F S2x4096x7168 .f32 := Host.absf main_arg5
  let main_cst_4 : FVec F S_ .f32 := constant S_ .f32 0x7F800000#32
  let main_v16 : FVec F S2x4096x7168 .f32 := broadcastInDim S2x4096x7168 ![] bcast_S_S2x4096x7168 main_cst_4
  let main_v17 : IVec S2x4096x7168 1 := cmpf .olt main_v15 main_v16
  fn_part1 (F := F) main_arg6 main_arg7 main_arg8 main_arg9 main_v2 main_v5 main_v8 main_v11 main_v14 main_v17
-- ==== Pre_scales_nonneg.lean ====
abbrev S2x4096x21504 : Shape := ⟨3, ![2, 4096, 21504]⟩
abbrev S7168x21504 : Shape := ⟨2, ![7168, 21504]⟩
abbrev S2x4096x3 : Shape := ⟨3, ![2, 4096, 3]⟩
abbrev S7168 : Shape := ⟨1, ![7168]⟩
abbrev S2x4096x7168 : Shape := ⟨3, ![2, 4096, 7168]⟩
abbrev S_ : Shape := ⟨0, ![]⟩

class Facts : Prop where
  bcast_S_S2x4096x3 : S_.BroadcastsInDim S2x4096x3 (![] : Fin 0 → Fin S2x4096x3.rank)

variable [Facts]

def fn {F : FTy → Type} [FloatOps F] (main_arg0 : FVec F S2x4096x21504 .fp8e5m2) (main_arg1 : FVec F S7168x21504 .fp8e4m3) (main_arg2 : FVec F S2x4096x3 .f32) (main_arg3 : FVec F S7168 .f32) (main_arg4 : FVec F S2x4096x7168 .f32) : IVec S2x4096x3 1 × IVec S2x4096x3 1 :=
  let main_cst : FVec F S_ .f32 := constant S_ .f32 0x00000000#32
  let main_v0 : FVec F S2x4096x3 .f32 := broadcastInDim S2x4096x3 ![] bcast_S_S2x4096x3 main_cst
  let main_v1 : IVec S2x4096x3 1 := cmpf .oge main_arg2 main_v0
  let main_cst_0 : FVec F S_ .f32 := constant S_ .f32 0x7F800000#32
  let main_v2 : FVec F S2x4096x3 .f32 := broadcastInDim S2x4096x3 ![] bcast_S_S2x4096x3 main_cst_0
  let main_v3 : IVec S2x4096x3 1 := cmpf .olt main_arg2 main_v2
  (main_v1, main_v3)
-- ==== Kernel.lean ====
abbrev S2x4096x21504 : Shape := ⟨3, ![2, 4096, 21504]⟩
abbrev S7168x21504 : Shape := ⟨2, ![7168, 21504]⟩
abbrev S2x4096x3 : Shape := ⟨3, ![2, 4096, 3]⟩
abbrev S7168 : Shape := ⟨1, ![7168]⟩
abbrev S2x4096x7168 : Shape := ⟨3, ![2, 4096, 7168]⟩
abbrev S8192x21504 : Shape := ⟨2, ![8192, 21504]⟩
abbrev S8192x3 : Shape := ⟨2, ![8192, 3]⟩
abbrev S1x7168 : Shape := ⟨2, ![1, 7168]⟩
abbrev S8192x7168 : Shape := ⟨2, ![8192, 7168]⟩
abbrev S512x21504 : Shape := ⟨2, ![512, 21504]⟩
abbrev S256x21504 : Shape := ⟨2, ![256, 21504]⟩
abbrev S512x3 : Shape := ⟨2, ![512, 3]⟩
abbrev S1x256 : Shape := ⟨2, ![1, 256]⟩
abbrev S512x256 : Shape := ⟨2, ![512, 256]⟩
abbrev S512x7168 : Shape := ⟨2, ![512, 7168]⟩
abbrev S256x7168 : Shape := ⟨2, ![256, 7168]⟩
abbrev S512x1 : Shape := ⟨2, ![512, 1]⟩

abbrev nBuf : Space → Nat
  | .hbm => 10
  | .vmem => 12
  | .smem => 0
  | _ => 0

abbrev bufTy : (tb : Table) → Fin (tcTables nBuf tb) → BufTy
  | .hbm, ⟨0, _⟩ => ⟨S2x4096x21504, .fp8e5m2⟩
  | .hbm, ⟨1, _⟩ => ⟨S7168x21504, .fp8e4m3⟩
  | .hbm, ⟨2, _⟩ => ⟨S2x4096x3, .f32⟩
  | .hbm, ⟨3, _⟩ => ⟨S7168, .f32⟩
  | .hbm, ⟨4, _⟩ => ⟨S2x4096x7168, .f32⟩
  | .hbm, ⟨5, _⟩ => ⟨S8192x21504, .fp8e5m2⟩
  | .hbm, ⟨6, _⟩ => ⟨S8192x3, .f32⟩
  | .hbm, ⟨7, _⟩ => ⟨S1x7168, .f32⟩
  | .hbm, ⟨8, _⟩ => ⟨S8192x7168, .f32⟩
  | .hbm, ⟨9, _⟩ => ⟨S8192x7168, .bf16⟩
  | .local _ .vmem, ⟨0, _⟩ => ⟨S512x21504, .fp8e5m2⟩
  | .local _ .vmem, ⟨1, _⟩ => ⟨S512x21504, .fp8e5m2⟩
  | .local _ .vmem, ⟨2, _⟩ => ⟨S256x21504, .fp8e4m3⟩
  | .local _ .vmem, ⟨3, _⟩ => ⟨S256x21504, .fp8e4m3⟩
  | .local _ .vmem, ⟨4, _⟩ => ⟨S512x3, .f32⟩
  | .local _ .vmem, ⟨5, _⟩ => ⟨S512x3, .f32⟩
  | .local _ .vmem, ⟨6, _⟩ => ⟨S1x256, .f32⟩
  | .local _ .vmem, ⟨7, _⟩ => ⟨S1x256, .f32⟩
  | .local _ .vmem, ⟨8, _⟩ => ⟨S512x256, .f32⟩
  | .local _ .vmem, ⟨9, _⟩ => ⟨S512x256, .f32⟩
  | .local _ .vmem, ⟨10, _⟩ => ⟨S512x256, .bf16⟩
  | .local _ .vmem, ⟨11, _⟩ => ⟨S512x256, .bf16⟩
  | _, _ => ⟨S2x4096x21504, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 28], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x21504 .fp8e5m2 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x21504 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S2x4096x21504 : Shape := ⟨3, ![2, 4096, 21504]⟩
abbrev S7168x21504 : Shape := ⟨2, ![7168, 21504]⟩
abbrev S2x4096x3 : Shape := ⟨3, ![2, 4096, 3]⟩
abbrev S7168 : Shape := ⟨1, ![7168]⟩
abbrev S2x4096x7168 : Shape := ⟨3, ![2, 4096, 7168]⟩
abbrev S8192x21504 : Shape := ⟨2, ![8192, 21504]⟩
abbrev S8192x3 : Shape := ⟨2, ![8192, 3]⟩
abbrev S1x7168 : Shape := ⟨2, ![1, 7168]⟩
abbrev S8192x7168 : Shape := ⟨2, ![8192, 7168]⟩
abbrev S8192x3x7168 : Shape := ⟨3, ![8192, 3, 7168]⟩
abbrev S8192x3x1 : Shape := ⟨3, ![8192, 3, 1]⟩

abbrev nBuf : Space → Nat
  | .hbm => 10
  | .vmem => 6
  | .smem => 0
  | _ => 0

abbrev bufTy : (tb : Table) → Fin (tcTables nBuf tb) → BufTy
  | .hbm, ⟨0, _⟩ => ⟨S2x4096x21504, .fp8e5m2⟩
  | .hbm, ⟨1, _⟩ => ⟨S7168x21504, .fp8e4m3⟩
  | .hbm, ⟨2, _⟩ => ⟨S2x4096x3, .f32⟩
  | .hbm, ⟨3, _⟩ => ⟨S7168, .f32⟩
  | .hbm, ⟨4, _⟩ => ⟨S2x4096x7168, .f32⟩
  | .hbm, ⟨5, _⟩ => ⟨S8192x21504, .fp8e5m2⟩
  | .hbm, ⟨6, _⟩ => ⟨S8192x3, .f32⟩
  | .hbm, ⟨7, _⟩ => ⟨S1x7168, .f32⟩
  | .hbm, ⟨8, _⟩ => ⟨S8192x7168, .f32⟩
  | .hbm, ⟨9, _⟩ => ⟨S8192x7168, .bf16⟩
  | .local _ .vmem, ⟨0, _⟩ => ⟨S8192x21504, .fp8e5m2⟩
  | .local _ .vmem, ⟨1, _⟩ => ⟨S7168x21504, .fp8e4m3⟩
  | .local _ .vmem, ⟨2, _⟩ => ⟨S8192x3, .f32⟩
  | .local _ .vmem, ⟨3, _⟩ => ⟨S1x7168, .f32⟩
  | .local _ .vmem, ⟨4, _⟩ => ⟨S8192x7168, .f32⟩
  | .local _ .vmem, ⟨5, _⟩ => ⟨S8192x7168, .bf16⟩
  | _, _ => ⟨S2x4096x21504, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S8192x21504 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S7168x21504 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x3 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x7168 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8192x7168 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8192x7168 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Gates.lean ====
abbrev S2x4096x7168 : Shape := ⟨3, ![2, 4096, 7168]⟩
abbrev S7168 : Shape := ⟨1, ![7168]⟩
abbrev S2x7168 : Shape := ⟨2, ![2, 7168]⟩
abbrev S2x4096x21504 : Shape := ⟨3, ![2, 4096, 21504]⟩
abbrev S2x4096 : Shape := ⟨2, ![2, 4096]⟩
abbrev S1x7168 : Shape := ⟨2, ![1, 7168]⟩
abbrev S4x7168 : Shape := ⟨2, ![4, 7168]⟩
abbrev S2x1x7168 : Shape := ⟨3, ![2, 1, 7168]⟩
abbrev S2x4096x1 : Shape := ⟨3, ![2, 4096, 1]⟩
abbrev S2x4096x3 : Shape := ⟨3, ![2, 4096, 3]⟩
abbrev S1x64x7168 : Shape := ⟨3, ![1, 64, 7168]⟩
abbrev S1x8x7168 : Shape := ⟨3, ![1, 8, 7168]⟩
abbrev S1x1x7168 : Shape := ⟨3, ![1, 1, 7168]⟩
abbrev S1x64x1 : Shape := ⟨3, ![1, 64, 1]⟩
abbrev S1x64x21504 : Shape := ⟨3, ![1, 64, 21504]⟩
abbrev S1x64x3 : Shape := ⟨3, ![1, 64, 3]⟩
abbrev S3x64x7168 : Shape := ⟨3, ![3, 64, 7168]⟩
abbrev S8x7168 : Shape := ⟨2, ![8, 7168]⟩
abbrev S4x8x7168 : Shape := ⟨3, ![4, 8, 7168]⟩
abbrev S8x256 : Shape := ⟨2, ![8, 256]⟩
abbrev S64x1 : Shape := ⟨2, ![64, 1]⟩
abbrev S64x256 : Shape := ⟨2, ![64, 256]⟩
abbrev S64x128 : Shape := ⟨2, ![64, 128]⟩
abbrev S1x256 : Shape := ⟨2, ![1, 256]⟩
abbrev S1x64x256 : Shape := ⟨3, ![1, 64, 256]⟩
abbrev S1x1x256 : Shape := ⟨3, ![1, 1, 256]⟩
abbrev S1x8x256 : Shape := ⟨3, ![1, 8, 256]⟩
abbrev S8x128 : Shape := ⟨2, ![8, 128]⟩
abbrev S64 : Shape := ⟨1, ![64]⟩

abbrev nBuf : Space → Nat
  | .hbm => 22
  | .vmem => 33
  | .smem => 0
  | _ => 0

abbrev bufTy : (tb : Table) → Fin (tcTables nBuf tb) → BufTy
  | .hbm, ⟨0, _⟩ => ⟨S2x4096x7168, .bf16⟩
  | .hbm, ⟨1, _⟩ => ⟨S7168, .f32⟩
  | .hbm, ⟨2, _⟩ => ⟨S7168, .f32⟩
  | .hbm, ⟨3, _⟩ => ⟨S2x7168, .f32⟩
  | .hbm, ⟨4, _⟩ => ⟨S2x4096x21504, .bf16⟩
  | .hbm, ⟨5, _⟩ => ⟨S2x4096x7168, .f32⟩
  | .hbm, ⟨6, _⟩ => ⟨S2x7168, .f32⟩
  | .hbm, ⟨7, _⟩ => ⟨S2x4096x7168, .i8⟩
  | .hbm, ⟨8, _⟩ => ⟨S2x4096, .f32⟩
  | .hbm, ⟨9, _⟩ => ⟨S2x7168, .f32⟩
  | .hbm, ⟨10, _⟩ => ⟨S2x4096x7168, .fp8e5m2⟩
  | .hbm, ⟨11, _⟩ => ⟨S1x7168, .f32⟩
  | .hbm, ⟨12, _⟩ => ⟨S1x7168, .f32⟩
  | .hbm, ⟨13, _⟩ => ⟨S4x7168, .f32⟩
  | .hbm, ⟨14, _⟩ => ⟨S2x1x7168, .f32⟩
  | .hbm, ⟨15, _⟩ => ⟨S2x4096x1, .f32⟩
  | .hbm, ⟨16, _⟩ => ⟨S2x1x7168, .f32⟩
  | .hbm, ⟨17, _⟩ => ⟨S2x4096x21504, .fp8e5m2⟩
  | .hbm, ⟨18, _⟩ => ⟨S2x4096x3, .f32⟩
  | .hbm, ⟨19, _⟩ => ⟨S2x4096x7168, .f32⟩
  | .hbm, ⟨20, _⟩ => ⟨S2x1x7168, .f32⟩
  | .hbm, ⟨21, _⟩ => ⟨S4x7168, .f32⟩
  | .local _ .vmem, ⟨0, _⟩ => ⟨S1x64x7168, .bf16⟩
  | .local _ .vmem, ⟨1, _⟩ => ⟨S1x64x7168, .bf16⟩
  | .local _ .vmem, ⟨2, _⟩ => ⟨S1x64x7168, .bf16⟩
  | .local _ .vmem, ⟨3, _⟩ => ⟨S1x64x7168, .bf16⟩
  | .local _ .vmem, ⟨4, _⟩ => ⟨S1x64x7168, .bf16⟩
  | .local _ .vmem, ⟨5, _⟩ => ⟨S1x64x7168, .bf16⟩
  | .local _ .vmem, ⟨6, _⟩ => ⟨S1x64x7168, .bf16⟩
  | .local _ .vmem, ⟨7, _⟩ => ⟨S1x64x7168, .bf16⟩
  | .local _ .vmem, ⟨8, _⟩ => ⟨S1x64x7168, .f32⟩
  | .local _ .vmem, ⟨9, _⟩ => ⟨S1x64x7168, .f32⟩
  | .local _ .vmem, ⟨10, _⟩ => ⟨S1x8x7168, .f32⟩
  | .local _ .vmem, ⟨11, _⟩ => ⟨S1x8x7168, .f32⟩
  | .local _ .vmem, ⟨12, _⟩ => ⟨S1x1x7168, .f32⟩
  | .local _ .vmem, ⟨13, _⟩ => ⟨S1x1x7168, .f32⟩
  | .local _ .vmem, ⟨14, _⟩ => ⟨S1x64x7168, .fp8e5m2⟩
  | .local _ .vmem, ⟨15, _⟩ => ⟨S1x64x7168, .fp8e5m2⟩
  | .local _ .vmem, ⟨16, _⟩ => ⟨S1x64x1, .f32⟩
  | .local _ .vmem, ⟨17, _⟩ => ⟨S1x64x1, .f32⟩
  | .local _ .vmem, ⟨18, _⟩ => ⟨S4x7168, .f32⟩
  | .local _ .vmem, ⟨19, _⟩ => ⟨S1x1x7168, .f32⟩
  | .local _ .vmem, ⟨20, _⟩ => ⟨S1x1x7168, .f32⟩
  | .local _ .vmem, ⟨21, _⟩ => ⟨S1x64x21504, .fp8e5m2⟩
  | .local _ .vmem, ⟨22, _⟩ => ⟨S1x64x21504, .fp8e5m2⟩
  | .local _ .vmem, ⟨23, _⟩ => ⟨S1x64x3, .f32⟩
  | .local _ .vmem, ⟨24, _⟩ => ⟨S1x64x3, .f32⟩
  | .local _ .vmem, ⟨25, _⟩ => ⟨S1x64x7168, .f32⟩
  | .local _ .vmem, ⟨26, _⟩ => ⟨S1x64x7168, .f32⟩
  | .local _ .vmem, ⟨27, _⟩ => ⟨S1x1x7168, .f32⟩
  | .local _ .vmem, ⟨28, _⟩ => ⟨S1x1x7168, .f32⟩
  | .local _ .vmem, ⟨29, _⟩ => ⟨S4x7168, .f32⟩
  | .local _ .vmem, ⟨30, _⟩ => ⟨S3x64x7168, .f32⟩
  | .local _ .vmem, ⟨31, _⟩ => ⟨S8x7168, .f32⟩
  | .local _ .vmem, ⟨32, _⟩ => ⟨S4x8x7168, .f32⟩
  | _, _ => ⟨S2x4096x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7_0 : Ref sig .tc := ⟨.hbm, 17, rfl⟩
abbrev main_v7_1 : Ref sig .tc := ⟨.hbm, 18, rfl⟩
abbrev main_v7_2 : Ref sig .tc := ⟨.hbm, 19, rfl⟩
abbrev main_v7_3 : Ref sig .tc := ⟨.hbm, 20, rfl⟩
abbrev main_v7_4 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_scratch0 : Ref sig .tc := ⟨.vmem, 30, rfl⟩
abbrev cc0_scratch1 : Ref sig .tc := ⟨.vmem, 31, rfl⟩
abbrev cc0_scratch2 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29

abbrev nD : Nat := 1
abbrev τ : Topo := Topo.v7x

variable {F : FTy → Type} [FloatOps F]

abbrev grid0 : Pipeline.Grid := ⟨2, ![2, 64], ![false, false]⟩

@[reducible] def k0_t1_loop : Scf.Loop 32 :=
  let c0_i32_6 : BitVec 32 := 0#32
  let c28_i32 : BitVec 32 := 28#32
  let v15 : BitVec 32 := Scalar.addi c0_i32_6 c28_i32
  let c1_i32 : BitVec 32 := 1#32
  ⟨c0_i32_6, v15, c1_i32⟩
def k0_mult1 (k0_t1 : Fin k0_t1_loop.trips) : BitVec 32 :=
  let c0_i32_6 : BitVec 32 := 0#32
  let c1_i32 : BitVec 32 := 1#32
  let arg21 : BitVec 32 := Scf.iv c0_i32_6 c1_i32 k0_t1
  let c256_i32 : BitVec 32 := 256#32
  let v125 : BitVec 32 := Scalar.muli arg21 c256_i32
  v125
def k0_off1 (k0_t1 : Fin k0_t1_loop.trips) : Fin 2 → Nat :=
  let c0_54 : Index := 0#32
  let c0_i32_6 : BitVec 32 := 0#32
  let c1_i32 : BitVec 32 := 1#32
  let arg21 : BitVec 32 := Scf.iv c0_i32_6 c1_i32 k0_t1
  let c256_i32 : BitVec 32 := 256#32
  let v125 : BitVec 32 := Scalar.muli arg21 c256_i32
  let v126 : BitVec 32 := v125
  let v127 : Index := Scalar.indexCast v126
  ![0, v127.toNat]
def k0_off2 (k0_t1 : Fin k0_t1_loop.trips) : Fin 2 → Nat :=
  let c1_55 : Index := 1#32
  let c0_i32_6 : BitVec 32 := 0#32
  let c1_i32 : BitVec 32 := 1#32
  let arg21 : BitVec 32 := Scf.iv c0_i32_6 c1_i32 k0_t1
  let c256_i32 : BitVec 32 := 256#32
  let v125 : BitVec 32 := Scalar.muli arg21 c256_i32
  let v126 : BitVec 32 := v125
  let v130 : Index := Scalar.indexCast v126
  ![1, v130.toNat]
def k0_off3 (k0_t1 : Fin k0_t1_loop.trips) : Fin 2 → Nat :=
  let c2_56 : Index := 2#32
  let c0_i32_6 : BitVec 32 := 0#32
  let c1_i32 : BitVec 32 := 1#32
  let arg21 : BitVec 32 := Scf.iv c0_i32_6 c1_i32 k0_t1
  let c256_i32 : BitVec 32 := 256#32
  let v125 : BitVec 32 := Scalar.muli arg21 c256_i32
  let v126 : BitVec 32 := v125
  let v133 : Index := Scalar.indexCast v126
  ![2, v133.toNat]
def k0_off4 (k0_t1 : Fin k0_t1_loop.trips) : Fin 2 → Nat :=
  let c3 : Index := 3#32
  let c0_i32_6 : BitVec 32 := 0#32
  let c1_i32 : BitVec 32 := 1#32
  let arg21 : BitVec 32 := Scf.iv c0_i32_6 c1_i32 k0_t1
  let c256_i32 : BitVec 32 := 256#32
  let v125 : BitVec 32 := Scalar.muli arg21 c256_i32
  let v126 : BitVec 32 := v125
  let v136 : Index := Scalar.indexCast v126
  ![3, v136.toNat]
def k0_off5 (k0_t1 : Fin k0_t1_loop.trips) : Fin 3 → Nat :=
  let c0_57 : Index := 0#32
  let c0_58 : Index := 0#32
  let c0_i32_6 : BitVec 32 := 0#32
  let c1_i32 : BitVec 32 := 1#32
  let arg21 : BitVec 32 := Scf.iv c0_i32_6 c1_i32 k0_t1
  let c256_i32 : BitVec 32 := 256#32
  let v125 : BitVec 32 := Scalar.muli arg21 c256_i32
  let v126 : BitVec 32 := v125
  let v139 : Index := Scalar.indexCast v126
  ![0, 0, v139.toNat]
def k0_off6 (k0_t1 : Fin k0_t1_loop.trips) : Fin 3 → Nat :=
  let c0_69 : Index := 0#32
  let c0_70 : Index := 0#32
  let c0_i32_6 : BitVec 32 := 0#32
  let c1_i32 : BitVec 32 := 1#32
  let arg21 : BitVec 32 := Scf.iv c0_i32_6 c1_i32 k0_t1
  let c256_i32 : BitVec 32 := 256#32
  let v125 : BitVec 32 := Scalar.muli arg21 c256_i32
  let v126 : BitVec 32 := v125
  let v163 : Index := Scalar.indexCast v126
  ![0, 0, v163.toNat]
def k0_off7 (k0_t1 : Fin k0_t1_loop.trips) : Fin 3 → Nat :=
  let c0_71 : Index := 0#32
  let c7 : Index := 7#32
  let c0_i32_6 : BitVec 32 := 0#32
  let c1_i32 : BitVec 32 := 1#32
  let arg21 : BitVec 32 := Scf.iv c0_i32_6 c1_i32 k0_t1
  let c256_i32 : BitVec 32 := 256#32
  let v125 : BitVec 32 := Scalar.muli arg21 c256_i32
  let v126 : BitVec 32 := v125
  let v166 : Index := Scalar.indexCast v126
  ![0, 7, v166.toNat]
def k0_off8 (k0_t1 : Fin k0_t1_loop.trips) : Fin 2 → Nat :=
  let c0_72 : Index := 0#32
  let c0_i32_6 : BitVec 32 := 0#32
  let c1_i32 : BitVec 32 := 1#32
  let arg21 : BitVec 32 := Scf.iv c0_i32_6 c1_i32 k0_t1
  let c256_i32 : BitVec 32 := 256#32
  let v125 : BitVec 32 := Scalar.muli arg21 c256_i32
  let v126 : BitVec 32 := v125
  let v170 : Index := Scalar.indexCast v126
  ![0, v170.toNat]
def k0_off9 (k0_t1 : Fin k0_t1_loop.trips) : Fin 3 → Nat :=
  let c0_73 : Index := 0#32
  let c0_74 : Index := 0#32
  let c0_i32_6 : BitVec 32 := 0#32
  let c1_i32 : BitVec 32 := 1#32
  let arg21 : BitVec 32 := Scf.iv c0_i32_6 c1_i32 k0_t1
  let c256_i32 : BitVec 32 := 256#32
  let v125 : BitVec 32 := Scalar.muli arg21 c256_i32
  let v126 : BitVec 32 := v125
  let v172 : Index := Scalar.indexCast v126
  ![0, 0, v172.toNat]
def k0_off10 (k0_t1 : Fin k0_t1_loop.trips) : Fin 3 → Nat :=
  let c1_75 : Index := 1#32
  let c0_76 : Index := 0#32
  let c0_i32_6 : BitVec 32 := 0#32
  let c1_i32 : BitVec 32 := 1#32
  let arg21 : BitVec 32 := Scf.iv c0_i32_6 c1_i32 k0_t1
  let c256_i32 : BitVec 32 := 256#32
  let v125 : BitVec 32 := Scalar.muli arg21 c256_i32
  let v126 : BitVec 32 := v125
  let v175 : Index := Scalar.indexCast v126
  ![1, 0, v175.toNat]
def k0_off11 (k0_t1 : Fin k0_t1_loop.trips) : Fin 3 → Nat :=
  let c2_77 : Index := 2#32
  let c0_78 : Index := 0#32
  let c0_i32_6 : BitVec 32 := 0#32
  let c1_i32 : BitVec 32 := 1#32
  let arg21 : BitVec 32 := Scf.iv c0_i32_6 c1_i32 k0_t1
  let c256_i32 : BitVec 32 := 256#32
  let v125 : BitVec 32 := Scalar.muli arg21 c256_i32
  let v126 : BitVec 32 := v125
  let v178 : Index := Scalar.indexCast v126
  ![2, 0, v178.toNat]
def k0_off12 (k0_t1 : Fin k0_t1_loop.trips) : Fin 3 → Nat :=
  let c3_79 : Index := 3#32
  let c0_80 : Index := 0#32
  let c0_i32_6 : BitVec 32 := 0#32
  let c1_i32 : BitVec 32 := 1#32
  let arg21 : BitVec 32 := Scf.iv c0_i32_6 c1_i32 k0_t1
  let c256_i32 : BitVec 32 := 256#32
  let v125 : BitVec 32 := Scalar.muli arg21 c256_i32
  let v126 : BitVec 32 := v125
  let v181 : Index := Scalar.indexCast v126
  ![3, 0, v181.toNat]
def k0_off13 (k0_t1 : Fin k0_t1_loop.trips) : Fin 3 → Nat :=
  let c0_105 : Index := 0#32
  let c56 : Index := 56#32
  let c0_i32_6 : BitVec 32 := 0#32
  let c1_i32 : BitVec 32 := 1#32
  let arg21 : BitVec 32 := Scf.iv c0_i32_6 c1_i32 k0_t1
  let c256_i32 : BitVec 32 := 256#32
  let v125 : BitVec 32 := Scalar.muli arg21 c256_i32
  let v126 : BitVec 32 := v125
  let v291 : Index := Scalar.indexCast v126
  ![0, 56, v291.toNat]
def k0_off14 (k0_t1 : Fin k0_t1_loop.trips) : Fin 3 → Nat :=
  let c0_106 : Index := 0#32
  let c56_107 : Index := 56#32
  let c0_i32_6 : BitVec 32 := 0#32
  let c1_i32 : BitVec 32 := 1#32
  let arg21 : BitVec 32 := Scf.iv c0_i32_6 c1_i32 k0_t1
  let c256_i32 : BitVec 32 := 256#32
  let v125 : BitVec 32 := Scalar.muli arg21 c256_i32
  let v126 : BitVec 32 := v125
  let v295 : Index := Scalar.indexCast v126
  ![0, 56, v295.toNat]
def k0_off15 (k0_t1 : Fin k0_t1_loop.trips) : Fin 3 → Nat :=
  let c1_108 : Index := 1#32
  let c56_109 : Index := 56#32
  let c0_i32_6 : BitVec 32 := 0#32
  let c1_i32 : BitVec 32 := 1#32
  let arg21 : BitVec 32 := Scf.iv c0_i32_6 c1_i32 k0_t1
  let c256_i32 : BitVec 32 := 256#32
  let v125 : BitVec 32 := Scalar.muli arg21 c256_i32
  let v126 : BitVec 32 := v125
  let v303 : Index := Scalar.indexCast v126
  ![1, 56, v303.toNat]
def k0_off16 (k0_t1 : Fin k0_t1_loop.trips) : Fin 3 → Nat :=
  let c2_110 : Index := 2#32
  let c56_111 : Index := 56#32
  let c0_i32_6 : BitVec 32 := 0#32
  let c1_i32 : BitVec 32 := 1#32
  let arg21 : BitVec 32 := Scf.iv c0_i32_6 c1_i32 k0_t1
  let c256_i32 : BitVec 32 := 256#32
  let v125 : BitVec 32 := Scalar.muli arg21 c256_i32
  let v126 : BitVec 32 := v125
  let v311 : Index := Scalar.indexCast v126
  ![2, 56, v311.toNat]
def k0_off17 (k0_t1 : Fin k0_t1_loop.trips) : Fin 3 → Nat :=
  let c0_139 : Index := 0#32
  let c48 : Index := 48#32
  let c0_i32_6 : BitVec 32 := 0#32
  let c1_i32 : BitVec 32 := 1#32
  let arg21 : BitVec 32 := Scf.iv c0_i32_6 c1_i32 k0_t1
  let c256_i32 : BitVec 32 := 256#32
  let v125 : BitVec 32 := Scalar.muli arg21 c256_i32
  let v126 : BitVec 32 := v125
  let v426 : Index := Scalar.indexCast v126
  ![0, 48, v426.toNat]
def k0_off18 (k0_t1 : Fin k0_t1_loop.trips) : Fin 3 → Nat :=
  let c0_140 : Index := 0#32
  let c48_141 : Index := 48#32
  let c0_i32_6 : BitVec 32 := 0#32
  let c1_i32 : BitVec 32 := 1#32
  let arg21 : BitVec 32 := Scf.iv c0_i32_6 c1_i32 k0_t1
  let c256_i32 : BitVec 32 := 256#32
  let v125 : BitVec 32 := Scalar.muli arg21 c256_i32
  let v126 : BitVec 32 := v125
  let v430 : Index := Scalar.indexCast v126
  ![0, 48, v430.toNat]
def k0_off19 (k0_t1 : Fin k0_t1_loop.trips) : Fin 3 → Nat :=
  let c1_142 : Index := 1#32
  let c48_143 : Index := 48#32
  let c0_i32_6 : BitVec 32 := 0#32
  let c1_i32 : BitVec 32 := 1#32
  let arg21 : BitVec 32 := Scf.iv c0_i32_6 c1_i32 k0_t1
  let c256_i32 : BitVec 32 := 256#32
  let v125 : BitVec 32 := Scalar.muli arg21 c256_i32
  let v126 : BitVec 32 := v125
  let v438 : Index := Scalar.indexCast v126
  ![1, 48, v438.toNat]
def k0_off20 (k0_t1 : Fin k0_t1_loop.trips) : Fin 3 → Nat :=
  let c2_144 : Index := 2#32
  let c48_145 : Index := 48#32
  let c0_i32_6 : BitVec 32 := 0#32
  let c1_i32 : BitVec 32 := 1#32
  let arg21 : BitVec 32 := Scf.iv c0_i32_6 c1_i32 k0_t1
  let c256_i32 : BitVec 32 := 256#32
  let v125 : BitVec 32 := Scalar.muli arg21 c256_i32
  let v126 : BitVec 32 := v125
  let v446 : Index := Scalar.indexCast v126
  ![2, 48, v446.toNat]
def k0_off21 (k0_t1 : Fin k0_t1_loop.trips) : Fin 3 → Nat :=
  let c0_173 : Index := 0#32
  let c40 : Index := 40#32
  let c0_i32_6 : BitVec 32 := 0#32
  let c1_i32 : BitVec 32 := 1#32
  let arg21 : BitVec 32 := Scf.iv c0_i32_6 c1_i32 k0_t1
  let c256_i32 : BitVec 32 := 256#32
  let v125 : BitVec 32 := Scalar.muli arg21 c256_i32
  let v126 : BitVec 32 := v125
  let v561 : Index := Scalar.indexCast v126
  ![0, 40, v561.toNat]
def k0_off22 (k0_t1 : Fin k0_t1_loop.trips) : Fin 3 → Nat :=
  let c0_174 : Index := 0#32
  let c40_175 : Index := 40#32
  let c0_i32_6 : BitVec 32 := 0#32
  let c1_i32 : BitVec 32 := 1#32
  let arg21 : BitVec 32 := Scf.iv c0_i32_6 c1_i32 k0_t1
  let c256_i32 : BitVec 32 := 256#32
  let v125 : BitVec 32 := Scalar.muli arg21 c256_i32
  let v126 : BitVec 32 := v125
  let v565 : Index := Scalar.indexCast v126
  ![0, 40, v565.toNat]
def k0_off23 (k0_t1 : Fin k0_t1_loop.trips) : Fin 3 → Nat :=
  let c1_176 : Index := 1#32
  let c40_177 : Index := 40#32
  let c0_i32_6 : BitVec 32 := 0#32
  let c1_i32 : BitVec 32 := 1#32
  let arg21 : BitVec 32 := Scf.iv c0_i32_6 c1_i32 k0_t1
  let c256_i32 : BitVec 32 := 256#32
  let v125 : BitVec 32 := Scalar.muli arg21 c256_i32
  let v126 : BitVec 32 := v125
  let v573 : Index := Scalar.indexCast v126
  ![1, 40, v573.toNat]
def k0_off24 (k0_t1 : Fin k0_t1_loop.trips) : Fin 3 → Nat :=
  let c2_178 : Index := 2#32
  let c40_179 : Index := 40#32
  let c0_i32_6 : BitVec 32 := 0#32
  let c1_i32 : BitVec 32 := 1#32
  let arg21 : BitVec 32 := Scf.iv c0_i32_6 c1_i32 k0_t1
  let c256_i32 : BitVec 32 := 256#32
  let v125 : BitVec 32 := Scalar.muli arg21 c256_i32
  let v126 : BitVec 32 := v125
  let v581 : Index := Scalar.indexCast v126
  ![2, 40, v581.toNat]
def k0_off25 (k0_t1 : Fin k0_t1_loop.trips) : Fin 3 → Nat :=
  let c0_207 : Index := 0#32
  let c32 : Index := 32#32
  let c0_i32_6 : BitVec 32 := 0#32
  let c1_i32 : BitVec 32 := 1#32
  let arg21 : BitVec 32 := Scf.iv c0_i32_6 c1_i32 k0_t1
  let c256_i32 : BitVec 32 := 256#32
  let v125 : BitVec 32 := Scalar.muli arg21 c256_i32
  let v126 : BitVec 32 := v125
  let v696 : Index := Scalar.indexCast v126
  ![0, 32, v696.toNat]
def k0_off26 (k0_t1 : Fin k0_t1_loop.trips) : Fin 3 → Nat :=
  let c0_208 : Index := 0#32
  let c32_209 : Index := 32#32
  let c0_i32_6 : BitVec 32 := 0#32
  let c1_i32 : BitVec 32 := 1#32
  let arg21 : BitVec 32 := Scf.iv c0_i32_6 c1_i32 k0_t1
  let c256_i32 : BitVec 32 := 256#32
  let v125 : BitVec 32 := Scalar.muli arg21 c256_i32
  let v126 : BitVec 32 := v125
  let v700 : Index := Scalar.indexCast v126
  ![0, 32, v700.toNat]
def k0_off27 (k0_t1 : Fin k0_t1_loop.trips) : Fin 3 → Nat :=
  let c1_210 : Index := 1#32
  let c32_211 : Index := 32#32
  let c0_i32_6 : BitVec 32 := 0#32
  let c1_i32 : BitVec 32 := 1#32
  let arg21 : BitVec 32 := Scf.iv c0_i32_6 c1_i32 k0_t1
  let c256_i32 : BitVec 32 := 256#32
  let v125 : BitVec 32 := Scalar.muli arg21 c256_i32
  let v126 : BitVec 32 := v125
  let v708 : Index := Scalar.indexCast v126
  ![1, 32, v708.toNat]
def k0_off28 (k0_t1 : Fin k0_t1_loop.trips) : Fin 3 → Nat :=
  let c2_212 : Index := 2#32
  let c32_213 : Index := 32#32
  let c0_i32_6 : BitVec 32 := 0#32
  let c1_i32 : BitVec 32 := 1#32
  let arg21 : BitVec 32 := Scf.iv c0_i32_6 c1_i32 k0_t1
  let c256_i32 : BitVec 32 := 256#32
  let v125 : BitVec 32 := Scalar.muli arg21 c256_i32
  let v126 : BitVec 32 := v125
  let v716 : Index := Scalar.indexCast v126
  ![2, 32, v716.toNat]
def k0_off29 (k0_t1 : Fin k0_t1_loop.trips) : Fin 3 → Nat :=
  let c0_241 : Index := 0#32
  let c24 : Index := 24#32
  let c0_i32_6 : BitVec 32 := 0#32
  let c1_i32 : BitVec 32 := 1#32
  let arg21 : BitVec 32 := Scf.iv c0_i32_6 c1_i32 k0_t1
  let c256_i32 : BitVec 32 := 256#32
  let v125 : BitVec 32 := Scalar.muli arg21 c256_i32
  let v126 : BitVec 32 := v125
  let v831 : Index := Scalar.indexCast v126
  ![0, 24, v831.toNat]
def k0_off30 (k0_t1 : Fin k0_t1_loop.trips) : Fin 3 → Nat :=
  let c0_242 : Index := 0#32
  let c24_243 : Index := 24#32
  let c0_i32_6 : BitVec 32 := 0#32
  let c1_i32 : BitVec 32 := 1#32
  let arg21 : BitVec 32 := Scf.iv c0_i32_6 c1_i32 k0_t1
  let c256_i32 : BitVec 32 := 256#32
  let v125 : BitVec 32 := Scalar.muli arg21 c256_i32
  let v126 : BitVec 32 := v125
  let v835 : Index := Scalar.indexCast v126
  ![0, 24, v835.toNat]
def k0_off31 (k0_t1 : Fin k0_t1_loop.trips) : Fin 3 → Nat :=
  let c1_244 : Index := 1#32
  let c24_245 : Index := 24#32
  let c0_i32_6 : BitVec 32 := 0#32
  let c1_i32 : BitVec 32 := 1#32
  let arg21 : BitVec 32 := Scf.iv c0_i32_6 c1_i32 k0_t1
  let c256_i32 : BitVec 32 := 256#32
  let v125 : BitVec 32 := Scalar.muli arg21 c256_i32
  let v126 : BitVec 32 := v125
  let v843 : Index := Scalar.indexCast v126
  ![1, 24, v843.toNat]
def k0_off32 (k0_t1 : Fin k0_t1_loop.trips) : Fin 3 → Nat :=
  let c2_246 : Index := 2#32
  let c24_247 : Index := 24#32
  let c0_i32_6 : BitVec 32 := 0#32
  let c1_i32 : BitVec 32 := 1#32
  let arg21 : BitVec 32 := Scf.iv c0_i32_6 c1_i32 k0_t1
  let c256_i32 : BitVec 32 := 256#32
  let v125 : BitVec 32 := Scalar.muli arg21 c256_i32
  let v126 : BitVec 32 := v125
  let v851 : Index := Scalar.indexCast v126
  ![2, 24, v851.toNat]
def k0_off33 (k0_t1 : Fin k0_t1_loop.trips) : Fin 3 → Nat :=
  let c0_275 : Index := 0#32
  let c16 : Index := 16#32
  let c0_i32_6 : BitVec 32 := 0#32
  let c1_i32 : BitVec 32 := 1#32
  let arg21 : BitVec 32 := Scf.iv c0_i32_6 c1_i32 k0_t1
  let c256_i32 : BitVec 32 := 256#32
  let v125 : BitVec 32 := Scalar.muli arg21 c256_i32
  let v126 : BitVec 32 := v125
  let v966 : Index := Scalar.indexCast v126
  ![0, 16, v966.toNat]
def k0_off34 (k0_t1 : Fin k0_t1_loop.trips) : Fin 3 → Nat :=
  let c0_276 : Index := 0#32
  let c16_277 : Index := 16#32
  let c0_i32_6 : BitVec 32 := 0#32
  let c1_i32 : BitVec 32 := 1#32
  let arg21 : BitVec 32 := Scf.iv c0_i32_6 c1_i32 k0_t1
  let c256_i32 : BitVec 32 := 256#32
  let v125 : BitVec 32 := Scalar.muli arg21 c256_i32
  let v126 : BitVec 32 := v125
  let v970 : Index := Scalar.indexCast v126
  ![0, 16, v970.toNat]
def k0_off35 (k0_t1 : Fin k0_t1_loop.trips) : Fin 3 → Nat :=
  let c1_278 : Index := 1#32
  let c16_279 : Index := 16#32
  let c0_i32_6 : BitVec 32 := 0#32
  let c1_i32 : BitVec 32 := 1#32
  let arg21 : BitVec 32 := Scf.iv c0_i32_6 c1_i32 k0_t1
  let c256_i32 : BitVec 32 := 256#32
  let v125 : BitVec 32 := Scalar.muli arg21 c256_i32
  let v126 : BitVec 32 := v125
  let v978 : Index := Scalar.indexCast v126
  ![1, 16, v978.toNat]
def k0_off36 (k0_t1 : Fin k0_t1_loop.trips) : Fin 3 → Nat :=
  let c2_280 : Index := 2#32
  let c16_281 : Index := 16#32
  let c0_i32_6 : BitVec 32 := 0#32
  let c1_i32 : BitVec 32 := 1#32
  let arg21 : BitVec 32 := Scf.iv c0_i32_6 c1_i32 k0_t1
  let c256_i32 : BitVec 32 := 256#32
  let v125 : BitVec 32 := Scalar.muli arg21 c256_i32
  let v126 : BitVec 32 := v125
  let v986 : Index := Scalar.indexCast v126
  ![2, 16, v986.toNat]
def k0_off37 (k0_t1 : Fin k0_t1_loop.trips) : Fin 3 → Nat :=
  let c0_309 : Index := 0#32
  let c8 : Index := 8#32
  let c0_i32_6 : BitVec 32 := 0#32
  let c1_i32 : BitVec 32 := 1#32
  let arg21 : BitVec 32 := Scf.iv c0_i32_6 c1_i32 k0_t1
  let c256_i32 : BitVec 32 := 256#32
  let v125 : BitVec 32 := Scalar.muli arg21 c256_i32
  let v126 : BitVec 32 := v125
  let v1101 : Index := Scalar.indexCast v126
  ![0, 8, v1101.toNat]
def k0_off38 (k0_t1 : Fin k0_t1_loop.trips) : Fin 3 → Nat :=
  let c0_310 : Index := 0#32
  let c8_311 : Index := 8#32
  let c0_i32_6 : BitVec 32 := 0#32
  let c1_i32 : BitVec 32 := 1#32
  let arg21 : BitVec 32 := Scf.iv c0_i32_6 c1_i32 k0_t1
  let c256_i32 : BitVec 32 := 256#32
  let v125 : BitVec 32 := Scalar.muli arg21 c256_i32
  let v126 : BitVec 32 := v125
  let v1105 : Index := Scalar.indexCast v126
  ![0, 8, v1105.toNat]
def k0_off39 (k0_t1 : Fin k0_t1_loop.trips) : Fin 3 → Nat :=
  let c1_312 : Index := 1#32
  let c8_313 : Index := 8#32
  let c0_i32_6 : BitVec 32 := 0#32
  let c1_i32 : BitVec 32 := 1#32
  let arg21 : BitVec 32 := Scf.iv c0_i32_6 c1_i32 k0_t1
  let c256_i32 : BitVec 32 := 256#32
  let v125 : BitVec 32 := Scalar.muli arg21 c256_i32
  let v126 : BitVec 32 := v125
  let v1113 : Index := Scalar.indexCast v126
  ![1, 8, v1113.toNat]
def k0_off40 (k0_t1 : Fin k0_t1_loop.trips) : Fin 3 → Nat :=
  let c2_314 : Index := 2#32
  let c8_315 : Index := 8#32
  let c0_i32_6 : BitVec 32 := 0#32
  let c1_i32 : BitVec 32 := 1#32
  let arg21 : BitVec 32 := Scf.iv c0_i32_6 c1_i32 k0_t1
  let c256_i32 : BitVec 32 := 256#32
  let v125 : BitVec 32 := Scalar.muli arg21 c256_i32
  let v126 : BitVec 32 := v125
  let v1121 : Index := Scalar.indexCast v126
  ![2, 8, v1121.toNat]
def k0_off41 (k0_t1 : Fin k0_t1_loop.trips) : Fin 3 → Nat :=
  let c0_343 : Index := 0#32
  let c0_344 : Index := 0#32
  let c0_i32_6 : BitVec 32 := 0#32
  let c1_i32 : BitVec 32 := 1#32
  let arg21 : BitVec 32 := Scf.iv c0_i32_6 c1_i32 k0_t1
  let c256_i32 : BitVec 32 := 256#32
  let v125 : BitVec 32 := Scalar.muli arg21 c256_i32
  let v126 : BitVec 32 := v125
  let v1235 : Index := Scalar.indexCast v126
  ![0, 0, v1235.toNat]
def k0_off42 (k0_t1 : Fin k0_t1_loop.trips) : Fin 3 → Nat :=
  let c0_345 : Index := 0#32
  let c0_346 : Index := 0#32
  let c0_i32_6 : BitVec 32 := 0#32
  let c1_i32 : BitVec 32 := 1#32
  let arg21 : BitVec 32 := Scf.iv c0_i32_6 c1_i32 k0_t1
  let c256_i32 : BitVec 32 := 256#32
  let v125 : BitVec 32 := Scalar.muli arg21 c256_i32
  let v126 : BitVec 32 := v125
  let v1239 : Index := Scalar.indexCast v126
  ![0, 0, v1239.toNat]
def k0_off43 (k0_t1 : Fin k0_t1_loop.trips) : Fin 3 → Nat :=
  let c1_347 : Index := 1#32
  let c0_348 : Index := 0#32
  let c0_i32_6 : BitVec 32 := 0#32
  let c1_i32 : BitVec 32 := 1#32
  let arg21 : BitVec 32 := Scf.iv c0_i32_6 c1_i32 k0_t1
  let c256_i32 : BitVec 32 := 256#32
  let v125 : BitVec 32 := Scalar.muli arg21 c256_i32
  let v126 : BitVec 32 := v125
  let v1247 : Index := Scalar.indexCast v126
  ![1, 0, v1247.toNat]
def k0_off44 (k0_t1 : Fin k0_t1_loop.trips) : Fin 3 → Nat :=
  let c2_349 : Index := 2#32
  let c0_350 : Index := 0#32
  let c0_i32_6 : BitVec 32 := 0#32
  let c1_i32 : BitVec 32 := 1#32
  let arg21 : BitVec 32 := Scf.iv c0_i32_6 c1_i32 k0_t1
  let c256_i32 : BitVec 32 := 256#32
  let v125 : BitVec 32 := Scalar.muli arg21 c256_i32
  let v126 : BitVec 32 := v125
  let v1255 : Index := Scalar.indexCast v126
  ![2, 0, v1255.toNat]
@[reducible] def k0_t2_loop : Scf.Loop 32 :=
  let c0_i32_45 : BitVec 32 := 0#32
  let c28_i32_46 : BitVec 32 := 28#32
  let v116 : BitVec 32 := Scalar.addi c0_i32_45 c28_i32_46
  let c1_i32_47 : BitVec 32 := 1#32
  ⟨c0_i32_45, v116, c1_i32_47⟩
def k0_mult2 (k0_t2 : Fin k0_t2_loop.trips) : BitVec 32 :=
  let c0_i32_45 : BitVec 32 := 0#32
  let c1_i32_47 : BitVec 32 := 1#32
  let arg21 : BitVec 32 := Scf.iv c0_i32_45 c1_i32_47 k0_t2
  let c256_i32 : BitVec 32 := 256#32
  let v125 : BitVec 32 := Scalar.muli arg21 c256_i32
  v125
def k0_off45 (k0_t2 : Fin k0_t2_loop.trips) : Fin 3 → Nat :=
  let c0_54 : Index := 0#32
  let c0_55 : Index := 0#32
  let c0_i32_45 : BitVec 32 := 0#32
  let c1_i32_47 : BitVec 32 := 1#32
  let arg21 : BitVec 32 := Scf.iv c0_i32_45 c1_i32_47 k0_t2
  let c256_i32 : BitVec 32 := 256#32
  let v125 : BitVec 32 := Scalar.muli arg21 c256_i32
  let v126 : BitVec 32 := v125
  let v127 : Index := Scalar.indexCast v126
  ![0, 0, v127.toNat]
def k0_mult3 (k0_t2 : Fin k0_t2_loop.trips) : BitVec 32 :=
  let c0_i32_59 : BitVec 32 := 0#32
  let c0_i32_45 : BitVec 32 := 0#32
  let c1_i32_47 : BitVec 32 := 1#32
  let arg21 : BitVec 32 := Scf.iv c0_i32_45 c1_i32_47 k0_t2
  let c256_i32_58 : BitVec 32 := 256#32
  let v136 : BitVec 32 := Scalar.muli arg21 c256_i32_58
  let v137 : BitVec 32 := Scalar.addi c0_i32_59 v136
  v137
def k0_off46 (k0_t2 : Fin k0_t2_loop.trips) (c0_i32_59 : BitVec 32) : Fin 3 → Nat :=
  let c0_60 : Index := 0#32
  let c0_61 : Index := 0#32
  let c0_i32_45 : BitVec 32 := 0#32
  let c1_i32_47 : BitVec 32 := 1#32
  let arg21 : BitVec 32 := Scf.iv c0_i32_45 c1_i32_47 k0_t2
  let c256_i32_58 : BitVec 32 := 256#32
  let v136 : BitVec 32 := Scalar.muli arg21 c256_i32_58
  let v137 : BitVec 32 := Scalar.addi c0_i32_59 v136
  let v138 : BitVec 32 := v137
  let v139 : Index := Scalar.indexCast v138
  ![0, 0, v139.toNat]
def k0_mult4 (k0_t2 : Fin k0_t2_loop.trips) : BitVec 32 :=
  let c0_i32_45 : BitVec 32 := 0#32
  let c1_i32_47 : BitVec 32 := 1#32
  let arg21 : BitVec 32 := Scf.iv c0_i32_45 c1_i32_47 k0_t2
  let c256_i32_62 : BitVec 32 := 256#32
  let v143 : BitVec 32 := Scalar.muli arg21 c256_i32_62
  v143
def k0_off47 (k0_t2 : Fin k0_t2_loop.trips) : Fin 3 → Nat :=
  let c1_63 : Index := 1#32
  let c0_64 : Index := 0#32
  let c0_i32_45 : BitVec 32 := 0#32
  let c1_i32_47 : BitVec 32 := 1#32
  let arg21 : BitVec 32 := Scf.iv c0_i32_45 c1_i32_47 k0_t2
  let c256_i32_62 : BitVec 32 := 256#32
  let v143 : BitVec 32 := Scalar.muli arg21 c256_i32_62
  let v144 : BitVec 32 := v143
  let v145 : Index := Scalar.indexCast v144
  ![1, 0, v145.toNat]
def k0_mult5 (k0_t2 : Fin k0_t2_loop.trips) : BitVec 32 :=
  let c7168_i32 : BitVec 32 := 7168#32
  let c0_i32_45 : BitVec 32 := 0#32
  let c1_i32_47 : BitVec 32 := 1#32
  let arg21 : BitVec 32 := Scf.iv c0_i32_45 c1_i32_47 k0_t2
  let c256_i32_67 : BitVec 32 := 256#32
  let v154 : BitVec 32 := Scalar.muli arg21 c256_i32_67
  let v155 : BitVec 32 := Scalar.addi c7168_i32 v154
  v155
def k0_mult6 (k0_t2 : Fin k0_t2_loop.trips) : BitVec 32 :=
  let c0_i32_45 : BitVec 32 := 0#32
  let c1_i32_47 : BitVec 32 := 1#32
  let arg21 : BitVec 32 := Scf.iv c0_i32_45 c1_i32_47 k0_t2
  let c256_i32_70 : BitVec 32 := 256#32
  let v161 : BitVec 32 := Scalar.muli arg21 c256_i32_70
  v161
def k0_off48 (k0_t2 : Fin k0_t2_loop.trips) : Fin 3 → Nat :=
  let c2_71 : Index := 2#32
  let c0_72 : Index := 0#32
  let c0_i32_45 : BitVec 32 := 0#32
  let c1_i32_47 : BitVec 32 := 1#32
  let arg21 : BitVec 32 := Scf.iv c0_i32_45 c1_i32_47 k0_t2
  let c256_i32_70 : BitVec 32 := 256#32
  let v161 : BitVec 32 := Scalar.muli arg21 c256_i32_70
  let v162 : BitVec 32 := v161
  let v163 : Index := Scalar.indexCast v162
  ![2, 0, v163.toNat]
def k0_mult7 (k0_t2 : Fin k0_t2_loop.trips) : BitVec 32 :=
  let c14336_i32 : BitVec 32 := 14336#32
  let c0_i32_45 : BitVec 32 := 0#32
  let c1_i32_47 : BitVec 32 := 1#32
  let arg21 : BitVec 32 := Scf.iv c0_i32_45 c1_i32_47 k0_t2
  let c256_i32_75 : BitVec 32 := 256#32
  let v172 : BitVec 32 := Scalar.muli arg21 c256_i32_75
  let v173 : BitVec 32 := Scalar.addi c14336_i32 v172
  v173
def k0_cond3 (i : grid0.Coords) : BitVec 1 :=
  let arg1 : BitVec 32 := BitVec.ofNat 32 (i 1).val
  let c63_i32_49 : BitVec 32 := 63#32
  let v117 : BitVec 1 := Scalar.cmpi .eq arg1 c63_i32_49
  let v118 : BitVec 32 := Scalar.extui v117
  let c0_i32_50 : BitVec 32 := 0#32
  let v119 : BitVec 1 := Scalar.cmpi .ne v118 c0_i32_50
  v119

def k0_cond4 (i : grid0.Coords) : BitVec 1 :=
  let arg1 : BitVec 32 := BitVec.ofNat 32 (i 1).val
  let c63_i32_51 : BitVec 32 := 63#32
  let v120 : BitVec 1 := Scalar.cmpi .eq arg1 c63_i32_51
  let arg0 : BitVec 32 := BitVec.ofNat 32 (i 0).val
  let c1_i32_52 : BitVec 32 := 1#32
  let v121 : BitVec 1 := Scalar.cmpi .eq arg0 c1_i32_52
  let v122 : BitVec 1 := Scalar.andi v120 v121
  let v123 : BitVec 32 := Scalar.extui v122
  let c0_i32_53 : BitVec 32 := 0#32
  let v124 : BitVec 1 := Scalar.cmpi .ne v123 c0_i32_53
  v124

def cc0_transform_0 (i : grid0.Coords) : Fin 3 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  let c0_i32_0 : BitVec 32 := 0#32
  ![arg0.toNat, v0.toNat, c0_i32.toNat]

def cc0_transform_2 (i : grid0.Coords) : Fin 3 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c1_i32 : BitVec 32 := 1#32
  let c0_i32 : BitVec 32 := 0#32
  ![arg0.toNat, v0.toNat, c1_i32.toNat]

def cc0_transform_3 (i : grid0.Coords) : Fin 3 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c2_i32 : BitVec 32 := 2#32
  let c0_i32 : BitVec 32 := 0#32
  ![arg0.toNat, v0.toNat, c2_i32.toNat]

def cc0_transform_4 (i : grid0.Coords) : Fin 3 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  let c0_i32_0 : BitVec 32 := 0#32
  ![arg0.toNat, v0.toNat, c0_i32.toNat]

def cc0_transform_5 (i : grid0.Coords) : Fin 3 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c8_i32 : BitVec 32 := 8#32
  let v1 : BitVec 32 := Scalar.muli v0 c8_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![arg0.toNat, v3.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  let c0_i32_0 : BitVec 32 := 0#32
  ![arg0.toNat, v0.toNat, c0_i32.toNat]

def cc0_transform_8 (i : grid0.Coords) : Fin 3 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  let c0_i32_0 : BitVec 32 := 0#32
  ![arg0.toNat, v0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  let c0_i32_0 : BitVec 32 := 0#32
  ![arg0.toNat, v0.toNat, c0_i32.toNat]

def cc0_transform_12 (i : grid0.Coords) : Fin 3 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  let c0_i32_0 : BitVec 32 := 0#32
  ![arg0.toNat, v0.toNat, c0_i32.toNat]

def cc0_transform_13 (i : grid0.Coords) : Fin 3 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  let c0_i32_0 : BitVec 32 := 0#32
  ![arg0.toNat, v0.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x64x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x7168 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x7168 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x7168 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x7168 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x7168 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x7168 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x64x7168 .fp8e5m2 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x64x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S4x7168 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x1x7168 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x64x21504 .fp8e5m2 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x64x3 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x64x7168 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x1x7168 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 1 → Memref sig .tc .vmem S4x7168 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]
-- ==== GatesReferenceIdeal.lean ====
abbrev S2x4096x7168 : Shape := ⟨3, ![2, 4096, 7168]⟩
abbrev S7168 : Shape := ⟨1, ![7168]⟩
abbrev S2x7168 : Shape := ⟨2, ![2, 7168]⟩
abbrev S2x4096x21504 : Shape := ⟨3, ![2, 4096, 21504]⟩
abbrev S2x4096 : Shape := ⟨2, ![2, 4096]⟩
abbrev S2x1x7168 : Shape := ⟨3, ![2, 1, 7168]⟩
abbrev S2x4095x7168 : Shape := ⟨3, ![2, 4095, 7168]⟩
abbrev S2x4096x1 : Shape := ⟨3, ![2, 4096, 1]⟩
abbrev S1x1x7168 : Shape := ⟨3, ![1, 1, 7168]⟩
abbrev S1x7168 : Shape := ⟨2, ![1, 7168]⟩
abbrev S4x7168 : Shape := ⟨2, ![4, 7168]⟩
abbrev S2x1x1 : Shape := ⟨3, ![2, 1, 1]⟩

abbrev nBuf : Space → Nat
  | .hbm => 24
  | .vmem => 13
  | .smem => 0
  | _ => 0

abbrev bufTy : (tb : Table) → Fin (tcTables nBuf tb) → BufTy
  | .hbm, ⟨0, _⟩ => ⟨S2x4096x7168, .bf16⟩
  | .hbm, ⟨1, _⟩ => ⟨S7168, .f32⟩
  | .hbm, ⟨2, _⟩ => ⟨S7168, .f32⟩
  | .hbm, ⟨3, _⟩ => ⟨S2x7168, .f32⟩
  | .hbm, ⟨4, _⟩ => ⟨S2x4096x21504, .bf16⟩
  | .hbm, ⟨5, _⟩ => ⟨S2x4096x7168, .f32⟩
  | .hbm, ⟨6, _⟩ => ⟨S2x7168, .f32⟩
  | .hbm, ⟨7, _⟩ => ⟨S2x4096x7168, .i8⟩
  | .hbm, ⟨8, _⟩ => ⟨S2x4096, .f32⟩
  | .hbm, ⟨9, _⟩ => ⟨S2x7168, .f32⟩
  | .hbm, ⟨10, _⟩ => ⟨S2x4096x7168, .fp8e5m2⟩
  | .hbm, ⟨11, _⟩ => ⟨S2x1x7168, .f32⟩
  | .hbm, ⟨12, _⟩ => ⟨S2x4095x7168, .f32⟩
  | .hbm, ⟨13, _⟩ => ⟨S2x4096x7168, .f32⟩
  | .hbm, ⟨14, _⟩ => ⟨S2x4096x1, .f32⟩
  | .hbm, ⟨15, _⟩ => ⟨S1x1x7168, .f32⟩
  | .hbm, ⟨16, _⟩ => ⟨S1x1x7168, .f32⟩
  | .hbm, ⟨17, _⟩ => ⟨S1x7168, .f32⟩
  | .hbm, ⟨18, _⟩ => ⟨S1x1x7168, .f32⟩
  | .hbm, ⟨19, _⟩ => ⟨S1x7168, .f32⟩
  | .hbm, ⟨20, _⟩ => ⟨S1x1x7168, .f32⟩
  | .hbm, ⟨21, _⟩ => ⟨S2x1x7168, .f32⟩
  | .hbm, ⟨22, _⟩ => ⟨S2x1x7168, .f32⟩
  | .hbm, ⟨23, _⟩ => ⟨S4x7168, .f32⟩
  | .local _ .vmem, ⟨0, _⟩ => ⟨S2x4096x7168, .bf16⟩
  | .local _ .vmem, ⟨1, _⟩ => ⟨S2x4096x21504, .bf16⟩
  | .local _ .vmem, ⟨2, _⟩ => ⟨S2x4096x7168, .f32⟩
  | .local _ .vmem, ⟨3, _⟩ => ⟨S2x4096x7168, .f32⟩
  | .local _ .vmem, ⟨4, _⟩ => ⟨S2x4096x7168, .fp8e5m2⟩
  | .local _ .vmem, ⟨5, _⟩ => ⟨S2x4096x1, .f32⟩
  | .local _ .vmem, ⟨6, _⟩ => ⟨S1x1x7168, .f32⟩
  | .local _ .vmem, ⟨7, _⟩ => ⟨S1x1x7168, .f32⟩
  | .local _ .vmem, ⟨8, _⟩ => ⟨S1x1x7168, .f32⟩
  | .local _ .vmem, ⟨9, _⟩ => ⟨S1x1x7168, .f32⟩
  | .local _ .vmem, ⟨10, _⟩ => ⟨S2x1x7168, .f32⟩
  | .local _ .vmem, ⟨11, _⟩ => ⟨S2x1x7168, .f32⟩
  | .local _ .vmem, ⟨12, _⟩ => ⟨S4x7168, .f32⟩
  | _, _ => ⟨S2x4096x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12_0 : Ref sig .tc := ⟨.hbm, 22, rfl⟩
abbrev main_v12_1 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c4096_i32 : BitVec 32 := 4096#32
  let v3 : BitVec 32 := Scalar.addi c0_i32 c4096_i32
  let c1_i32 : BitVec 32 := 1#32
  ⟨c0_i32, v3, c1_i32⟩
def k0_off1 (k0_t1 : Fin k0_t1_loop.trips) : Fin 3 → Nat :=
  let c0_15 : Index := 0#32
  let c4095_i32 : BitVec 32 := 4095#32
  let c0_i32 : BitVec 32 := 0#32
  let c1_i32 : BitVec 32 := 1#32
  let arg13 : BitVec 32 := Scf.iv c0_i32 c1_i32 k0_t1
  let v14 : BitVec 32 := Scalar.subi c4095_i32 arg13
  let v15 : Index := Scalar.indexCast v14
  let c0_16 : Index := 0#32
  ![0, v15.toNat, 0]
def k0_off2 (k0_t1 : Fin k0_t1_loop.trips) : Fin 3 → Nat :=
  let c0_17 : Index := 0#32
  let c4095_i32 : BitVec 32 := 4095#32
  let c0_i32 : BitVec 32 := 0#32
  let c1_i32 : BitVec 32 := 1#32
  let arg13 : BitVec 32 := Scf.iv c0_i32 c1_i32 k0_t1
  let v14 : BitVec 32 := Scalar.subi c4095_i32 arg13
  let v19 : Index := Scalar.indexCast v14
  let c0_18 : Index := 0#32
  ![0, v19.toNat, 0]
def k0_off3 (k0_t1 : Fin k0_t1_loop.trips) : Fin 3 → Nat :=
  let c0_21 : Index := 0#32
  let c4095_i32 : BitVec 32 := 4095#32
  let c0_i32 : BitVec 32 := 0#32
  let c1_i32 : BitVec 32 := 1#32
  let arg13 : BitVec 32 := Scf.iv c0_i32 c1_i32 k0_t1
  let v14 : BitVec 32 := Scalar.subi c4095_i32 arg13
  let v27 : Index := Scalar.indexCast v14
  let c0_22 : Index := 0#32
  ![0, v27.toNat, 0]
def k0_off4 (k0_t1 : Fin k0_t1_loop.trips) : Fin 3 → Nat :=
  let c0_23 : Index := 0#32
  let c4095_i32 : BitVec 32 := 4095#32
  let c0_i32 : BitVec 32 := 0#32
  let c1_i32 : BitVec 32 := 1#32
  let arg13 : BitVec 32 := Scf.iv c0_i32 c1_i32 k0_t1
  let v14 : BitVec 32 := Scalar.subi c4095_i32 arg13
  let v30 : Index := Scalar.indexCast v14
  let c7168 : Index := 7168#32
  ![0, v30.toNat, 7168]
def k0_off5 (k0_t1 : Fin k0_t1_loop.trips) : Fin 3 → Nat :=
  let c0_24 : Index := 0#32
  let c4095_i32 : BitVec 32 := 4095#32
  let c0_i32 : BitVec 32 := 0#32
  let c1_i32 : BitVec 32 := 1#32
  let arg13 : BitVec 32 := Scf.iv c0_i32 c1_i32 k0_t1
  let v14 : BitVec 32 := Scalar.subi c4095_i32 arg13
  let v33 : Index := Scalar.indexCast v14
  let c14336 : Index := 14336#32
  ![0, v33.toNat, 14336]
abbrev stage0_0 : Fin 1 → Memref sig .tc .vmem S2x4096x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x4096x21504 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x4096x7168 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x4096x7168 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x4096x7168 .fp8e5m2 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x4096x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1x7168 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1x7168 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1x7168 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1x7168 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x1x7168 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x1x7168 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S4x7168 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== Proof.Math.lean ====
/- The product's value as a function of five arrays, in the two forms in which the programs compute it, and their equality:
   the kernel scales each part's product by the part's scale, the reference scales the codes before one product. -/
module

public import Idealize.ShloMosaic.Lib.MatmulPlain
public import Idealize.ShloMosaic.Lib.ValueIdx

@[expose] public section

noncomputable section

namespace Cert.Proof.Math

open Idealize.ShloMosaic Idealize.ShloMosaic.ValueIdx
open scoped BigOperators

/-- Column `k` of part `p` of a row of `3 · 7168` columns. -/
def col (p : Fin 3) (k : Fin 7168) : Fin 21504 := ⟨p.val * 7168 + k.val, by omega⟩

variable (C : (⟨2, ![8192, 21504]⟩ : Shape).Idx → EReal) (W : (⟨2, ![7168, 21504]⟩ : Shape).Idx → EReal)
  (S : (⟨2, ![8192, 3]⟩ : Shape).Idx → EReal) (ws : (⟨2, ![1, 7168]⟩ : Shape).Idx → EReal)
  (H : (⟨2, ![8192, 7168]⟩ : Shape).Idx → EReal)

/-- Token `r`'s product with weight row `n` over part `p`. -/
def part (p : Fin 3) (r : Fin 8192) (n : Fin 7168) : EReal := ∑ k : Fin 7168, C (ix2 r (col p k)) * W (ix2 n (col p k))

/-- What the kernel computes: each part's product times the part's scale, added up. -/
def dxParts (r : Fin 8192) (n : Fin 7168) : EReal :=
  (part C W 0 r n * S (ix2 r 0) + part C W 1 r n * S (ix2 r 1) + part C W 2 r n * S (ix2 r 2)) * ws (ix2 0 n) + H (ix2 r n)

/-- What the reference computes: one product of the scaled codes. -/
def dxWhole (r : Fin 8192) (n : Fin 7168) : EReal :=
  (∑ q : Fin 21504, (C (ix2 r q) * S (ix2 r ⟨q.val / 7168, by omega⟩)) * W (ix2 n q)) * ws (ix2 0 n) + H (ix2 r n)

/-- A finite scale that is not negative goes into a sum of extended reals. -/
theorem sum_mul_scale {ι : Type} (s : Finset ι) (f : ι → EReal) (a : EReal) (h0 : 0 ≤ a) (ht : a ≠ ⊤) :
    (∑ k ∈ s, f k) * a = ∑ k ∈ s, f k * a := by
  classical
  induction s using Finset.induction_on with
  | empty => simp
  | insert x s hx ih => rw [Finset.sum_insert hx, Finset.sum_insert hx, EReal.right_distrib_of_nonneg_of_ne_top h0 ht, ih]

/-- A sum over all columns is the sum over the three parts of the sums over each part's columns. -/
theorem sum_cols (f : Fin 21504 → EReal) : ∑ q, f q = ∑ p : Fin 3, ∑ k : Fin 7168, f (col p k) := by
  rw [← Fintype.sum_prod_type', ← Equiv.sum_comp (finProdFinEquiv (m := 3) (n := 7168))]
  refine Finset.sum_congr rfl fun x _ => congrArg f (Fin.ext ?_)
  simp [finProdFinEquiv, col]
  ring

/-- The two forms agree where every scale is finite and not negative. -/
theorem dx_eq (h0 : ∀ i, 0 ≤ S i) (ht : ∀ i, S i ≠ ⊤) (r : Fin 8192) (n : Fin 7168) :
    dxParts C W S ws H r n = dxWhole C W S ws H r n := by
  have key : ∀ p : Fin 3, part C W p r n * S (ix2 r p)
      = ∑ k : Fin 7168, (C (ix2 r (col p k)) * S (ix2 r ⟨(col p k).val / 7168, by omega⟩)) * W (ix2 n (col p k)) := by
    intro p
    unfold part
    rw [sum_mul_scale _ _ _ (h0 _) (ht _)]
    refine Finset.sum_congr rfl fun k _ => ?_
    have : (⟨(col p k).val / 7168, by omega⟩ : Fin 3) = p := Fin.ext (by simp only [col]; omega)
    rw [this, mul_right_comm]
  unfold dxParts dxWhole
  rw [sum_cols, Fin.sum_univ_three, key 0, key 1, key 2]

end Cert.Proof.Math

end
-- ==== Proof.KVal.lean ====
/- What the kernel's result array holds after the run: `Math.dxParts` of the arrays that the region finds. -/
module

public import proofs.«01_k».proof.Proof.Gen.KernelIdeal.Value
public import proofs.«01_k».proof.Proof.Math
public import Idealize.ShloMosaic.Lib.Pipeline.ValueKit
public import Idealize.ShloMosaic.Lib.ValueLayout

@[expose] public section

noncomputable section

namespace Cert.Proof.KVal

open Cert.KernelIdeal Cert.KernelIdeal.Gen Idealize.ShloMosaic Idealize.ShloMosaic.TcCoe Idealize.SL.Sem
open Idealize.ShloMosaic.Pipeline (Dat)
open scoped BigOperators

/-- One part's product of a block, at row `r` and column `n`. -/
theorem mm_apply (a : FVec Ideal S512x7168 .fp8e5m2) (b : FVec Ideal S256x7168 .fp8e4m3) (r : Fin 512) (n : Fin 256) :
    matmul dot_S512x7168_S256x7168_S512x256_1_1_0_0_n_n none a b (constant S512x256 .f32 0#32) (ValueIdx.ix2 r n)
      = ∑ k : Fin 7168, a (ValueIdx.ix2 r k) * b (ValueIdx.ix2 n k) := by
  refine (Ideal.matmul_transposedRhs_apply (M := 512) (K := 7168) (N := 256) none a b (constant S512x256 .f32 0#32) r n).trans ?_
  rw [ValueIdx.constant_apply, Ideal.ofBits_zero_f32, zero_add]

/-- A part's scale, broadcast along the row. -/
theorem scale_apply (a : FVec Ideal S512x1 .f32) (r : Fin 512) (n : Fin 256) :
    broadcastTo S512x256 a broadcasts_S512x1_S512x256 (ValueIdx.ix2 r n) = a (ValueIdx.ix2 r 0) :=
  broadcastTo_apply _ _ _ _ fun a => by fin_cases a <;> rfl

/-- The weights' scales, broadcast down the column. -/
theorem ws_apply (a : FVec Ideal S1x256 .f32) (r : Fin 512) (n : Fin 256) :
    broadcastTo S512x256 a broadcasts_S1x256_S512x256 (ValueIdx.ix2 r n) = a (ValueIdx.ix2 0 n) :=
  broadcastTo_apply _ _ _ _ fun a => by fin_cases a <;> rfl

/-- One block: the body's result at row `r` and column `n` of the block. -/
theorem block_apply (x0 : Vec Ideal S512x21504 .fp8e5m2) (x1 : Vec Ideal S256x21504 .fp8e4m3) (x2 : Vec Ideal S512x3 .f32)
    (x3 : Vec Ideal S1x256 .f32) (x4 : Vec Ideal S512x256 .f32) (r : Fin 512) (n : Fin 256) :
    out0_5 (F := Ideal) x0 x1 x2 x3 x4 (ValueIdx.ix2 r n)
      = ((∑ k : Fin 7168, x0 (ValueIdx.ix2 r (Math.col 0 k)) * x1 (ValueIdx.ix2 n (Math.col 0 k))) * x2 (ValueIdx.ix2 r 0)
        + (∑ k : Fin 7168, x0 (ValueIdx.ix2 r (Math.col 1 k)) * x1 (ValueIdx.ix2 n (Math.col 1 k))) * x2 (ValueIdx.ix2 r 1)
        + (∑ k : Fin 7168, x0 (ValueIdx.ix2 r (Math.col 2 k)) * x1 (ValueIdx.ix2 n (Math.col 2 k))) * x2 (ValueIdx.ix2 r 2)) * x3 (ValueIdx.ix2 0 n)
        + x4 (ValueIdx.ix2 r n) := by
  have hz : (![0, 0] : Fin 2 → Nat) = fun _ => 0 := funext fun a => by fin_cases a <;> rfl
  unfold out0_5 k0_pay1 k0_pay2
  rw [View.canon_unit_zero hz, View.ld_unit_zero hz, View.ld_unit_zero hz]
  simp only [shapeCast_self]
  rw [ValueIdx.truncf_apply, ValueIdx.addf_apply, ValueIdx.mulf_apply, ValueIdx.addf_apply, ValueIdx.addf_apply,
    ValueIdx.mulf_apply, ValueIdx.mulf_apply, ValueIdx.mulf_apply, mm_apply, mm_apply, mm_apply, scale_apply, scale_apply,
    scale_apply, ws_apply]
  have e0 : ∀ k : Fin 7168, View.ld x0 r0_0 (ValueIdx.ix2 r k) = x0 (ValueIdx.ix2 r (Math.col 0 k)) := fun k =>
    View.ld_unit_apply_of _ _ _ _ _ _ fun a => by fin_cases a <;> simp [Math.col]
  have e3 : ∀ k : Fin 7168, View.ld x0 r0_3 (ValueIdx.ix2 r k) = x0 (ValueIdx.ix2 r (Math.col 1 k)) := fun k =>
    View.ld_unit_apply_of _ _ _ _ _ _ fun a => by fin_cases a <;> simp [Math.col]
  have e6 : ∀ k : Fin 7168, View.ld x0 r0_6 (ValueIdx.ix2 r k) = x0 (ValueIdx.ix2 r (Math.col 2 k)) := fun k =>
    View.ld_unit_apply_of _ _ _ _ _ _ fun a => by fin_cases a <;> simp [Math.col]
  have e1 : ∀ k : Fin 7168, View.ld x1 r0_1 (ValueIdx.ix2 n k) = x1 (ValueIdx.ix2 n (Math.col 0 k)) := fun k =>
    View.ld_unit_apply_of _ _ _ _ _ _ fun a => by fin_cases a <;> simp [Math.col]
  have e4 : ∀ k : Fin 7168, View.ld x1 r0_4 (ValueIdx.ix2 n k) = x1 (ValueIdx.ix2 n (Math.col 1 k)) := fun k =>
    View.ld_unit_apply_of _ _ _ _ _ _ fun a => by fin_cases a <;> simp [Math.col]
  have e7 : ∀ k : Fin 7168, View.ld x1 r0_7 (ValueIdx.ix2 n k) = x1 (ValueIdx.ix2 n (Math.col 2 k)) := fun k =>
    View.ld_unit_apply_of _ _ _ _ _ _ fun a => by fin_cases a <;> simp [Math.col]
  have e2 : View.ld x2 r0_2 (ValueIdx.ix2 r 0) = x2 (ValueIdx.ix2 r 0) :=
    View.ld_unit_apply_of _ _ _ _ _ _ fun a => by fin_cases a <;> simp
  have e5 : View.ld x2 r0_5 (ValueIdx.ix2 r 0) = x2 (ValueIdx.ix2 r 1) :=
    View.ld_unit_apply_of _ _ _ _ _ _ fun a => by fin_cases a <;> simp
  have e8 : View.ld x2 r0_8 (ValueIdx.ix2 r 0) = x2 (ValueIdx.ix2 r 2) :=
    View.ld_unit_apply_of _ _ _ _ _ _ fun a => by fin_cases a <;> simp
  simp only [e0, e1, e2, e3, e4, e5, e6, e7, e8]

variable (m : (ℓ : Loc nD τ sig) → Buf (Elt Ideal) ℓ) (ρ : Dev nD → PrngReg)

theorem idx0 : ∀ t : Fin cfg0.N, win0_0.index t = ![win0_5.index t 0, 0] := (by decide +kernel : ∀ t : Fin grid0.N, _)
theorem idx1 : ∀ t : Fin cfg0.N, win0_1.index t = ![win0_5.index t 1, 0] := (by decide +kernel : ∀ t : Fin grid0.N, _)
theorem idx2 : ∀ t : Fin cfg0.N, win0_2.index t = ![win0_5.index t 0, 0] := (by decide +kernel : ∀ t : Fin grid0.N, _)
theorem idx3 : ∀ t : Fin cfg0.N, win0_3.index t = ![0, win0_5.index t 1] := (by decide +kernel : ∀ t : Fin grid0.N, _)
theorem idx4 : ∀ t : Fin cfg0.N, win0_4.index t = win0_5.index t := (by decide +kernel : ∀ t : Fin grid0.N, _)

/-- The result array after the run. -/
theorem final (c : Dev nD) :
    (dats m 0 c).arrAt 5 cfg0.N = fun i : S8192x7168.Idx =>
      Math.dxParts (V m c main_v0) (V m c main_arg1) (V m c main_v1) (V m c main_v2) (V m c main_v3) (i 0) (i 1) := by
  refine (dats m 0 c).arrAt_eq_of_covers 5 _ (by decide +kernel) fun t hf y => ?_
  blk_simp
  rw [after0_5]
  obtain ⟨r, n, rfl⟩ : ∃ (r : Fin 512) (n : Fin 256), y = ValueIdx.ix2 r n := ⟨y 0, y 1, ValueIdx.eq_ix2 y⟩
  rw [block_apply]
  unfold Math.dxParts Math.part
  blk_simp [iblk]
  have hA : ((win0_5.blk t).view.emb (ValueIdx.ix2 r n) 0).val = win0_5.index t 0 * 512 + r.val := by blk_simp; rfl
  have hB : ((win0_5.blk t).view.emb (ValueIdx.ix2 r n) 1).val = win0_5.index t 1 * 256 + n.val := by blk_simp; rfl
  obtain ⟨A, hAe⟩ : ∃ A : Fin 8192, A = (win0_5.blk t).view.emb (ValueIdx.ix2 r n) 0 := ⟨_, rfl⟩
  obtain ⟨B, hBe⟩ : ∃ B : Fin 7168, B = (win0_5.blk t).view.emb (ValueIdx.ix2 r n) 1 := ⟨_, rfl⟩
  rw [← hAe] at hA
  rw [← hBe] at hB
  have h0 : ∀ q : Fin 21504, (win0_0.blk t).view.emb (ValueIdx.ix2 r q) = ValueIdx.ix2 A q := fun q => funext fun a => Fin.ext (by
    fin_cases a <;> blk_simp [idx0] <;> simp [hA, hB, ValueIdx.ix2])
  have h1 : ∀ q : Fin 21504, (win0_1.blk t).view.emb (ValueIdx.ix2 n q) = ValueIdx.ix2 B q := fun q => funext fun a => Fin.ext (by
    fin_cases a <;> blk_simp [idx1] <;> simp [hA, hB, ValueIdx.ix2])
  have h2 : ∀ q : Fin 3, (win0_2.blk t).view.emb (ValueIdx.ix2 r q) = ValueIdx.ix2 A q := fun q => funext fun a => Fin.ext (by
    fin_cases a <;> blk_simp [idx2] <;> simp [hA, hB, ValueIdx.ix2])
  have h3 : (win0_3.blk t).view.emb (ValueIdx.ix2 0 n) = ValueIdx.ix2 0 B := funext fun a => Fin.ext (by
    fin_cases a <;> blk_simp [idx3] <;> simp [hA, hB, ValueIdx.ix2])
  have h4 : (win0_4.blk t).view.emb (ValueIdx.ix2 r n) = ValueIdx.ix2 A B := funext fun a => Fin.ext (by
    fin_cases a <;> blk_simp [idx4] <;> simp [hA, hB, ValueIdx.ix2])
  simp only [h0, h1, h2, h3, h4, ← hAe, ← hBe]

end Cert.Proof.KVal

end
-- ==== Proof.RVal.lean ====
/- What the reference's result array holds after the run: `Math.dxWhole` of the arrays that the region finds. -/
module

public import proofs.«01_k».proof.Proof.Gen.ReferenceIdeal.Value
public import proofs.«01_k».proof.Proof.Math
public import Idealize.ShloMosaic.Lib.Pipeline.ValueKit
public import Idealize.ShloMosaic.Lib.ValueLayout

@[expose] public section

noncomputable section

namespace Cert.Proof.RVal

open Cert.ReferenceIdeal Cert.ReferenceIdeal.Gen Idealize.ShloMosaic Idealize.ShloMosaic.TcCoe Idealize.SL.Sem
open Idealize.ShloMosaic.Pipeline (Dat)
open scoped BigOperators

/-- The one product, at row `r` and column `n`. -/
theorem mm_apply (a : FVec Ideal S8192x21504 .bf16) (b : FVec Ideal S7168x21504 .bf16) (r : Fin 8192) (n : Fin 7168) :
    matmul dot_S8192x21504_S7168x21504_S8192x7168_1_1_0_0_n_n none a b (constant S8192x7168 .f32 0#32) (ValueIdx.ix2 r n)
      = ∑ k : Fin 21504, a (ValueIdx.ix2 r k) * b (ValueIdx.ix2 n k) := by
  refine (Ideal.matmul_transposedRhs_apply (M := 8192) (K := 21504) (N := 7168) none a b (constant S8192x7168 .f32 0#32) r n).trans ?_
  rw [ValueIdx.constant_apply, Ideal.ofBits_zero_f32, zero_add]

/-- The weights' scales, broadcast down the column. -/
theorem ws_apply (a : FVec Ideal S1x7168 .f32) (r : Fin 8192) (n : Fin 7168) :
    broadcastTo S8192x7168 a broadcasts_S1x7168_S8192x7168 (ValueIdx.ix2 r n) = a (ValueIdx.ix2 0 n) :=
  broadcastTo_apply _ _ _ _ fun a => by fin_cases a <;> rfl

/-- The codes times their scales, at row `r` and column `q`. -/
theorem scaled_apply (x0 : FVec Ideal S8192x21504 .fp8e5m2) (x2 : FVec Ideal S8192x3 .f32) (r : Fin 8192) (q : Fin 21504) :
    shapeCast S8192x21504 (mulf (shapeCast S8192x3x7168 (extf .bf16 x0 bitsLt_fp8e5m2_bf16) shapeCasts_S8192x21504_S8192x3x7168)
        (broadcastTo S8192x3x7168 (shapeCast S8192x3x1 (truncf .bf16 x2 bitsLt_bf16_f32) shapeCasts_S8192x3_S8192x3x1)
          broadcasts_S8192x3x1_S8192x3x7168)) shapeCasts_S8192x3x7168_S8192x21504 (ValueIdx.ix2 r q)
      = x0 (ValueIdx.ix2 r q) * x2 (ValueIdx.ix2 r (⟨q.val / 7168, by have := q.isLt; omega⟩ : Fin 3)) := by
  have hq := q.isLt
  rw [shapeCast_apply _ _ (ValueIdx.ix2 r q) (ValueIdx.ix3 r (⟨q.val / 7168, by omega⟩ : Fin 3) (⟨q.val % 7168, by omega⟩ : Fin 7168))
    (by rw [Shape.rowMajor_val_three, Shape.rowMajor_val_two]; show (r.val * 3 + q.val / 7168) * 7168 + q.val % 7168 = r.val * 21504 + q.val; omega),
    ValueIdx.mulf_apply,
    shapeCast_apply _ _ (ValueIdx.ix3 r (⟨q.val / 7168, by omega⟩ : Fin 3) (⟨q.val % 7168, by omega⟩ : Fin 7168)) (ValueIdx.ix2 r q)
      (by rw [Shape.rowMajor_val_three, Shape.rowMajor_val_two]; show r.val * 21504 + q.val = (r.val * 3 + q.val / 7168) * 7168 + q.val % 7168; omega),
    broadcastTo_apply _ _ _ (ValueIdx.ix3 r (⟨q.val / 7168, by omega⟩ : Fin 3) (0 : Fin 1)) (fun a => by fin_cases a <;> rfl),
    shapeCast_apply _ _ (ValueIdx.ix3 r (⟨q.val / 7168, by omega⟩ : Fin 3) (0 : Fin 1)) (ValueIdx.ix2 r (⟨q.val / 7168, by omega⟩ : Fin 3))
      (by rw [Shape.rowMajor_val_three, Shape.rowMajor_val_two]; show r.val * 3 + q.val / 7168 = (r.val * 3 + q.val / 7168) * 1 + 0; omega)]
  rw [ValueIdx.extf_apply, ValueIdx.truncf_apply]

/-- The body's value at row `r` and column `n`. -/
theorem pay_apply (x0 : Vec Ideal S8192x21504 .fp8e5m2) (x1 : Vec Ideal S7168x21504 .fp8e4m3) (x2 : Vec Ideal S8192x3 .f32)
    (x3 : Vec Ideal S1x7168 .f32) (x4 : Vec Ideal S8192x7168 .f32) (r : Fin 8192) (n : Fin 7168) :
    k0_pay1 (F := Ideal) x0 x2 x1 x3 x4 (ValueIdx.ix2 r n) = Math.dxWhole x0 x1 x2 x3 x4 r n := by
  unfold k0_pay1 Math.dxWhole
  simp only [shapeCast_self]
  rw [ValueIdx.truncf_apply, ValueIdx.addf_apply, ValueIdx.mulf_apply, mm_apply, ws_apply]
  refine congrArg (fun z : EReal => z * x3 (ValueIdx.ix2 0 n) + x4 (ValueIdx.ix2 r n)) (Finset.sum_congr rfl fun q _ => ?_)
  rw [ValueIdx.extf_apply, scaled_apply]

variable (m : (ℓ : Loc nD τ sig) → Buf (Elt Ideal) ℓ) (ρ : Dev nD → PrngReg)

theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)

/-- The result array after the run. -/
theorem final (c : Dev nD) :
    (dats m 0 c).arrAt 5 cfg0.N = fun i : S8192x7168.Idx =>
      Math.dxWhole (V m c main_v0) (V m c main_arg1) (V m c main_v1) (V m c main_v2) (V m c main_v3) (i 0) (i 1) := by
  refine (dats m 0 c).arrAt_eq_of_covers 5 _ (by decide +kernel) fun t hf y => ?_
  blk_simp
  rw [after0_5]
  have hz : (![0, 0] : Fin 2 → Nat) = fun _ => 0 := funext fun a => by fin_cases a <;> rfl
  unfold out0_5
  rw [View.canon_unit_zero hz, View.ld_unit_zero hz, View.ld_unit_zero hz, View.ld_unit_zero hz, View.ld_unit_zero hz,
    View.ld_unit_zero hz]
  obtain ⟨r, n, rfl⟩ : ∃ (r : Fin 8192) (n : Fin 7168), y = ValueIdx.ix2 r n := ⟨y 0, y 1, ValueIdx.eq_ix2 y⟩
  rw [pay_apply]
  have h0 : iblk m c 0 t = V m c main_v0 := funext fun i => by
    blk_simp [iblk]; exact congrArg (V m c main_v0) (by blk_ext [idx0])
  have h1 : iblk m c 1 t = V m c main_arg1 := funext fun i => by
    blk_simp [iblk]; exact congrArg (V m c main_arg1) (by blk_ext [idx1])
  have h2 : iblk m c 2 t = V m c main_v1 := funext fun i => by
    blk_simp [iblk]; exact congrArg (V m c main_v1) (by blk_ext [idx2])
  have h3 : iblk m c 3 t = V m c main_v2 := funext fun i => by
    blk_simp [iblk]; exact congrArg (V m c main_v2) (by blk_ext [idx3])
  have h4 : iblk m c 4 t = V m c main_v3 := funext fun i => by
    blk_simp [iblk]; exact congrArg (V m c main_v3) (by blk_ext [idx4])
  rw [h0, h1, h2, h3, h4]
  have e0 : (win0_5.blk t).view.emb (ValueIdx.ix2 r n) = (ValueIdx.ix2 r n : S8192x7168.Idx) := by blk_ext [idx5]
  rw [e0]

end Cert.Proof.RVal

end
-- ==== Proof.PInd.lean ====
module

public import proofs.«01_k».proof.Proof.Gen.Gates.Frame.Runs

@[expose] public section

set_option maxRecDepth 16384

noncomputable section

namespace Cert.Gates.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section
variable (𝒱 : Variants) (c : Dev nD) (bd : Option 𝒱.V) (i : grid0.Coords) (arg2 : Memref sig .tc .vmem S1x64x7168 .bf16) (harg2 : arg2.IsWhole) (arg3 : Memref sig .tc .vmem S1x64x7168 .bf16) (harg3 : arg3.IsWhole) (arg4 : Memref sig .tc .vmem S1x64x7168 .bf16) (harg4 : arg4.IsWhole) (arg5 : Memref sig .tc .vmem S1x64x7168 .bf16) (harg5 : arg5.IsWhole) (arg6 : Memref sig .tc .vmem S1x64x7168 .f32) (harg6 : arg6.IsWhole) (arg7 : Memref sig .tc .vmem S1x8x7168 .f32) (harg7 : arg7.IsWhole) (arg8 : Memref sig .tc .vmem S1x1x7168 .f32) (harg8 : arg8.IsWhole) (arg9 : Memref sig .tc .vmem S1x64x7168 .fp8e5m2) (harg9 : arg9.IsWhole) (arg10 : Memref sig .tc .vmem S1x64x1 .f32) (harg10 : arg10.IsWhole) (arg11 : Memref sig .tc .vmem S4x7168 .f32) (harg11 : arg11.IsWhole) (arg12 : Memref sig .tc .vmem S1x1x7168 .f32) (harg12 : arg12.IsWhole) (arg13 : Memref sig .tc .vmem S1x64x21504 .fp8e5m2) (harg13 : arg13.IsWhole) (arg14 : Memref sig .tc .vmem S1x64x3 .f32) (harg14 : arg14.IsWhole) (arg15 : Memref sig .tc .vmem S1x64x7168 .f32) (harg15 : arg15.IsWhole) (arg16 : Memref sig .tc .vmem S1x1x7168 .f32) (harg16 : arg16.IsWhole) (arg17 : Memref sig .tc .vmem S4x7168 .f32) (harg17 : arg17.IsWhole) (arg18 : Memref sig .tc .vmem S3x64x7168 .f32) (harg18 : arg18.IsWhole) (arg19 : Memref sig .tc .vmem S8x7168 .f32) (harg19 : arg19.IsWhole) (arg20 : Memref sig .tc .vmem S4x8x7168 .f32) (harg20 : arg20.IsWhole) (v0 : IVec S8x256 32) (v9 : Vec F S1x64x1 .f32) (v13 : BitVec 1) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg11 : BufTy.Contents (Elt F) arg11.view.ty)

/-- A trip's yield and pieces do not depend on what the highway block and the stash held before the loop. -/
theorem trip_indep (k : Fin k0_t1_loop.trips) (acc : FVec F S64x128 .f32 × FVec F S64x128 .f32 × FVec F S64x128 .f32) (f15 : BufTy.Contents (Elt F) arg15.view.ty) (f18 : BufTy.Contents (Elt F) arg18.view.ty) (f19 : BufTy.Contents (Elt F) arg19.view.ty) (f20 : BufTy.Contents (Elt F) arg20.view.ty) (g15 : BufTy.Contents (Elt F) arg15.view.ty) (g18 : BufTy.Contents (Elt F) arg18.view.ty) :
    ((trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v9 v13 X_arg2 X_arg3 X_arg4 X_arg5 X_arg6 X_arg7 X_arg8 X_arg9 X_arg11 k).1 acc f15 f18 f19 f20, (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v9 v13 X_arg2 X_arg3 X_arg4 X_arg5 X_arg6 X_arg7 X_arg8 X_arg9 X_arg11 k).2.1 acc f15 f18 f19 f20, (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v9 v13 X_arg2 X_arg3 X_arg4 X_arg5 X_arg6 X_arg7 X_arg8 X_arg9 X_arg11 k).2.2.1 acc f15 f18 f19 f20, (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v9 v13 X_arg2 X_arg3 X_arg4 X_arg5 X_arg6 X_arg7 X_arg8 X_arg9 X_arg11 k).2.2.2.1 acc f15 f18 f19 f20, (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v9 v13 X_arg2 X_arg3 X_arg4 X_arg5 X_arg6 X_arg7 X_arg8 X_arg9 X_arg11 k).2.2.2.2.1 acc f15 f18 f19 f20)
      = ((trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v9 v13 X_arg2 X_arg3 X_arg4 X_arg5 X_arg6 X_arg7 X_arg8 X_arg9 X_arg11 k).1 acc g15 g18 f19 f20, (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v9 v13 X_arg2 X_arg3 X_arg4 X_arg5 X_arg6 X_arg7 X_arg8 X_arg9 X_arg11 k).2.1 acc g15 g18 f19 f20, (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v9 v13 X_arg2 X_arg3 X_arg4 X_arg5 X_arg6 X_arg7 X_arg8 X_arg9 X_arg11 k).2.2.1 acc g15 g18 f19 f20, (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v9 v13 X_arg2 X_arg3 X_arg4 X_arg5 X_arg6 X_arg7 X_arg8 X_arg9 X_arg11 k).2.2.2.1 acc g15 g18 f19 f20, (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v9 v13 X_arg2 X_arg3 X_arg4 X_arg5 X_arg6 X_arg7 X_arg8 X_arg9 X_arg11 k).2.2.2.2.1 acc g15 g18 f19 f20) := by
  unfold trip_k0_t1
  rfl

/-- Nor does the loop's state before any trip. -/
theorem st_indep (G15 : BufTy.Contents (Elt F) arg15.view.ty) (G18 : BufTy.Contents (Elt F) arg18.view.ty) (G19 : BufTy.Contents (Elt F) arg19.view.ty) (G20 : BufTy.Contents (Elt F) arg20.view.ty) (H15 : BufTy.Contents (Elt F) arg15.view.ty) (H18 : BufTy.Contents (Elt F) arg18.view.ty) (init : FVec F S64x128 .f32 × FVec F S64x128 .f32 × FVec F S64x128 .f32) (k : ℕ) (hk : k ≤ k0_t1_loop.trips) :
    st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v9 v13 X_arg2 X_arg3 X_arg4 X_arg5 X_arg6 X_arg7 X_arg8 X_arg9 X_arg11 G15 G18 G19 G20 init k = st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v9 v13 X_arg2 X_arg3 X_arg4 X_arg5 X_arg6 X_arg7 X_arg8 X_arg9 X_arg11 H15 H18 G19 G20 init k := by
  induction k with
  | zero => rfl
  | succ k ih =>
    have e := ih (Nat.le_of_succ_le hk)
    rw [st_k0_t1_succ 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v9 v13 X_arg2 X_arg3 X_arg4 X_arg5 X_arg6 X_arg7 X_arg8 X_arg9 X_arg11 G15 G18 G19 G20 init ⟨k, hk⟩,
      st_k0_t1_succ 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v9 v13 X_arg2 X_arg3 X_arg4 X_arg5 X_arg6 X_arg7 X_arg8 X_arg9 X_arg11 H15 H18 G19 G20 init ⟨k, hk⟩]
    dsimp only
    rw [e]
    have h := trip_indep 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v9 v13 X_arg2 X_arg3 X_arg4 X_arg5 X_arg6 X_arg7 X_arg8 X_arg9 X_arg11 ⟨k, hk⟩ (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v9 v13 X_arg2 X_arg3 X_arg4 X_arg5 X_arg6 X_arg7 X_arg8 X_arg9 X_arg11 H15 H18 G19 G20 init k).1
      (arg15.view.writes (Elt F) G15 (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v9 v13 X_arg2 X_arg3 X_arg4 X_arg5 X_arg6 X_arg7 X_arg8 X_arg9 X_arg11 H15 H18 G19 G20 init k).2.1) (arg18.view.writes (Elt F) G18 (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v9 v13 X_arg2 X_arg3 X_arg4 X_arg5 X_arg6 X_arg7 X_arg8 X_arg9 X_arg11 H15 H18 G19 G20 init k).2.2.1)
      (arg19.view.writes (Elt F) G19 (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v9 v13 X_arg2 X_arg3 X_arg4 X_arg5 X_arg6 X_arg7 X_arg8 X_arg9 X_arg11 H15 H18 G19 G20 init k).2.2.2.1) (arg20.view.writes (Elt F) G20 (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v9 v13 X_arg2 X_arg3 X_arg4 X_arg5 X_arg6 X_arg7 X_arg8 X_arg9 X_arg11 H15 H18 G19 G20 init k).2.2.2.2)
      (arg15.view.writes (Elt F) H15 (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v9 v13 X_arg2 X_arg3 X_arg4 X_arg5 X_arg6 X_arg7 X_arg8 X_arg9 X_arg11 H15 H18 G19 G20 init k).2.1) (arg18.view.writes (Elt F) H18 (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v9 v13 X_arg2 X_arg3 X_arg4 X_arg5 X_arg6 X_arg7 X_arg8 X_arg9 X_arg11 H15 H18 G19 G20 init k).2.2.1)
    exact congrArg (fun q => (q.1, q.2.1 ++ (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v9 v13 X_arg2 X_arg3 X_arg4 X_arg5 X_arg6 X_arg7 X_arg8 X_arg9 X_arg11 H15 H18 G19 G20 init k).2.1, q.2.2.1 ++ (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v9 v13 X_arg2 X_arg3 X_arg4 X_arg5 X_arg6 X_arg7 X_arg8 X_arg9 X_arg11 H15 H18 G19 G20 init k).2.2.1, q.2.2.2.1 ++ (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v9 v13 X_arg2 X_arg3 X_arg4 X_arg5 X_arg6 X_arg7 X_arg8 X_arg9 X_arg11 H15 H18 G19 G20 init k).2.2.2.1, q.2.2.2.2 ++ (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v9 v13 X_arg2 X_arg3 X_arg4 X_arg5 X_arg6 X_arg7 X_arg8 X_arg9 X_arg11 H15 H18 G19 G20 init k).2.2.2.2)) h

/-- After the loop the stash is covered: what it held before is gone. -/
theorem stash_eq (G18 : BufTy.Contents (Elt F) arg18.view.ty) (G19 : BufTy.Contents (Elt F) arg19.view.ty) (G20 : BufTy.Contents (Elt F) arg20.view.ty) (H15 : BufTy.Contents (Elt F) arg15.view.ty) (H18 : BufTy.Contents (Elt F) arg18.view.ty) (init : FVec F S64x128 .f32 × FVec F S64x128 .f32 × FVec F S64x128 .f32) :
    arg18.view.writes (Elt F) G18 (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v9 v13 X_arg2 X_arg3 X_arg4 X_arg5 X_arg6 X_arg7 X_arg8 X_arg9 X_arg11 H15 H18 G19 G20 init (Scf.trips k0_t1_loop.lb k0_t1_loop.ub k0_t1_loop.st)).2.2.1
      = arg18.view.writes (Elt F) arg18.view.junk (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v9 v13 X_arg2 X_arg3 X_arg4 X_arg5 X_arg6 X_arg7 X_arg8 X_arg9 X_arg11 H15 H18 G19 G20 init (Scf.trips k0_t1_loop.lb k0_t1_loop.ub k0_t1_loop.st)).2.2.1 :=
  (harg18.eq_unread (View.read_writes_of_cover _ _ _ _ _ (View.cover_of_tiledL _ S1x8x256.size (by sl_kernel_rfl)))).trans
    (harg18.eq_unread rfl).symm
end

end Cert.Gates.Gen

end
-- ==== Proof.PRunA.lean ====
module

public import proofs.«01_k».proof.Proof.PInd

@[expose] public section

set_option maxRecDepth 16384

noncomputable section

namespace Cert.Gates.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The whole body at a point of case A: the pieces each buffer ends with, and the run that leaves them. -/
noncomputable def kernelRun0_A (c : Dev nD) (i : grid0.Coords) (arg2 : Memref sig .tc .vmem S1x64x7168 .bf16) (harg2 : arg2.IsWhole) (arg3 : Memref sig .tc .vmem S1x64x7168 .bf16) (harg3 : arg3.IsWhole) (arg4 : Memref sig .tc .vmem S1x64x7168 .bf16) (harg4 : arg4.IsWhole) (arg5 : Memref sig .tc .vmem S1x64x7168 .bf16) (harg5 : arg5.IsWhole) (arg6 : Memref sig .tc .vmem S1x64x7168 .f32) (harg6 : arg6.IsWhole) (arg7 : Memref sig .tc .vmem S1x8x7168 .f32) (harg7 : arg7.IsWhole) (arg8 : Memref sig .tc .vmem S1x1x7168 .f32) (harg8 : arg8.IsWhole) (arg9 : Memref sig .tc .vmem S1x64x7168 .fp8e5m2) (harg9 : arg9.IsWhole) (arg10 : Memref sig .tc .vmem S1x64x1 .f32) (harg10 : arg10.IsWhole) (arg11 : Memref sig .tc .vmem S4x7168 .f32) (harg11 : arg11.IsWhole) (arg12 : Memref sig .tc .vmem S1x1x7168 .f32) (harg12 : arg12.IsWhole) (arg13 : Memref sig .tc .vmem S1x64x21504 .fp8e5m2) (harg13 : arg13.IsWhole) (arg14 : Memref sig .tc .vmem S1x64x3 .f32) (harg14 : arg14.IsWhole) (arg15 : Memref sig .tc .vmem S1x64x7168 .f32) (harg15 : arg15.IsWhole) (arg16 : Memref sig .tc .vmem S1x1x7168 .f32) (harg16 : arg16.IsWhole) (arg17 : Memref sig .tc .vmem S4x7168 .f32) (harg17 : arg17.IsWhole) (arg18 : Memref sig .tc .vmem S3x64x7168 .f32) (harg18 : arg18.IsWhole) (arg19 : Memref sig .tc .vmem S8x7168 .f32) (harg19 : arg19.IsWhole) (arg20 : Memref sig .tc .vmem S4x8x7168 .f32) (harg20 : arg20.IsWhole) (hc0 : cond0_0 i) (hc1 : cond0_1 i) (hc2 : ¬cond0_2 i) (hc3 : ¬cond0_3 i)
    (x0 : Vec F S1x64x7168 .bf16) (x1 : Vec F S1x64x7168 .bf16) (x2 : Vec F S1x64x7168 .bf16) (x3 : Vec F S1x64x7168 .bf16) (x4 : Vec F S1x64x7168 .f32) (x5 : Vec F S1x8x7168 .f32) (x6 : Vec F S1x1x7168 .f32) (x7 : Vec F S1x64x7168 .fp8e5m2) (x8 : Vec F S1x64x1 .f32) (x9 : Vec F S4x7168 .f32) (x10 : Vec F S1x1x7168 .f32) :
    Σ' (L11 : List (View.Piece (Elt F) S1x64x21504 .fp8e5m2)), Σ' (L12 : List (View.Piece (Elt F) S1x64x3 .f32)), Σ' (L13 : List (View.Piece (Elt F) S1x64x7168 .f32)), Σ' (L14 : List (View.Piece (Elt F) S1x1x7168 .f32)), Σ' (L15 : List (View.Piece (Elt F) S4x7168 .f32)), Σ' (LS1 : List (View.Piece (Elt F) S8x7168 .f32)), { LS2 : List (View.Piece (Elt F) S4x8x7168 .f32) //
      ∀ (xi14 : Vec F S1x1x7168 .f32) (xi15 : Vec F S4x7168 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d) ∗ owns (c : Thread nD τ) arg16 fullShare xi14 ∗ owns (c : Thread nD τ) arg17 fullShare xi15 ∗ (∃ d, owns (c : Thread nD τ) arg18 fullShare d) ∗ (∃ d, owns (c : Thread nD τ) arg19 fullShare d) ∗ (∃ d, owns (c : Thread nD τ) arg20 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ owns (c : Thread nD τ) arg16 fullShare xi14 ∗ owns (c : Thread nD τ) arg17 fullShare xi15 ∗ (∃ d, owns (c : Thread nD τ) arg18 fullShare d) ∗ (∃ f, arg19.view.loc (c : Thread nD τ) ↦[arg19.view.set]{fullShare} arg19.view.writes (Elt F) f LS1) ∗ (∃ f, arg20.view.loc (c : Thread nD τ) ↦[arg20.view.set]{fullShare} arg20.view.writes (Elt F) f LS2)) -∗ K ⟨⟩))
          ⊢ wp frame (wpE (defs₀ (F := F)) Variants.none c none) E (cc0_sru_gates i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, [], [], ?_, ?_, fun xi14 xi15 E K => ?run⟩
  case run =>
    simp only [cc0_sru_gates_eq_skeleton]; unfold cc0_sru_gates_skel
    simp only [k0_part27_eq_skeleton, k0_part28_eq_skeleton, k0_part29_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%f14, %hf14, H14⟩, ⟨%f15, %hf15, H15⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg16.eq_unread hf14; obtain rfl := harg17.eq_unread hf15
    sl_exec (disch := first | sl_exact hc0 | sl_exact hc1 | sl_exact hc2 | sl_exact hc3)
    sl_step
    delta kernelRun0_A.sl.H12_3 kernelRun0_A.sl.r_3 kernelRun0_A.sl.r_6 kernelRun0_A.sl.r_7
    delta kernelRun0_A.sl.r_4 kernelRun0_A.sl.r_5
    delta kernelRun0_A.sl.r kernelRun0_A.sl.r_1 kernelRun0_A.sl.r_2
    rw [st_indep Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 _ _ _ _ _ _ _ _ _ _ _ _ f13 fs0 _ _ arg15.view.junk arg18.view.junk _ _ le_rfl]
    rw [stash_eq Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20]
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]; · iexists _; iexact H11
    isplitl [H12]; · iexists _; iexact H12
    isplitl [H13]; · iexists _; iexact H13
    isplitl [H14]
    · iexists _; isplitr; · ipureintro; exact harg16.read_unread _
      iexact H14
    isplitl [H15]
    · iexists _; isplitr; · ipureintro; exact harg17.read_unread _
      iexact H15
    isplitl [HS0]
    · iexists _, _; isplitr; swap; · iexact HS0
      ipureintro; rfl
    isplitl [HS1]; · iexists _; iexact HS1
    iexists _; iexact HS2

end Cert.Gates.Gen

end
-- ==== Proof.PRunB.lean ====
module

public import proofs.«01_k».proof.Proof.PRunA

@[expose] public section

set_option maxRecDepth 16384

noncomputable section

namespace Cert.Gates.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The whole body at a point of case B: the pieces each buffer ends with, and the run that leaves them. -/
noncomputable def kernelRun0_B (c : Dev nD) (i : grid0.Coords) (arg2 : Memref sig .tc .vmem S1x64x7168 .bf16) (harg2 : arg2.IsWhole) (arg3 : Memref sig .tc .vmem S1x64x7168 .bf16) (harg3 : arg3.IsWhole) (arg4 : Memref sig .tc .vmem S1x64x7168 .bf16) (harg4 : arg4.IsWhole) (arg5 : Memref sig .tc .vmem S1x64x7168 .bf16) (harg5 : arg5.IsWhole) (arg6 : Memref sig .tc .vmem S1x64x7168 .f32) (harg6 : arg6.IsWhole) (arg7 : Memref sig .tc .vmem S1x8x7168 .f32) (harg7 : arg7.IsWhole) (arg8 : Memref sig .tc .vmem S1x1x7168 .f32) (harg8 : arg8.IsWhole) (arg9 : Memref sig .tc .vmem S1x64x7168 .fp8e5m2) (harg9 : arg9.IsWhole) (arg10 : Memref sig .tc .vmem S1x64x1 .f32) (harg10 : arg10.IsWhole) (arg11 : Memref sig .tc .vmem S4x7168 .f32) (harg11 : arg11.IsWhole) (arg12 : Memref sig .tc .vmem S1x1x7168 .f32) (harg12 : arg12.IsWhole) (arg13 : Memref sig .tc .vmem S1x64x21504 .fp8e5m2) (harg13 : arg13.IsWhole) (arg14 : Memref sig .tc .vmem S1x64x3 .f32) (harg14 : arg14.IsWhole) (arg15 : Memref sig .tc .vmem S1x64x7168 .f32) (harg15 : arg15.IsWhole) (arg16 : Memref sig .tc .vmem S1x1x7168 .f32) (harg16 : arg16.IsWhole) (arg17 : Memref sig .tc .vmem S4x7168 .f32) (harg17 : arg17.IsWhole) (arg18 : Memref sig .tc .vmem S3x64x7168 .f32) (harg18 : arg18.IsWhole) (arg19 : Memref sig .tc .vmem S8x7168 .f32) (harg19 : arg19.IsWhole) (arg20 : Memref sig .tc .vmem S4x8x7168 .f32) (harg20 : arg20.IsWhole) (hc0 : ¬cond0_0 i) (hc1 : ¬cond0_1 i) (hc2 : ¬cond0_2 i) (hc3 : ¬cond0_3 i)
    (x0 : Vec F S1x64x7168 .bf16) (x1 : Vec F S1x64x7168 .bf16) (x2 : Vec F S1x64x7168 .bf16) (x3 : Vec F S1x64x7168 .bf16) (x4 : Vec F S1x64x7168 .f32) (x5 : Vec F S1x8x7168 .f32) (x6 : Vec F S1x1x7168 .f32) (x7 : Vec F S1x64x7168 .fp8e5m2) (x8 : Vec F S1x64x1 .f32) (x9 : Vec F S4x7168 .f32) (x10 : Vec F S1x1x7168 .f32) (xs1 : Vec F S8x7168 .f32) (xs2 : Vec F S4x8x7168 .f32) :
    Σ' (L11 : List (View.Piece (Elt F) S1x64x21504 .fp8e5m2)), Σ' (L12 : List (View.Piece (Elt F) S1x64x3 .f32)), Σ' (L13 : List (View.Piece (Elt F) S1x64x7168 .f32)), Σ' (L14 : List (View.Piece (Elt F) S1x1x7168 .f32)), Σ' (L15 : List (View.Piece (Elt F) S4x7168 .f32)), Σ' (LS1 : List (View.Piece (Elt F) S8x7168 .f32)), { LS2 : List (View.Piece (Elt F) S4x8x7168 .f32) //
      ∀ (xi14 : Vec F S1x1x7168 .f32) (xi15 : Vec F S4x7168 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d) ∗ owns (c : Thread nD τ) arg16 fullShare xi14 ∗ owns (c : Thread nD τ) arg17 fullShare xi15 ∗ (∃ d, owns (c : Thread nD τ) arg18 fullShare d) ∗ owns (c : Thread nD τ) arg19 fullShare xs1 ∗ owns (c : Thread nD τ) arg20 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ owns (c : Thread nD τ) arg16 fullShare xi14 ∗ owns (c : Thread nD τ) arg17 fullShare xi15 ∗ (∃ d, owns (c : Thread nD τ) arg18 fullShare d) ∗ (∃ f, arg19.view.loc (c : Thread nD τ) ↦[arg19.view.set]{fullShare} arg19.view.writes (Elt F) f LS1) ∗ (∃ f, arg20.view.loc (c : Thread nD τ) ↦[arg20.view.set]{fullShare} arg20.view.writes (Elt F) f LS2)) -∗ K ⟨⟩))
          ⊢ wp frame (wpE (defs₀ (F := F)) Variants.none c none) E (cc0_sru_gates i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, [], [], ?_, ?_, fun xi14 xi15 E K => ?run⟩
  case run =>
    simp only [cc0_sru_gates_eq_skeleton]; unfold cc0_sru_gates_skel
    simp only [k0_part27_eq_skeleton, k0_part28_eq_skeleton, k0_part29_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%f14, %hf14, H14⟩, ⟨%f15, %hf15, H15⟩, ⟨%ds0, %fs0, -, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg16.eq_unread hf14; obtain rfl := harg17.eq_unread hf15; obtain rfl := harg19.eq_unread hfs1; obtain rfl := harg20.eq_unread hfs2
    sl_exec (disch := first | sl_exact hc0 | sl_exact hc1 | sl_exact hc2 | sl_exact hc3)
    sl_step
    delta kernelRun0_B.sl.H12_3 kernelRun0_B.sl.r_3 kernelRun0_B.sl.r_6 kernelRun0_B.sl.r_7
    delta kernelRun0_B.sl.r_4 kernelRun0_B.sl.r_5
    delta kernelRun0_B.sl.r kernelRun0_B.sl.r_1 kernelRun0_B.sl.r_2
    rw [st_indep Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 _ _ _ _ _ _ _ _ _ _ _ _ f13 fs0 _ _ arg15.view.junk arg18.view.junk _ _ le_rfl]
    rw [stash_eq Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20]
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]; · iexists _; iexact H11
    isplitl [H12]; · iexists _; iexact H12
    isplitl [H13]; · iexists _; iexact H13
    isplitl [H14]
    · iexists _; isplitr; · ipureintro; exact harg16.read_unread _
      iexact H14
    isplitl [H15]
    · iexists _; isplitr; · ipureintro; exact harg17.read_unread _
      iexact H15
    isplitl [HS0]
    · iexists _, _; isplitr; swap; · iexact HS0
      ipureintro; rfl
    isplitl [HS1]; · iexists _; iexact HS1
    iexists _; iexact HS2

end Cert.Gates.Gen

end
-- ==== Proof.PRunC.lean ====
module

public import proofs.«01_k».proof.Proof.PRunA

@[expose] public section

set_option maxRecDepth 16384

noncomputable section

namespace Cert.Gates.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The whole body at a point of case C: the pieces each buffer ends with, and the run that leaves them. -/
noncomputable def kernelRun0_C (c : Dev nD) (i : grid0.Coords) (arg2 : Memref sig .tc .vmem S1x64x7168 .bf16) (harg2 : arg2.IsWhole) (arg3 : Memref sig .tc .vmem S1x64x7168 .bf16) (harg3 : arg3.IsWhole) (arg4 : Memref sig .tc .vmem S1x64x7168 .bf16) (harg4 : arg4.IsWhole) (arg5 : Memref sig .tc .vmem S1x64x7168 .bf16) (harg5 : arg5.IsWhole) (arg6 : Memref sig .tc .vmem S1x64x7168 .f32) (harg6 : arg6.IsWhole) (arg7 : Memref sig .tc .vmem S1x8x7168 .f32) (harg7 : arg7.IsWhole) (arg8 : Memref sig .tc .vmem S1x1x7168 .f32) (harg8 : arg8.IsWhole) (arg9 : Memref sig .tc .vmem S1x64x7168 .fp8e5m2) (harg9 : arg9.IsWhole) (arg10 : Memref sig .tc .vmem S1x64x1 .f32) (harg10 : arg10.IsWhole) (arg11 : Memref sig .tc .vmem S4x7168 .f32) (harg11 : arg11.IsWhole) (arg12 : Memref sig .tc .vmem S1x1x7168 .f32) (harg12 : arg12.IsWhole) (arg13 : Memref sig .tc .vmem S1x64x21504 .fp8e5m2) (harg13 : arg13.IsWhole) (arg14 : Memref sig .tc .vmem S1x64x3 .f32) (harg14 : arg14.IsWhole) (arg15 : Memref sig .tc .vmem S1x64x7168 .f32) (harg15 : arg15.IsWhole) (arg16 : Memref sig .tc .vmem S1x1x7168 .f32) (harg16 : arg16.IsWhole) (arg17 : Memref sig .tc .vmem S4x7168 .f32) (harg17 : arg17.IsWhole) (arg18 : Memref sig .tc .vmem S3x64x7168 .f32) (harg18 : arg18.IsWhole) (arg19 : Memref sig .tc .vmem S8x7168 .f32) (harg19 : arg19.IsWhole) (arg20 : Memref sig .tc .vmem S4x8x7168 .f32) (harg20 : arg20.IsWhole) (hc0 : ¬cond0_0 i) (hc1 : ¬cond0_1 i) (hc2 : cond0_2 i) (hc3 : ¬cond0_3 i)
    (x0 : Vec F S1x64x7168 .bf16) (x1 : Vec F S1x64x7168 .bf16) (x2 : Vec F S1x64x7168 .bf16) (x3 : Vec F S1x64x7168 .bf16) (x4 : Vec F S1x64x7168 .f32) (x5 : Vec F S1x8x7168 .f32) (x6 : Vec F S1x1x7168 .f32) (x7 : Vec F S1x64x7168 .fp8e5m2) (x8 : Vec F S1x64x1 .f32) (x9 : Vec F S4x7168 .f32) (x10 : Vec F S1x1x7168 .f32) (xs1 : Vec F S8x7168 .f32) (xs2 : Vec F S4x8x7168 .f32) :
    Σ' (L11 : List (View.Piece (Elt F) S1x64x21504 .fp8e5m2)), Σ' (L12 : List (View.Piece (Elt F) S1x64x3 .f32)), Σ' (L13 : List (View.Piece (Elt F) S1x64x7168 .f32)), Σ' (L14 : List (View.Piece (Elt F) S1x1x7168 .f32)), Σ' (L15 : List (View.Piece (Elt F) S4x7168 .f32)), Σ' (LS1 : List (View.Piece (Elt F) S8x7168 .f32)), { LS2 : List (View.Piece (Elt F) S4x8x7168 .f32) //
      ∀ (xi15 : Vec F S4x7168 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ owns (c : Thread nD τ) arg17 fullShare xi15 ∗ (∃ d, owns (c : Thread nD τ) arg18 fullShare d) ∗ owns (c : Thread nD τ) arg19 fullShare xs1 ∗ owns (c : Thread nD τ) arg20 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14) ∗ owns (c : Thread nD τ) arg17 fullShare xi15 ∗ (∃ d, owns (c : Thread nD τ) arg18 fullShare d) ∗ (∃ f, arg19.view.loc (c : Thread nD τ) ↦[arg19.view.set]{fullShare} arg19.view.writes (Elt F) f LS1) ∗ (∃ f, arg20.view.loc (c : Thread nD τ) ↦[arg20.view.set]{fullShare} arg20.view.writes (Elt F) f LS2)) -∗ K ⟨⟩))
          ⊢ wp frame (wpE (defs₀ (F := F)) Variants.none c none) E (cc0_sru_gates i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, ?_, [], ?_, ?_, fun xi15 E K => ?run⟩
  case run =>
    simp only [cc0_sru_gates_eq_skeleton]; unfold cc0_sru_gates_skel
    simp only [k0_part27_eq_skeleton, k0_part28_eq_skeleton, k0_part29_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%f15, %hf15, H15⟩, ⟨%ds0, %fs0, -, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg17.eq_unread hf15; obtain rfl := harg19.eq_unread hfs1; obtain rfl := harg20.eq_unread hfs2
    sl_exec (disch := first | sl_exact hc0 | sl_exact hc1 | sl_exact hc2 | sl_exact hc3)
    sl_step
    delta kernelRun0_C.sl.H12_3 kernelRun0_C.sl.r_3 kernelRun0_C.sl.r_6 kernelRun0_C.sl.r_7
    delta kernelRun0_C.sl.r_4 kernelRun0_C.sl.r_5
    delta kernelRun0_C.sl.r kernelRun0_C.sl.r_1 kernelRun0_C.sl.r_2 kernelRun0_C.sl.v125
    rw [st_indep Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 _ _ _ _ _ _ _ _ _ _ _ _ f13 fs0 _ _ arg15.view.junk arg18.view.junk _ _ le_rfl]
    rw [stash_eq Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20]
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]; · iexists _; iexact H11
    isplitl [H12]; · iexists _; iexact H12
    isplitl [H13]; · iexists _; iexact H13
    isplitl [H14]; · iexists _; iexact H14
    isplitl [H15]
    · iexists _; isplitr; · ipureintro; exact harg17.read_unread _
      iexact H15
    isplitl [HS0]
    · iexists _, _; isplitr; swap; · iexact HS0
      ipureintro; rfl
    isplitl [HS1]; · iexists _; iexact HS1
    iexists _; iexact HS2

end Cert.Gates.Gen

end
-- ==== Proof.PRunD.lean ====
module

public import proofs.«01_k».proof.Proof.PRunA

@[expose] public section

set_option maxRecDepth 16384

noncomputable section

namespace Cert.Gates.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The whole body at a point of case D: the pieces each buffer ends with, and the run that leaves them. -/
noncomputable def kernelRun0_D (c : Dev nD) (i : grid0.Coords) (arg2 : Memref sig .tc .vmem S1x64x7168 .bf16) (harg2 : arg2.IsWhole) (arg3 : Memref sig .tc .vmem S1x64x7168 .bf16) (harg3 : arg3.IsWhole) (arg4 : Memref sig .tc .vmem S1x64x7168 .bf16) (harg4 : arg4.IsWhole) (arg5 : Memref sig .tc .vmem S1x64x7168 .bf16) (harg5 : arg5.IsWhole) (arg6 : Memref sig .tc .vmem S1x64x7168 .f32) (harg6 : arg6.IsWhole) (arg7 : Memref sig .tc .vmem S1x8x7168 .f32) (harg7 : arg7.IsWhole) (arg8 : Memref sig .tc .vmem S1x1x7168 .f32) (harg8 : arg8.IsWhole) (arg9 : Memref sig .tc .vmem S1x64x7168 .fp8e5m2) (harg9 : arg9.IsWhole) (arg10 : Memref sig .tc .vmem S1x64x1 .f32) (harg10 : arg10.IsWhole) (arg11 : Memref sig .tc .vmem S4x7168 .f32) (harg11 : arg11.IsWhole) (arg12 : Memref sig .tc .vmem S1x1x7168 .f32) (harg12 : arg12.IsWhole) (arg13 : Memref sig .tc .vmem S1x64x21504 .fp8e5m2) (harg13 : arg13.IsWhole) (arg14 : Memref sig .tc .vmem S1x64x3 .f32) (harg14 : arg14.IsWhole) (arg15 : Memref sig .tc .vmem S1x64x7168 .f32) (harg15 : arg15.IsWhole) (arg16 : Memref sig .tc .vmem S1x1x7168 .f32) (harg16 : arg16.IsWhole) (arg17 : Memref sig .tc .vmem S4x7168 .f32) (harg17 : arg17.IsWhole) (arg18 : Memref sig .tc .vmem S3x64x7168 .f32) (harg18 : arg18.IsWhole) (arg19 : Memref sig .tc .vmem S8x7168 .f32) (harg19 : arg19.IsWhole) (arg20 : Memref sig .tc .vmem S4x8x7168 .f32) (harg20 : arg20.IsWhole) (hc0 : cond0_0 i) (hc1 : ¬cond0_1 i) (hc2 : ¬cond0_2 i) (hc3 : ¬cond0_3 i)
    (x0 : Vec F S1x64x7168 .bf16) (x1 : Vec F S1x64x7168 .bf16) (x2 : Vec F S1x64x7168 .bf16) (x3 : Vec F S1x64x7168 .bf16) (x4 : Vec F S1x64x7168 .f32) (x5 : Vec F S1x8x7168 .f32) (x6 : Vec F S1x1x7168 .f32) (x7 : Vec F S1x64x7168 .fp8e5m2) (x8 : Vec F S1x64x1 .f32) (x9 : Vec F S4x7168 .f32) (x10 : Vec F S1x1x7168 .f32) (xs2 : Vec F S4x8x7168 .f32) :
    Σ' (L11 : List (View.Piece (Elt F) S1x64x21504 .fp8e5m2)), Σ' (L12 : List (View.Piece (Elt F) S1x64x3 .f32)), Σ' (L13 : List (View.Piece (Elt F) S1x64x7168 .f32)), Σ' (L14 : List (View.Piece (Elt F) S1x1x7168 .f32)), Σ' (L15 : List (View.Piece (Elt F) S4x7168 .f32)), Σ' (LS1 : List (View.Piece (Elt F) S8x7168 .f32)), { LS2 : List (View.Piece (Elt F) S4x8x7168 .f32) //
      ∀ (xi14 : Vec F S1x1x7168 .f32) (xi15 : Vec F S4x7168 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d) ∗ owns (c : Thread nD τ) arg16 fullShare xi14 ∗ owns (c : Thread nD τ) arg17 fullShare xi15 ∗ (∃ d, owns (c : Thread nD τ) arg18 fullShare d) ∗ (∃ d, owns (c : Thread nD τ) arg19 fullShare d) ∗ owns (c : Thread nD τ) arg20 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ owns (c : Thread nD τ) arg16 fullShare xi14 ∗ owns (c : Thread nD τ) arg17 fullShare xi15 ∗ (∃ d, owns (c : Thread nD τ) arg18 fullShare d) ∗ (∃ f, arg19.view.loc (c : Thread nD τ) ↦[arg19.view.set]{fullShare} arg19.view.writes (Elt F) f LS1) ∗ (∃ f, arg20.view.loc (c : Thread nD τ) ↦[arg20.view.set]{fullShare} arg20.view.writes (Elt F) f LS2)) -∗ K ⟨⟩))
          ⊢ wp frame (wpE (defs₀ (F := F)) Variants.none c none) E (cc0_sru_gates i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, [], [], ?_, ?_, fun xi14 xi15 E K => ?run⟩
  case run =>
    simp only [cc0_sru_gates_eq_skeleton]; unfold cc0_sru_gates_skel
    simp only [k0_part27_eq_skeleton, k0_part28_eq_skeleton, k0_part29_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%f14, %hf14, H14⟩, ⟨%f15, %hf15, H15⟩, ⟨%ds0, %fs0, -, HS0⟩, ⟨%ds1, %fs1, -, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg16.eq_unread hf14; obtain rfl := harg17.eq_unread hf15; obtain rfl := harg20.eq_unread hfs2
    sl_exec (disch := first | sl_exact hc0 | sl_exact hc1 | sl_exact hc2 | sl_exact hc3)
    sl_step
    delta kernelRun0_D.sl.H12_3 kernelRun0_D.sl.r_3 kernelRun0_D.sl.r_6 kernelRun0_D.sl.r_7
    delta kernelRun0_D.sl.r_4 kernelRun0_D.sl.r_5
    delta kernelRun0_D.sl.r kernelRun0_D.sl.r_1 kernelRun0_D.sl.r_2
    rw [st_indep Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 _ _ _ _ _ _ _ _ _ _ _ _ f13 fs0 _ _ arg15.view.junk arg18.view.junk _ _ le_rfl]
    rw [stash_eq Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20]
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]; · iexists _; iexact H11
    isplitl [H12]; · iexists _; iexact H12
    isplitl [H13]; · iexists _; iexact H13
    isplitl [H14]
    · iexists _; isplitr; · ipureintro; exact harg16.read_unread _
      iexact H14
    isplitl [H15]
    · iexists _; isplitr; · ipureintro; exact harg17.read_unread _
      iexact H15
    isplitl [HS0]
    · iexists _, _; isplitr; swap; · iexact HS0
      ipureintro; rfl
    isplitl [HS1]; · iexists _; iexact HS1
    iexists _; iexact HS2

end Cert.Gates.Gen

end
-- ==== Proof.PRunE.lean ====
module

public import proofs.«01_k».proof.Proof.PRunA

@[expose] public section

set_option maxRecDepth 16384

noncomputable section

namespace Cert.Gates.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The whole body at a point of case E: the pieces each buffer ends with, and the run that leaves them. -/
noncomputable def kernelRun0_E (c : Dev nD) (i : grid0.Coords) (arg2 : Memref sig .tc .vmem S1x64x7168 .bf16) (harg2 : arg2.IsWhole) (arg3 : Memref sig .tc .vmem S1x64x7168 .bf16) (harg3 : arg3.IsWhole) (arg4 : Memref sig .tc .vmem S1x64x7168 .bf16) (harg4 : arg4.IsWhole) (arg5 : Memref sig .tc .vmem S1x64x7168 .bf16) (harg5 : arg5.IsWhole) (arg6 : Memref sig .tc .vmem S1x64x7168 .f32) (harg6 : arg6.IsWhole) (arg7 : Memref sig .tc .vmem S1x8x7168 .f32) (harg7 : arg7.IsWhole) (arg8 : Memref sig .tc .vmem S1x1x7168 .f32) (harg8 : arg8.IsWhole) (arg9 : Memref sig .tc .vmem S1x64x7168 .fp8e5m2) (harg9 : arg9.IsWhole) (arg10 : Memref sig .tc .vmem S1x64x1 .f32) (harg10 : arg10.IsWhole) (arg11 : Memref sig .tc .vmem S4x7168 .f32) (harg11 : arg11.IsWhole) (arg12 : Memref sig .tc .vmem S1x1x7168 .f32) (harg12 : arg12.IsWhole) (arg13 : Memref sig .tc .vmem S1x64x21504 .fp8e5m2) (harg13 : arg13.IsWhole) (arg14 : Memref sig .tc .vmem S1x64x3 .f32) (harg14 : arg14.IsWhole) (arg15 : Memref sig .tc .vmem S1x64x7168 .f32) (harg15 : arg15.IsWhole) (arg16 : Memref sig .tc .vmem S1x1x7168 .f32) (harg16 : arg16.IsWhole) (arg17 : Memref sig .tc .vmem S4x7168 .f32) (harg17 : arg17.IsWhole) (arg18 : Memref sig .tc .vmem S3x64x7168 .f32) (harg18 : arg18.IsWhole) (arg19 : Memref sig .tc .vmem S8x7168 .f32) (harg19 : arg19.IsWhole) (arg20 : Memref sig .tc .vmem S4x8x7168 .f32) (harg20 : arg20.IsWhole) (hc0 : ¬cond0_0 i) (hc1 : ¬cond0_1 i) (hc2 : cond0_2 i) (hc3 : cond0_3 i)
    (x0 : Vec F S1x64x7168 .bf16) (x1 : Vec F S1x64x7168 .bf16) (x2 : Vec F S1x64x7168 .bf16) (x3 : Vec F S1x64x7168 .bf16) (x4 : Vec F S1x64x7168 .f32) (x5 : Vec F S1x8x7168 .f32) (x6 : Vec F S1x1x7168 .f32) (x7 : Vec F S1x64x7168 .fp8e5m2) (x8 : Vec F S1x64x1 .f32) (x9 : Vec F S4x7168 .f32) (x10 : Vec F S1x1x7168 .f32) (xs1 : Vec F S8x7168 .f32) (xs2 : Vec F S4x8x7168 .f32) :
    Σ' (L11 : List (View.Piece (Elt F) S1x64x21504 .fp8e5m2)), Σ' (L12 : List (View.Piece (Elt F) S1x64x3 .f32)), Σ' (L13 : List (View.Piece (Elt F) S1x64x7168 .f32)), Σ' (L14 : List (View.Piece (Elt F) S1x1x7168 .f32)), Σ' (L15 : List (View.Piece (Elt F) S4x7168 .f32)), Σ' (LS1 : List (View.Piece (Elt F) S8x7168 .f32)), { LS2 : List (View.Piece (Elt F) S4x8x7168 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ owns (c : Thread nD τ) arg19 fullShare xs1 ∗ owns (c : Thread nD τ) arg20 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f L15) ∗ (∃ d, owns (c : Thread nD τ) arg18 fullShare d) ∗ (∃ f, arg19.view.loc (c : Thread nD τ) ↦[arg19.view.set]{fullShare} arg19.view.writes (Elt F) f LS1) ∗ (∃ f, arg20.view.loc (c : Thread nD τ) ↦[arg20.view.set]{fullShare} arg20.view.writes (Elt F) f LS2)) -∗ K ⟨⟩))
          ⊢ wp frame (wpE (defs₀ (F := F)) Variants.none c none) E (cc0_sru_gates i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, ?_, ?_, ?_, ?_, fun E K => ?run⟩
  case run =>
    simp only [cc0_sru_gates_eq_skeleton]; unfold cc0_sru_gates_skel
    simp only [k0_part27_eq_skeleton, k0_part28_eq_skeleton, k0_part29_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%ds0, %fs0, -, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg19.eq_unread hfs1; obtain rfl := harg20.eq_unread hfs2
    sl_exec (disch := first | sl_exact hc0 | sl_exact hc1 | sl_exact hc2 | sl_exact hc3)
    sl_step
    delta kernelRun0_E.sl.H12_3 kernelRun0_E.sl.r_3 kernelRun0_E.sl.r_6 kernelRun0_E.sl.r_7
    delta kernelRun0_E.sl.r_4 kernelRun0_E.sl.r_5
    delta kernelRun0_E.sl.r kernelRun0_E.sl.r_1 kernelRun0_E.sl.r_2 kernelRun0_E.sl.v125 kernelRun0_E.sl.v125_1 kernelRun0_E.sl.v130 kernelRun0_E.sl.v135 kernelRun0_E.sl.v140
    rw [st_indep Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 _ _ _ _ _ _ _ _ _ _ _ _ f13 fs0 _ _ arg15.view.junk arg18.view.junk _ _ le_rfl]
    rw [stash_eq Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20]
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]; · iexists _; iexact H11
    isplitl [H12]; · iexists _; iexact H12
    isplitl [H13]; · iexists _; iexact H13
    isplitl [H14]; · iexists _; iexact H14
    isplitl [H15]; · iexists _; iexact H15
    isplitl [HS0]
    · iexists _, _; isplitr; swap; · iexact HS0
      ipureintro; rfl
    isplitl [HS1]; · iexists _; iexact HS1
    iexists _; iexact HS2

end Cert.Gates.Gen

end
-- ==== Proof.PFrame.lean ====
module

public import proofs.«01_k».proof.Proof.PRunB
public import proofs.«01_k».proof.Proof.PRunC
public import proofs.«01_k».proof.Proof.PRunD
public import proofs.«01_k».proof.Proof.PRunE
public import Idealize.ShloMosaic.Lib.Claim

@[expose] public section

set_option maxRecDepth 16384

noncomputable section

namespace Cert.Gates.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a point leaves: the codes, the row scales, the state gradient, the flushed state gradient, the sums, the carried row and the stash. -/
abbrev Outs (F : FTy → Type) [FloatOps F] := Vec F S1x64x21504 .fp8e5m2 × Vec F S1x64x3 .f32 × Vec F S1x64x7168 .f32 × Vec F S1x1x7168 .f32 × Vec F S4x7168 .f32 × Vec F S8x7168 .f32 × Vec F S4x8x7168 .f32

/-- Case a's run at point `t`, on the point's memrefs and input blocks. -/
abbrev runA (c : Dev nD) (t : Fin cfg0.N) (h : conds0_A (grid0.coords t)) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) h.1 h.2.1 h.2.2.1 h.2.2.2 (iblk m c 0 t) (iblk m c 1 t) (iblk m c 2 t) (iblk m c 3 t) (iblk m c 4 t) (iblk m c 5 t) (iblk m c 6 t) (iblk m c 7 t) (iblk m c 8 t) (iblk m c 9 t) (iblk m c 10 t)

/-- What case A leaves at point `t`: its pieces read back over junk (an output it does not store: junk). -/
def outsA (c : Dev nD) (t : Fin cfg0.N) (h : conds0_A (grid0.coords t)) : Outs F :=
  (VO0_11.read (Elt F) (VO0_11.writes (Elt F) VO0_11.junk (runA m c t h).1),
   VO0_12.read (Elt F) (VO0_12.writes (Elt F) VO0_12.junk (runA m c t h).2.1),
   VO0_13.read (Elt F) (VO0_13.writes (Elt F) VO0_13.junk (runA m c t h).2.2.1),
   VO0_14.read (Elt F) VO0_14.junk,
   VO0_15.read (Elt F) VO0_15.junk,
   VS0_1.read (Elt F) (VS0_1.writes (Elt F) VS0_1.junk (runA m c t h).2.2.2.2.2.1),
   VS0_2.read (Elt F) (VS0_2.writes (Elt F) VS0_2.junk (runA m c t h).2.2.2.2.2.2.1))

theorem covA_11 (c : Dev nD) (t : Fin cfg0.N) (h : conds0_A (grid0.coords t)) (y : S1x64x21504.Idx) :
    ∃ pc ∈ (runA m c t h).1, y ∈ pc.1.set :=
  View.cover_of_tiledL (runA m c t h).1 S1x64x256.size (by sl_kernel_rfl) y

theorem covA_12 (c : Dev nD) (t : Fin cfg0.N) (h : conds0_A (grid0.coords t)) (y : S1x64x3.Idx) :
    ∃ pc ∈ (runA m c t h).2.1, y ∈ pc.1.set :=
  View.cover_of_tiledL (runA m c t h).2.1 S1x64x1.size (by sl_kernel_rfl) y

theorem covA_13 (c : Dev nD) (t : Fin cfg0.N) (h : conds0_A (grid0.coords t)) (y : S1x64x7168.Idx) :
    ∃ pc ∈ (runA m c t h).2.2.1, y ∈ pc.1.set :=
  View.cover_of_tiledL (runA m c t h).2.2.1 S1x8x256.size (by sl_kernel_rfl) y

theorem covA_s1 (c : Dev nD) (t : Fin cfg0.N) (h : conds0_A (grid0.coords t)) (y : S8x7168.Idx) :
    ∃ pc ∈ (runA m c t h).2.2.2.2.2.1, y ∈ pc.1.set :=
  View.cover_of_wholeMem (runA m c t h).2.2.2.2.2.1 (by sl_whole_mem) y

theorem covA_s2 (c : Dev nD) (t : Fin cfg0.N) (h : conds0_A (grid0.coords t)) (y : S4x8x7168.Idx) :
    ∃ pc ∈ (runA m c t h).2.2.2.2.2.2.1, y ∈ pc.1.set :=
  View.cover_of_wholeMem (runA m c t h).2.2.2.2.2.2.1 (by sl_whole_mem) y

/-- Case b's run at point `t`, on the point's memrefs and input blocks. -/
abbrev runB (c : Dev nD) (t : Fin cfg0.N) (h : conds0_B (grid0.coords t)) (xs1 : Vec F S8x7168 .f32) (xs2 : Vec F S4x8x7168 .f32) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) h.1 h.2.1 h.2.2.1 h.2.2.2 (iblk m c 0 t) (iblk m c 1 t) (iblk m c 2 t) (iblk m c 3 t) (iblk m c 4 t) (iblk m c 5 t) (iblk m c 6 t) (iblk m c 7 t) (iblk m c 8 t) (iblk m c 9 t) (iblk m c 10 t) xs1 xs2

/-- What case B leaves at point `t`: its pieces read back over junk (an output it does not store: junk). -/
def outsB (c : Dev nD) (t : Fin cfg0.N) (h : conds0_B (grid0.coords t)) (xs1 : Vec F S8x7168 .f32) (xs2 : Vec F S4x8x7168 .f32) : Outs F :=
  (VO0_11.read (Elt F) (VO0_11.writes (Elt F) VO0_11.junk (runB m c t h xs1 xs2).1),
   VO0_12.read (Elt F) (VO0_12.writes (Elt F) VO0_12.junk (runB m c t h xs1 xs2).2.1),
   VO0_13.read (Elt F) (VO0_13.writes (Elt F) VO0_13.junk (runB m c t h xs1 xs2).2.2.1),
   VO0_14.read (Elt F) VO0_14.junk,
   VO0_15.read (Elt F) VO0_15.junk,
   VS0_1.read (Elt F) (VS0_1.writes (Elt F) VS0_1.junk (runB m c t h xs1 xs2).2.2.2.2.2.1),
   VS0_2.read (Elt F) (VS0_2.writes (Elt F) VS0_2.junk (runB m c t h xs1 xs2).2.2.2.2.2.2.1))

theorem covB_11 (c : Dev nD) (t : Fin cfg0.N) (h : conds0_B (grid0.coords t)) (xs1 : Vec F S8x7168 .f32) (xs2 : Vec F S4x8x7168 .f32) (y : S1x64x21504.Idx) :
    ∃ pc ∈ (runB m c t h xs1 xs2).1, y ∈ pc.1.set :=
  View.cover_of_tiledL (runB m c t h xs1 xs2).1 S1x64x256.size (by sl_kernel_rfl) y

theorem covB_12 (c : Dev nD) (t : Fin cfg0.N) (h : conds0_B (grid0.coords t)) (xs1 : Vec F S8x7168 .f32) (xs2 : Vec F S4x8x7168 .f32) (y : S1x64x3.Idx) :
    ∃ pc ∈ (runB m c t h xs1 xs2).2.1, y ∈ pc.1.set :=
  View.cover_of_tiledL (runB m c t h xs1 xs2).2.1 S1x64x1.size (by sl_kernel_rfl) y

theorem covB_13 (c : Dev nD) (t : Fin cfg0.N) (h : conds0_B (grid0.coords t)) (xs1 : Vec F S8x7168 .f32) (xs2 : Vec F S4x8x7168 .f32) (y : S1x64x7168.Idx) :
    ∃ pc ∈ (runB m c t h xs1 xs2).2.2.1, y ∈ pc.1.set :=
  View.cover_of_tiledL (runB m c t h xs1 xs2).2.2.1 S1x8x256.size (by sl_kernel_rfl) y

theorem covB_s1 (c : Dev nD) (t : Fin cfg0.N) (h : conds0_B (grid0.coords t)) (xs1 : Vec F S8x7168 .f32) (xs2 : Vec F S4x8x7168 .f32) (y : S8x7168.Idx) :
    ∃ pc ∈ (runB m c t h xs1 xs2).2.2.2.2.2.1, y ∈ pc.1.set :=
  View.cover_of_tiledL (runB m c t h xs1 xs2).2.2.2.2.2.1 S8x256.size (by sl_kernel_rfl) y

theorem covB_s2 (c : Dev nD) (t : Fin cfg0.N) (h : conds0_B (grid0.coords t)) (xs1 : Vec F S8x7168 .f32) (xs2 : Vec F S4x8x7168 .f32) (y : S4x8x7168.Idx) :
    ∃ pc ∈ (runB m c t h xs1 xs2).2.2.2.2.2.2.1, y ∈ pc.1.set :=
  View.cover_of_tiledL (runB m c t h xs1 xs2).2.2.2.2.2.2.1 S1x8x256.size (by sl_kernel_rfl) y

/-- Case c's run at point `t`, on the point's memrefs and input blocks. -/
abbrev runC (c : Dev nD) (t : Fin cfg0.N) (h : conds0_C (grid0.coords t)) (xs1 : Vec F S8x7168 .f32) (xs2 : Vec F S4x8x7168 .f32) :=
  kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) h.1 h.2.1 h.2.2.1 h.2.2.2 (iblk m c 0 t) (iblk m c 1 t) (iblk m c 2 t) (iblk m c 3 t) (iblk m c 4 t) (iblk m c 5 t) (iblk m c 6 t) (iblk m c 7 t) (iblk m c 8 t) (iblk m c 9 t) (iblk m c 10 t) xs1 xs2

/-- What case C leaves at point `t`: its pieces read back over junk (an output it does not store: junk). -/
def outsC (c : Dev nD) (t : Fin cfg0.N) (h : conds0_C (grid0.coords t)) (xs1 : Vec F S8x7168 .f32) (xs2 : Vec F S4x8x7168 .f32) : Outs F :=
  (VO0_11.read (Elt F) (VO0_11.writes (Elt F) VO0_11.junk (runC m c t h xs1 xs2).1),
   VO0_12.read (Elt F) (VO0_12.writes (Elt F) VO0_12.junk (runC m c t h xs1 xs2).2.1),
   VO0_13.read (Elt F) (VO0_13.writes (Elt F) VO0_13.junk (runC m c t h xs1 xs2).2.2.1),
   VO0_14.read (Elt F) (VO0_14.writes (Elt F) VO0_14.junk (runC m c t h xs1 xs2).2.2.2.1),
   VO0_15.read (Elt F) VO0_15.junk,
   VS0_1.read (Elt F) (VS0_1.writes (Elt F) VS0_1.junk (runC m c t h xs1 xs2).2.2.2.2.2.1),
   VS0_2.read (Elt F) (VS0_2.writes (Elt F) VS0_2.junk (runC m c t h xs1 xs2).2.2.2.2.2.2.1))

theorem covC_11 (c : Dev nD) (t : Fin cfg0.N) (h : conds0_C (grid0.coords t)) (xs1 : Vec F S8x7168 .f32) (xs2 : Vec F S4x8x7168 .f32) (y : S1x64x21504.Idx) :
    ∃ pc ∈ (runC m c t h xs1 xs2).1, y ∈ pc.1.set :=
  View.cover_of_tiledL (runC m c t h xs1 xs2).1 S1x64x256.size (by sl_kernel_rfl) y

theorem covC_12 (c : Dev nD) (t : Fin cfg0.N) (h : conds0_C (grid0.coords t)) (xs1 : Vec F S8x7168 .f32) (xs2 : Vec F S4x8x7168 .f32) (y : S1x64x3.Idx) :
    ∃ pc ∈ (runC m c t h xs1 xs2).2.1, y ∈ pc.1.set :=
  View.cover_of_tiledL (runC m c t h xs1 xs2).2.1 S1x64x1.size (by sl_kernel_rfl) y

theorem covC_13 (c : Dev nD) (t : Fin cfg0.N) (h : conds0_C (grid0.coords t)) (xs1 : Vec F S8x7168 .f32) (xs2 : Vec F S4x8x7168 .f32) (y : S1x64x7168.Idx) :
    ∃ pc ∈ (runC m c t h xs1 xs2).2.2.1, y ∈ pc.1.set :=
  View.cover_of_tiledL (runC m c t h xs1 xs2).2.2.1 S1x8x256.size (by sl_kernel_rfl) y

theorem covC_14 (c : Dev nD) (t : Fin cfg0.N) (h : conds0_C (grid0.coords t)) (xs1 : Vec F S8x7168 .f32) (xs2 : Vec F S4x8x7168 .f32) (y : S1x1x7168.Idx) :
    ∃ pc ∈ (runC m c t h xs1 xs2).2.2.2.1, y ∈ pc.1.set :=
  View.cover_of_tiledL (runC m c t h xs1 xs2).2.2.2.1 S1x1x7168.size (by sl_kernel_rfl) y

theorem covC_s1 (c : Dev nD) (t : Fin cfg0.N) (h : conds0_C (grid0.coords t)) (xs1 : Vec F S8x7168 .f32) (xs2 : Vec F S4x8x7168 .f32) (y : S8x7168.Idx) :
    ∃ pc ∈ (runC m c t h xs1 xs2).2.2.2.2.2.1, y ∈ pc.1.set :=
  View.cover_of_tiledL (runC m c t h xs1 xs2).2.2.2.2.2.1 S8x256.size (by sl_kernel_rfl) y

theorem covC_s2 (c : Dev nD) (t : Fin cfg0.N) (h : conds0_C (grid0.coords t)) (xs1 : Vec F S8x7168 .f32) (xs2 : Vec F S4x8x7168 .f32) (y : S4x8x7168.Idx) :
    ∃ pc ∈ (runC m c t h xs1 xs2).2.2.2.2.2.2.1, y ∈ pc.1.set :=
  View.cover_of_tiledL (runC m c t h xs1 xs2).2.2.2.2.2.2.1 S1x8x256.size (by sl_kernel_rfl) y

/-- Case d's run at point `t`, on the point's memrefs and input blocks. -/
abbrev runD (c : Dev nD) (t : Fin cfg0.N) (h : conds0_D (grid0.coords t)) (xs1 : Vec F S8x7168 .f32) (xs2 : Vec F S4x8x7168 .f32) :=
  kernelRun0_D c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) h.1 h.2.1 h.2.2.1 h.2.2.2 (iblk m c 0 t) (iblk m c 1 t) (iblk m c 2 t) (iblk m c 3 t) (iblk m c 4 t) (iblk m c 5 t) (iblk m c 6 t) (iblk m c 7 t) (iblk m c 8 t) (iblk m c 9 t) (iblk m c 10 t) xs2

/-- What case D leaves at point `t`: its pieces read back over junk (an output it does not store: junk). -/
def outsD (c : Dev nD) (t : Fin cfg0.N) (h : conds0_D (grid0.coords t)) (xs1 : Vec F S8x7168 .f32) (xs2 : Vec F S4x8x7168 .f32) : Outs F :=
  (VO0_11.read (Elt F) (VO0_11.writes (Elt F) VO0_11.junk (runD m c t h xs1 xs2).1),
   VO0_12.read (Elt F) (VO0_12.writes (Elt F) VO0_12.junk (runD m c t h xs1 xs2).2.1),
   VO0_13.read (Elt F) (VO0_13.writes (Elt F) VO0_13.junk (runD m c t h xs1 xs2).2.2.1),
   VO0_14.read (Elt F) VO0_14.junk,
   VO0_15.read (Elt F) VO0_15.junk,
   VS0_1.read (Elt F) (VS0_1.writes (Elt F) VS0_1.junk (runD m c t h xs1 xs2).2.2.2.2.2.1),
   VS0_2.read (Elt F) (VS0_2.writes (Elt F) VS0_2.junk (runD m c t h xs1 xs2).2.2.2.2.2.2.1))

theorem covD_11 (c : Dev nD) (t : Fin cfg0.N) (h : conds0_D (grid0.coords t)) (xs1 : Vec F S8x7168 .f32) (xs2 : Vec F S4x8x7168 .f32) (y : S1x64x21504.Idx) :
    ∃ pc ∈ (runD m c t h xs1 xs2).1, y ∈ pc.1.set :=
  View.cover_of_tiledL (runD m c t h xs1 xs2).1 S1x64x256.size (by sl_kernel_rfl) y

theorem covD_12 (c : Dev nD) (t : Fin cfg0.N) (h : conds0_D (grid0.coords t)) (xs1 : Vec F S8x7168 .f32) (xs2 : Vec F S4x8x7168 .f32) (y : S1x64x3.Idx) :
    ∃ pc ∈ (runD m c t h xs1 xs2).2.1, y ∈ pc.1.set :=
  View.cover_of_tiledL (runD m c t h xs1 xs2).2.1 S1x64x1.size (by sl_kernel_rfl) y

theorem covD_13 (c : Dev nD) (t : Fin cfg0.N) (h : conds0_D (grid0.coords t)) (xs1 : Vec F S8x7168 .f32) (xs2 : Vec F S4x8x7168 .f32) (y : S1x64x7168.Idx) :
    ∃ pc ∈ (runD m c t h xs1 xs2).2.2.1, y ∈ pc.1.set :=
  View.cover_of_tiledL (runD m c t h xs1 xs2).2.2.1 S1x8x256.size (by sl_kernel_rfl) y

theorem covD_s1 (c : Dev nD) (t : Fin cfg0.N) (h : conds0_D (grid0.coords t)) (xs1 : Vec F S8x7168 .f32) (xs2 : Vec F S4x8x7168 .f32) (y : S8x7168.Idx) :
    ∃ pc ∈ (runD m c t h xs1 xs2).2.2.2.2.2.1, y ∈ pc.1.set :=
  View.cover_of_wholeMem (runD m c t h xs1 xs2).2.2.2.2.2.1 (by sl_whole_mem) y

theorem covD_s2 (c : Dev nD) (t : Fin cfg0.N) (h : conds0_D (grid0.coords t)) (xs1 : Vec F S8x7168 .f32) (xs2 : Vec F S4x8x7168 .f32) (y : S4x8x7168.Idx) :
    ∃ pc ∈ (runD m c t h xs1 xs2).2.2.2.2.2.2.1, y ∈ pc.1.set :=
  View.cover_of_tiledL (runD m c t h xs1 xs2).2.2.2.2.2.2.1 S1x8x256.size (by sl_kernel_rfl) y

/-- Case e's run at point `t`, on the point's memrefs and input blocks. -/
abbrev runE (c : Dev nD) (t : Fin cfg0.N) (h : conds0_E (grid0.coords t)) (xs1 : Vec F S8x7168 .f32) (xs2 : Vec F S4x8x7168 .f32) :=
  kernelRun0_E c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) h.1 h.2.1 h.2.2.1 h.2.2.2 (iblk m c 0 t) (iblk m c 1 t) (iblk m c 2 t) (iblk m c 3 t) (iblk m c 4 t) (iblk m c 5 t) (iblk m c 6 t) (iblk m c 7 t) (iblk m c 8 t) (iblk m c 9 t) (iblk m c 10 t) xs1 xs2

/-- What case E leaves at point `t`: its pieces read back over junk (an output it does not store: junk). -/
def outsE (c : Dev nD) (t : Fin cfg0.N) (h : conds0_E (grid0.coords t)) (xs1 : Vec F S8x7168 .f32) (xs2 : Vec F S4x8x7168 .f32) : Outs F :=
  (VO0_11.read (Elt F) (VO0_11.writes (Elt F) VO0_11.junk (runE m c t h xs1 xs2).1),
   VO0_12.read (Elt F) (VO0_12.writes (Elt F) VO0_12.junk (runE m c t h xs1 xs2).2.1),
   VO0_13.read (Elt F) (VO0_13.writes (Elt F) VO0_13.junk (runE m c t h xs1 xs2).2.2.1),
   VO0_14.read (Elt F) (VO0_14.writes (Elt F) VO0_14.junk (runE m c t h xs1 xs2).2.2.2.1),
   VO0_15.read (Elt F) (VO0_15.writes (Elt F) VO0_15.junk (runE m c t h xs1 xs2).2.2.2.2.1),
   VS0_1.read (Elt F) (VS0_1.writes (Elt F) VS0_1.junk (runE m c t h xs1 xs2).2.2.2.2.2.1),
   VS0_2.read (Elt F) (VS0_2.writes (Elt F) VS0_2.junk (runE m c t h xs1 xs2).2.2.2.2.2.2.1))

theorem covE_11 (c : Dev nD) (t : Fin cfg0.N) (h : conds0_E (grid0.coords t)) (xs1 : Vec F S8x7168 .f32) (xs2 : Vec F S4x8x7168 .f32) (y : S1x64x21504.Idx) :
    ∃ pc ∈ (runE m c t h xs1 xs2).1, y ∈ pc.1.set :=
  View.cover_of_tiledL (runE m c t h xs1 xs2).1 S1x64x256.size (by sl_kernel_rfl) y

theorem covE_12 (c : Dev nD) (t : Fin cfg0.N) (h : conds0_E (grid0.coords t)) (xs1 : Vec F S8x7168 .f32) (xs2 : Vec F S4x8x7168 .f32) (y : S1x64x3.Idx) :
    ∃ pc ∈ (runE m c t h xs1 xs2).2.1, y ∈ pc.1.set :=
  View.cover_of_tiledL (runE m c t h xs1 xs2).2.1 S1x64x1.size (by sl_kernel_rfl) y

theorem covE_13 (c : Dev nD) (t : Fin cfg0.N) (h : conds0_E (grid0.coords t)) (xs1 : Vec F S8x7168 .f32) (xs2 : Vec F S4x8x7168 .f32) (y : S1x64x7168.Idx) :
    ∃ pc ∈ (runE m c t h xs1 xs2).2.2.1, y ∈ pc.1.set :=
  View.cover_of_tiledL (runE m c t h xs1 xs2).2.2.1 S1x8x256.size (by sl_kernel_rfl) y

theorem covE_14 (c : Dev nD) (t : Fin cfg0.N) (h : conds0_E (grid0.coords t)) (xs1 : Vec F S8x7168 .f32) (xs2 : Vec F S4x8x7168 .f32) (y : S1x1x7168.Idx) :
    ∃ pc ∈ (runE m c t h xs1 xs2).2.2.2.1, y ∈ pc.1.set :=
  View.cover_of_tiledL (runE m c t h xs1 xs2).2.2.2.1 S1x1x7168.size (by sl_kernel_rfl) y

theorem covE_15 (c : Dev nD) (t : Fin cfg0.N) (h : conds0_E (grid0.coords t)) (xs1 : Vec F S8x7168 .f32) (xs2 : Vec F S4x8x7168 .f32) (y : S4x7168.Idx) :
    ∃ pc ∈ (runE m c t h xs1 xs2).2.2.2.2.1, y ∈ pc.1.set :=
  View.cover_of_tiledL (runE m c t h xs1 xs2).2.2.2.2.1 S1x7168.size (by sl_kernel_rfl) y

theorem covE_s1 (c : Dev nD) (t : Fin cfg0.N) (h : conds0_E (grid0.coords t)) (xs1 : Vec F S8x7168 .f32) (xs2 : Vec F S4x8x7168 .f32) (y : S8x7168.Idx) :
    ∃ pc ∈ (runE m c t h xs1 xs2).2.2.2.2.2.1, y ∈ pc.1.set :=
  View.cover_of_tiledL (runE m c t h xs1 xs2).2.2.2.2.2.1 S8x256.size (by sl_kernel_rfl) y

theorem covE_s2 (c : Dev nD) (t : Fin cfg0.N) (h : conds0_E (grid0.coords t)) (xs1 : Vec F S8x7168 .f32) (xs2 : Vec F S4x8x7168 .f32) (y : S4x8x7168.Idx) :
    ∃ pc ∈ (runE m c t h xs1 xs2).2.2.2.2.2.2.1, y ∈ pc.1.set :=
  View.cover_of_tiledL (runE m c t h xs1 xs2).2.2.2.2.2.2.1 S1x8x256.size (by sl_kernel_rfl) y

/-! ## Which case a point is in -/

theorem isA (t : Fin cfg0.N) (hz : t.val = 0) : conds0_A (grid0.coords t) :=
  ⟨(hcond0_0 t).mpr (by omega), (hcond0_1 t).mpr (by omega), fun h => by have := (hcond0_2 t).mp h; omega, fun h => by have := (hcond0_3 t).mp h; omega⟩
theorem isD (t : Fin cfg0.N) (hz : t.val ≠ 0) (h0 : t.val % 64 = 0) : conds0_D (grid0.coords t) := by
  have hN : t.val < 128 := lt_of_lt_of_eq t.isLt (show cfg0.N = 128 from N_0)
  exact ⟨(hcond0_0 t).mpr h0, fun h => by have := (hcond0_1 t).mp h; omega, fun h => by have := (hcond0_2 t).mp h; omega, fun h => by have := (hcond0_3 t).mp h; omega⟩
theorem isE (t : Fin cfg0.N) (h3 : t.val % 128 = 127) : conds0_E (grid0.coords t) :=
  ⟨fun h => by have := (hcond0_0 t).mp h; omega, fun h => by have := (hcond0_1 t).mp h; omega, (hcond0_2 t).mpr (by omega), (hcond0_3 t).mpr h3⟩
theorem isC (t : Fin cfg0.N) (h2 : t.val % 64 = 63) (h3 : ¬ t.val % 128 = 127) : conds0_C (grid0.coords t) :=
  ⟨fun h => by have := (hcond0_0 t).mp h; omega, fun h => by have := (hcond0_1 t).mp h; omega, (hcond0_2 t).mpr h2, fun h => h3 ((hcond0_3 t).mp h)⟩
theorem isB (t : Fin cfg0.N) (h0 : ¬ t.val % 64 = 0) (h2 : ¬ t.val % 64 = 63) : conds0_B (grid0.coords t) :=
  ⟨fun h => h0 ((hcond0_0 t).mp h), fun h => by have := (hcond0_1 t).mp h; omega, fun h => h2 ((hcond0_2 t).mp h), fun h => by have := (hcond0_3 t).mp h; omega⟩

/-- What the outputs and the carried scratch hold after point `n`, by recursion on `n`: the case the point is in,
    run on what the point before left in the scratch. -/
def outsAt0 (c : Dev nD) : (n : ℕ) → n < cfg0.N → Outs F
  | 0, hn => outsA m c ⟨0, hn⟩ (isA _ rfl)
  | n + 1, hn =>
    if h0 : (n + 1) % 64 = 0 then
      outsD m c ⟨n + 1, hn⟩ (isD _ (Nat.succ_ne_zero n) h0) (outsAt0 c n (Nat.lt_of_succ_lt hn)).2.2.2.2.2.1 (outsAt0 c n (Nat.lt_of_succ_lt hn)).2.2.2.2.2.2
    else if h2 : (n + 1) % 64 = 63 then
      if h3 : (n + 1) % 128 = 127 then
        outsE m c ⟨n + 1, hn⟩ (isE _ h3) (outsAt0 c n (Nat.lt_of_succ_lt hn)).2.2.2.2.2.1 (outsAt0 c n (Nat.lt_of_succ_lt hn)).2.2.2.2.2.2
      else
        outsC m c ⟨n + 1, hn⟩ (isC _ h2 h3) (outsAt0 c n (Nat.lt_of_succ_lt hn)).2.2.2.2.2.1 (outsAt0 c n (Nat.lt_of_succ_lt hn)).2.2.2.2.2.2
    else
      outsB m c ⟨n + 1, hn⟩ (isB _ h0 h2) (outsAt0 c n (Nat.lt_of_succ_lt hn)).2.2.2.2.2.1 (outsAt0 c n (Nat.lt_of_succ_lt hn)).2.2.2.2.2.2

/-- What the point before `t` left in the carried row and in the stash. -/
abbrev prev1 (c : Dev nD) (t : Fin cfg0.N) : Vec F S8x7168 .f32 := (outsAt0 m c (t.val - 1) (Nat.lt_of_le_of_lt (Nat.sub_le _ _) t.isLt)).2.2.2.2.2.1
abbrev prev2 (c : Dev nD) (t : Fin cfg0.N) : Vec F S4x8x7168 .f32 := (outsAt0 m c (t.val - 1) (Nat.lt_of_le_of_lt (Nat.sub_le _ _) t.isLt)).2.2.2.2.2.2

theorem outsAt0_A (c : Dev nD) (t : Fin cfg0.N) (hz : t.val = 0) :
    outsAt0 m c t.val t.isLt = outsA m c t (isA t hz) := by
  obtain ⟨n, hn⟩ := t
  cases n with
  | zero => rfl
  | succ n => exact absurd hz (Nat.succ_ne_zero n)

theorem outsAt0_D (c : Dev nD) (t : Fin cfg0.N) (hz : t.val ≠ 0) (h0 : t.val % 64 = 0) :
    outsAt0 m c t.val t.isLt = outsD m c t (isD t hz h0) (prev1 m c t) (prev2 m c t) := by
  obtain ⟨n, hn⟩ := t
  cases n with
  | zero => exact absurd rfl hz
  | succ n => exact dif_pos h0

theorem outsAt0_E (c : Dev nD) (t : Fin cfg0.N) (h3 : t.val % 128 = 127) :
    outsAt0 m c t.val t.isLt = outsE m c t (isE t h3) (prev1 m c t) (prev2 m c t) := by
  obtain ⟨n, hn⟩ := t
  cases n with
  | zero => exfalso; dsimp only at h3; omega
  | succ n => exact (dif_neg (by dsimp only at h3; omega)).trans ((dif_pos (by dsimp only at h3; omega)).trans (dif_pos h3))

theorem outsAt0_C (c : Dev nD) (t : Fin cfg0.N) (h2 : t.val % 64 = 63) (h3 : ¬ t.val % 128 = 127) :
    outsAt0 m c t.val t.isLt = outsC m c t (isC t h2 h3) (prev1 m c t) (prev2 m c t) := by
  obtain ⟨n, hn⟩ := t
  cases n with
  | zero => exfalso; dsimp only at h2; omega
  | succ n => exact (dif_neg (by dsimp only at h2; omega)).trans ((dif_pos h2).trans (dif_neg h3))

theorem outsAt0_B (c : Dev nD) (t : Fin cfg0.N) (h0 : ¬ t.val % 64 = 0) (h2 : ¬ t.val % 64 = 63) :
    outsAt0 m c t.val t.isLt = outsB m c t (isB t h0 h2) (prev1 m c t) (prev2 m c t) := by
  obtain ⟨n, hn⟩ := t
  cases n with
  | zero => exact absurd (Nat.zero_mod _) h0
  | succ n => exact (dif_neg h0).trans (dif_neg h2)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ owns (c : Thread nD τ) scM0_1 fullShare ((outsAt0 m c n hn).2.2.2.2.2.1) ∗ owns (c : Thread nD τ) scM0_2 fullShare ((outsAt0 m c n hn).2.2.2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop((∃ d, owns (c : Thread nD τ) scM0_0 fullShare d) ∗ owns (c : Thread nD τ) scM0_1 fullShare ((outsAt0 m c n hn).2.2.2.2.2.1) ∗ owns (c : Thread nD τ) scM0_2 fullShare ((outsAt0 m c n hn).2.2.2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop((∃ d, owns (c : Thread nD τ) scM0_0 fullShare d) ∗ owns (c : Thread nD τ) scM0_1 fullShare ((outsAt0 m c (n - 1) (by omega)).2.2.2.2.2.1) ∗ owns (c : Thread nD τ) scM0_2 fullShare ((outsAt0 m c (n - 1) (by omega)).2.2.2.2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => (outsAt0 m c t.val t.isLt).1
    | ⟨12, _⟩ => (outsAt0 m c t.val t.isLt).2.1
    | ⟨13, _⟩ => (outsAt0 m c t.val t.isLt).2.2.1
    | ⟨14, _⟩ => (outsAt0 m c t.val t.isLt).2.2.2.1
    | ⟨15, _⟩ => (outsAt0 m c t.val t.isLt).2.2.2.2.1
    | ⟨_ + 16, h⟩ => absurd h (Nat.not_lt.2 (Nat.le_add_left _ _))
  Φ t := PhiS m c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = (outsAt0 m c t.val t.isLt).1 := by dsimp only [dats]
theorem after0_12 (c : Dev nD) (t : Fin cfg0.N) : (dats m 0 c).after 12 t = (outsAt0 m c t.val t.isLt).2.1 := by dsimp only [dats]
theorem after0_13 (c : Dev nD) (t : Fin cfg0.N) : (dats m 0 c).after 13 t = (outsAt0 m c t.val t.isLt).2.2.1 := by dsimp only [dats]
theorem after0_14 (c : Dev nD) (t : Fin cfg0.N) : (dats m 0 c).after 14 t = (outsAt0 m c t.val t.isLt).2.2.2.1 := by dsimp only [dats]
theorem after0_15 (c : Dev nD) (t : Fin cfg0.N) : (dats m 0 c).after 15 t = (outsAt0 m c t.val t.isLt).2.2.2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t)

end Cert.Gates.Gen

end
-- ==== Proof.PFrame2.lean ====
module

public import proofs.«01_k».proof.Proof.PFrame

@[expose] public section

set_option maxRecDepth 16384

noncomputable section

namespace Cert.Gates.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each window is left with -/

theorem leaves_0 (c : Dev nD) (t : Fin cfg0.N) : (dats m 0 c).leavesExact 0 t = owns (c : Thread nD τ) (ms0_0 t) fullShare (iblk m c 0 t) := by
  rw [← after0_0]

theorem leaves_1 (c : Dev nD) (t : Fin cfg0.N) : (dats m 0 c).leavesExact 1 t = owns (c : Thread nD τ) (ms0_1 t) fullShare (iblk m c 1 t) := by
  rw [← after0_1]

theorem leaves_2 (c : Dev nD) (t : Fin cfg0.N) : (dats m 0 c).leavesExact 2 t = owns (c : Thread nD τ) (ms0_2 t) fullShare (iblk m c 2 t) := by
  rw [← after0_2]

theorem leaves_3 (c : Dev nD) (t : Fin cfg0.N) : (dats m 0 c).leavesExact 3 t = owns (c : Thread nD τ) (ms0_3 t) fullShare (iblk m c 3 t) := by
  rw [← after0_3]

theorem leaves_4 (c : Dev nD) (t : Fin cfg0.N) : (dats m 0 c).leavesExact 4 t = owns (c : Thread nD τ) (ms0_4 t) fullShare (iblk m c 4 t) := by
  rw [← after0_4]

theorem leaves_5 (c : Dev nD) (t : Fin cfg0.N) : (dats m 0 c).leavesExact 5 t = owns (c : Thread nD τ) (ms0_5 t) fullShare (iblk m c 5 t) := by
  rw [← after0_5]

theorem leaves_6 (c : Dev nD) (t : Fin cfg0.N) : (dats m 0 c).leavesExact 6 t = owns (c : Thread nD τ) (ms0_6 t) fullShare (iblk m c 6 t) := by
  rw [← after0_6]

theorem leaves_7 (c : Dev nD) (t : Fin cfg0.N) : (dats m 0 c).leavesExact 7 t = owns (c : Thread nD τ) (ms0_7 t) fullShare (iblk m c 7 t) := by
  rw [← after0_7]

theorem leaves_8 (c : Dev nD) (t : Fin cfg0.N) : (dats m 0 c).leavesExact 8 t = owns (c : Thread nD τ) (ms0_8 t) fullShare (iblk m c 8 t) := by
  rw [← after0_8]

theorem leaves_9 (c : Dev nD) (t : Fin cfg0.N) : (dats m 0 c).leavesExact 9 t = owns (c : Thread nD τ) (ms0_9 t) fullShare (iblk m c 9 t) := by
  rw [← after0_9]

theorem leaves_10 (c : Dev nD) (t : Fin cfg0.N) : (dats m 0 c).leavesExact 10 t = owns (c : Thread nD τ) (ms0_10 t) fullShare (iblk m c 10 t) := by
  rw [← after0_10]

theorem leaves_11 (c : Dev nD) (t : Fin cfg0.N) : (dats m 0 c).leavesExact 11 t = owns (c : Thread nD τ) (ms0_11 t) fullShare ((outsAt0 m c t.val t.isLt).1) := by
  rw [← after0_11]

theorem leaves_12 (c : Dev nD) (t : Fin cfg0.N) : (dats m 0 c).leavesExact 12 t = owns (c : Thread nD τ) (ms0_12 t) fullShare ((outsAt0 m c t.val t.isLt).2.1) := by
  rw [← after0_12]

theorem leaves_13 (c : Dev nD) (t : Fin cfg0.N) : (dats m 0 c).leavesExact 13 t = owns (c : Thread nD τ) (ms0_13 t) fullShare ((outsAt0 m c t.val t.isLt).2.2.1) := by
  rw [← after0_13]

theorem leaves_14_A (c : Dev nD) (t : Fin cfg0.N) (h : conds0_A (grid0.coords t)) : (dats m 0 c).leavesExact 14 t = iprop(∃ d, owns (c : Thread nD τ) (ms0_14 t) fullShare ((dats m 0 c).before 14 t d)) :=
  Dat.leavesExact_idle (dats m 0 c) 14 t (idleAt0_14_A t h.1 h.2.1 h.2.2.1 h.2.2.2) (noFlush0_14_A t h.1 h.2.1 h.2.2.1 h.2.2.2)

theorem leaves_15_A (c : Dev nD) (t : Fin cfg0.N) (h : conds0_A (grid0.coords t)) : (dats m 0 c).leavesExact 15 t = iprop(∃ d, owns (c : Thread nD τ) (ms0_15 t) fullShare ((dats m 0 c).before 15 t d)) :=
  Dat.leavesExact_idle (dats m 0 c) 15 t (idleAt0_15_A t h.1 h.2.1 h.2.2.1 h.2.2.2) (noFlush0_15_A t h.1 h.2.1 h.2.2.1 h.2.2.2)

theorem leaves_14_B (c : Dev nD) (t : Fin cfg0.N) (h : conds0_B (grid0.coords t)) : (dats m 0 c).leavesExact 14 t = iprop(∃ d, owns (c : Thread nD τ) (ms0_14 t) fullShare ((dats m 0 c).before 14 t d)) :=
  Dat.leavesExact_idle (dats m 0 c) 14 t (idleAt0_14_B t h.1 h.2.1 h.2.2.1 h.2.2.2) (noFlush0_14_B t h.1 h.2.1 h.2.2.1 h.2.2.2)

theorem leaves_15_B (c : Dev nD) (t : Fin cfg0.N) (h : conds0_B (grid0.coords t)) : (dats m 0 c).leavesExact 15 t = iprop(∃ d, owns (c : Thread nD τ) (ms0_15 t) fullShare ((dats m 0 c).before 15 t d)) :=
  Dat.leavesExact_idle (dats m 0 c) 15 t (idleAt0_15_B t h.1 h.2.1 h.2.2.1 h.2.2.2) (noFlush0_15_B t h.1 h.2.1 h.2.2.1 h.2.2.2)

theorem leaves_14_C (c : Dev nD) (t : Fin cfg0.N) (h : conds0_C (grid0.coords t)) : (dats m 0 c).leavesExact 14 t = owns (c : Thread nD τ) (ms0_14 t) fullShare ((outsAt0 m c t.val t.isLt).2.2.2.1) := by
  rw [← after0_14]; unfold Dat.leavesExact; rw [liveAt0_14_C t h.1 h.2.1 h.2.2.1 h.2.2.2]

theorem leaves_15_C (c : Dev nD) (t : Fin cfg0.N) (h : conds0_C (grid0.coords t)) : (dats m 0 c).leavesExact 15 t = iprop(∃ d, owns (c : Thread nD τ) (ms0_15 t) fullShare ((dats m 0 c).before 15 t d)) :=
  Dat.leavesExact_idle (dats m 0 c) 15 t (idleAt0_15_C t h.1 h.2.1 h.2.2.1 h.2.2.2) (noFlush0_15_C t h.1 h.2.1 h.2.2.1 h.2.2.2)

theorem leaves_14_D (c : Dev nD) (t : Fin cfg0.N) (h : conds0_D (grid0.coords t)) : (dats m 0 c).leavesExact 14 t = iprop(∃ d, owns (c : Thread nD τ) (ms0_14 t) fullShare ((dats m 0 c).before 14 t d)) :=
  Dat.leavesExact_idle (dats m 0 c) 14 t (idleAt0_14_D t h.1 h.2.1 h.2.2.1 h.2.2.2) (noFlush0_14_D t h.1 h.2.1 h.2.2.1 h.2.2.2)

theorem leaves_15_D (c : Dev nD) (t : Fin cfg0.N) (h : conds0_D (grid0.coords t)) : (dats m 0 c).leavesExact 15 t = iprop(∃ d, owns (c : Thread nD τ) (ms0_15 t) fullShare ((dats m 0 c).before 15 t d)) :=
  Dat.leavesExact_idle (dats m 0 c) 15 t (idleAt0_15_D t h.1 h.2.1 h.2.2.1 h.2.2.2) (noFlush0_15_D t h.1 h.2.1 h.2.2.1 h.2.2.2)

theorem leaves_14_E (c : Dev nD) (t : Fin cfg0.N) (h : conds0_E (grid0.coords t)) : (dats m 0 c).leavesExact 14 t = owns (c : Thread nD τ) (ms0_14 t) fullShare ((outsAt0 m c t.val t.isLt).2.2.2.1) := by
  rw [← after0_14]; unfold Dat.leavesExact; rw [liveAt0_14_E t h.1 h.2.1 h.2.2.1 h.2.2.2]

theorem leaves_15_E (c : Dev nD) (t : Fin cfg0.N) (h : conds0_E (grid0.coords t)) : (dats m 0 c).leavesExact 15 t = owns (c : Thread nD τ) (ms0_15 t) fullShare ((outsAt0 m c t.val t.isLt).2.2.2.2.1) := by
  rw [← after0_15]; unfold Dat.leavesExact; rw [liveAt0_15_E t h.1 h.2.1 h.2.2.1 h.2.2.2]

set_option maxHeartbeats 32000000 in
/-- The body at a point of case A: the inputs' memrefs hold their blocks, the scratch what the point before left; the run applies,
    and its pieces, read back, are what the outputs and the scratch are said to hold. -/
theorem sound_A (c : Dev nD) (t : Fin cfg0.N) (hz : t.val = 0) :
    bodyPre m c t ⊢ wp frame (wpE (defs₀ (F := F)) Variants.none c none) Set.univ (bodyAt0 t) (fun _ => bodyPost m c t) := by
  have h : conds0_A (grid0.coords t) := isA t hz
  unfold bodyPre bodyPost bodyAt0
  simp only [before0_0, before0_1, before0_2, before0_3, before0_4, before0_5, before0_6, before0_7, before0_8, before0_9, before0_10]
  rw [show (dats m 0 c).owesAt () t.succ = (dats m 0 c).owesAt () t.castSucc from rfl]
  rw [show (dats m 0 c).Φ t.succ = PhiS m c (t.val + 1) t.isLt from rfl, PhiS_succ]
  rw [leaves_0, leaves_1, leaves_2, leaves_3, leaves_4, leaves_5, leaves_6, leaves_7, leaves_8, leaves_9, leaves_10, leaves_11, leaves_12, leaves_13, leaves_14_A m c t h, leaves_15_A m c t h]
  rw [PhiS_castSucc m c t, PhiS_zero m c _ _ hz, PhiA0_eq]
  rw [outsAt0_A m c t hz]
  unfold outsA; dsimp only
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply ((runA m c t h).2.2.2.2.2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [H14]; · iexact H14
  isplitl [H15]; · iexact H15
  isplitl [HS0]; · iexact HS0
  isplitl [HS1]; · iexact HS1
  isplitl [HS2]; · iexact HS2
  iintro ⟨H0, H1, H2, H3, H4, H5, H6, H7, H8, H9, H10, ⟨%e11, H11⟩, ⟨%e12, H12⟩, ⟨%e13, H13⟩, H14, H15, HS0, ⟨%es1, HS1⟩, ⟨%es2, HS2⟩⟩
  isplitl [HS0 HS1 HS2 Hg]
  · isplitl [HS0 HS1 HS2]
    · isplitl [HS0]
      · iexact HS0
      isplitl [HS1]
      · unfold owns; iexists _; isplitr
        swap; · iexact HS1
        ipureintro; exact View.read_writes_of_cover _ _ _ _ _ (covA_s1 m c t h)
      unfold owns; iexists _; isplitr
      swap; · iexact HS2
      ipureintro; exact View.read_writes_of_cover _ _ _ _ _ (covA_s2 m c t h)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · unfold owns; iexists _; isplitr
    swap; · iexact H11
    ipureintro; exact View.read_writes_of_cover _ _ _ _ _ (covA_11 m c t h)
  isplitl [H12]
  · unfold owns; iexists _; isplitr
    swap; · iexact H12
    ipureintro; exact View.read_writes_of_cover _ _ _ _ _ (covA_12 m c t h)
  isplitl [H13]
  · unfold owns; iexists _; isplitr
    swap; · iexact H13
    ipureintro; exact View.read_writes_of_cover _ _ _ _ _ (covA_13 m c t h)
  isplitl [H14]; · iexists _; iexact H14
  iexists _; iexact H15

set_option maxHeartbeats 32000000 in
/-- The body at a point of case D: the inputs' memrefs hold their blocks, the scratch what the point before left; the run applies,
    and its pieces, read back, are what the outputs and the scratch are said to hold. -/
theorem sound_D (c : Dev nD) (t : Fin cfg0.N) (hz : t.val ≠ 0) (h0 : t.val % 64 = 0) :
    bodyPre m c t ⊢ wp frame (wpE (defs₀ (F := F)) Variants.none c none) Set.univ (bodyAt0 t) (fun _ => bodyPost m c t) := by
  have h : conds0_D (grid0.coords t) := isD t hz h0
  unfold bodyPre bodyPost bodyAt0
  simp only [before0_0, before0_1, before0_2, before0_3, before0_4, before0_5, before0_6, before0_7, before0_8, before0_9, before0_10]
  rw [show (dats m 0 c).owesAt () t.succ = (dats m 0 c).owesAt () t.castSucc from rfl]
  rw [show (dats m 0 c).Φ t.succ = PhiS m c (t.val + 1) t.isLt from rfl, PhiS_succ]
  rw [leaves_0, leaves_1, leaves_2, leaves_3, leaves_4, leaves_5, leaves_6, leaves_7, leaves_8, leaves_9, leaves_10, leaves_11, leaves_12, leaves_13, leaves_14_D m c t h, leaves_15_D m c t h]
  rw [PhiS_castSucc m c t, PhiS_pos m c _ _ hz]
  rw [outsAt0_D m c t hz h0]
  unfold outsD; dsimp only
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply ((runD m c t h (prev1 m c t) (prev2 m c t)).2.2.2.2.2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [H14]; · iexact H14
  isplitl [H15]; · iexact H15
  isplitl [HS0]; · iexact HS0
  isplitl [HS1]; · iexists _; iexact HS1
  isplitl [HS2]; · iexact HS2
  iintro ⟨H0, H1, H2, H3, H4, H5, H6, H7, H8, H9, H10, ⟨%e11, H11⟩, ⟨%e12, H12⟩, ⟨%e13, H13⟩, H14, H15, HS0, ⟨%es1, HS1⟩, ⟨%es2, HS2⟩⟩
  isplitl [HS0 HS1 HS2 Hg]
  · isplitl [HS0 HS1 HS2]
    · isplitl [HS0]
      · iexact HS0
      isplitl [HS1]
      · unfold owns; iexists _; isplitr
        swap; · iexact HS1
        ipureintro; exact View.read_writes_of_cover _ _ _ _ _ (covD_s1 m c t h (prev1 m c t) (prev2 m c t))
      unfold owns; iexists _; isplitr
      swap; · iexact HS2
      ipureintro; exact View.read_writes_of_cover _ _ _ _ _ (covD_s2 m c t h (prev1 m c t) (prev2 m c t))
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · unfold owns; iexists _; isplitr
    swap; · iexact H11
    ipureintro; exact View.read_writes_of_cover _ _ _ _ _ (covD_11 m c t h (prev1 m c t) (prev2 m c t))
  isplitl [H12]
  · unfold owns; iexists _; isplitr
    swap; · iexact H12
    ipureintro; exact View.read_writes_of_cover _ _ _ _ _ (covD_12 m c t h (prev1 m c t) (prev2 m c t))
  isplitl [H13]
  · unfold owns; iexists _; isplitr
    swap; · iexact H13
    ipureintro; exact View.read_writes_of_cover _ _ _ _ _ (covD_13 m c t h (prev1 m c t) (prev2 m c t))
  isplitl [H14]; · iexists _; iexact H14
  iexists _; iexact H15

set_option maxHeartbeats 32000000 in
/-- The body at a point of case E: the inputs' memrefs hold their blocks, the scratch what the point before left; the run applies,
    and its pieces, read back, are what the outputs and the scratch are said to hold. -/
theorem sound_E (c : Dev nD) (t : Fin cfg0.N) (h3 : t.val % 128 = 127) :
    bodyPre m c t ⊢ wp frame (wpE (defs₀ (F := F)) Variants.none c none) Set.univ (bodyAt0 t) (fun _ => bodyPost m c t) := by
  have h : conds0_E (grid0.coords t) := isE t h3
  unfold bodyPre bodyPost bodyAt0
  simp only [before0_0, before0_1, before0_2, before0_3, before0_4, before0_5, before0_6, before0_7, before0_8, before0_9, before0_10]
  rw [show (dats m 0 c).owesAt () t.succ = (dats m 0 c).owesAt () t.castSucc from rfl]
  rw [show (dats m 0 c).Φ t.succ = PhiS m c (t.val + 1) t.isLt from rfl, PhiS_succ]
  rw [leaves_0, leaves_1, leaves_2, leaves_3, leaves_4, leaves_5, leaves_6, leaves_7, leaves_8, leaves_9, leaves_10, leaves_11, leaves_12, leaves_13, leaves_14_E m c t h, leaves_15_E m c t h]
  rw [PhiS_castSucc m c t, PhiS_pos m c _ _ (by omega)]
  rw [outsAt0_E m c t h3]
  unfold outsE; dsimp only
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply ((runE m c t h (prev1 m c t) (prev2 m c t)).2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [H14]; · iexists _; iexact H14
  isplitl [H15]; · iexists _; iexact H15
  isplitl [HS0]; · iexact HS0
  isplitl [HS1]; · iexact HS1
  isplitl [HS2]; · iexact HS2
  iintro ⟨H0, H1, H2, H3, H4, H5, H6, H7, H8, H9, H10, ⟨%e11, H11⟩, ⟨%e12, H12⟩, ⟨%e13, H13⟩, ⟨%e14, H14⟩, ⟨%e15, H15⟩, HS0, ⟨%es1, HS1⟩, ⟨%es2, HS2⟩⟩
  isplitl [HS0 HS1 HS2 Hg]
  · isplitl [HS0 HS1 HS2]
    · isplitl [HS0]
      · iexact HS0
      isplitl [HS1]
      · unfold owns; iexists _; isplitr
        swap; · iexact HS1
        ipureintro; exact View.read_writes_of_cover _ _ _ _ _ (covE_s1 m c t h (prev1 m c t) (prev2 m c t))
      unfold owns; iexists _; isplitr
      swap; · iexact HS2
      ipureintro; exact View.read_writes_of_cover _ _ _ _ _ (covE_s2 m c t h (prev1 m c t) (prev2 m c t))
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · unfold owns; iexists _; isplitr
    swap; · iexact H11
    ipureintro; exact View.read_writes_of_cover _ _ _ _ _ (covE_11 m c t h (prev1 m c t) (prev2 m c t))
  isplitl [H12]
  · unfold owns; iexists _; isplitr
    swap; · iexact H12
    ipureintro; exact View.read_writes_of_cover _ _ _ _ _ (covE_12 m c t h (prev1 m c t) (prev2 m c t))
  isplitl [H13]
  · unfold owns; iexists _; isplitr
    swap; · iexact H13
    ipureintro; exact View.read_writes_of_cover _ _ _ _ _ (covE_13 m c t h (prev1 m c t) (prev2 m c t))
  isplitl [H14]
  · unfold owns; iexists _; isplitr
    swap; · iexact H14
    ipureintro; exact View.read_writes_of_cover _ _ _ _ _ (covE_14 m c t h (prev1 m c t) (prev2 m c t))
  unfold owns; iexists _; isplitr
  swap; · iexact H15
  ipureintro; exact View.read_writes_of_cover _ _ _ _ _ (covE_15 m c t h (prev1 m c t) (prev2 m c t))

set_option maxHeartbeats 32000000 in
/-- The body at a point of case C: the inputs' memrefs hold their blocks, the scratch what the point before left; the run applies,
    and its pieces, read back, are what the outputs and the scratch are said to hold. -/
theorem sound_C (c : Dev nD) (t : Fin cfg0.N) (h2 : t.val % 64 = 63) (h3 : ¬ t.val % 128 = 127) :
    bodyPre m c t ⊢ wp frame (wpE (defs₀ (F := F)) Variants.none c none) Set.univ (bodyAt0 t) (fun _ => bodyPost m c t) := by
  have h : conds0_C (grid0.coords t) := isC t h2 h3
  unfold bodyPre bodyPost bodyAt0
  simp only [before0_0, before0_1, before0_2, before0_3, before0_4, before0_5, before0_6, before0_7, before0_8, before0_9, before0_10]
  rw [show (dats m 0 c).owesAt () t.succ = (dats m 0 c).owesAt () t.castSucc from rfl]
  rw [show (dats m 0 c).Φ t.succ = PhiS m c (t.val + 1) t.isLt from rfl, PhiS_succ]
  rw [leaves_0, leaves_1, leaves_2, leaves_3, leaves_4, leaves_5, leaves_6, leaves_7, leaves_8, leaves_9, leaves_10, leaves_11, leaves_12, leaves_13, leaves_14_C m c t h, leaves_15_C m c t h]
  rw [PhiS_castSucc m c t, PhiS_pos m c _ _ (by omega)]
  rw [outsAt0_C m c t h2 h3]
  unfold outsC; dsimp only
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply ((runC m c t h (prev1 m c t) (prev2 m c t)).2.2.2.2.2.2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [H14]; · iexists _; iexact H14
  isplitl [H15]; · iexact H15
  isplitl [HS0]; · iexact HS0
  isplitl [HS1]; · iexact HS1
  isplitl [HS2]; · iexact HS2
  iintro ⟨H0, H1, H2, H3, H4, H5, H6, H7, H8, H9, H10, ⟨%e11, H11⟩, ⟨%e12, H12⟩, ⟨%e13, H13⟩, ⟨%e14, H14⟩, H15, HS0, ⟨%es1, HS1⟩, ⟨%es2, HS2⟩⟩
  isplitl [HS0 HS1 HS2 Hg]
  · isplitl [HS0 HS1 HS2]
    · isplitl [HS0]
      · iexact HS0
      isplitl [HS1]
      · unfold owns; iexists _; isplitr
        swap; · iexact HS1
        ipureintro; exact View.read_writes_of_cover _ _ _ _ _ (covC_s1 m c t h (prev1 m c t) (prev2 m c t))
      unfold owns; iexists _; isplitr
      swap; · iexact HS2
      ipureintro; exact View.read_writes_of_cover _ _ _ _ _ (covC_s2 m c t h (prev1 m c t) (prev2 m c t))
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · unfold owns; iexists _; isplitr
    swap; · iexact H11
    ipureintro; exact View.read_writes_of_cover _ _ _ _ _ (covC_11 m c t h (prev1 m c t) (prev2 m c t))
  isplitl [H12]
  · unfold owns; iexists _; isplitr
    swap; · iexact H12
    ipureintro; exact View.read_writes_of_cover _ _ _ _ _ (covC_12 m c t h (prev1 m c t) (prev2 m c t))
  isplitl [H13]
  · unfold owns; iexists _; isplitr
    swap; · iexact H13
    ipureintro; exact View.read_writes_of_cover _ _ _ _ _ (covC_13 m c t h (prev1 m c t) (prev2 m c t))
  isplitl [H14]
  · unfold owns; iexists _; isplitr
    swap; · iexact H14
    ipureintro; exact View.read_writes_of_cover _ _ _ _ _ (covC_14 m c t h (prev1 m c t) (prev2 m c t))
  iexists _; iexact H15

set_option maxHeartbeats 32000000 in
/-- The body at a point of case B: the inputs' memrefs hold their blocks, the scratch what the point before left; the run applies,
    and its pieces, read back, are what the outputs and the scratch are said to hold. -/
theorem sound_B (c : Dev nD) (t : Fin cfg0.N) (h0 : ¬ t.val % 64 = 0) (h2 : ¬ t.val % 64 = 63) :
    bodyPre m c t ⊢ wp frame (wpE (defs₀ (F := F)) Variants.none c none) Set.univ (bodyAt0 t) (fun _ => bodyPost m c t) := by
  have h : conds0_B (grid0.coords t) := isB t h0 h2
  unfold bodyPre bodyPost bodyAt0
  simp only [before0_0, before0_1, before0_2, before0_3, before0_4, before0_5, before0_6, before0_7, before0_8, before0_9, before0_10]
  rw [show (dats m 0 c).owesAt () t.succ = (dats m 0 c).owesAt () t.castSucc from rfl]
  rw [show (dats m 0 c).Φ t.succ = PhiS m c (t.val + 1) t.isLt from rfl, PhiS_succ]
  rw [leaves_0, leaves_1, leaves_2, leaves_3, leaves_4, leaves_5, leaves_6, leaves_7, leaves_8, leaves_9, leaves_10, leaves_11, leaves_12, leaves_13, leaves_14_B m c t h, leaves_15_B m c t h]
  rw [PhiS_castSucc m c t, PhiS_pos m c _ _ (by omega)]
  rw [outsAt0_B m c t h0 h2]
  unfold outsB; dsimp only
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply ((runB m c t h (prev1 m c t) (prev2 m c t)).2.2.2.2.2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [H14]; · iexact H14
  isplitl [H15]; · iexact H15
  isplitl [HS0]; · iexact HS0
  isplitl [HS1]; · iexact HS1
  isplitl [HS2]; · iexact HS2
  iintro ⟨H0, H1, H2, H3, H4, H5, H6, H7, H8, H9, H10, ⟨%e11, H11⟩, ⟨%e12, H12⟩, ⟨%e13, H13⟩, H14, H15, HS0, ⟨%es1, HS1⟩, ⟨%es2, HS2⟩⟩
  isplitl [HS0 HS1 HS2 Hg]
  · isplitl [HS0 HS1 HS2]
    · isplitl [HS0]
      · iexact HS0
      isplitl [HS1]
      · unfold owns; iexists _; isplitr
        swap; · iexact HS1
        ipureintro; exact View.read_writes_of_cover _ _ _ _ _ (covB_s1 m c t h (prev1 m c t) (prev2 m c t))
      unfold owns; iexists _; isplitr
      swap; · iexact HS2
      ipureintro; exact View.read_writes_of_cover _ _ _ _ _ (covB_s2 m c t h (prev1 m c t) (prev2 m c t))
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · unfold owns; iexists _; isplitr
    swap; · iexact H11
    ipureintro; exact View.read_writes_of_cover _ _ _ _ _ (covB_11 m c t h (prev1 m c t) (prev2 m c t))
  isplitl [H12]
  · unfold owns; iexists _; isplitr
    swap; · iexact H12
    ipureintro; exact View.read_writes_of_cover _ _ _ _ _ (covB_12 m c t h (prev1 m c t) (prev2 m c t))
  isplitl [H13]
  · unfold owns; iexists _; isplitr
    swap; · iexact H13
    ipureintro; exact View.read_writes_of_cover _ _ _ _ _ (covB_13 m c t h (prev1 m c t) (prev2 m c t))
  isplitl [H14]; · iexists _; iexact H14
  iexists _; iexact H15

/-- The body at any point: the closed forms say which case the point is in. -/
theorem sound_body (c : Dev nD) (t : Fin cfg0.N) :
    bodyPre m c t ⊢ wp frame (wpE (defs₀ (F := F)) Variants.none c none) Set.univ (bodyAt0 t) (fun _ => bodyPost m c t) := by
  by_cases hz : t.val = 0
  · exact sound_A m c t hz
  by_cases h0 : t.val % 64 = 0
  · exact sound_D m c t hz h0
  by_cases h2 : t.val % 64 = 63
  · by_cases h3 : t.val % 128 = 127
    · exact sound_E m c t h3
    · exact sound_C m c t h2 h3
  · exact sound_B m c t h0 h2

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexact HS0
    isplitl [HS1]
    · iexists _; iexact HS1
    iexists _; iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 128 := N_0; omega)

/-! ## The run and the frame -/

-- `θ_run_frame_track_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

/-- The frame of the program: it runs to the end without a fault, its arguments end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

end Cert.Gates.Gen

end
-- ==== Proof.GInd.lean ====
module

public import proofs.«01_k».proof.Proof.Gen.GatesIdeal.Frame.Runs

@[expose] public section

set_option maxRecDepth 16384

noncomputable section

namespace Cert.GatesIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section
variable (𝒱 : Variants) (c : Dev nD) (bd : Option 𝒱.V) (i : grid0.Coords) (arg2 : Memref sig .tc .vmem S1x64x7168 .bf16) (harg2 : arg2.IsWhole) (arg3 : Memref sig .tc .vmem S1x64x7168 .bf16) (harg3 : arg3.IsWhole) (arg4 : Memref sig .tc .vmem S1x64x7168 .bf16) (harg4 : arg4.IsWhole) (arg5 : Memref sig .tc .vmem S1x64x7168 .bf16) (harg5 : arg5.IsWhole) (arg6 : Memref sig .tc .vmem S1x64x7168 .f32) (harg6 : arg6.IsWhole) (arg7 : Memref sig .tc .vmem S1x8x7168 .f32) (harg7 : arg7.IsWhole) (arg8 : Memref sig .tc .vmem S1x1x7168 .f32) (harg8 : arg8.IsWhole) (arg9 : Memref sig .tc .vmem S1x64x7168 .fp8e5m2) (harg9 : arg9.IsWhole) (arg10 : Memref sig .tc .vmem S1x64x1 .f32) (harg10 : arg10.IsWhole) (arg11 : Memref sig .tc .vmem S4x7168 .f32) (harg11 : arg11.IsWhole) (arg12 : Memref sig .tc .vmem S1x1x7168 .f32) (harg12 : arg12.IsWhole) (arg13 : Memref sig .tc .vmem S1x64x21504 .fp8e5m2) (harg13 : arg13.IsWhole) (arg14 : Memref sig .tc .vmem S1x64x3 .f32) (harg14 : arg14.IsWhole) (arg15 : Memref sig .tc .vmem S1x64x7168 .f32) (harg15 : arg15.IsWhole) (arg16 : Memref sig .tc .vmem S1x1x7168 .f32) (harg16 : arg16.IsWhole) (arg17 : Memref sig .tc .vmem S4x7168 .f32) (harg17 : arg17.IsWhole) (arg18 : Memref sig .tc .vmem S3x64x7168 .f32) (harg18 : arg18.IsWhole) (arg19 : Memref sig .tc .vmem S8x7168 .f32) (harg19 : arg19.IsWhole) (arg20 : Memref sig .tc .vmem S4x8x7168 .f32) (harg20 : arg20.IsWhole) (v0 : IVec S8x256 32) (v9 : Vec F S1x64x1 .f32) (v13 : BitVec 1) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg11 : BufTy.Contents (Elt F) arg11.view.ty)

/-- A trip's yield and pieces do not depend on what the highway block and the stash held before the loop. -/
theorem trip_indep (k : Fin k0_t1_loop.trips) (acc : FVec F S64x128 .f32 × FVec F S64x128 .f32 × FVec F S64x128 .f32) (f15 : BufTy.Contents (Elt F) arg15.view.ty) (f18 : BufTy.Contents (Elt F) arg18.view.ty) (f19 : BufTy.Contents (Elt F) arg19.view.ty) (f20 : BufTy.Contents (Elt F) arg20.view.ty) (g15 : BufTy.Contents (Elt F) arg15.view.ty) (g18 : BufTy.Contents (Elt F) arg18.view.ty) :
    ((trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v9 v13 X_arg2 X_arg3 X_arg4 X_arg5 X_arg6 X_arg7 X_arg8 X_arg9 X_arg11 k).1 acc f15 f18 f19 f20, (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v9 v13 X_arg2 X_arg3 X_arg4 X_arg5 X_arg6 X_arg7 X_arg8 X_arg9 X_arg11 k).2.1 acc f15 f18 f19 f20, (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v9 v13 X_arg2 X_arg3 X_arg4 X_arg5 X_arg6 X_arg7 X_arg8 X_arg9 X_arg11 k).2.2.1 acc f15 f18 f19 f20, (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v9 v13 X_arg2 X_arg3 X_arg4 X_arg5 X_arg6 X_arg7 X_arg8 X_arg9 X_arg11 k).2.2.2.1 acc f15 f18 f19 f20, (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v9 v13 X_arg2 X_arg3 X_arg4 X_arg5 X_arg6 X_arg7 X_arg8 X_arg9 X_arg11 k).2.2.2.2.1 acc f15 f18 f19 f20)
      = ((trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v9 v13 X_arg2 X_arg3 X_arg4 X_arg5 X_arg6 X_arg7 X_arg8 X_arg9 X_arg11 k).1 acc g15 g18 f19 f20, (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v9 v13 X_arg2 X_arg3 X_arg4 X_arg5 X_arg6 X_arg7 X_arg8 X_arg9 X_arg11 k).2.1 acc g15 g18 f19 f20, (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v9 v13 X_arg2 X_arg3 X_arg4 X_arg5 X_arg6 X_arg7 X_arg8 X_arg9 X_arg11 k).2.2.1 acc g15 g18 f19 f20, (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v9 v13 X_arg2 X_arg3 X_arg4 X_arg5 X_arg6 X_arg7 X_arg8 X_arg9 X_arg11 k).2.2.2.1 acc g15 g18 f19 f20, (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v9 v13 X_arg2 X_arg3 X_arg4 X_arg5 X_arg6 X_arg7 X_arg8 X_arg9 X_arg11 k).2.2.2.2.1 acc g15 g18 f19 f20) := by
  unfold trip_k0_t1
  rfl

/-- Nor does the loop's state before any trip. -/
theorem st_indep (G15 : BufTy.Contents (Elt F) arg15.view.ty) (G18 : BufTy.Contents (Elt F) arg18.view.ty) (G19 : BufTy.Contents (Elt F) arg19.view.ty) (G20 : BufTy.Contents (Elt F) arg20.view.ty) (H15 : BufTy.Contents (Elt F) arg15.view.ty) (H18 : BufTy.Contents (Elt F) arg18.view.ty) (init : FVec F S64x128 .f32 × FVec F S64x128 .f32 × FVec F S64x128 .f32) (k : ℕ) (hk : k ≤ k0_t1_loop.trips) :
    st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v9 v13 X_arg2 X_arg3 X_arg4 X_arg5 X_arg6 X_arg7 X_arg8 X_arg9 X_arg11 G15 G18 G19 G20 init k = st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v9 v13 X_arg2 X_arg3 X_arg4 X_arg5 X_arg6 X_arg7 X_arg8 X_arg9 X_arg11 H15 H18 G19 G20 init k := by
  induction k with
  | zero => rfl
  | succ k ih =>
    have e := ih (Nat.le_of_succ_le hk)
    rw [st_k0_t1_succ 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v9 v13 X_arg2 X_arg3 X_arg4 X_arg5 X_arg6 X_arg7 X_arg8 X_arg9 X_arg11 G15 G18 G19 G20 init ⟨k, hk⟩,
      st_k0_t1_succ 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v9 v13 X_arg2 X_arg3 X_arg4 X_arg5 X_arg6 X_arg7 X_arg8 X_arg9 X_arg11 H15 H18 G19 G20 init ⟨k, hk⟩]
    dsimp only
    rw [e]
    have h := trip_indep 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v9 v13 X_arg2 X_arg3 X_arg4 X_arg5 X_arg6 X_arg7 X_arg8 X_arg9 X_arg11 ⟨k, hk⟩ (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v9 v13 X_arg2 X_arg3 X_arg4 X_arg5 X_arg6 X_arg7 X_arg8 X_arg9 X_arg11 H15 H18 G19 G20 init k).1
      (arg15.view.writes (Elt F) G15 (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v9 v13 X_arg2 X_arg3 X_arg4 X_arg5 X_arg6 X_arg7 X_arg8 X_arg9 X_arg11 H15 H18 G19 G20 init k).2.1) (arg18.view.writes (Elt F) G18 (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v9 v13 X_arg2 X_arg3 X_arg4 X_arg5 X_arg6 X_arg7 X_arg8 X_arg9 X_arg11 H15 H18 G19 G20 init k).2.2.1)
      (arg19.view.writes (Elt F) G19 (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v9 v13 X_arg2 X_arg3 X_arg4 X_arg5 X_arg6 X_arg7 X_arg8 X_arg9 X_arg11 H15 H18 G19 G20 init k).2.2.2.1) (arg20.view.writes (Elt F) G20 (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v9 v13 X_arg2 X_arg3 X_arg4 X_arg5 X_arg6 X_arg7 X_arg8 X_arg9 X_arg11 H15 H18 G19 G20 init k).2.2.2.2)
      (arg15.view.writes (Elt F) H15 (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v9 v13 X_arg2 X_arg3 X_arg4 X_arg5 X_arg6 X_arg7 X_arg8 X_arg9 X_arg11 H15 H18 G19 G20 init k).2.1) (arg18.view.writes (Elt F) H18 (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v9 v13 X_arg2 X_arg3 X_arg4 X_arg5 X_arg6 X_arg7 X_arg8 X_arg9 X_arg11 H15 H18 G19 G20 init k).2.2.1)
    exact congrArg (fun q => (q.1, q.2.1 ++ (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v9 v13 X_arg2 X_arg3 X_arg4 X_arg5 X_arg6 X_arg7 X_arg8 X_arg9 X_arg11 H15 H18 G19 G20 init k).2.1, q.2.2.1 ++ (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v9 v13 X_arg2 X_arg3 X_arg4 X_arg5 X_arg6 X_arg7 X_arg8 X_arg9 X_arg11 H15 H18 G19 G20 init k).2.2.1, q.2.2.2.1 ++ (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v9 v13 X_arg2 X_arg3 X_arg4 X_arg5 X_arg6 X_arg7 X_arg8 X_arg9 X_arg11 H15 H18 G19 G20 init k).2.2.2.1, q.2.2.2.2 ++ (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v9 v13 X_arg2 X_arg3 X_arg4 X_arg5 X_arg6 X_arg7 X_arg8 X_arg9 X_arg11 H15 H18 G19 G20 init k).2.2.2.2)) h

/-- After the loop the stash is covered: what it held before is gone. -/
theorem stash_eq (G18 : BufTy.Contents (Elt F) arg18.view.ty) (G19 : BufTy.Contents (Elt F) arg19.view.ty) (G20 : BufTy.Contents (Elt F) arg20.view.ty) (H15 : BufTy.Contents (Elt F) arg15.view.ty) (H18 : BufTy.Contents (Elt F) arg18.view.ty) (init : FVec F S64x128 .f32 × FVec F S64x128 .f32 × FVec F S64x128 .f32) :
    arg18.view.writes (Elt F) G18 (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v9 v13 X_arg2 X_arg3 X_arg4 X_arg5 X_arg6 X_arg7 X_arg8 X_arg9 X_arg11 H15 H18 G19 G20 init (Scf.trips k0_t1_loop.lb k0_t1_loop.ub k0_t1_loop.st)).2.2.1
      = arg18.view.writes (Elt F) arg18.view.junk (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v9 v13 X_arg2 X_arg3 X_arg4 X_arg5 X_arg6 X_arg7 X_arg8 X_arg9 X_arg11 H15 H18 G19 G20 init (Scf.trips k0_t1_loop.lb k0_t1_loop.ub k0_t1_loop.st)).2.2.1 :=
  (harg18.eq_unread (View.read_writes_of_cover _ _ _ _ _ (View.cover_of_tiledL _ S1x8x256.size (by sl_kernel_rfl)))).trans
    (harg18.eq_unread rfl).symm
end

end Cert.GatesIdeal.Gen

end
-- ==== Proof.GRunA.lean ====
module

public import proofs.«01_k».proof.Proof.GInd

@[expose] public section

set_option maxRecDepth 16384

noncomputable section

namespace Cert.GatesIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The whole body at a point of case A: the pieces each buffer ends with, and the run that leaves them. -/
noncomputable def kernelRun0_A (c : Dev nD) (i : grid0.Coords) (arg2 : Memref sig .tc .vmem S1x64x7168 .bf16) (harg2 : arg2.IsWhole) (arg3 : Memref sig .tc .vmem S1x64x7168 .bf16) (harg3 : arg3.IsWhole) (arg4 : Memref sig .tc .vmem S1x64x7168 .bf16) (harg4 : arg4.IsWhole) (arg5 : Memref sig .tc .vmem S1x64x7168 .bf16) (harg5 : arg5.IsWhole) (arg6 : Memref sig .tc .vmem S1x64x7168 .f32) (harg6 : arg6.IsWhole) (arg7 : Memref sig .tc .vmem S1x8x7168 .f32) (harg7 : arg7.IsWhole) (arg8 : Memref sig .tc .vmem S1x1x7168 .f32) (harg8 : arg8.IsWhole) (arg9 : Memref sig .tc .vmem S1x64x7168 .fp8e5m2) (harg9 : arg9.IsWhole) (arg10 : Memref sig .tc .vmem S1x64x1 .f32) (harg10 : arg10.IsWhole) (arg11 : Memref sig .tc .vmem S4x7168 .f32) (harg11 : arg11.IsWhole) (arg12 : Memref sig .tc .vmem S1x1x7168 .f32) (harg12 : arg12.IsWhole) (arg13 : Memref sig .tc .vmem S1x64x21504 .fp8e5m2) (harg13 : arg13.IsWhole) (arg14 : Memref sig .tc .vmem S1x64x3 .f32) (harg14 : arg14.IsWhole) (arg15 : Memref sig .tc .vmem S1x64x7168 .f32) (harg15 : arg15.IsWhole) (arg16 : Memref sig .tc .vmem S1x1x7168 .f32) (harg16 : arg16.IsWhole) (arg17 : Memref sig .tc .vmem S4x7168 .f32) (harg17 : arg17.IsWhole) (arg18 : Memref sig .tc .vmem S3x64x7168 .f32) (harg18 : arg18.IsWhole) (arg19 : Memref sig .tc .vmem S8x7168 .f32) (harg19 : arg19.IsWhole) (arg20 : Memref sig .tc .vmem S4x8x7168 .f32) (harg20 : arg20.IsWhole) (hc0 : cond0_0 i) (hc1 : cond0_1 i) (hc2 : ¬cond0_2 i) (hc3 : ¬cond0_3 i)
    (x0 : Vec F S1x64x7168 .bf16) (x1 : Vec F S1x64x7168 .bf16) (x2 : Vec F S1x64x7168 .bf16) (x3 : Vec F S1x64x7168 .bf16) (x4 : Vec F S1x64x7168 .f32) (x5 : Vec F S1x8x7168 .f32) (x6 : Vec F S1x1x7168 .f32) (x7 : Vec F S1x64x7168 .fp8e5m2) (x8 : Vec F S1x64x1 .f32) (x9 : Vec F S4x7168 .f32) (x10 : Vec F S1x1x7168 .f32) :
    Σ' (L11 : List (View.Piece (Elt F) S1x64x21504 .fp8e5m2)), Σ' (L12 : List (View.Piece (Elt F) S1x64x3 .f32)), Σ' (L13 : List (View.Piece (Elt F) S1x64x7168 .f32)), Σ' (L14 : List (View.Piece (Elt F) S1x1x7168 .f32)), Σ' (L15 : List (View.Piece (Elt F) S4x7168 .f32)), Σ' (LS1 : List (View.Piece (Elt F) S8x7168 .f32)), { LS2 : List (View.Piece (Elt F) S4x8x7168 .f32) //
      ∀ (xi14 : Vec F S1x1x7168 .f32) (xi15 : Vec F S4x7168 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d) ∗ owns (c : Thread nD τ) arg16 fullShare xi14 ∗ owns (c : Thread nD τ) arg17 fullShare xi15 ∗ (∃ d, owns (c : Thread nD τ) arg18 fullShare d) ∗ (∃ d, owns (c : Thread nD τ) arg19 fullShare d) ∗ (∃ d, owns (c : Thread nD τ) arg20 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ owns (c : Thread nD τ) arg16 fullShare xi14 ∗ owns (c : Thread nD τ) arg17 fullShare xi15 ∗ (∃ d, owns (c : Thread nD τ) arg18 fullShare d) ∗ (∃ f, arg19.view.loc (c : Thread nD τ) ↦[arg19.view.set]{fullShare} arg19.view.writes (Elt F) f LS1) ∗ (∃ f, arg20.view.loc (c : Thread nD τ) ↦[arg20.view.set]{fullShare} arg20.view.writes (Elt F) f LS2)) -∗ K ⟨⟩))
          ⊢ wp frame (wpE (defs₀ (F := F)) Variants.none c none) E (cc0_sru_gates i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, [], [], ?_, ?_, fun xi14 xi15 E K => ?run⟩
  case run =>
    simp only [cc0_sru_gates_eq_skeleton]; unfold cc0_sru_gates_skel
    simp only [k0_part27_eq_skeleton, k0_part28_eq_skeleton, k0_part29_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%f14, %hf14, H14⟩, ⟨%f15, %hf15, H15⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg16.eq_unread hf14; obtain rfl := harg17.eq_unread hf15
    sl_exec (disch := first | sl_exact hc0 | sl_exact hc1 | sl_exact hc2 | sl_exact hc3)
    sl_step
    delta kernelRun0_A.sl.H12_3 kernelRun0_A.sl.r_3 kernelRun0_A.sl.r_6 kernelRun0_A.sl.r_7
    delta kernelRun0_A.sl.r_4 kernelRun0_A.sl.r_5
    delta kernelRun0_A.sl.r kernelRun0_A.sl.r_1 kernelRun0_A.sl.r_2
    rw [st_indep Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 _ _ _ _ _ _ _ _ _ _ _ _ f13 fs0 _ _ arg15.view.junk arg18.view.junk _ _ le_rfl]
    rw [stash_eq Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20]
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]; · iexists _; iexact H11
    isplitl [H12]; · iexists _; iexact H12
    isplitl [H13]; · iexists _; iexact H13
    isplitl [H14]
    · iexists _; isplitr; · ipureintro; exact harg16.read_unread _
      iexact H14
    isplitl [H15]
    · iexists _; isplitr; · ipureintro; exact harg17.read_unread _
      iexact H15
    isplitl [HS0]
    · iexists _, _; isplitr; swap; · iexact HS0
      ipureintro; rfl
    isplitl [HS1]; · iexists _; iexact HS1
    iexists _; iexact HS2

end Cert.GatesIdeal.Gen

end
-- ==== Proof.GRunB.lean ====
module

public import proofs.«01_k».proof.Proof.GRunA

@[expose] public section

set_option maxRecDepth 16384

noncomputable section

namespace Cert.GatesIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The whole body at a point of case B: the pieces each buffer ends with, and the run that leaves them. -/
noncomputable def kernelRun0_B (c : Dev nD) (i : grid0.Coords) (arg2 : Memref sig .tc .vmem S1x64x7168 .bf16) (harg2 : arg2.IsWhole) (arg3 : Memref sig .tc .vmem S1x64x7168 .bf16) (harg3 : arg3.IsWhole) (arg4 : Memref sig .tc .vmem S1x64x7168 .bf16) (harg4 : arg4.IsWhole) (arg5 : Memref sig .tc .vmem S1x64x7168 .bf16) (harg5 : arg5.IsWhole) (arg6 : Memref sig .tc .vmem S1x64x7168 .f32) (harg6 : arg6.IsWhole) (arg7 : Memref sig .tc .vmem S1x8x7168 .f32) (harg7 : arg7.IsWhole) (arg8 : Memref sig .tc .vmem S1x1x7168 .f32) (harg8 : arg8.IsWhole) (arg9 : Memref sig .tc .vmem S1x64x7168 .fp8e5m2) (harg9 : arg9.IsWhole) (arg10 : Memref sig .tc .vmem S1x64x1 .f32) (harg10 : arg10.IsWhole) (arg11 : Memref sig .tc .vmem S4x7168 .f32) (harg11 : arg11.IsWhole) (arg12 : Memref sig .tc .vmem S1x1x7168 .f32) (harg12 : arg12.IsWhole) (arg13 : Memref sig .tc .vmem S1x64x21504 .fp8e5m2) (harg13 : arg13.IsWhole) (arg14 : Memref sig .tc .vmem S1x64x3 .f32) (harg14 : arg14.IsWhole) (arg15 : Memref sig .tc .vmem S1x64x7168 .f32) (harg15 : arg15.IsWhole) (arg16 : Memref sig .tc .vmem S1x1x7168 .f32) (harg16 : arg16.IsWhole) (arg17 : Memref sig .tc .vmem S4x7168 .f32) (harg17 : arg17.IsWhole) (arg18 : Memref sig .tc .vmem S3x64x7168 .f32) (harg18 : arg18.IsWhole) (arg19 : Memref sig .tc .vmem S8x7168 .f32) (harg19 : arg19.IsWhole) (arg20 : Memref sig .tc .vmem S4x8x7168 .f32) (harg20 : arg20.IsWhole) (hc0 : ¬cond0_0 i) (hc1 : ¬cond0_1 i) (hc2 : ¬cond0_2 i) (hc3 : ¬cond0_3 i)
    (x0 : Vec F S1x64x7168 .bf16) (x1 : Vec F S1x64x7168 .bf16) (x2 : Vec F S1x64x7168 .bf16) (x3 : Vec F S1x64x7168 .bf16) (x4 : Vec F S1x64x7168 .f32) (x5 : Vec F S1x8x7168 .f32) (x6 : Vec F S1x1x7168 .f32) (x7 : Vec F S1x64x7168 .fp8e5m2) (x8 : Vec F S1x64x1 .f32) (x9 : Vec F S4x7168 .f32) (x10 : Vec F S1x1x7168 .f32) (xs1 : Vec F S8x7168 .f32) (xs2 : Vec F S4x8x7168 .f32) :
    Σ' (L11 : List (View.Piece (Elt F) S1x64x21504 .fp8e5m2)), Σ' (L12 : List (View.Piece (Elt F) S1x64x3 .f32)), Σ' (L13 : List (View.Piece (Elt F) S1x64x7168 .f32)), Σ' (L14 : List (View.Piece (Elt F) S1x1x7168 .f32)), Σ' (L15 : List (View.Piece (Elt F) S4x7168 .f32)), Σ' (LS1 : List (View.Piece (Elt F) S8x7168 .f32)), { LS2 : List (View.Piece (Elt F) S4x8x7168 .f32) //
      ∀ (xi14 : Vec F S1x1x7168 .f32) (xi15 : Vec F S4x7168 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d) ∗ owns (c : Thread nD τ) arg16 fullShare xi14 ∗ owns (c : Thread nD τ) arg17 fullShare xi15 ∗ (∃ d, owns (c : Thread nD τ) arg18 fullShare d) ∗ owns (c : Thread nD τ) arg19 fullShare xs1 ∗ owns (c : Thread nD τ) arg20 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ owns (c : Thread nD τ) arg16 fullShare xi14 ∗ owns (c : Thread nD τ) arg17 fullShare xi15 ∗ (∃ d, owns (c : Thread nD τ) arg18 fullShare d) ∗ (∃ f, arg19.view.loc (c : Thread nD τ) ↦[arg19.view.set]{fullShare} arg19.view.writes (Elt F) f LS1) ∗ (∃ f, arg20.view.loc (c : Thread nD τ) ↦[arg20.view.set]{fullShare} arg20.view.writes (Elt F) f LS2)) -∗ K ⟨⟩))
          ⊢ wp frame (wpE (defs₀ (F := F)) Variants.none c none) E (cc0_sru_gates i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, [], [], ?_, ?_, fun xi14 xi15 E K => ?run⟩
  case run =>
    simp only [cc0_sru_gates_eq_skeleton]; unfold cc0_sru_gates_skel
    simp only [k0_part27_eq_skeleton, k0_part28_eq_skeleton, k0_part29_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%f14, %hf14, H14⟩, ⟨%f15, %hf15, H15⟩, ⟨%ds0, %fs0, -, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg16.eq_unread hf14; obtain rfl := harg17.eq_unread hf15; obtain rfl := harg19.eq_unread hfs1; obtain rfl := harg20.eq_unread hfs2
    sl_exec (disch := first | sl_exact hc0 | sl_exact hc1 | sl_exact hc2 | sl_exact hc3)
    sl_step
    delta kernelRun0_B.sl.H12_3 kernelRun0_B.sl.r_3 kernelRun0_B.sl.r_6 kernelRun0_B.sl.r_7
    delta kernelRun0_B.sl.r_4 kernelRun0_B.sl.r_5
    delta kernelRun0_B.sl.r kernelRun0_B.sl.r_1 kernelRun0_B.sl.r_2
    rw [st_indep Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 _ _ _ _ _ _ _ _ _ _ _ _ f13 fs0 _ _ arg15.view.junk arg18.view.junk _ _ le_rfl]
    rw [stash_eq Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20]
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]; · iexists _; iexact H11
    isplitl [H12]; · iexists _; iexact H12
    isplitl [H13]; · iexists _; iexact H13
    isplitl [H14]
    · iexists _; isplitr; · ipureintro; exact harg16.read_unread _
      iexact H14
    isplitl [H15]
    · iexists _; isplitr; · ipureintro; exact harg17.read_unread _
      iexact H15
    isplitl [HS0]
    · iexists _, _; isplitr; swap; · iexact HS0
      ipureintro; rfl
    isplitl [HS1]; · iexists _; iexact HS1
    iexists _; iexact HS2

end Cert.GatesIdeal.Gen

end
-- ==== Proof.GRunC.lean ====
module

public import proofs.«01_k».proof.Proof.GRunA

@[expose] public section

set_option maxRecDepth 16384

noncomputable section

namespace Cert.GatesIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The whole body at a point of case C: the pieces each buffer ends with, and the run that leaves them. -/
noncomputable def kernelRun0_C (c : Dev nD) (i : grid0.Coords) (arg2 : Memref sig .tc .vmem S1x64x7168 .bf16) (harg2 : arg2.IsWhole) (arg3 : Memref sig .tc .vmem S1x64x7168 .bf16) (harg3 : arg3.IsWhole) (arg4 : Memref sig .tc .vmem S1x64x7168 .bf16) (harg4 : arg4.IsWhole) (arg5 : Memref sig .tc .vmem S1x64x7168 .bf16) (harg5 : arg5.IsWhole) (arg6 : Memref sig .tc .vmem S1x64x7168 .f32) (harg6 : arg6.IsWhole) (arg7 : Memref sig .tc .vmem S1x8x7168 .f32) (harg7 : arg7.IsWhole) (arg8 : Memref sig .tc .vmem S1x1x7168 .f32) (harg8 : arg8.IsWhole) (arg9 : Memref sig .tc .vmem S1x64x7168 .fp8e5m2) (harg9 : arg9.IsWhole) (arg10 : Memref sig .tc .vmem S1x64x1 .f32) (harg10 : arg10.IsWhole) (arg11 : Memref sig .tc .vmem S4x7168 .f32) (harg11 : arg11.IsWhole) (arg12 : Memref sig .tc .vmem S1x1x7168 .f32) (harg12 : arg12.IsWhole) (arg13 : Memref sig .tc .vmem S1x64x21504 .fp8e5m2) (harg13 : arg13.IsWhole) (arg14 : Memref sig .tc .vmem S1x64x3 .f32) (harg14 : arg14.IsWhole) (arg15 : Memref sig .tc .vmem S1x64x7168 .f32) (harg15 : arg15.IsWhole) (arg16 : Memref sig .tc .vmem S1x1x7168 .f32) (harg16 : arg16.IsWhole) (arg17 : Memref sig .tc .vmem S4x7168 .f32) (harg17 : arg17.IsWhole) (arg18 : Memref sig .tc .vmem S3x64x7168 .f32) (harg18 : arg18.IsWhole) (arg19 : Memref sig .tc .vmem S8x7168 .f32) (harg19 : arg19.IsWhole) (arg20 : Memref sig .tc .vmem S4x8x7168 .f32) (harg20 : arg20.IsWhole) (hc0 : ¬cond0_0 i) (hc1 : ¬cond0_1 i) (hc2 : cond0_2 i) (hc3 : ¬cond0_3 i)
    (x0 : Vec F S1x64x7168 .bf16) (x1 : Vec F S1x64x7168 .bf16) (x2 : Vec F S1x64x7168 .bf16) (x3 : Vec F S1x64x7168 .bf16) (x4 : Vec F S1x64x7168 .f32) (x5 : Vec F S1x8x7168 .f32) (x6 : Vec F S1x1x7168 .f32) (x7 : Vec F S1x64x7168 .fp8e5m2) (x8 : Vec F S1x64x1 .f32) (x9 : Vec F S4x7168 .f32) (x10 : Vec F S1x1x7168 .f32) (xs1 : Vec F S8x7168 .f32) (xs2 : Vec F S4x8x7168 .f32) :
    Σ' (L11 : List (View.Piece (Elt F) S1x64x21504 .fp8e5m2)), Σ' (L12 : List (View.Piece (Elt F) S1x64x3 .f32)), Σ' (L13 : List (View.Piece (Elt F) S1x64x7168 .f32)), Σ' (L14 : List (View.Piece (Elt F) S1x1x7168 .f32)), Σ' (L15 : List (View.Piece (Elt F) S4x7168 .f32)), Σ' (LS1 : List (View.Piece (Elt F) S8x7168 .f32)), { LS2 : List (View.Piece (Elt F) S4x8x7168 .f32) //
      ∀ (xi15 : Vec F S4x7168 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ owns (c : Thread nD τ) arg17 fullShare xi15 ∗ (∃ d, owns (c : Thread nD τ) arg18 fullShare d) ∗ owns (c : Thread nD τ) arg19 fullShare xs1 ∗ owns (c : Thread nD τ) arg20 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14) ∗ owns (c : Thread nD τ) arg17 fullShare xi15 ∗ (∃ d, owns (c : Thread nD τ) arg18 fullShare d) ∗ (∃ f, arg19.view.loc (c : Thread nD τ) ↦[arg19.view.set]{fullShare} arg19.view.writes (Elt F) f LS1) ∗ (∃ f, arg20.view.loc (c : Thread nD τ) ↦[arg20.view.set]{fullShare} arg20.view.writes (Elt F) f LS2)) -∗ K ⟨⟩))
          ⊢ wp frame (wpE (defs₀ (F := F)) Variants.none c none) E (cc0_sru_gates i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, ?_, [], ?_, ?_, fun xi15 E K => ?run⟩
  case run =>
    simp only [cc0_sru_gates_eq_skeleton]; unfold cc0_sru_gates_skel
    simp only [k0_part27_eq_skeleton, k0_part28_eq_skeleton, k0_part29_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%f15, %hf15, H15⟩, ⟨%ds0, %fs0, -, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg17.eq_unread hf15; obtain rfl := harg19.eq_unread hfs1; obtain rfl := harg20.eq_unread hfs2
    sl_exec (disch := first | sl_exact hc0 | sl_exact hc1 | sl_exact hc2 | sl_exact hc3)
    sl_step
    delta kernelRun0_C.sl.H12_3 kernelRun0_C.sl.r_3 kernelRun0_C.sl.r_6 kernelRun0_C.sl.r_7
    delta kernelRun0_C.sl.r_4 kernelRun0_C.sl.r_5
    delta kernelRun0_C.sl.r kernelRun0_C.sl.r_1 kernelRun0_C.sl.r_2 kernelRun0_C.sl.v125
    rw [st_indep Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 _ _ _ _ _ _ _ _ _ _ _ _ f13 fs0 _ _ arg15.view.junk arg18.view.junk _ _ le_rfl]
    rw [stash_eq Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20]
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]; · iexists _; iexact H11
    isplitl [H12]; · iexists _; iexact H12
    isplitl [H13]; · iexists _; iexact H13
    isplitl [H14]; · iexists _; iexact H14
    isplitl [H15]
    · iexists _; isplitr; · ipureintro; exact harg17.read_unread _
      iexact H15
    isplitl [HS0]
    · iexists _, _; isplitr; swap; · iexact HS0
      ipureintro; rfl
    isplitl [HS1]; · iexists _; iexact HS1
    iexists _; iexact HS2

end Cert.GatesIdeal.Gen

end
-- ==== Proof.GRunD.lean ====
module

public import proofs.«01_k».proof.Proof.GRunA

@[expose] public section

set_option maxRecDepth 16384

noncomputable section

namespace Cert.GatesIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The whole body at a point of case D: the pieces each buffer ends with, and the run that leaves them. -/
noncomputable def kernelRun0_D (c : Dev nD) (i : grid0.Coords) (arg2 : Memref sig .tc .vmem S1x64x7168 .bf16) (harg2 : arg2.IsWhole) (arg3 : Memref sig .tc .vmem S1x64x7168 .bf16) (harg3 : arg3.IsWhole) (arg4 : Memref sig .tc .vmem S1x64x7168 .bf16) (harg4 : arg4.IsWhole) (arg5 : Memref sig .tc .vmem S1x64x7168 .bf16) (harg5 : arg5.IsWhole) (arg6 : Memref sig .tc .vmem S1x64x7168 .f32) (harg6 : arg6.IsWhole) (arg7 : Memref sig .tc .vmem S1x8x7168 .f32) (harg7 : arg7.IsWhole) (arg8 : Memref sig .tc .vmem S1x1x7168 .f32) (harg8 : arg8.IsWhole) (arg9 : Memref sig .tc .vmem S1x64x7168 .fp8e5m2) (harg9 : arg9.IsWhole) (arg10 : Memref sig .tc .vmem S1x64x1 .f32) (harg10 : arg10.IsWhole) (arg11 : Memref sig .tc .vmem S4x7168 .f32) (harg11 : arg11.IsWhole) (arg12 : Memref sig .tc .vmem S1x1x7168 .f32) (harg12 : arg12.IsWhole) (arg13 : Memref sig .tc .vmem S1x64x21504 .fp8e5m2) (harg13 : arg13.IsWhole) (arg14 : Memref sig .tc .vmem S1x64x3 .f32) (harg14 : arg14.IsWhole) (arg15 : Memref sig .tc .vmem S1x64x7168 .f32) (harg15 : arg15.IsWhole) (arg16 : Memref sig .tc .vmem S1x1x7168 .f32) (harg16 : arg16.IsWhole) (arg17 : Memref sig .tc .vmem S4x7168 .f32) (harg17 : arg17.IsWhole) (arg18 : Memref sig .tc .vmem S3x64x7168 .f32) (harg18 : arg18.IsWhole) (arg19 : Memref sig .tc .vmem S8x7168 .f32) (harg19 : arg19.IsWhole) (arg20 : Memref sig .tc .vmem S4x8x7168 .f32) (harg20 : arg20.IsWhole) (hc0 : cond0_0 i) (hc1 : ¬cond0_1 i) (hc2 : ¬cond0_2 i) (hc3 : ¬cond0_3 i)
    (x0 : Vec F S1x64x7168 .bf16) (x1 : Vec F S1x64x7168 .bf16) (x2 : Vec F S1x64x7168 .bf16) (x3 : Vec F S1x64x7168 .bf16) (x4 : Vec F S1x64x7168 .f32) (x5 : Vec F S1x8x7168 .f32) (x6 : Vec F S1x1x7168 .f32) (x7 : Vec F S1x64x7168 .fp8e5m2) (x8 : Vec F S1x64x1 .f32) (x9 : Vec F S4x7168 .f32) (x10 : Vec F S1x1x7168 .f32) (xs2 : Vec F S4x8x7168 .f32) :
    Σ' (L11 : List (View.Piece (Elt F) S1x64x21504 .fp8e5m2)), Σ' (L12 : List (View.Piece (Elt F) S1x64x3 .f32)), Σ' (L13 : List (View.Piece (Elt F) S1x64x7168 .f32)), Σ' (L14 : List (View.Piece (Elt F) S1x1x7168 .f32)), Σ' (L15 : List (View.Piece (Elt F) S4x7168 .f32)), Σ' (LS1 : List (View.Piece (Elt F) S8x7168 .f32)), { LS2 : List (View.Piece (Elt F) S4x8x7168 .f32) //
      ∀ (xi14 : Vec F S1x1x7168 .f32) (xi15 : Vec F S4x7168 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d) ∗ owns (c : Thread nD τ) arg16 fullShare xi14 ∗ owns (c : Thread nD τ) arg17 fullShare xi15 ∗ (∃ d, owns (c : Thread nD τ) arg18 fullShare d) ∗ (∃ d, owns (c : Thread nD τ) arg19 fullShare d) ∗ owns (c : Thread nD τ) arg20 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ owns (c : Thread nD τ) arg16 fullShare xi14 ∗ owns (c : Thread nD τ) arg17 fullShare xi15 ∗ (∃ d, owns (c : Thread nD τ) arg18 fullShare d) ∗ (∃ f, arg19.view.loc (c : Thread nD τ) ↦[arg19.view.set]{fullShare} arg19.view.writes (Elt F) f LS1) ∗ (∃ f, arg20.view.loc (c : Thread nD τ) ↦[arg20.view.set]{fullShare} arg20.view.writes (Elt F) f LS2)) -∗ K ⟨⟩))
          ⊢ wp frame (wpE (defs₀ (F := F)) Variants.none c none) E (cc0_sru_gates i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, [], [], ?_, ?_, fun xi14 xi15 E K => ?run⟩
  case run =>
    simp only [cc0_sru_gates_eq_skeleton]; unfold cc0_sru_gates_skel
    simp only [k0_part27_eq_skeleton, k0_part28_eq_skeleton, k0_part29_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%f14, %hf14, H14⟩, ⟨%f15, %hf15, H15⟩, ⟨%ds0, %fs0, -, HS0⟩, ⟨%ds1, %fs1, -, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg16.eq_unread hf14; obtain rfl := harg17.eq_unread hf15; obtain rfl := harg20.eq_unread hfs2
    sl_exec (disch := first | sl_exact hc0 | sl_exact hc1 | sl_exact hc2 | sl_exact hc3)
    sl_step
    delta kernelRun0_D.sl.H12_3 kernelRun0_D.sl.r_3 kernelRun0_D.sl.r_6 kernelRun0_D.sl.r_7
    delta kernelRun0_D.sl.r_4 kernelRun0_D.sl.r_5
    delta kernelRun0_D.sl.r kernelRun0_D.sl.r_1 kernelRun0_D.sl.r_2
    rw [st_indep Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 _ _ _ _ _ _ _ _ _ _ _ _ f13 fs0 _ _ arg15.view.junk arg18.view.junk _ _ le_rfl]
    rw [stash_eq Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20]
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]; · iexists _; iexact H11
    isplitl [H12]; · iexists _; iexact H12
    isplitl [H13]; · iexists _; iexact H13
    isplitl [H14]
    · iexists _; isplitr; · ipureintro; exact harg16.read_unread _
      iexact H14
    isplitl [H15]
    · iexists _; isplitr; · ipureintro; exact harg17.read_unread _
      iexact H15
    isplitl [HS0]
    · iexists _, _; isplitr; swap; · iexact HS0
      ipureintro; rfl
    isplitl [HS1]; · iexists _; iexact HS1
    iexists _; iexact HS2

end Cert.GatesIdeal.Gen

end
-- ==== Proof.GRunE.lean ====
module

public import proofs.«01_k».proof.Proof.GRunA

@[expose] public section

set_option maxRecDepth 16384

noncomputable section

namespace Cert.GatesIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The whole body at a point of case E: the pieces each buffer ends with, and the run that leaves them. -/
noncomputable def kernelRun0_E (c : Dev nD) (i : grid0.Coords) (arg2 : Memref sig .tc .vmem S1x64x7168 .bf16) (harg2 : arg2.IsWhole) (arg3 : Memref sig .tc .vmem S1x64x7168 .bf16) (harg3 : arg3.IsWhole) (arg4 : Memref sig .tc .vmem S1x64x7168 .bf16) (harg4 : arg4.IsWhole) (arg5 : Memref sig .tc .vmem S1x64x7168 .bf16) (harg5 : arg5.IsWhole) (arg6 : Memref sig .tc .vmem S1x64x7168 .f32) (harg6 : arg6.IsWhole) (arg7 : Memref sig .tc .vmem S1x8x7168 .f32) (harg7 : arg7.IsWhole) (arg8 : Memref sig .tc .vmem S1x1x7168 .f32) (harg8 : arg8.IsWhole) (arg9 : Memref sig .tc .vmem S1x64x7168 .fp8e5m2) (harg9 : arg9.IsWhole) (arg10 : Memref sig .tc .vmem S1x64x1 .f32) (harg10 : arg10.IsWhole) (arg11 : Memref sig .tc .vmem S4x7168 .f32) (harg11 : arg11.IsWhole) (arg12 : Memref sig .tc .vmem S1x1x7168 .f32) (harg12 : arg12.IsWhole) (arg13 : Memref sig .tc .vmem S1x64x21504 .fp8e5m2) (harg13 : arg13.IsWhole) (arg14 : Memref sig .tc .vmem S1x64x3 .f32) (harg14 : arg14.IsWhole) (arg15 : Memref sig .tc .vmem S1x64x7168 .f32) (harg15 : arg15.IsWhole) (arg16 : Memref sig .tc .vmem S1x1x7168 .f32) (harg16 : arg16.IsWhole) (arg17 : Memref sig .tc .vmem S4x7168 .f32) (harg17 : arg17.IsWhole) (arg18 : Memref sig .tc .vmem S3x64x7168 .f32) (harg18 : arg18.IsWhole) (arg19 : Memref sig .tc .vmem S8x7168 .f32) (harg19 : arg19.IsWhole) (arg20 : Memref sig .tc .vmem S4x8x7168 .f32) (harg20 : arg20.IsWhole) (hc0 : ¬cond0_0 i) (hc1 : ¬cond0_1 i) (hc2 : cond0_2 i) (hc3 : cond0_3 i)
    (x0 : Vec F S1x64x7168 .bf16) (x1 : Vec F S1x64x7168 .bf16) (x2 : Vec F S1x64x7168 .bf16) (x3 : Vec F S1x64x7168 .bf16) (x4 : Vec F S1x64x7168 .f32) (x5 : Vec F S1x8x7168 .f32) (x6 : Vec F S1x1x7168 .f32) (x7 : Vec F S1x64x7168 .fp8e5m2) (x8 : Vec F S1x64x1 .f32) (x9 : Vec F S4x7168 .f32) (x10 : Vec F S1x1x7168 .f32) (xs1 : Vec F S8x7168 .f32) (xs2 : Vec F S4x8x7168 .f32) :
    Σ' (L11 : List (View.Piece (Elt F) S1x64x21504 .fp8e5m2)), Σ' (L12 : List (View.Piece (Elt F) S1x64x3 .f32)), Σ' (L13 : List (View.Piece (Elt F) S1x64x7168 .f32)), Σ' (L14 : List (View.Piece (Elt F) S1x1x7168 .f32)), Σ' (L15 : List (View.Piece (Elt F) S4x7168 .f32)), Σ' (LS1 : List (View.Piece (Elt F) S8x7168 .f32)), { LS2 : List (View.Piece (Elt F) S4x8x7168 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ owns (c : Thread nD τ) arg19 fullShare xs1 ∗ owns (c : Thread nD τ) arg20 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f L15) ∗ (∃ d, owns (c : Thread nD τ) arg18 fullShare d) ∗ (∃ f, arg19.view.loc (c : Thread nD τ) ↦[arg19.view.set]{fullShare} arg19.view.writes (Elt F) f LS1) ∗ (∃ f, arg20.view.loc (c : Thread nD τ) ↦[arg20.view.set]{fullShare} arg20.view.writes (Elt F) f LS2)) -∗ K ⟨⟩))
          ⊢ wp frame (wpE (defs₀ (F := F)) Variants.none c none) E (cc0_sru_gates i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, ?_, ?_, ?_, ?_, fun E K => ?run⟩
  case run =>
    simp only [cc0_sru_gates_eq_skeleton]; unfold cc0_sru_gates_skel
    simp only [k0_part27_eq_skeleton, k0_part28_eq_skeleton, k0_part29_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%ds0, %fs0, -, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg19.eq_unread hfs1; obtain rfl := harg20.eq_unread hfs2
    sl_exec (disch := first | sl_exact hc0 | sl_exact hc1 | sl_exact hc2 | sl_exact hc3)
    sl_step
    delta kernelRun0_E.sl.H12_3 kernelRun0_E.sl.r_3 kernelRun0_E.sl.r_6 kernelRun0_E.sl.r_7
    delta kernelRun0_E.sl.r_4 kernelRun0_E.sl.r_5
    delta kernelRun0_E.sl.r kernelRun0_E.sl.r_1 kernelRun0_E.sl.r_2 kernelRun0_E.sl.v125 kernelRun0_E.sl.v125_1 kernelRun0_E.sl.v130 kernelRun0_E.sl.v135 kernelRun0_E.sl.v140
    rw [st_indep Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 _ _ _ _ _ _ _ _ _ _ _ _ f13 fs0 _ _ arg15.view.junk arg18.view.junk _ _ le_rfl]
    rw [stash_eq Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20]
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]; · iexists _; iexact H11
    isplitl [H12]; · iexists _; iexact H12
    isplitl [H13]; · iexists _; iexact H13
    isplitl [H14]; · iexists _; iexact H14
    isplitl [H15]; · iexists _; iexact H15
    isplitl [HS0]
    · iexists _, _; isplitr; swap; · iexact HS0
      ipureintro; rfl
    isplitl [HS1]; · iexists _; iexact HS1
    iexists _; iexact HS2

end Cert.GatesIdeal.Gen

end
-- ==== Proof.GFrame.lean ====
module

public import proofs.«01_k».proof.Proof.GRunB
public import proofs.«01_k».proof.Proof.GRunC
public import proofs.«01_k».proof.Proof.GRunD
public import proofs.«01_k».proof.Proof.GRunE
public import Idealize.ShloMosaic.Lib.Claim

@[expose] public section

set_option maxRecDepth 16384

noncomputable section

namespace Cert.GatesIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a point leaves: the codes, the row scales, the state gradient, the flushed state gradient, the sums, the carried row and the stash. -/
abbrev Outs (F : FTy → Type) [FloatOps F] := Vec F S1x64x21504 .fp8e5m2 × Vec F S1x64x3 .f32 × Vec F S1x64x7168 .f32 × Vec F S1x1x7168 .f32 × Vec F S4x7168 .f32 × Vec F S8x7168 .f32 × Vec F S4x8x7168 .f32

/-- Case a's run at point `t`, on the point's memrefs and input blocks. -/
abbrev runA (c : Dev nD) (t : Fin cfg0.N) (h : conds0_A (grid0.coords t)) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) h.1 h.2.1 h.2.2.1 h.2.2.2 (iblk m c 0 t) (iblk m c 1 t) (iblk m c 2 t) (iblk m c 3 t) (iblk m c 4 t) (iblk m c 5 t) (iblk m c 6 t) (iblk m c 7 t) (iblk m c 8 t) (iblk m c 9 t) (iblk m c 10 t)

/-- What case A leaves at point `t`: its pieces read back over junk (an output it does not store: junk). -/
def outsA (c : Dev nD) (t : Fin cfg0.N) (h : conds0_A (grid0.coords t)) : Outs F :=
  (VO0_11.read (Elt F) (VO0_11.writes (Elt F) VO0_11.junk (runA m c t h).1),
   VO0_12.read (Elt F) (VO0_12.writes (Elt F) VO0_12.junk (runA m c t h).2.1),
   VO0_13.read (Elt F) (VO0_13.writes (Elt F) VO0_13.junk (runA m c t h).2.2.1),
   VO0_14.read (Elt F) VO0_14.junk,
   VO0_15.read (Elt F) VO0_15.junk,
   VS0_1.read (Elt F) (VS0_1.writes (Elt F) VS0_1.junk (runA m c t h).2.2.2.2.2.1),
   VS0_2.read (Elt F) (VS0_2.writes (Elt F) VS0_2.junk (runA m c t h).2.2.2.2.2.2.1))

theorem covA_11 (c : Dev nD) (t : Fin cfg0.N) (h : conds0_A (grid0.coords t)) (y : S1x64x21504.Idx) :
    ∃ pc ∈ (runA m c t h).1, y ∈ pc.1.set :=
  View.cover_of_tiledL (runA m c t h).1 S1x64x256.size (by sl_kernel_rfl) y

theorem covA_12 (c : Dev nD) (t : Fin cfg0.N) (h : conds0_A (grid0.coords t)) (y : S1x64x3.Idx) :
    ∃ pc ∈ (runA m c t h).2.1, y ∈ pc.1.set :=
  View.cover_of_tiledL (runA m c t h).2.1 S1x64x1.size (by sl_kernel_rfl) y

theorem covA_13 (c : Dev nD) (t : Fin cfg0.N) (h : conds0_A (grid0.coords t)) (y : S1x64x7168.Idx) :
    ∃ pc ∈ (runA m c t h).2.2.1, y ∈ pc.1.set :=
  View.cover_of_tiledL (runA m c t h).2.2.1 S1x8x256.size (by sl_kernel_rfl) y

theorem covA_s1 (c : Dev nD) (t : Fin cfg0.N) (h : conds0_A (grid0.coords t)) (y : S8x7168.Idx) :
    ∃ pc ∈ (runA m c t h).2.2.2.2.2.1, y ∈ pc.1.set :=
  View.cover_of_wholeMem (runA m c t h).2.2.2.2.2.1 (by sl_whole_mem) y

theorem covA_s2 (c : Dev nD) (t : Fin cfg0.N) (h : conds0_A (grid0.coords t)) (y : S4x8x7168.Idx) :
    ∃ pc ∈ (runA m c t h).2.2.2.2.2.2.1, y ∈ pc.1.set :=
  View.cover_of_wholeMem (runA m c t h).2.2.2.2.2.2.1 (by sl_whole_mem) y

/-- Case b's run at point `t`, on the point's memrefs and input blocks. -/
abbrev runB (c : Dev nD) (t : Fin cfg0.N) (h : conds0_B (grid0.coords t)) (xs1 : Vec F S8x7168 .f32) (xs2 : Vec F S4x8x7168 .f32) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) h.1 h.2.1 h.2.2.1 h.2.2.2 (iblk m c 0 t) (iblk m c 1 t) (iblk m c 2 t) (iblk m c 3 t) (iblk m c 4 t) (iblk m c 5 t) (iblk m c 6 t) (iblk m c 7 t) (iblk m c 8 t) (iblk m c 9 t) (iblk m c 10 t) xs1 xs2

/-- What case B leaves at point `t`: its pieces read back over junk (an output it does not store: junk). -/
def outsB (c : Dev nD) (t : Fin cfg0.N) (h : conds0_B (grid0.coords t)) (xs1 : Vec F S8x7168 .f32) (xs2 : Vec F S4x8x7168 .f32) : Outs F :=
  (VO0_11.read (Elt F) (VO0_11.writes (Elt F) VO0_11.junk (runB m c t h xs1 xs2).1),
   VO0_12.read (Elt F) (VO0_12.writes (Elt F) VO0_12.junk (runB m c t h xs1 xs2).2.1),
   VO0_13.read (Elt F) (VO0_13.writes (Elt F) VO0_13.junk (runB m c t h xs1 xs2).2.2.1),
   VO0_14.read (Elt F) VO0_14.junk,
   VO0_15.read (Elt F) VO0_15.junk,
   VS0_1.read (Elt F) (VS0_1.writes (Elt F) VS0_1.junk (runB m c t h xs1 xs2).2.2.2.2.2.1),
   VS0_2.read (Elt F) (VS0_2.writes (Elt F) VS0_2.junk (runB m c t h xs1 xs2).2.2.2.2.2.2.1))

theorem covB_11 (c : Dev nD) (t : Fin cfg0.N) (h : conds0_B (grid0.coords t)) (xs1 : Vec F S8x7168 .f32) (xs2 : Vec F S4x8x7168 .f32) (y : S1x64x21504.Idx) :
    ∃ pc ∈ (runB m c t h xs1 xs2).1, y ∈ pc.1.set :=
  View.cover_of_tiledL (runB m c t h xs1 xs2).1 S1x64x256.size (by sl_kernel_rfl) y

theorem covB_12 (c : Dev nD) (t : Fin cfg0.N) (h : conds0_B (grid0.coords t)) (xs1 : Vec F S8x7168 .f32) (xs2 : Vec F S4x8x7168 .f32) (y : S1x64x3.Idx) :
    ∃ pc ∈ (runB m c t h xs1 xs2).2.1, y ∈ pc.1.set :=
  View.cover_of_tiledL (runB m c t h xs1 xs2).2.1 S1x64x1.size (by sl_kernel_rfl) y

theorem covB_13 (c : Dev nD) (t : Fin cfg0.N) (h : conds0_B (grid0.coords t)) (xs1 : Vec F S8x7168 .f32) (xs2 : Vec F S4x8x7168 .f32) (y : S1x64x7168.Idx) :
    ∃ pc ∈ (runB m c t h xs1 xs2).2.2.1, y ∈ pc.1.set :=
  View.cover_of_tiledL (runB m c t h xs1 xs2).2.2.1 S1x8x256.size (by sl_kernel_rfl) y

theorem covB_s1 (c : Dev nD) (t : Fin cfg0.N) (h : conds0_B (grid0.coords t)) (xs1 : Vec F S8x7168 .f32) (xs2 : Vec F S4x8x7168 .f32) (y : S8x7168.Idx) :
    ∃ pc ∈ (runB m c t h xs1 xs2).2.2.2.2.2.1, y ∈ pc.1.set :=
  View.cover_of_tiledL (runB m c t h xs1 xs2).2.2.2.2.2.1 S8x256.size (by sl_kernel_rfl) y

theorem covB_s2 (c : Dev nD) (t : Fin cfg0.N) (h : conds0_B (grid0.coords t)) (xs1 : Vec F S8x7168 .f32) (xs2 : Vec F S4x8x7168 .f32) (y : S4x8x7168.Idx) :
    ∃ pc ∈ (runB m c t h xs1 xs2).2.2.2.2.2.2.1, y ∈ pc.1.set :=
  View.cover_of_tiledL (runB m c t h xs1 xs2).2.2.2.2.2.2.1 S1x8x256.size (by sl_kernel_rfl) y

/-- Case c's run at point `t`, on the point's memrefs and input blocks. -/
abbrev runC (c : Dev nD) (t : Fin cfg0.N) (h : conds0_C (grid0.coords t)) (xs1 : Vec F S8x7168 .f32) (xs2 : Vec F S4x8x7168 .f32) :=
  kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) h.1 h.2.1 h.2.2.1 h.2.2.2 (iblk m c 0 t) (iblk m c 1 t) (iblk m c 2 t) (iblk m c 3 t) (iblk m c 4 t) (iblk m c 5 t) (iblk m c 6 t) (iblk m c 7 t) (iblk m c 8 t) (iblk m c 9 t) (iblk m c 10 t) xs1 xs2

/-- What case C leaves at point `t`: its pieces read back over junk (an output it does not store: junk). -/
def outsC (c : Dev nD) (t : Fin cfg0.N) (h : conds0_C (grid0.coords t)) (xs1 : Vec F S8x7168 .f32) (xs2 : Vec F S4x8x7168 .f32) : Outs F :=
  (VO0_11.read (Elt F) (VO0_11.writes (Elt F) VO0_11.junk (runC m c t h xs1 xs2).1),
   VO0_12.read (Elt F) (VO0_12.writes (Elt F) VO0_12.junk (runC m c t h xs1 xs2).2.1),
   VO0_13.read (Elt F) (VO0_13.writes (Elt F) VO0_13.junk (runC m c t h xs1 xs2).2.2.1),
   VO0_14.read (Elt F) (VO0_14.writes (Elt F) VO0_14.junk (runC m c t h xs1 xs2).2.2.2.1),
   VO0_15.read (Elt F) VO0_15.junk,
   VS0_1.read (Elt F) (VS0_1.writes (Elt F) VS0_1.junk (runC m c t h xs1 xs2).2.2.2.2.2.1),
   VS0_2.read (Elt F) (VS0_2.writes (Elt F) VS0_2.junk (runC m c t h xs1 xs2).2.2.2.2.2.2.1))

theorem covC_11 (c : Dev nD) (t : Fin cfg0.N) (h : conds0_C (grid0.coords t)) (xs1 : Vec F S8x7168 .f32) (xs2 : Vec F S4x8x7168 .f32) (y : S1x64x21504.Idx) :
    ∃ pc ∈ (runC m c t h xs1 xs2).1, y ∈ pc.1.set :=
  View.cover_of_tiledL (runC m c t h xs1 xs2).1 S1x64x256.size (by sl_kernel_rfl) y

theorem covC_12 (c : Dev nD) (t : Fin cfg0.N) (h : conds0_C (grid0.coords t)) (xs1 : Vec F S8x7168 .f32) (xs2 : Vec F S4x8x7168 .f32) (y : S1x64x3.Idx) :
    ∃ pc ∈ (runC m c t h xs1 xs2).2.1, y ∈ pc.1.set :=
  View.cover_of_tiledL (runC m c t h xs1 xs2).2.1 S1x64x1.size (by sl_kernel_rfl) y

theorem covC_13 (c : Dev nD) (t : Fin cfg0.N) (h : conds0_C (grid0.coords t)) (xs1 : Vec F S8x7168 .f32) (xs2 : Vec F S4x8x7168 .f32) (y : S1x64x7168.Idx) :
    ∃ pc ∈ (runC m c t h xs1 xs2).2.2.1, y ∈ pc.1.set :=
  View.cover_of_tiledL (runC m c t h xs1 xs2).2.2.1 S1x8x256.size (by sl_kernel_rfl) y

theorem covC_14 (c : Dev nD) (t : Fin cfg0.N) (h : conds0_C (grid0.coords t)) (xs1 : Vec F S8x7168 .f32) (xs2 : Vec F S4x8x7168 .f32) (y : S1x1x7168.Idx) :
    ∃ pc ∈ (runC m c t h xs1 xs2).2.2.2.1, y ∈ pc.1.set :=
  View.cover_of_tiledL (runC m c t h xs1 xs2).2.2.2.1 S1x1x7168.size (by sl_kernel_rfl) y

theorem covC_s1 (c : Dev nD) (t : Fin cfg0.N) (h : conds0_C (grid0.coords t)) (xs1 : Vec F S8x7168 .f32) (xs2 : Vec F S4x8x7168 .f32) (y : S8x7168.Idx) :
    ∃ pc ∈ (runC m c t h xs1 xs2).2.2.2.2.2.1, y ∈ pc.1.set :=
  View.cover_of_tiledL (runC m c t h xs1 xs2).2.2.2.2.2.1 S8x256.size (by sl_kernel_rfl) y

theorem covC_s2 (c : Dev nD) (t : Fin cfg0.N) (h : conds0_C (grid0.coords t)) (xs1 : Vec F S8x7168 .f32) (xs2 : Vec F S4x8x7168 .f32) (y : S4x8x7168.Idx) :
    ∃ pc ∈ (runC m c t h xs1 xs2).2.2.2.2.2.2.1, y ∈ pc.1.set :=
  View.cover_of_tiledL (runC m c t h xs1 xs2).2.2.2.2.2.2.1 S1x8x256.size (by sl_kernel_rfl) y

/-- Case d's run at point `t`, on the point's memrefs and input blocks. -/
abbrev runD (c : Dev nD) (t : Fin cfg0.N) (h : conds0_D (grid0.coords t)) (xs1 : Vec F S8x7168 .f32) (xs2 : Vec F S4x8x7168 .f32) :=
  kernelRun0_D c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) h.1 h.2.1 h.2.2.1 h.2.2.2 (iblk m c 0 t) (iblk m c 1 t) (iblk m c 2 t) (iblk m c 3 t) (iblk m c 4 t) (iblk m c 5 t) (iblk m c 6 t) (iblk m c 7 t) (iblk m c 8 t) (iblk m c 9 t) (iblk m c 10 t) xs2

/-- What case D leaves at point `t`: its pieces read back over junk (an output it does not store: junk). -/
def outsD (c : Dev nD) (t : Fin cfg0.N) (h : conds0_D (grid0.coords t)) (xs1 : Vec F S8x7168 .f32) (xs2 : Vec F S4x8x7168 .f32) : Outs F :=
  (VO0_11.read (Elt F) (VO0_11.writes (Elt F) VO0_11.junk (runD m c t h xs1 xs2).1),
   VO0_12.read (Elt F) (VO0_12.writes (Elt F) VO0_12.junk (runD m c t h xs1 xs2).2.1),
   VO0_13.read (Elt F) (VO0_13.writes (Elt F) VO0_13.junk (runD m c t h xs1 xs2).2.2.1),
   VO0_14.read (Elt F) VO0_14.junk,
   VO0_15.read (Elt F) VO0_15.junk,
   VS0_1.read (Elt F) (VS0_1.writes (Elt F) VS0_1.junk (runD m c t h xs1 xs2).2.2.2.2.2.1),
   VS0_2.read (Elt F) (VS0_2.writes (Elt F) VS0_2.junk (runD m c t h xs1 xs2).2.2.2.2.2.2.1))

theorem covD_11 (c : Dev nD) (t : Fin cfg0.N) (h : conds0_D (grid0.coords t)) (xs1 : Vec F S8x7168 .f32) (xs2 : Vec F S4x8x7168 .f32) (y : S1x64x21504.Idx) :
    ∃ pc ∈ (runD m c t h xs1 xs2).1, y ∈ pc.1.set :=
  View.cover_of_tiledL (runD m c t h xs1 xs2).1 S1x64x256.size (by sl_kernel_rfl) y

theorem covD_12 (c : Dev nD) (t : Fin cfg0.N) (h : conds0_D (grid0.coords t)) (xs1 : Vec F S8x7168 .f32) (xs2 : Vec F S4x8x7168 .f32) (y : S1x64x3.Idx) :
    ∃ pc ∈ (runD m c t h xs1 xs2).2.1, y ∈ pc.1.set :=
  View.cover_of_tiledL (runD m c t h xs1 xs2).2.1 S1x64x1.size (by sl_kernel_rfl) y

theorem covD_13 (c : Dev nD) (t : Fin cfg0.N) (h : conds0_D (grid0.coords t)) (xs1 : Vec F S8x7168 .f32) (xs2 : Vec F S4x8x7168 .f32) (y : S1x64x7168.Idx) :
    ∃ pc ∈ (runD m c t h xs1 xs2).2.2.1, y ∈ pc.1.set :=
  View.cover_of_tiledL (runD m c t h xs1 xs2).2.2.1 S1x8x256.size (by sl_kernel_rfl) y

theorem covD_s1 (c : Dev nD) (t : Fin cfg0.N) (h : conds0_D (grid0.coords t)) (xs1 : Vec F S8x7168 .f32) (xs2 : Vec F S4x8x7168 .f32) (y : S8x7168.Idx) :
    ∃ pc ∈ (runD m c t h xs1 xs2).2.2.2.2.2.1, y ∈ pc.1.set :=
  View.cover_of_wholeMem (runD m c t h xs1 xs2).2.2.2.2.2.1 (by sl_whole_mem) y

theorem covD_s2 (c : Dev nD) (t : Fin cfg0.N) (h : conds0_D (grid0.coords t)) (xs1 : Vec F S8x7168 .f32) (xs2 : Vec F S4x8x7168 .f32) (y : S4x8x7168.Idx) :
    ∃ pc ∈ (runD m c t h xs1 xs2).2.2.2.2.2.2.1, y ∈ pc.1.set :=
  View.cover_of_tiledL (runD m c t h xs1 xs2).2.2.2.2.2.2.1 S1x8x256.size (by sl_kernel_rfl) y

/-- Case e's run at point `t`, on the point's memrefs and input blocks. -/
abbrev runE (c : Dev nD) (t : Fin cfg0.N) (h : conds0_E (grid0.coords t)) (xs1 : Vec F S8x7168 .f32) (xs2 : Vec F S4x8x7168 .f32) :=
  kernelRun0_E c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) h.1 h.2.1 h.2.2.1 h.2.2.2 (iblk m c 0 t) (iblk m c 1 t) (iblk m c 2 t) (iblk m c 3 t) (iblk m c 4 t) (iblk m c 5 t) (iblk m c 6 t) (iblk m c 7 t) (iblk m c 8 t) (iblk m c 9 t) (iblk m c 10 t) xs1 xs2

/-- What case E leaves at point `t`: its pieces read back over junk (an output it does not store: junk). -/
def outsE (c : Dev nD) (t : Fin cfg0.N) (h : conds0_E (grid0.coords t)) (xs1 : Vec F S8x7168 .f32) (xs2 : Vec F S4x8x7168 .f32) : Outs F :=
  (VO0_11.read (Elt F) (VO0_11.writes (Elt F) VO0_11.junk (runE m c t h xs1 xs2).1),
   VO0_12.read (Elt F) (VO0_12.writes (Elt F) VO0_12.junk (runE m c t h xs1 xs2).2.1),
   VO0_13.read (Elt F) (VO0_13.writes (Elt F) VO0_13.junk (runE m c t h xs1 xs2).2.2.1),
   VO0_14.read (Elt F) (VO0_14.writes (Elt F) VO0_14.junk (runE m c t h xs1 xs2).2.2.2.1),
   VO0_15.read (Elt F) (VO0_15.writes (Elt F) VO0_15.junk (runE m c t h xs1 xs2).2.2.2.2.1),
   VS0_1.read (Elt F) (VS0_1.writes (Elt F) VS0_1.junk (runE m c t h xs1 xs2).2.2.2.2.2.1),
   VS0_2.read (Elt F) (VS0_2.writes (Elt F) VS0_2.junk (runE m c t h xs1 xs2).2.2.2.2.2.2.1))

theorem covE_11 (c : Dev nD) (t : Fin cfg0.N) (h : conds0_E (grid0.coords t)) (xs1 : Vec F S8x7168 .f32) (xs2 : Vec F S4x8x7168 .f32) (y : S1x64x21504.Idx) :
    ∃ pc ∈ (runE m c t h xs1 xs2).1, y ∈ pc.1.set :=
  View.cover_of_tiledL (runE m c t h xs1 xs2).1 S1x64x256.size (by sl_kernel_rfl) y

theorem covE_12 (c : Dev nD) (t : Fin cfg0.N) (h : conds0_E (grid0.coords t)) (xs1 : Vec F S8x7168 .f32) (xs2 : Vec F S4x8x7168 .f32) (y : S1x64x3.Idx) :
    ∃ pc ∈ (runE m c t h xs1 xs2).2.1, y ∈ pc.1.set :=
  View.cover_of_tiledL (runE m c t h xs1 xs2).2.1 S1x64x1.size (by sl_kernel_rfl) y

theorem covE_13 (c : Dev nD) (t : Fin cfg0.N) (h : conds0_E (grid0.coords t)) (xs1 : Vec F S8x7168 .f32) (xs2 : Vec F S4x8x7168 .f32) (y : S1x64x7168.Idx) :
    ∃ pc ∈ (runE m c t h xs1 xs2).2.2.1, y ∈ pc.1.set :=
  View.cover_of_tiledL (runE m c t h xs1 xs2).2.2.1 S1x8x256.size (by sl_kernel_rfl) y

theorem covE_14 (c : Dev nD) (t : Fin cfg0.N) (h : conds0_E (grid0.coords t)) (xs1 : Vec F S8x7168 .f32) (xs2 : Vec F S4x8x7168 .f32) (y : S1x1x7168.Idx) :
    ∃ pc ∈ (runE m c t h xs1 xs2).2.2.2.1, y ∈ pc.1.set :=
  View.cover_of_tiledL (runE m c t h xs1 xs2).2.2.2.1 S1x1x7168.size (by sl_kernel_rfl) y

theorem covE_15 (c : Dev nD) (t : Fin cfg0.N) (h : conds0_E (grid0.coords t)) (xs1 : Vec F S8x7168 .f32) (xs2 : Vec F S4x8x7168 .f32) (y : S4x7168.Idx) :
    ∃ pc ∈ (runE m c t h xs1 xs2).2.2.2.2.1, y ∈ pc.1.set :=
  View.cover_of_tiledL (runE m c t h xs1 xs2).2.2.2.2.1 S1x7168.size (by sl_kernel_rfl) y

theorem covE_s1 (c : Dev nD) (t : Fin cfg0.N) (h : conds0_E (grid0.coords t)) (xs1 : Vec F S8x7168 .f32) (xs2 : Vec F S4x8x7168 .f32) (y : S8x7168.Idx) :
    ∃ pc ∈ (runE m c t h xs1 xs2).2.2.2.2.2.1, y ∈ pc.1.set :=
  View.cover_of_tiledL (runE m c t h xs1 xs2).2.2.2.2.2.1 S8x256.size (by sl_kernel_rfl) y

theorem covE_s2 (c : Dev nD) (t : Fin cfg0.N) (h : conds0_E (grid0.coords t)) (xs1 : Vec F S8x7168 .f32) (xs2 : Vec F S4x8x7168 .f32) (y : S4x8x7168.Idx) :
    ∃ pc ∈ (runE m c t h xs1 xs2).2.2.2.2.2.2.1, y ∈ pc.1.set :=
  View.cover_of_tiledL (runE m c t h xs1 xs2).2.2.2.2.2.2.1 S1x8x256.size (by sl_kernel_rfl) y

/-! ## Which case a point is in -/

theorem isA (t : Fin cfg0.N) (hz : t.val = 0) : conds0_A (grid0.coords t) :=
  ⟨(hcond0_0 t).mpr (by omega), (hcond0_1 t).mpr (by omega), fun h => by have := (hcond0_2 t).mp h; omega, fun h => by have := (hcond0_3 t).mp h; omega⟩
theorem isD (t : Fin cfg0.N) (hz : t.val ≠ 0) (h0 : t.val % 64 = 0) : conds0_D (grid0.coords t) := by
  have hN : t.val < 128 := lt_of_lt_of_eq t.isLt (show cfg0.N = 128 from N_0)
  exact ⟨(hcond0_0 t).mpr h0, fun h => by have := (hcond0_1 t).mp h; omega, fun h => by have := (hcond0_2 t).mp h; omega, fun h => by have := (hcond0_3 t).mp h; omega⟩
theorem isE (t : Fin cfg0.N) (h3 : t.val % 128 = 127) : conds0_E (grid0.coords t) :=
  ⟨fun h => by have := (hcond0_0 t).mp h; omega, fun h => by have := (hcond0_1 t).mp h; omega, (hcond0_2 t).mpr (by omega), (hcond0_3 t).mpr h3⟩
theorem isC (t : Fin cfg0.N) (h2 : t.val % 64 = 63) (h3 : ¬ t.val % 128 = 127) : conds0_C (grid0.coords t) :=
  ⟨fun h => by have := (hcond0_0 t).mp h; omega, fun h => by have := (hcond0_1 t).mp h; omega, (hcond0_2 t).mpr h2, fun h => h3 ((hcond0_3 t).mp h)⟩
theorem isB (t : Fin cfg0.N) (h0 : ¬ t.val % 64 = 0) (h2 : ¬ t.val % 64 = 63) : conds0_B (grid0.coords t) :=
  ⟨fun h => h0 ((hcond0_0 t).mp h), fun h => by have := (hcond0_1 t).mp h; omega, fun h => h2 ((hcond0_2 t).mp h), fun h => by have := (hcond0_3 t).mp h; omega⟩

/-- What the outputs and the carried scratch hold after point `n`, by recursion on `n`: the case the point is in,
    run on what the point before left in the scratch. -/
def outsAt0 (c : Dev nD) : (n : ℕ) → n < cfg0.N → Outs F
  | 0, hn => outsA m c ⟨0, hn⟩ (isA _ rfl)
  | n + 1, hn =>
    if h0 : (n + 1) % 64 = 0 then
      outsD m c ⟨n + 1, hn⟩ (isD _ (Nat.succ_ne_zero n) h0) (outsAt0 c n (Nat.lt_of_succ_lt hn)).2.2.2.2.2.1 (outsAt0 c n (Nat.lt_of_succ_lt hn)).2.2.2.2.2.2
    else if h2 : (n + 1) % 64 = 63 then
      if h3 : (n + 1) % 128 = 127 then
        outsE m c ⟨n + 1, hn⟩ (isE _ h3) (outsAt0 c n (Nat.lt_of_succ_lt hn)).2.2.2.2.2.1 (outsAt0 c n (Nat.lt_of_succ_lt hn)).2.2.2.2.2.2
      else
        outsC m c ⟨n + 1, hn⟩ (isC _ h2 h3) (outsAt0 c n (Nat.lt_of_succ_lt hn)).2.2.2.2.2.1 (outsAt0 c n (Nat.lt_of_succ_lt hn)).2.2.2.2.2.2
    else
      outsB m c ⟨n + 1, hn⟩ (isB _ h0 h2) (outsAt0 c n (Nat.lt_of_succ_lt hn)).2.2.2.2.2.1 (outsAt0 c n (Nat.lt_of_succ_lt hn)).2.2.2.2.2.2

/-- What the point before `t` left in the carried row and in the stash. -/
abbrev prev1 (c : Dev nD) (t : Fin cfg0.N) : Vec F S8x7168 .f32 := (outsAt0 m c (t.val - 1) (Nat.lt_of_le_of_lt (Nat.sub_le _ _) t.isLt)).2.2.2.2.2.1
abbrev prev2 (c : Dev nD) (t : Fin cfg0.N) : Vec F S4x8x7168 .f32 := (outsAt0 m c (t.val - 1) (Nat.lt_of_le_of_lt (Nat.sub_le _ _) t.isLt)).2.2.2.2.2.2

theorem outsAt0_A (c : Dev nD) (t : Fin cfg0.N) (hz : t.val = 0) :
    outsAt0 m c t.val t.isLt = outsA m c t (isA t hz) := by
  obtain ⟨n, hn⟩ := t
  cases n with
  | zero => rfl
  | succ n => exact absurd hz (Nat.succ_ne_zero n)

theorem outsAt0_D (c : Dev nD) (t : Fin cfg0.N) (hz : t.val ≠ 0) (h0 : t.val % 64 = 0) :
    outsAt0 m c t.val t.isLt = outsD m c t (isD t hz h0) (prev1 m c t) (prev2 m c t) := by
  obtain ⟨n, hn⟩ := t
  cases n with
  | zero => exact absurd rfl hz
  | succ n => exact dif_pos h0

theorem outsAt0_E (c : Dev nD) (t : Fin cfg0.N) (h3 : t.val % 128 = 127) :
    outsAt0 m c t.val t.isLt = outsE m c t (isE t h3) (prev1 m c t) (prev2 m c t) := by
  obtain ⟨n, hn⟩ := t
  cases n with
  | zero => exfalso; dsimp only at h3; omega
  | succ n => exact (dif_neg (by dsimp only at h3; omega)).trans ((dif_pos (by dsimp only at h3; omega)).trans (dif_pos h3))

theorem outsAt0_C (c : Dev nD) (t : Fin cfg0.N) (h2 : t.val % 64 = 63) (h3 : ¬ t.val % 128 = 127) :
    outsAt0 m c t.val t.isLt = outsC m c t (isC t h2 h3) (prev1 m c t) (prev2 m c t) := by
  obtain ⟨n, hn⟩ := t
  cases n with
  | zero => exfalso; dsimp only at h2; omega
  | succ n => exact (dif_neg (by dsimp only at h2; omega)).trans ((dif_pos h2).trans (dif_neg h3))

theorem outsAt0_B (c : Dev nD) (t : Fin cfg0.N) (h0 : ¬ t.val % 64 = 0) (h2 : ¬ t.val % 64 = 63) :
    outsAt0 m c t.val t.isLt = outsB m c t (isB t h0 h2) (prev1 m c t) (prev2 m c t) := by
  obtain ⟨n, hn⟩ := t
  cases n with
  | zero => exact absurd (Nat.zero_mod _) h0
  | succ n => exact (dif_neg h0).trans (dif_neg h2)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ owns (c : Thread nD τ) scM0_1 fullShare ((outsAt0 m c n hn).2.2.2.2.2.1) ∗ owns (c : Thread nD τ) scM0_2 fullShare ((outsAt0 m c n hn).2.2.2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop((∃ d, owns (c : Thread nD τ) scM0_0 fullShare d) ∗ owns (c : Thread nD τ) scM0_1 fullShare ((outsAt0 m c n hn).2.2.2.2.2.1) ∗ owns (c : Thread nD τ) scM0_2 fullShare ((outsAt0 m c n hn).2.2.2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop((∃ d, owns (c : Thread nD τ) scM0_0 fullShare d) ∗ owns (c : Thread nD τ) scM0_1 fullShare ((outsAt0 m c (n - 1) (by omega)).2.2.2.2.2.1) ∗ owns (c : Thread nD τ) scM0_2 fullShare ((outsAt0 m c (n - 1) (by omega)).2.2.2.2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => (outsAt0 m c t.val t.isLt).1
    | ⟨12, _⟩ => (outsAt0 m c t.val t.isLt).2.1
    | ⟨13, _⟩ => (outsAt0 m c t.val t.isLt).2.2.1
    | ⟨14, _⟩ => (outsAt0 m c t.val t.isLt).2.2.2.1
    | ⟨15, _⟩ => (outsAt0 m c t.val t.isLt).2.2.2.2.1
    | ⟨_ + 16, h⟩ => absurd h (Nat.not_lt.2 (Nat.le_add_left _ _))
  Φ t := PhiS m c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = (outsAt0 m c t.val t.isLt).1 := by dsimp only [dats]
theorem after0_12 (c : Dev nD) (t : Fin cfg0.N) : (dats m 0 c).after 12 t = (outsAt0 m c t.val t.isLt).2.1 := by dsimp only [dats]
theorem after0_13 (c : Dev nD) (t : Fin cfg0.N) : (dats m 0 c).after 13 t = (outsAt0 m c t.val t.isLt).2.2.1 := by dsimp only [dats]
theorem after0_14 (c : Dev nD) (t : Fin cfg0.N) : (dats m 0 c).after 14 t = (outsAt0 m c t.val t.isLt).2.2.2.1 := by dsimp only [dats]
theorem after0_15 (c : Dev nD) (t : Fin cfg0.N) : (dats m 0 c).after 15 t = (outsAt0 m c t.val t.isLt).2.2.2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t)

end Cert.GatesIdeal.Gen

end
-- ==== Proof.GFrame2.lean ====
module

public import proofs.«01_k».proof.Proof.GFrame

@[expose] public section

set_option maxRecDepth 16384

noncomputable section

namespace Cert.GatesIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each window is left with -/

theorem leaves_0 (c : Dev nD) (t : Fin cfg0.N) : (dats m 0 c).leavesExact 0 t = owns (c : Thread nD τ) (ms0_0 t) fullShare (iblk m c 0 t) := by
  rw [← after0_0]

theorem leaves_1 (c : Dev nD) (t : Fin cfg0.N) : (dats m 0 c).leavesExact 1 t = owns (c : Thread nD τ) (ms0_1 t) fullShare (iblk m c 1 t) := by
  rw [← after0_1]

theorem leaves_2 (c : Dev nD) (t : Fin cfg0.N) : (dats m 0 c).leavesExact 2 t = owns (c : Thread nD τ) (ms0_2 t) fullShare (iblk m c 2 t) := by
  rw [← after0_2]

theorem leaves_3 (c : Dev nD) (t : Fin cfg0.N) : (dats m 0 c).leavesExact 3 t = owns (c : Thread nD τ) (ms0_3 t) fullShare (iblk m c 3 t) := by
  rw [← after0_3]

theorem leaves_4 (c : Dev nD) (t : Fin cfg0.N) : (dats m 0 c).leavesExact 4 t = owns (c : Thread nD τ) (ms0_4 t) fullShare (iblk m c 4 t) := by
  rw [← after0_4]

theorem leaves_5 (c : Dev nD) (t : Fin cfg0.N) : (dats m 0 c).leavesExact 5 t = owns (c : Thread nD τ) (ms0_5 t) fullShare (iblk m c 5 t) := by
  rw [← after0_5]

theorem leaves_6 (c : Dev nD) (t : Fin cfg0.N) : (dats m 0 c).leavesExact 6 t = owns (c : Thread nD τ) (ms0_6 t) fullShare (iblk m c 6 t) := by
  rw [← after0_6]

theorem leaves_7 (c : Dev nD) (t : Fin cfg0.N) : (dats m 0 c).leavesExact 7 t = owns (c : Thread nD τ) (ms0_7 t) fullShare (iblk m c 7 t) := by
  rw [← after0_7]

theorem leaves_8 (c : Dev nD) (t : Fin cfg0.N) : (dats m 0 c).leavesExact 8 t = owns (c : Thread nD τ) (ms0_8 t) fullShare (iblk m c 8 t) := by
  rw [← after0_8]

theorem leaves_9 (c : Dev nD) (t : Fin cfg0.N) : (dats m 0 c).leavesExact 9 t = owns (c : Thread nD τ) (ms0_9 t) fullShare (iblk m c 9 t) := by
  rw [← after0_9]

theorem leaves_10 (c : Dev nD) (t : Fin cfg0.N) : (dats m 0 c).leavesExact 10 t = owns (c : Thread nD τ) (ms0_10 t) fullShare (iblk m c 10 t) := by
  rw [← after0_10]

theorem leaves_11 (c : Dev nD) (t : Fin cfg0.N) : (dats m 0 c).leavesExact 11 t = owns (c : Thread nD τ) (ms0_11 t) fullShare ((outsAt0 m c t.val t.isLt).1) := by
  rw [← after0_11]

theorem leaves_12 (c : Dev nD) (t : Fin cfg0.N) : (dats m 0 c).leavesExact 12 t = owns (c : Thread nD τ) (ms0_12 t) fullShare ((outsAt0 m c t.val t.isLt).2.1) := by
  rw [← after0_12]

theorem leaves_13 (c : Dev nD) (t : Fin cfg0.N) : (dats m 0 c).leavesExact 13 t = owns (c : Thread nD τ) (ms0_13 t) fullShare ((outsAt0 m c t.val t.isLt).2.2.1) := by
  rw [← after0_13]

theorem leaves_14_A (c : Dev nD) (t : Fin cfg0.N) (h : conds0_A (grid0.coords t)) : (dats m 0 c).leavesExact 14 t = iprop(∃ d, owns (c : Thread nD τ) (ms0_14 t) fullShare ((dats m 0 c).before 14 t d)) :=
  Dat.leavesExact_idle (dats m 0 c) 14 t (idleAt0_14_A t h.1 h.2.1 h.2.2.1 h.2.2.2) (noFlush0_14_A t h.1 h.2.1 h.2.2.1 h.2.2.2)

theorem leaves_15_A (c : Dev nD) (t : Fin cfg0.N) (h : conds0_A (grid0.coords t)) : (dats m 0 c).leavesExact 15 t = iprop(∃ d, owns (c : Thread nD τ) (ms0_15 t) fullShare ((dats m 0 c).before 15 t d)) :=
  Dat.leavesExact_idle (dats m 0 c) 15 t (idleAt0_15_A t h.1 h.2.1 h.2.2.1 h.2.2.2) (noFlush0_15_A t h.1 h.2.1 h.2.2.1 h.2.2.2)

theorem leaves_14_B (c : Dev nD) (t : Fin cfg0.N) (h : conds0_B (grid0.coords t)) : (dats m 0 c).leavesExact 14 t = iprop(∃ d, owns (c : Thread nD τ) (ms0_14 t) fullShare ((dats m 0 c).before 14 t d)) :=
  Dat.leavesExact_idle (dats m 0 c) 14 t (idleAt0_14_B t h.1 h.2.1 h.2.2.1 h.2.2.2) (noFlush0_14_B t h.1 h.2.1 h.2.2.1 h.2.2.2)

theorem leaves_15_B (c : Dev nD) (t : Fin cfg0.N) (h : conds0_B (grid0.coords t)) : (dats m 0 c).leavesExact 15 t = iprop(∃ d, owns (c : Thread nD τ) (ms0_15 t) fullShare ((dats m 0 c).before 15 t d)) :=
  Dat.leavesExact_idle (dats m 0 c) 15 t (idleAt0_15_B t h.1 h.2.1 h.2.2.1 h.2.2.2) (noFlush0_15_B t h.1 h.2.1 h.2.2.1 h.2.2.2)

theorem leaves_14_C (c : Dev nD) (t : Fin cfg0.N) (h : conds0_C (grid0.coords t)) : (dats m 0 c).leavesExact 14 t = owns (c : Thread nD τ) (ms0_14 t) fullShare ((outsAt0 m c t.val t.isLt).2.2.2.1) := by
  rw [← after0_14]; unfold Dat.leavesExact; rw [liveAt0_14_C t h.1 h.2.1 h.2.2.1 h.2.2.2]

theorem leaves_15_C (c : Dev nD) (t : Fin cfg0.N) (h : conds0_C (grid0.coords t)) : (dats m 0 c).leavesExact 15 t = iprop(∃ d, owns (c : Thread nD τ) (ms0_15 t) fullShare ((dats m 0 c).before 15 t d)) :=
  Dat.leavesExact_idle (dats m 0 c) 15 t (idleAt0_15_C t h.1 h.2.1 h.2.2.1 h.2.2.2) (noFlush0_15_C t h.1 h.2.1 h.2.2.1 h.2.2.2)

theorem leaves_14_D (c : Dev nD) (t : Fin cfg0.N) (h : conds0_D (grid0.coords t)) : (dats m 0 c).leavesExact 14 t = iprop(∃ d, owns (c : Thread nD τ) (ms0_14 t) fullShare ((dats m 0 c).before 14 t d)) :=
  Dat.leavesExact_idle (dats m 0 c) 14 t (idleAt0_14_D t h.1 h.2.1 h.2.2.1 h.2.2.2) (noFlush0_14_D t h.1 h.2.1 h.2.2.1 h.2.2.2)

theorem leaves_15_D (c : Dev nD) (t : Fin cfg0.N) (h : conds0_D (grid0.coords t)) : (dats m 0 c).leavesExact 15 t = iprop(∃ d, owns (c : Thread nD τ) (ms0_15 t) fullShare ((dats m 0 c).before 15 t d)) :=
  Dat.leavesExact_idle (dats m 0 c) 15 t (idleAt0_15_D t h.1 h.2.1 h.2.2.1 h.2.2.2) (noFlush0_15_D t h.1 h.2.1 h.2.2.1 h.2.2.2)

theorem leaves_14_E (c : Dev nD) (t : Fin cfg0.N) (h : conds0_E (grid0.coords t)) : (dats m 0 c).leavesExact 14 t = owns (c : Thread nD τ) (ms0_14 t) fullShare ((outsAt0 m c t.val t.isLt).2.2.2.1) := by
  rw [← after0_14]; unfold Dat.leavesExact; rw [liveAt0_14_E t h.1 h.2.1 h.2.2.1 h.2.2.2]

theorem leaves_15_E (c : Dev nD) (t : Fin cfg0.N) (h : conds0_E (grid0.coords t)) : (dats m 0 c).leavesExact 15 t = owns (c : Thread nD τ) (ms0_15 t) fullShare ((outsAt0 m c t.val t.isLt).2.2.2.2.1) := by
  rw [← after0_15]; unfold Dat.leavesExact; rw [liveAt0_15_E t h.1 h.2.1 h.2.2.1 h.2.2.2]

set_option maxHeartbeats 32000000 in
/-- The body at a point of case A: the inputs' memrefs hold their blocks, the scratch what the point before left; the run applies,
    and its pieces, read back, are what the outputs and the scratch are said to hold. -/
theorem sound_A (c : Dev nD) (t : Fin cfg0.N) (hz : t.val = 0) :
    bodyPre m c t ⊢ wp frame (wpE (defs₀ (F := F)) Variants.none c none) Set.univ (bodyAt0 t) (fun _ => bodyPost m c t) := by
  have h : conds0_A (grid0.coords t) := isA t hz
  unfold bodyPre bodyPost bodyAt0
  simp only [before0_0, before0_1, before0_2, before0_3, before0_4, before0_5, before0_6, before0_7, before0_8, before0_9, before0_10]
  rw [show (dats m 0 c).owesAt () t.succ = (dats m 0 c).owesAt () t.castSucc from rfl]
  rw [show (dats m 0 c).Φ t.succ = PhiS m c (t.val + 1) t.isLt from rfl, PhiS_succ]
  rw [leaves_0, leaves_1, leaves_2, leaves_3, leaves_4, leaves_5, leaves_6, leaves_7, leaves_8, leaves_9, leaves_10, leaves_11, leaves_12, leaves_13, leaves_14_A m c t h, leaves_15_A m c t h]
  rw [PhiS_castSucc m c t, PhiS_zero m c _ _ hz, PhiA0_eq]
  rw [outsAt0_A m c t hz]
  unfold outsA; dsimp only
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply ((runA m c t h).2.2.2.2.2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [H14]; · iexact H14
  isplitl [H15]; · iexact H15
  isplitl [HS0]; · iexact HS0
  isplitl [HS1]; · iexact HS1
  isplitl [HS2]; · iexact HS2
  iintro ⟨H0, H1, H2, H3, H4, H5, H6, H7, H8, H9, H10, ⟨%e11, H11⟩, ⟨%e12, H12⟩, ⟨%e13, H13⟩, H14, H15, HS0, ⟨%es1, HS1⟩, ⟨%es2, HS2⟩⟩
  isplitl [HS0 HS1 HS2 Hg]
  · isplitl [HS0 HS1 HS2]
    · isplitl [HS0]
      · iexact HS0
      isplitl [HS1]
      · unfold owns; iexists _; isplitr
        swap; · iexact HS1
        ipureintro; exact View.read_writes_of_cover _ _ _ _ _ (covA_s1 m c t h)
      unfold owns; iexists _; isplitr
      swap; · iexact HS2
      ipureintro; exact View.read_writes_of_cover _ _ _ _ _ (covA_s2 m c t h)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · unfold owns; iexists _; isplitr
    swap; · iexact H11
    ipureintro; exact View.read_writes_of_cover _ _ _ _ _ (covA_11 m c t h)
  isplitl [H12]
  · unfold owns; iexists _; isplitr
    swap; · iexact H12
    ipureintro; exact View.read_writes_of_cover _ _ _ _ _ (covA_12 m c t h)
  isplitl [H13]
  · unfold owns; iexists _; isplitr
    swap; · iexact H13
    ipureintro; exact View.read_writes_of_cover _ _ _ _ _ (covA_13 m c t h)
  isplitl [H14]; · iexists _; iexact H14
  iexists _; iexact H15

set_option maxHeartbeats 32000000 in
/-- The body at a point of case D: the inputs' memrefs hold their blocks, the scratch what the point before left; the run applies,
    and its pieces, read back, are what the outputs and the scratch are said to hold. -/
theorem sound_D (c : Dev nD) (t : Fin cfg0.N) (hz : t.val ≠ 0) (h0 : t.val % 64 = 0) :
    bodyPre m c t ⊢ wp frame (wpE (defs₀ (F := F)) Variants.none c none) Set.univ (bodyAt0 t) (fun _ => bodyPost m c t) := by
  have h : conds0_D (grid0.coords t) := isD t hz h0
  unfold bodyPre bodyPost bodyAt0
  simp only [before0_0, before0_1, before0_2, before0_3, before0_4, before0_5, before0_6, before0_7, before0_8, before0_9, before0_10]
  rw [show (dats m 0 c).owesAt () t.succ = (dats m 0 c).owesAt () t.castSucc from rfl]
  rw [show (dats m 0 c).Φ t.succ = PhiS m c (t.val + 1) t.isLt from rfl, PhiS_succ]
  rw [leaves_0, leaves_1, leaves_2, leaves_3, leaves_4, leaves_5, leaves_6, leaves_7, leaves_8, leaves_9, leaves_10, leaves_11, leaves_12, leaves_13, leaves_14_D m c t h, leaves_15_D m c t h]
  rw [PhiS_castSucc m c t, PhiS_pos m c _ _ hz]
  rw [outsAt0_D m c t hz h0]
  unfold outsD; dsimp only
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply ((runD m c t h (prev1 m c t) (prev2 m c t)).2.2.2.2.2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [H14]; · iexact H14
  isplitl [H15]; · iexact H15
  isplitl [HS0]; · iexact HS0
  isplitl [HS1]; · iexists _; iexact HS1
  isplitl [HS2]; · iexact HS2
  iintro ⟨H0, H1, H2, H3, H4, H5, H6, H7, H8, H9, H10, ⟨%e11, H11⟩, ⟨%e12, H12⟩, ⟨%e13, H13⟩, H14, H15, HS0, ⟨%es1, HS1⟩, ⟨%es2, HS2⟩⟩
  isplitl [HS0 HS1 HS2 Hg]
  · isplitl [HS0 HS1 HS2]
    · isplitl [HS0]
      · iexact HS0
      isplitl [HS1]
      · unfold owns; iexists _; isplitr
        swap; · iexact HS1
        ipureintro; exact View.read_writes_of_cover _ _ _ _ _ (covD_s1 m c t h (prev1 m c t) (prev2 m c t))
      unfold owns; iexists _; isplitr
      swap; · iexact HS2
      ipureintro; exact View.read_writes_of_cover _ _ _ _ _ (covD_s2 m c t h (prev1 m c t) (prev2 m c t))
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · unfold owns; iexists _; isplitr
    swap; · iexact H11
    ipureintro; exact View.read_writes_of_cover _ _ _ _ _ (covD_11 m c t h (prev1 m c t) (prev2 m c t))
  isplitl [H12]
  · unfold owns; iexists _; isplitr
    swap; · iexact H12
    ipureintro; exact View.read_writes_of_cover _ _ _ _ _ (covD_12 m c t h (prev1 m c t) (prev2 m c t))
  isplitl [H13]
  · unfold owns; iexists _; isplitr
    swap; · iexact H13
    ipureintro; exact View.read_writes_of_cover _ _ _ _ _ (covD_13 m c t h (prev1 m c t) (prev2 m c t))
  isplitl [H14]; · iexists _; iexact H14
  iexists _; iexact H15

set_option maxHeartbeats 32000000 in
/-- The body at a point of case E: the inputs' memrefs hold their blocks, the scratch what the point before left; the run applies,
    and its pieces, read back, are what the outputs and the scratch are said to hold. -/
theorem sound_E (c : Dev nD) (t : Fin cfg0.N) (h3 : t.val % 128 = 127) :
    bodyPre m c t ⊢ wp frame (wpE (defs₀ (F := F)) Variants.none c none) Set.univ (bodyAt0 t) (fun _ => bodyPost m c t) := by
  have h : conds0_E (grid0.coords t) := isE t h3
  unfold bodyPre bodyPost bodyAt0
  simp only [before0_0, before0_1, before0_2, before0_3, before0_4, before0_5, before0_6, before0_7, before0_8, before0_9, before0_10]
  rw [show (dats m 0 c).owesAt () t.succ = (dats m 0 c).owesAt () t.castSucc from rfl]
  rw [show (dats m 0 c).Φ t.succ = PhiS m c (t.val + 1) t.isLt from rfl, PhiS_succ]
  rw [leaves_0, leaves_1, leaves_2, leaves_3, leaves_4, leaves_5, leaves_6, leaves_7, leaves_8, leaves_9, leaves_10, leaves_11, leaves_12, leaves_13, leaves_14_E m c t h, leaves_15_E m c t h]
  rw [PhiS_castSucc m c t, PhiS_pos m c _ _ (by omega)]
  rw [outsAt0_E m c t h3]
  unfold outsE; dsimp only
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply ((runE m c t h (prev1 m c t) (prev2 m c t)).2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [H14]; · iexists _; iexact H14
  isplitl [H15]; · iexists _; iexact H15
  isplitl [HS0]; · iexact HS0
  isplitl [HS1]; · iexact HS1
  isplitl [HS2]; · iexact HS2
  iintro ⟨H0, H1, H2, H3, H4, H5, H6, H7, H8, H9, H10, ⟨%e11, H11⟩, ⟨%e12, H12⟩, ⟨%e13, H13⟩, ⟨%e14, H14⟩, ⟨%e15, H15⟩, HS0, ⟨%es1, HS1⟩, ⟨%es2, HS2⟩⟩
  isplitl [HS0 HS1 HS2 Hg]
  · isplitl [HS0 HS1 HS2]
    · isplitl [HS0]
      · iexact HS0
      isplitl [HS1]
      · unfold owns; iexists _; isplitr
        swap; · iexact HS1
        ipureintro; exact View.read_writes_of_cover _ _ _ _ _ (covE_s1 m c t h (prev1 m c t) (prev2 m c t))
      unfold owns; iexists _; isplitr
      swap; · iexact HS2
      ipureintro; exact View.read_writes_of_cover _ _ _ _ _ (covE_s2 m c t h (prev1 m c t) (prev2 m c t))
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · unfold owns; iexists _; isplitr
    swap; · iexact H11
    ipureintro; exact View.read_writes_of_cover _ _ _ _ _ (covE_11 m c t h (prev1 m c t) (prev2 m c t))
  isplitl [H12]
  · unfold owns; iexists _; isplitr
    swap; · iexact H12
    ipureintro; exact View.read_writes_of_cover _ _ _ _ _ (covE_12 m c t h (prev1 m c t) (prev2 m c t))
  isplitl [H13]
  · unfold owns; iexists _; isplitr
    swap; · iexact H13
    ipureintro; exact View.read_writes_of_cover _ _ _ _ _ (covE_13 m c t h (prev1 m c t) (prev2 m c t))
  isplitl [H14]
  · unfold owns; iexists _; isplitr
    swap; · iexact H14
    ipureintro; exact View.read_writes_of_cover _ _ _ _ _ (covE_14 m c t h (prev1 m c t) (prev2 m c t))
  unfold owns; iexists _; isplitr
  swap; · iexact H15
  ipureintro; exact View.read_writes_of_cover _ _ _ _ _ (covE_15 m c t h (prev1 m c t) (prev2 m c t))

set_option maxHeartbeats 32000000 in
/-- The body at a point of case C: the inputs' memrefs hold their blocks, the scratch what the point before left; the run applies,
    and its pieces, read back, are what the outputs and the scratch are said to hold. -/
theorem sound_C (c : Dev nD) (t : Fin cfg0.N) (h2 : t.val % 64 = 63) (h3 : ¬ t.val % 128 = 127) :
    bodyPre m c t ⊢ wp frame (wpE (defs₀ (F := F)) Variants.none c none) Set.univ (bodyAt0 t) (fun _ => bodyPost m c t) := by
  have h : conds0_C (grid0.coords t) := isC t h2 h3
  unfold bodyPre bodyPost bodyAt0
  simp only [before0_0, before0_1, before0_2, before0_3, before0_4, before0_5, before0_6, before0_7, before0_8, before0_9, before0_10]
  rw [show (dats m 0 c).owesAt () t.succ = (dats m 0 c).owesAt () t.castSucc from rfl]
  rw [show (dats m 0 c).Φ t.succ = PhiS m c (t.val + 1) t.isLt from rfl, PhiS_succ]
  rw [leaves_0, leaves_1, leaves_2, leaves_3, leaves_4, leaves_5, leaves_6, leaves_7, leaves_8, leaves_9, leaves_10, leaves_11, leaves_12, leaves_13, leaves_14_C m c t h, leaves_15_C m c t h]
  rw [PhiS_castSucc m c t, PhiS_pos m c _ _ (by omega)]
  rw [outsAt0_C m c t h2 h3]
  unfold outsC; dsimp only
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply ((runC m c t h (prev1 m c t) (prev2 m c t)).2.2.2.2.2.2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [H14]; · iexists _; iexact H14
  isplitl [H15]; · iexact H15
  isplitl [HS0]; · iexact HS0
  isplitl [HS1]; · iexact HS1
  isplitl [HS2]; · iexact HS2
  iintro ⟨H0, H1, H2, H3, H4, H5, H6, H7, H8, H9, H10, ⟨%e11, H11⟩, ⟨%e12, H12⟩, ⟨%e13, H13⟩, ⟨%e14, H14⟩, H15, HS0, ⟨%es1, HS1⟩, ⟨%es2, HS2⟩⟩
  isplitl [HS0 HS1 HS2 Hg]
  · isplitl [HS0 HS1 HS2]
    · isplitl [HS0]
      · iexact HS0
      isplitl [HS1]
      · unfold owns; iexists _; isplitr
        swap; · iexact HS1
        ipureintro; exact View.read_writes_of_cover _ _ _ _ _ (covC_s1 m c t h (prev1 m c t) (prev2 m c t))
      unfold owns; iexists _; isplitr
      swap; · iexact HS2
      ipureintro; exact View.read_writes_of_cover _ _ _ _ _ (covC_s2 m c t h (prev1 m c t) (prev2 m c t))
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · unfold owns; iexists _; isplitr
    swap; · iexact H11
    ipureintro; exact View.read_writes_of_cover _ _ _ _ _ (covC_11 m c t h (prev1 m c t) (prev2 m c t))
  isplitl [H12]
  · unfold owns; iexists _; isplitr
    swap; · iexact H12
    ipureintro; exact View.read_writes_of_cover _ _ _ _ _ (covC_12 m c t h (prev1 m c t) (prev2 m c t))
  isplitl [H13]
  · unfold owns; iexists _; isplitr
    swap; · iexact H13
    ipureintro; exact View.read_writes_of_cover _ _ _ _ _ (covC_13 m c t h (prev1 m c t) (prev2 m c t))
  isplitl [H14]
  · unfold owns; iexists _; isplitr
    swap; · iexact H14
    ipureintro; exact View.read_writes_of_cover _ _ _ _ _ (covC_14 m c t h (prev1 m c t) (prev2 m c t))
  iexists _; iexact H15

set_option maxHeartbeats 32000000 in
/-- The body at a point of case B: the inputs' memrefs hold their blocks, the scratch what the point before left; the run applies,
    and its pieces, read back, are what the outputs and the scratch are said to hold. -/
theorem sound_B (c : Dev nD) (t : Fin cfg0.N) (h0 : ¬ t.val % 64 = 0) (h2 : ¬ t.val % 64 = 63) :
    bodyPre m c t ⊢ wp frame (wpE (defs₀ (F := F)) Variants.none c none) Set.univ (bodyAt0 t) (fun _ => bodyPost m c t) := by
  have h : conds0_B (grid0.coords t) := isB t h0 h2
  unfold bodyPre bodyPost bodyAt0
  simp only [before0_0, before0_1, before0_2, before0_3, before0_4, before0_5, before0_6, before0_7, before0_8, before0_9, before0_10]
  rw [show (dats m 0 c).owesAt () t.succ = (dats m 0 c).owesAt () t.castSucc from rfl]
  rw [show (dats m 0 c).Φ t.succ = PhiS m c (t.val + 1) t.isLt from rfl, PhiS_succ]
  rw [leaves_0, leaves_1, leaves_2, leaves_3, leaves_4, leaves_5, leaves_6, leaves_7, leaves_8, leaves_9, leaves_10, leaves_11, leaves_12, leaves_13, leaves_14_B m c t h, leaves_15_B m c t h]
  rw [PhiS_castSucc m c t, PhiS_pos m c _ _ (by omega)]
  rw [outsAt0_B m c t h0 h2]
  unfold outsB; dsimp only
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply ((runB m c t h (prev1 m c t) (prev2 m c t)).2.2.2.2.2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [H14]; · iexact H14
  isplitl [H15]; · iexact H15
  isplitl [HS0]; · iexact HS0
  isplitl [HS1]; · iexact HS1
  isplitl [HS2]; · iexact HS2
  iintro ⟨H0, H1, H2, H3, H4, H5, H6, H7, H8, H9, H10, ⟨%e11, H11⟩, ⟨%e12, H12⟩, ⟨%e13, H13⟩, H14, H15, HS0, ⟨%es1, HS1⟩, ⟨%es2, HS2⟩⟩
  isplitl [HS0 HS1 HS2 Hg]
  · isplitl [HS0 HS1 HS2]
    · isplitl [HS0]
      · iexact HS0
      isplitl [HS1]
      · unfold owns; iexists _; isplitr
        swap; · iexact HS1
        ipureintro; exact View.read_writes_of_cover _ _ _ _ _ (covB_s1 m c t h (prev1 m c t) (prev2 m c t))
      unfold owns; iexists _; isplitr
      swap; · iexact HS2
      ipureintro; exact View.read_writes_of_cover _ _ _ _ _ (covB_s2 m c t h (prev1 m c t) (prev2 m c t))
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · unfold owns; iexists _; isplitr
    swap; · iexact H11
    ipureintro; exact View.read_writes_of_cover _ _ _ _ _ (covB_11 m c t h (prev1 m c t) (prev2 m c t))
  isplitl [H12]
  · unfold owns; iexists _; isplitr
    swap; · iexact H12
    ipureintro; exact View.read_writes_of_cover _ _ _ _ _ (covB_12 m c t h (prev1 m c t) (prev2 m c t))
  isplitl [H13]
  · unfold owns; iexists _; isplitr
    swap; · iexact H13
    ipureintro; exact View.read_writes_of_cover _ _ _ _ _ (covB_13 m c t h (prev1 m c t) (prev2 m c t))
  isplitl [H14]; · iexists _; iexact H14
  iexists _; iexact H15

/-- The body at any point: the closed forms say which case the point is in. -/
theorem sound_body (c : Dev nD) (t : Fin cfg0.N) :
    bodyPre m c t ⊢ wp frame (wpE (defs₀ (F := F)) Variants.none c none) Set.univ (bodyAt0 t) (fun _ => bodyPost m c t) := by
  by_cases hz : t.val = 0
  · exact sound_A m c t hz
  by_cases h0 : t.val % 64 = 0
  · exact sound_D m c t hz h0
  by_cases h2 : t.val % 64 = 63
  · by_cases h3 : t.val % 128 = 127
    · exact sound_E m c t h3
    · exact sound_C m c t h2 h3
  · exact sound_B m c t h0 h2

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexact HS0
    isplitl [HS1]
    · iexists _; iexact HS1
    iexists _; iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 128 := N_0; omega)

/-! ## The run and the frame -/

-- `θ_run_frame_track_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

/-- The frame of the program: it runs to the end without a fault, its arguments end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

end Cert.GatesIdeal.Gen

end
-- ==== Proof.GVec.lean ====
module

public import proofs.«01_k».proof.Proof.Gen.GatesIdeal.Frame.Runs

@[expose] public section

set_option maxRecDepth 16384
set_option maxHeartbeats 4000000

noncomputable section

namespace Cert.GatesIdeal.Gen

open Idealize.ShloMosaic Idealize.ShloMosaic.TcCoe

variable {F : FTy → Type} [FloatOps F]

/-- The eight rows that start at row `o` of a tile of sixty-four. -/
def sl8 (o : ℕ) (h : S64x256.Slices ![o, 0] S8x256) (v : FVec F S64x256 .f32) : FVec F S8x256 .f32 :=
  extractStridedSlice S8x256 ![o, 0] v h

/-- Row `o` of a tile of sixty-four. -/
def sl1 (o : ℕ) (h : S64x256.Slices ![o, 0] S1x256) (v : FVec F S64x256 .f32) : FVec F S1x256 .f32 :=
  extractStridedSlice S1x256 ![o, 0] v h

/-- One row, eight times. -/
def bc8 (v : FVec F S1x256 .f32) : FVec F S8x256 .f32 := broadcastTo S8x256 v broadcasts_S1x256_S8x256

/-- The eight rows rotated down by `n`. -/
def rot8 (n : BitVec 32) (v : FVec F S8x256 .f32) : FVec F S8x256 .f32 :=
  dynamicRotate 0 n none v rotates_S8x256_d0

/-- The state before each of eight tokens: the row above, and `before` above the first. -/
def cpV (v0 : IVec S8x256 32) (before : FVec F S1x256 .f32) (c : FVec F S8x256 .f32) : FVec F S8x256 .f32 :=
  select (cmpi .eq v0 (broadcast S8x256 0#32))
    (bc8 (shapeCast S1x256 before shapeCasts_S1x256_S1x256)) (rot8 1#32 c)

/-- What a group of eight tokens reads: cotangent, input, candidate, the two gates' inputs, the state
and the state before, and the four rows of parameters. -/
structure Gin (F : FTy → Type) where
  g : FVec F S8x256 .f32
  x : FVec F S8x256 .f32
  xt : FVec F S8x256 .f32
  uf : FVec F S8x256 .f32
  ur : FVec F S8x256 .f32
  c : FVec F S8x256 .f32
  cp : FVec F S8x256 .f32
  vf : FVec F S1x256 .f32
  vr : FVec F S1x256 .f32
  bf : FVec F S1x256 .f32
  br : FVec F S1x256 .f32

namespace Gin
variable (G : Gin F) (v0 : IVec S8x256 32)

def half : FVec F S8x256 .f32 := broadcast S8x256 (Scalar.ofBits .f32 0x3F000000#32)
/-- Half the hyperbolic tangent of half a gate's argument. -/
def th (u v b cp : FVec F S8x256 .f32) : FVec F S8x256 .f32 :=
  mulf half (tanh (mulf half (addf (addf u (mulf v cp)) b)))
def f : FVec F S8x256 .f32 := addf half (th G.uf (bc8 G.vf) (bc8 G.bf) G.cp)
def f1 : FVec F S8x256 .f32 := subf half (th G.uf (bc8 G.vf) (bc8 G.bf) G.cp)
def r : FVec F S8x256 .f32 := addf half (th G.ur (bc8 G.vr) (bc8 G.br) G.cp)
def r1 : FVec F S8x256 .f32 := subf half (th G.ur (bc8 G.vr) (bc8 G.br) G.cp)
def hw : FVec F S8x256 .f32 := mulf G.g G.r1
def dr : FVec F S8x256 .f32 := mulf (mulf (subf G.c G.x) G.r) G.hw
def gr : FVec F S8x256 .f32 := mulf G.g G.r
def q : FVec F S8x256 .f32 := mulf (subf G.cp G.xt) (mulf G.f G.f1)
def a : FVec F S8x256 .f32 := addf G.f (mulf (bc8 G.vf) G.q)
def e : FVec F S8x256 .f32 := addf (mulf G.gr G.a) (mulf G.dr (bc8 G.vr))

/-- Doubling the span of the step's offset. -/
def dblE (n m : BitVec 32) (v0 : IVec S8x256 32) (a e : FVec F S8x256 .f32) : FVec F S8x256 .f32 :=
  addf e (select (cmpi .slt v0 (broadcast S8x256 n)) (mulf a (rot8 m e)) (broadcast S8x256 (Scalar.ofBits .f32 0x00000000#32)))
/-- Doubling the span of the step's factor. -/
def dblA (n m : BitVec 32) (v0 : IVec S8x256 32) (a : FVec F S8x256 .f32) : FVec F S8x256 .f32 :=
  mulf a (select (cmpi .slt v0 (broadcast S8x256 n)) (rot8 m a) (broadcast S8x256 (Scalar.ofBits .f32 0x3F800000#32)))
def a1 : FVec F S8x256 .f32 := dblA 7#32 7#32 v0 G.a
def e1 : FVec F S8x256 .f32 := dblE 7#32 7#32 v0 G.a G.e
def a2 : FVec F S8x256 .f32 := dblA 6#32 6#32 v0 (G.a1 v0)
def e2 : FVec F S8x256 .f32 := dblE 6#32 6#32 v0 (G.a1 v0) (G.e1 v0)
def a3 : FVec F S8x256 .f32 := dblA 4#32 4#32 v0 (G.a2 v0)
def e3 : FVec F S8x256 .f32 := dblE 4#32 4#32 v0 (G.a2 v0) (G.e2 v0)
/-- The carried cotangent of each token. -/
def dt (d : FVec F S8x256 .f32) : FVec F S8x256 .f32 := addf (mulf (G.a3 v0) d) (G.e3 v0)
/-- What the next group carries in. -/
def dout (d : FVec F S8x256 .f32) : FVec F S8x256 .f32 :=
  bc8 (shapeCast S1x256 (extractStridedSlice S1x256 ![0, 0] (G.dt v0 d) slices_S8x256_o0_0_S1x256) shapeCasts_S1x256_S1x256)
/-- What each token takes from the one after. -/
def dn (d : FVec F S8x256 .f32) : FVec F S8x256 .f32 :=
  select (cmpi .eq v0 (broadcast S8x256 7#32)) d (rot8 7#32 (G.dt v0 d))
def df (d : FVec F S8x256 .f32) : FVec F S8x256 .f32 := mulf (addf G.gr (G.dn v0 d)) G.q
def svf (d s : FVec F S8x256 .f32) : FVec F S8x256 .f32 := addf s (mulf (G.df v0 d) G.cp)
def svr (s : FVec F S8x256 .f32) : FVec F S8x256 .f32 := addf s (mulf G.dr G.cp)
def sbf (d s : FVec F S8x256 .f32) : FVec F S8x256 .f32 := addf s (G.df v0 d)
def sbr (s : FVec F S8x256 .f32) : FVec F S8x256 .f32 := addf s G.dr
end Gin

/-- The group at row `o` of a tile. -/
def ginOf (o : ℕ) (h : S64x256.Slices ![o, 0] S8x256) (v0 : IVec S8x256 32) (g x xt uf ur c : FVec F S64x256 .f32)
    (before vf vr bf br : FVec F S1x256 .f32) : Gin F :=
  ⟨sl8 o h g, sl8 o h x, sl8 o h xt, sl8 o h uf, sl8 o h ur, sl8 o h c, cpV v0 before (sl8 o h c), vf, vr, bf, br⟩

end Cert.GatesIdeal.Gen
-- ==== Proof.GVecG.lean ====
module

public import proofs.«01_k».proof.Proof.GVec

@[expose] public section

set_option maxRecDepth 16384
set_option maxHeartbeats 4000000

noncomputable section

namespace Cert.GatesIdeal.Gen

open Idealize.ShloMosaic Idealize.ShloMosaic.TcCoe

variable {F : FTy → Type} [FloatOps F]

section
variable (𝒱 : Variants) (c : Dev nD) (bd : Option 𝒱.V) (i : grid0.Coords) (arg2 : Memref sig .tc .vmem S1x64x7168 .bf16) (harg2 : arg2.IsWhole) (arg3 : Memref sig .tc .vmem S1x64x7168 .bf16) (harg3 : arg3.IsWhole) (arg4 : Memref sig .tc .vmem S1x64x7168 .bf16) (harg4 : arg4.IsWhole) (arg5 : Memref sig .tc .vmem S1x64x7168 .bf16) (harg5 : arg5.IsWhole) (arg6 : Memref sig .tc .vmem S1x64x7168 .f32) (harg6 : arg6.IsWhole) (arg7 : Memref sig .tc .vmem S1x8x7168 .f32) (harg7 : arg7.IsWhole) (arg8 : Memref sig .tc .vmem S1x1x7168 .f32) (harg8 : arg8.IsWhole) (arg9 : Memref sig .tc .vmem S1x64x7168 .fp8e5m2) (harg9 : arg9.IsWhole) (arg10 : Memref sig .tc .vmem S1x64x1 .f32) (harg10 : arg10.IsWhole) (arg11 : Memref sig .tc .vmem S4x7168 .f32) (harg11 : arg11.IsWhole) (arg12 : Memref sig .tc .vmem S1x1x7168 .f32) (harg12 : arg12.IsWhole) (arg13 : Memref sig .tc .vmem S1x64x21504 .fp8e5m2) (harg13 : arg13.IsWhole) (arg14 : Memref sig .tc .vmem S1x64x3 .f32) (harg14 : arg14.IsWhole) (arg15 : Memref sig .tc .vmem S1x64x7168 .f32) (harg15 : arg15.IsWhole) (arg16 : Memref sig .tc .vmem S1x1x7168 .f32) (harg16 : arg16.IsWhole) (arg17 : Memref sig .tc .vmem S4x7168 .f32) (harg17 : arg17.IsWhole) (arg18 : Memref sig .tc .vmem S3x64x7168 .f32) (harg18 : arg18.IsWhole) (arg19 : Memref sig .tc .vmem S8x7168 .f32) (harg19 : arg19.IsWhole) (arg20 : Memref sig .tc .vmem S4x8x7168 .f32) (harg20 : arg20.IsWhole) (v0 : IVec S8x256 32) (v9 : Vec F S1x64x1 .f32) (v13 : BitVec 1) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg11 : BufTy.Contents (Elt F) arg11.view.ty) (f_arg19 : BufTy.Contents (Elt F) arg19.view.ty) (f_arg20 : BufTy.Contents (Elt F) arg20.view.ty) (k : Fin k0_t1_loop.trips)

/-- Group 7: `dout`. -/
theorem g7_dout : (trip_k0_t1.sl.r_33 arg2 arg3 arg4 arg5 arg6 arg9 arg11 arg19 v0 v9 X_arg2 X_arg3 X_arg4 X_arg5 X_arg6 X_arg9 X_arg11 k f_arg19) = Gin.dout (ginOf 56 slices_S64x256_o56_0_S8x256 v0 (trip_k0_t1.sl.r_4 arg9 v9 X_arg9 k) (trip_k0_t1.sl.r_5 arg2 X_arg2 k) (trip_k0_t1.sl.r_6 arg3 X_arg3 k) (trip_k0_t1.sl.r_7 arg4 X_arg4 k) (trip_k0_t1.sl.r_8 arg5 X_arg5 k) (trip_k0_t1.sl.r_9 arg6 X_arg6 k) (sl1 55 slices_S64x256_o55_0_S1x256 (trip_k0_t1.sl.r_9 arg6 X_arg6 k)) (trip_k0_t1.sl.r arg11 X_arg11 k) (trip_k0_t1.sl.r_1 arg11 X_arg11 k) (trip_k0_t1.sl.r_2 arg11 X_arg11 k) (trip_k0_t1.sl.r_3 arg11 X_arg11 k)) v0 (trip_k0_t1.sl.r_12 arg19 k f_arg19) := by
  with_unfolding_all rfl

/-- Group 7: `svf`. -/
theorem g7_svf : (trip_k0_t1.sl.r_35 arg2 arg3 arg4 arg5 arg6 arg9 arg11 arg19 arg20 v0 v9 X_arg2 X_arg3 X_arg4 X_arg5 X_arg6 X_arg9 X_arg11 k f_arg19 f_arg20) = Gin.svf (ginOf 56 slices_S64x256_o56_0_S8x256 v0 (trip_k0_t1.sl.r_4 arg9 v9 X_arg9 k) (trip_k0_t1.sl.r_5 arg2 X_arg2 k) (trip_k0_t1.sl.r_6 arg3 X_arg3 k) (trip_k0_t1.sl.r_7 arg4 X_arg4 k) (trip_k0_t1.sl.r_8 arg5 X_arg5 k) (trip_k0_t1.sl.r_9 arg6 X_arg6 k) (sl1 55 slices_S64x256_o55_0_S1x256 (trip_k0_t1.sl.r_9 arg6 X_arg6 k)) (trip_k0_t1.sl.r arg11 X_arg11 k) (trip_k0_t1.sl.r_1 arg11 X_arg11 k) (trip_k0_t1.sl.r_2 arg11 X_arg11 k) (trip_k0_t1.sl.r_3 arg11 X_arg11 k)) v0 (trip_k0_t1.sl.r_12 arg19 k f_arg19) (trip_k0_t1.sl.r_13 arg20 k f_arg20) := by
  with_unfolding_all rfl

/-- Group 7: `svr`. -/
theorem g7_svr : (trip_k0_t1.sl.r_36 arg2 arg5 arg6 arg9 arg11 arg20 v0 v9 X_arg2 X_arg5 X_arg6 X_arg9 X_arg11 k f_arg20) = Gin.svr (ginOf 56 slices_S64x256_o56_0_S8x256 v0 (trip_k0_t1.sl.r_4 arg9 v9 X_arg9 k) (trip_k0_t1.sl.r_5 arg2 X_arg2 k) (trip_k0_t1.sl.r_6 arg3 X_arg3 k) (trip_k0_t1.sl.r_7 arg4 X_arg4 k) (trip_k0_t1.sl.r_8 arg5 X_arg5 k) (trip_k0_t1.sl.r_9 arg6 X_arg6 k) (sl1 55 slices_S64x256_o55_0_S1x256 (trip_k0_t1.sl.r_9 arg6 X_arg6 k)) (trip_k0_t1.sl.r arg11 X_arg11 k) (trip_k0_t1.sl.r_1 arg11 X_arg11 k) (trip_k0_t1.sl.r_2 arg11 X_arg11 k) (trip_k0_t1.sl.r_3 arg11 X_arg11 k)) (trip_k0_t1.sl.r_14 arg20 k f_arg20) := by
  with_unfolding_all rfl

/-- Group 7: `sbf`. -/
theorem g7_sbf : (trip_k0_t1.sl.r_37 arg2 arg3 arg4 arg5 arg6 arg9 arg11 arg19 arg20 v0 v9 X_arg2 X_arg3 X_arg4 X_arg5 X_arg6 X_arg9 X_arg11 k f_arg19 f_arg20) = Gin.sbf (ginOf 56 slices_S64x256_o56_0_S8x256 v0 (trip_k0_t1.sl.r_4 arg9 v9 X_arg9 k) (trip_k0_t1.sl.r_5 arg2 X_arg2 k) (trip_k0_t1.sl.r_6 arg3 X_arg3 k) (trip_k0_t1.sl.r_7 arg4 X_arg4 k) (trip_k0_t1.sl.r_8 arg5 X_arg5 k) (trip_k0_t1.sl.r_9 arg6 X_arg6 k) (sl1 55 slices_S64x256_o55_0_S1x256 (trip_k0_t1.sl.r_9 arg6 X_arg6 k)) (trip_k0_t1.sl.r arg11 X_arg11 k) (trip_k0_t1.sl.r_1 arg11 X_arg11 k) (trip_k0_t1.sl.r_2 arg11 X_arg11 k) (trip_k0_t1.sl.r_3 arg11 X_arg11 k)) v0 (trip_k0_t1.sl.r_12 arg19 k f_arg19) (trip_k0_t1.sl.r_15 arg20 k f_arg20) := by
  with_unfolding_all rfl

/-- Group 7: `sbr`. -/
theorem g7_sbr : (trip_k0_t1.sl.r_38 arg2 arg5 arg6 arg9 arg11 arg20 v0 v9 X_arg2 X_arg5 X_arg6 X_arg9 X_arg11 k f_arg20) = Gin.sbr (ginOf 56 slices_S64x256_o56_0_S8x256 v0 (trip_k0_t1.sl.r_4 arg9 v9 X_arg9 k) (trip_k0_t1.sl.r_5 arg2 X_arg2 k) (trip_k0_t1.sl.r_6 arg3 X_arg3 k) (trip_k0_t1.sl.r_7 arg4 X_arg4 k) (trip_k0_t1.sl.r_8 arg5 X_arg5 k) (trip_k0_t1.sl.r_9 arg6 X_arg6 k) (sl1 55 slices_S64x256_o55_0_S1x256 (trip_k0_t1.sl.r_9 arg6 X_arg6 k)) (trip_k0_t1.sl.r arg11 X_arg11 k) (trip_k0_t1.sl.r_1 arg11 X_arg11 k) (trip_k0_t1.sl.r_2 arg11 X_arg11 k) (trip_k0_t1.sl.r_3 arg11 X_arg11 k)) (trip_k0_t1.sl.r_16 arg20 k f_arg20) := by
  with_unfolding_all rfl

/-- Group 6: `dout`. -/
theorem g6_dout : (trip_k0_t1.sl.r_59 arg2 arg3 arg4 arg5 arg6 arg9 arg11 arg19 v0 v9 X_arg2 X_arg3 X_arg4 X_arg5 X_arg6 X_arg9 X_arg11 k f_arg19) = Gin.dout (ginOf 48 slices_S64x256_o48_0_S8x256 v0 (trip_k0_t1.sl.r_4 arg9 v9 X_arg9 k) (trip_k0_t1.sl.r_5 arg2 X_arg2 k) (trip_k0_t1.sl.r_6 arg3 X_arg3 k) (trip_k0_t1.sl.r_7 arg4 X_arg4 k) (trip_k0_t1.sl.r_8 arg5 X_arg5 k) (trip_k0_t1.sl.r_9 arg6 X_arg6 k) (sl1 47 slices_S64x256_o47_0_S1x256 (trip_k0_t1.sl.r_9 arg6 X_arg6 k)) (trip_k0_t1.sl.r arg11 X_arg11 k) (trip_k0_t1.sl.r_1 arg11 X_arg11 k) (trip_k0_t1.sl.r_2 arg11 X_arg11 k) (trip_k0_t1.sl.r_3 arg11 X_arg11 k)) v0 (trip_k0_t1.sl.r_33 arg2 arg3 arg4 arg5 arg6 arg9 arg11 arg19 v0 v9 X_arg2 X_arg3 X_arg4 X_arg5 X_arg6 X_arg9 X_arg11 k f_arg19) := by
  with_unfolding_all rfl

/-- Group 6: `svf`. -/
theorem g6_svf : (trip_k0_t1.sl.r_61 arg2 arg3 arg4 arg5 arg6 arg9 arg11 arg19 arg20 v0 v9 X_arg2 X_arg3 X_arg4 X_arg5 X_arg6 X_arg9 X_arg11 k f_arg19 f_arg20) = Gin.svf (ginOf 48 slices_S64x256_o48_0_S8x256 v0 (trip_k0_t1.sl.r_4 arg9 v9 X_arg9 k) (trip_k0_t1.sl.r_5 arg2 X_arg2 k) (trip_k0_t1.sl.r_6 arg3 X_arg3 k) (trip_k0_t1.sl.r_7 arg4 X_arg4 k) (trip_k0_t1.sl.r_8 arg5 X_arg5 k) (trip_k0_t1.sl.r_9 arg6 X_arg6 k) (sl1 47 slices_S64x256_o47_0_S1x256 (trip_k0_t1.sl.r_9 arg6 X_arg6 k)) (trip_k0_t1.sl.r arg11 X_arg11 k) (trip_k0_t1.sl.r_1 arg11 X_arg11 k) (trip_k0_t1.sl.r_2 arg11 X_arg11 k) (trip_k0_t1.sl.r_3 arg11 X_arg11 k)) v0 (trip_k0_t1.sl.r_33 arg2 arg3 arg4 arg5 arg6 arg9 arg11 arg19 v0 v9 X_arg2 X_arg3 X_arg4 X_arg5 X_arg6 X_arg9 X_arg11 k f_arg19) (trip_k0_t1.sl.r_35 arg2 arg3 arg4 arg5 arg6 arg9 arg11 arg19 arg20 v0 v9 X_arg2 X_arg3 X_arg4 X_arg5 X_arg6 X_arg9 X_arg11 k f_arg19 f_arg20) := by
  with_unfolding_all rfl

/-- Group 6: `svr`. -/
theorem g6_svr : (trip_k0_t1.sl.r_62 arg2 arg5 arg6 arg9 arg11 arg20 v0 v9 X_arg2 X_arg5 X_arg6 X_arg9 X_arg11 k f_arg20) = Gin.svr (ginOf 48 slices_S64x256_o48_0_S8x256 v0 (trip_k0_t1.sl.r_4 arg9 v9 X_arg9 k) (trip_k0_t1.sl.r_5 arg2 X_arg2 k) (trip_k0_t1.sl.r_6 arg3 X_arg3 k) (trip_k0_t1.sl.r_7 arg4 X_arg4 k) (trip_k0_t1.sl.r_8 arg5 X_arg5 k) (trip_k0_t1.sl.r_9 arg6 X_arg6 k) (sl1 47 slices_S64x256_o47_0_S1x256 (trip_k0_t1.sl.r_9 arg6 X_arg6 k)) (trip_k0_t1.sl.r arg11 X_arg11 k) (trip_k0_t1.sl.r_1 arg11 X_arg11 k) (trip_k0_t1.sl.r_2 arg11 X_arg11 k) (trip_k0_t1.sl.r_3 arg11 X_arg11 k)) (trip_k0_t1.sl.r_36 arg2 arg5 arg6 arg9 arg11 arg20 v0 v9 X_arg2 X_arg5 X_arg6 X_arg9 X_arg11 k f_arg20) := by
  with_unfolding_all rfl

/-- Group 6: `sbf`. -/
theorem g6_sbf : (trip_k0_t1.sl.r_63 arg2 arg3 arg4 arg5 arg6 arg9 arg11 arg19 arg20 v0 v9 X_arg2 X_arg3 X_arg4 X_arg5 X_arg6 X_arg9 X_arg11 k f_arg19 f_arg20) = Gin.sbf (ginOf 48 slices_S64x256_o48_0_S8x256 v0 (trip_k0_t1.sl.r_4 arg9 v9 X_arg9 k) (trip_k0_t1.sl.r_5 arg2 X_arg2 k) (trip_k0_t1.sl.r_6 arg3 X_arg3 k) (trip_k0_t1.sl.r_7 arg4 X_arg4 k) (trip_k0_t1.sl.r_8 arg5 X_arg5 k) (trip_k0_t1.sl.r_9 arg6 X_arg6 k) (sl1 47 slices_S64x256_o47_0_S1x256 (trip_k0_t1.sl.r_9 arg6 X_arg6 k)) (trip_k0_t1.sl.r arg11 X_arg11 k) (trip_k0_t1.sl.r_1 arg11 X_arg11 k) (trip_k0_t1.sl.r_2 arg11 X_arg11 k) (trip_k0_t1.sl.r_3 arg11 X_arg11 k)) v0 (trip_k0_t1.sl.r_33 arg2 arg3 arg4 arg5 arg6 arg9 arg11 arg19 v0 v9 X_arg2 X_arg3 X_arg4 X_arg5 X_arg6 X_arg9 X_arg11 k f_arg19) (trip_k0_t1.sl.r_37 arg2 arg3 arg4 arg5 arg6 arg9 arg11 arg19 arg20 v0 v9 X_arg2 X_arg3 X_arg4 X_arg5 X_arg6 X_arg9 X_arg11 k f_arg19 f_arg20) := by
  with_unfolding_all rfl

/-- Group 6: `sbr`. -/
theorem g6_sbr : (trip_k0_t1.sl.r_64 arg2 arg5 arg6 arg9 arg11 arg20 v0 v9 X_arg2 X_arg5 X_arg6 X_arg9 X_arg11 k f_arg20) = Gin.sbr (ginOf 48 slices_S64x256_o48_0_S8x256 v0 (trip_k0_t1.sl.r_4 arg9 v9 X_arg9 k) (trip_k0_t1.sl.r_5 arg2 X_arg2 k) (trip_k0_t1.sl.r_6 arg3 X_arg3 k) (trip_k0_t1.sl.r_7 arg4 X_arg4 k) (trip_k0_t1.sl.r_8 arg5 X_arg5 k) (trip_k0_t1.sl.r_9 arg6 X_arg6 k) (sl1 47 slices_S64x256_o47_0_S1x256 (trip_k0_t1.sl.r_9 arg6 X_arg6 k)) (trip_k0_t1.sl.r arg11 X_arg11 k) (trip_k0_t1.sl.r_1 arg11 X_arg11 k) (trip_k0_t1.sl.r_2 arg11 X_arg11 k) (trip_k0_t1.sl.r_3 arg11 X_arg11 k)) (trip_k0_t1.sl.r_38 arg2 arg5 arg6 arg9 arg11 arg20 v0 v9 X_arg2 X_arg5 X_arg6 X_arg9 X_arg11 k f_arg20) := by
  with_unfolding_all rfl

/-- Group 5: `dout`. -/
theorem g5_dout : (trip_k0_t1.sl.r_82 arg2 arg3 arg4 arg5 arg6 arg9 arg11 arg19 v0 v9 X_arg2 X_arg3 X_arg4 X_arg5 X_arg6 X_arg9 X_arg11 k f_arg19) = Gin.dout (ginOf 40 slices_S64x256_o40_0_S8x256 v0 (trip_k0_t1.sl.r_4 arg9 v9 X_arg9 k) (trip_k0_t1.sl.r_5 arg2 X_arg2 k) (trip_k0_t1.sl.r_6 arg3 X_arg3 k) (trip_k0_t1.sl.r_7 arg4 X_arg4 k) (trip_k0_t1.sl.r_8 arg5 X_arg5 k) (trip_k0_t1.sl.r_9 arg6 X_arg6 k) (sl1 39 slices_S64x256_o39_0_S1x256 (trip_k0_t1.sl.r_9 arg6 X_arg6 k)) (trip_k0_t1.sl.r arg11 X_arg11 k) (trip_k0_t1.sl.r_1 arg11 X_arg11 k) (trip_k0_t1.sl.r_2 arg11 X_arg11 k) (trip_k0_t1.sl.r_3 arg11 X_arg11 k)) v0 (trip_k0_t1.sl.r_59 arg2 arg3 arg4 arg5 arg6 arg9 arg11 arg19 v0 v9 X_arg2 X_arg3 X_arg4 X_arg5 X_arg6 X_arg9 X_arg11 k f_arg19) := by
  with_unfolding_all rfl

/-- Group 5: `svf`. -/
theorem g5_svf : (trip_k0_t1.sl.r_83 arg2 arg3 arg4 arg5 arg6 arg9 arg11 arg19 arg20 v0 v9 X_arg2 X_arg3 X_arg4 X_arg5 X_arg6 X_arg9 X_arg11 k f_arg19 f_arg20) = Gin.svf (ginOf 40 slices_S64x256_o40_0_S8x256 v0 (trip_k0_t1.sl.r_4 arg9 v9 X_arg9 k) (trip_k0_t1.sl.r_5 arg2 X_arg2 k) (trip_k0_t1.sl.r_6 arg3 X_arg3 k) (trip_k0_t1.sl.r_7 arg4 X_arg4 k) (trip_k0_t1.sl.r_8 arg5 X_arg5 k) (trip_k0_t1.sl.r_9 arg6 X_arg6 k) (sl1 39 slices_S64x256_o39_0_S1x256 (trip_k0_t1.sl.r_9 arg6 X_arg6 k)) (trip_k0_t1.sl.r arg11 X_arg11 k) (trip_k0_t1.sl.r_1 arg11 X_arg11 k) (trip_k0_t1.sl.r_2 arg11 X_arg11 k) (trip_k0_t1.sl.r_3 arg11 X_arg11 k)) v0 (trip_k0_t1.sl.r_59 arg2 arg3 arg4 arg5 arg6 arg9 arg11 arg19 v0 v9 X_arg2 X_arg3 X_arg4 X_arg5 X_arg6 X_arg9 X_arg11 k f_arg19) (trip_k0_t1.sl.r_61 arg2 arg3 arg4 arg5 arg6 arg9 arg11 arg19 arg20 v0 v9 X_arg2 X_arg3 X_arg4 X_arg5 X_arg6 X_arg9 X_arg11 k f_arg19 f_arg20) := by
  with_unfolding_all rfl

/-- Group 5: `svr`. -/
theorem g5_svr : (trip_k0_t1.sl.r_84 arg2 arg5 arg6 arg9 arg11 arg20 v0 v9 X_arg2 X_arg5 X_arg6 X_arg9 X_arg11 k f_arg20) = Gin.svr (ginOf 40 slices_S64x256_o40_0_S8x256 v0 (trip_k0_t1.sl.r_4 arg9 v9 X_arg9 k) (trip_k0_t1.sl.r_5 arg2 X_arg2 k) (trip_k0_t1.sl.r_6 arg3 X_arg3 k) (trip_k0_t1.sl.r_7 arg4 X_arg4 k) (trip_k0_t1.sl.r_8 arg5 X_arg5 k) (trip_k0_t1.sl.r_9 arg6 X_arg6 k) (sl1 39 slices_S64x256_o39_0_S1x256 (trip_k0_t1.sl.r_9 arg6 X_arg6 k)) (trip_k0_t1.sl.r arg11 X_arg11 k) (trip_k0_t1.sl.r_1 arg11 X_arg11 k) (trip_k0_t1.sl.r_2 arg11 X_arg11 k) (trip_k0_t1.sl.r_3 arg11 X_arg11 k)) (trip_k0_t1.sl.r_62 arg2 arg5 arg6 arg9 arg11 arg20 v0 v9 X_arg2 X_arg5 X_arg6 X_arg9 X_arg11 k f_arg20) := by
  with_unfolding_all rfl

/-- Group 5: `sbf`. -/
theorem g5_sbf : (trip_k0_t1.sl.r_85 arg2 arg3 arg4 arg5 arg6 arg9 arg11 arg19 arg20 v0 v9 X_arg2 X_arg3 X_arg4 X_arg5 X_arg6 X_arg9 X_arg11 k f_arg19 f_arg20) = Gin.sbf (ginOf 40 slices_S64x256_o40_0_S8x256 v0 (trip_k0_t1.sl.r_4 arg9 v9 X_arg9 k) (trip_k0_t1.sl.r_5 arg2 X_arg2 k) (trip_k0_t1.sl.r_6 arg3 X_arg3 k) (trip_k0_t1.sl.r_7 arg4 X_arg4 k) (trip_k0_t1.sl.r_8 arg5 X_arg5 k) (trip_k0_t1.sl.r_9 arg6 X_arg6 k) (sl1 39 slices_S64x256_o39_0_S1x256 (trip_k0_t1.sl.r_9 arg6 X_arg6 k)) (trip_k0_t1.sl.r arg11 X_arg11 k) (trip_k0_t1.sl.r_1 arg11 X_arg11 k) (trip_k0_t1.sl.r_2 arg11 X_arg11 k) (trip_k0_t1.sl.r_3 arg11 X_arg11 k)) v0 (trip_k0_t1.sl.r_59 arg2 arg3 arg4 arg5 arg6 arg9 arg11 arg19 v0 v9 X_arg2 X_arg3 X_arg4 X_arg5 X_arg6 X_arg9 X_arg11 k f_arg19) (trip_k0_t1.sl.r_63 arg2 arg3 arg4 arg5 arg6 arg9 arg11 arg19 arg20 v0 v9 X_arg2 X_arg3 X_arg4 X_arg5 X_arg6 X_arg9 X_arg11 k f_arg19 f_arg20) := by
  with_unfolding_all rfl

/-- Group 5: `sbr`. -/
theorem g5_sbr : (trip_k0_t1.sl.r_86 arg2 arg5 arg6 arg9 arg11 arg20 v0 v9 X_arg2 X_arg5 X_arg6 X_arg9 X_arg11 k f_arg20) = Gin.sbr (ginOf 40 slices_S64x256_o40_0_S8x256 v0 (trip_k0_t1.sl.r_4 arg9 v9 X_arg9 k) (trip_k0_t1.sl.r_5 arg2 X_arg2 k) (trip_k0_t1.sl.r_6 arg3 X_arg3 k) (trip_k0_t1.sl.r_7 arg4 X_arg4 k) (trip_k0_t1.sl.r_8 arg5 X_arg5 k) (trip_k0_t1.sl.r_9 arg6 X_arg6 k) (sl1 39 slices_S64x256_o39_0_S1x256 (trip_k0_t1.sl.r_9 arg6 X_arg6 k)) (trip_k0_t1.sl.r arg11 X_arg11 k) (trip_k0_t1.sl.r_1 arg11 X_arg11 k) (trip_k0_t1.sl.r_2 arg11 X_arg11 k) (trip_k0_t1.sl.r_3 arg11 X_arg11 k)) (trip_k0_t1.sl.r_64 arg2 arg5 arg6 arg9 arg11 arg20 v0 v9 X_arg2 X_arg5 X_arg6 X_arg9 X_arg11 k f_arg20) := by
  with_unfolding_all rfl

/-- Group 4: `dout`. -/
theorem g4_dout : (trip_k0_t1.sl.r_107 arg2 arg3 arg4 arg5 arg6 arg9 arg11 arg19 v0 v9 X_arg2 X_arg3 X_arg4 X_arg5 X_arg6 X_arg9 X_arg11 k f_arg19) = Gin.dout (ginOf 32 slices_S64x256_o32_0_S8x256 v0 (trip_k0_t1.sl.r_4 arg9 v9 X_arg9 k) (trip_k0_t1.sl.r_5 arg2 X_arg2 k) (trip_k0_t1.sl.r_6 arg3 X_arg3 k) (trip_k0_t1.sl.r_7 arg4 X_arg4 k) (trip_k0_t1.sl.r_8 arg5 X_arg5 k) (trip_k0_t1.sl.r_9 arg6 X_arg6 k) (sl1 31 slices_S64x256_o31_0_S1x256 (trip_k0_t1.sl.r_9 arg6 X_arg6 k)) (trip_k0_t1.sl.r arg11 X_arg11 k) (trip_k0_t1.sl.r_1 arg11 X_arg11 k) (trip_k0_t1.sl.r_2 arg11 X_arg11 k) (trip_k0_t1.sl.r_3 arg11 X_arg11 k)) v0 (trip_k0_t1.sl.r_82 arg2 arg3 arg4 arg5 arg6 arg9 arg11 arg19 v0 v9 X_arg2 X_arg3 X_arg4 X_arg5 X_arg6 X_arg9 X_arg11 k f_arg19) := by
  with_unfolding_all rfl

/-- Group 4: `svf`. -/
theorem g4_svf : (trip_k0_t1.sl.r_108 arg2 arg3 arg4 arg5 arg6 arg9 arg11 arg19 arg20 v0 v9 X_arg2 X_arg3 X_arg4 X_arg5 X_arg6 X_arg9 X_arg11 k f_arg19 f_arg20) = Gin.svf (ginOf 32 slices_S64x256_o32_0_S8x256 v0 (trip_k0_t1.sl.r_4 arg9 v9 X_arg9 k) (trip_k0_t1.sl.r_5 arg2 X_arg2 k) (trip_k0_t1.sl.r_6 arg3 X_arg3 k) (trip_k0_t1.sl.r_7 arg4 X_arg4 k) (trip_k0_t1.sl.r_8 arg5 X_arg5 k) (trip_k0_t1.sl.r_9 arg6 X_arg6 k) (sl1 31 slices_S64x256_o31_0_S1x256 (trip_k0_t1.sl.r_9 arg6 X_arg6 k)) (trip_k0_t1.sl.r arg11 X_arg11 k) (trip_k0_t1.sl.r_1 arg11 X_arg11 k) (trip_k0_t1.sl.r_2 arg11 X_arg11 k) (trip_k0_t1.sl.r_3 arg11 X_arg11 k)) v0 (trip_k0_t1.sl.r_82 arg2 arg3 arg4 arg5 arg6 arg9 arg11 arg19 v0 v9 X_arg2 X_arg3 X_arg4 X_arg5 X_arg6 X_arg9 X_arg11 k f_arg19) (trip_k0_t1.sl.r_83 arg2 arg3 arg4 arg5 arg6 arg9 arg11 arg19 arg20 v0 v9 X_arg2 X_arg3 X_arg4 X_arg5 X_arg6 X_arg9 X_arg11 k f_arg19 f_arg20) := by
  with_unfolding_all rfl

/-- Group 4: `svr`. -/
theorem g4_svr : (trip_k0_t1.sl.r_109 arg2 arg5 arg6 arg9 arg11 arg20 v0 v9 X_arg2 X_arg5 X_arg6 X_arg9 X_arg11 k f_arg20) = Gin.svr (ginOf 32 slices_S64x256_o32_0_S8x256 v0 (trip_k0_t1.sl.r_4 arg9 v9 X_arg9 k) (trip_k0_t1.sl.r_5 arg2 X_arg2 k) (trip_k0_t1.sl.r_6 arg3 X_arg3 k) (trip_k0_t1.sl.r_7 arg4 X_arg4 k) (trip_k0_t1.sl.r_8 arg5 X_arg5 k) (trip_k0_t1.sl.r_9 arg6 X_arg6 k) (sl1 31 slices_S64x256_o31_0_S1x256 (trip_k0_t1.sl.r_9 arg6 X_arg6 k)) (trip_k0_t1.sl.r arg11 X_arg11 k) (trip_k0_t1.sl.r_1 arg11 X_arg11 k) (trip_k0_t1.sl.r_2 arg11 X_arg11 k) (trip_k0_t1.sl.r_3 arg11 X_arg11 k)) (trip_k0_t1.sl.r_84 arg2 arg5 arg6 arg9 arg11 arg20 v0 v9 X_arg2 X_arg5 X_arg6 X_arg9 X_arg11 k f_arg20) := by
  with_unfolding_all rfl

/-- Group 4: `sbf`. -/
theorem g4_sbf : (trip_k0_t1.sl.r_110 arg2 arg3 arg4 arg5 arg6 arg9 arg11 arg19 arg20 v0 v9 X_arg2 X_arg3 X_arg4 X_arg5 X_arg6 X_arg9 X_arg11 k f_arg19 f_arg20) = Gin.sbf (ginOf 32 slices_S64x256_o32_0_S8x256 v0 (trip_k0_t1.sl.r_4 arg9 v9 X_arg9 k) (trip_k0_t1.sl.r_5 arg2 X_arg2 k) (trip_k0_t1.sl.r_6 arg3 X_arg3 k) (trip_k0_t1.sl.r_7 arg4 X_arg4 k) (trip_k0_t1.sl.r_8 arg5 X_arg5 k) (trip_k0_t1.sl.r_9 arg6 X_arg6 k) (sl1 31 slices_S64x256_o31_0_S1x256 (trip_k0_t1.sl.r_9 arg6 X_arg6 k)) (trip_k0_t1.sl.r arg11 X_arg11 k) (trip_k0_t1.sl.r_1 arg11 X_arg11 k) (trip_k0_t1.sl.r_2 arg11 X_arg11 k) (trip_k0_t1.sl.r_3 arg11 X_arg11 k)) v0 (trip_k0_t1.sl.r_82 arg2 arg3 arg4 arg5 arg6 arg9 arg11 arg19 v0 v9 X_arg2 X_arg3 X_arg4 X_arg5 X_arg6 X_arg9 X_arg11 k f_arg19) (trip_k0_t1.sl.r_85 arg2 arg3 arg4 arg5 arg6 arg9 arg11 arg19 arg20 v0 v9 X_arg2 X_arg3 X_arg4 X_arg5 X_arg6 X_arg9 X_arg11 k f_arg19 f_arg20) := by
  with_unfolding_all rfl

/-- Group 4: `sbr`. -/
theorem g4_sbr : (trip_k0_t1.sl.r_111 arg2 arg5 arg6 arg9 arg11 arg20 v0 v9 X_arg2 X_arg5 X_arg6 X_arg9 X_arg11 k f_arg20) = Gin.sbr (ginOf 32 slices_S64x256_o32_0_S8x256 v0 (trip_k0_t1.sl.r_4 arg9 v9 X_arg9 k) (trip_k0_t1.sl.r_5 arg2 X_arg2 k) (trip_k0_t1.sl.r_6 arg3 X_arg3 k) (trip_k0_t1.sl.r_7 arg4 X_arg4 k) (trip_k0_t1.sl.r_8 arg5 X_arg5 k) (trip_k0_t1.sl.r_9 arg6 X_arg6 k) (sl1 31 slices_S64x256_o31_0_S1x256 (trip_k0_t1.sl.r_9 arg6 X_arg6 k)) (trip_k0_t1.sl.r arg11 X_arg11 k) (trip_k0_t1.sl.r_1 arg11 X_arg11 k) (trip_k0_t1.sl.r_2 arg11 X_arg11 k) (trip_k0_t1.sl.r_3 arg11 X_arg11 k)) (trip_k0_t1.sl.r_86 arg2 arg5 arg6 arg9 arg11 arg20 v0 v9 X_arg2 X_arg5 X_arg6 X_arg9 X_arg11 k f_arg20) := by
  with_unfolding_all rfl

/-- Group 3: `dout`. -/
theorem g3_dout : (trip_k0_t1.sl.r_128 arg2 arg3 arg4 arg5 arg6 arg9 arg11 arg19 v0 v9 X_arg2 X_arg3 X_arg4 X_arg5 X_arg6 X_arg9 X_arg11 k f_arg19) = Gin.dout (ginOf 24 slices_S64x256_o24_0_S8x256 v0 (trip_k0_t1.sl.r_4 arg9 v9 X_arg9 k) (trip_k0_t1.sl.r_5 arg2 X_arg2 k) (trip_k0_t1.sl.r_6 arg3 X_arg3 k) (trip_k0_t1.sl.r_7 arg4 X_arg4 k) (trip_k0_t1.sl.r_8 arg5 X_arg5 k) (trip_k0_t1.sl.r_9 arg6 X_arg6 k) (sl1 23 slices_S64x256_o23_0_S1x256 (trip_k0_t1.sl.r_9 arg6 X_arg6 k)) (trip_k0_t1.sl.r arg11 X_arg11 k) (trip_k0_t1.sl.r_1 arg11 X_arg11 k) (trip_k0_t1.sl.r_2 arg11 X_arg11 k) (trip_k0_t1.sl.r_3 arg11 X_arg11 k)) v0 (trip_k0_t1.sl.r_107 arg2 arg3 arg4 arg5 arg6 arg9 arg11 arg19 v0 v9 X_arg2 X_arg3 X_arg4 X_arg5 X_arg6 X_arg9 X_arg11 k f_arg19) := by
  with_unfolding_all rfl

/-- Group 3: `svf`. -/
theorem g3_svf : (trip_k0_t1.sl.r_129 arg2 arg3 arg4 arg5 arg6 arg9 arg11 arg19 arg20 v0 v9 X_arg2 X_arg3 X_arg4 X_arg5 X_arg6 X_arg9 X_arg11 k f_arg19 f_arg20) = Gin.svf (ginOf 24 slices_S64x256_o24_0_S8x256 v0 (trip_k0_t1.sl.r_4 arg9 v9 X_arg9 k) (trip_k0_t1.sl.r_5 arg2 X_arg2 k) (trip_k0_t1.sl.r_6 arg3 X_arg3 k) (trip_k0_t1.sl.r_7 arg4 X_arg4 k) (trip_k0_t1.sl.r_8 arg5 X_arg5 k) (trip_k0_t1.sl.r_9 arg6 X_arg6 k) (sl1 23 slices_S64x256_o23_0_S1x256 (trip_k0_t1.sl.r_9 arg6 X_arg6 k)) (trip_k0_t1.sl.r arg11 X_arg11 k) (trip_k0_t1.sl.r_1 arg11 X_arg11 k) (trip_k0_t1.sl.r_2 arg11 X_arg11 k) (trip_k0_t1.sl.r_3 arg11 X_arg11 k)) v0 (trip_k0_t1.sl.r_107 arg2 arg3 arg4 arg5 arg6 arg9 arg11 arg19 v0 v9 X_arg2 X_arg3 X_arg4 X_arg5 X_arg6 X_arg9 X_arg11 k f_arg19) (trip_k0_t1.sl.r_108 arg2 arg3 arg4 arg5 arg6 arg9 arg11 arg19 arg20 v0 v9 X_arg2 X_arg3 X_arg4 X_arg5 X_arg6 X_arg9 X_arg11 k f_arg19 f_arg20) := by
  with_unfolding_all rfl

/-- Group 3: `svr`. -/
theorem g3_svr : (trip_k0_t1.sl.r_130 arg2 arg5 arg6 arg9 arg11 arg20 v0 v9 X_arg2 X_arg5 X_arg6 X_arg9 X_arg11 k f_arg20) = Gin.svr (ginOf 24 slices_S64x256_o24_0_S8x256 v0 (trip_k0_t1.sl.r_4 arg9 v9 X_arg9 k) (trip_k0_t1.sl.r_5 arg2 X_arg2 k) (trip_k0_t1.sl.r_6 arg3 X_arg3 k) (trip_k0_t1.sl.r_7 arg4 X_arg4 k) (trip_k0_t1.sl.r_8 arg5 X_arg5 k) (trip_k0_t1.sl.r_9 arg6 X_arg6 k) (sl1 23 slices_S64x256_o23_0_S1x256 (trip_k0_t1.sl.r_9 arg6 X_arg6 k)) (trip_k0_t1.sl.r arg11 X_arg11 k) (trip_k0_t1.sl.r_1 arg11 X_arg11 k) (trip_k0_t1.sl.r_2 arg11 X_arg11 k) (trip_k0_t1.sl.r_3 arg11 X_arg11 k)) (trip_k0_t1.sl.r_109 arg2 arg5 arg6 arg9 arg11 arg20 v0 v9 X_arg2 X_arg5 X_arg6 X_arg9 X_arg11 k f_arg20) := by
  with_unfolding_all rfl

/-- Group 3: `sbf`. -/
theorem g3_sbf : (trip_k0_t1.sl.r_131 arg2 arg3 arg4 arg5 arg6 arg9 arg11 arg19 arg20 v0 v9 X_arg2 X_arg3 X_arg4 X_arg5 X_arg6 X_arg9 X_arg11 k f_arg19 f_arg20) = Gin.sbf (ginOf 24 slices_S64x256_o24_0_S8x256 v0 (trip_k0_t1.sl.r_4 arg9 v9 X_arg9 k) (trip_k0_t1.sl.r_5 arg2 X_arg2 k) (trip_k0_t1.sl.r_6 arg3 X_arg3 k) (trip_k0_t1.sl.r_7 arg4 X_arg4 k) (trip_k0_t1.sl.r_8 arg5 X_arg5 k) (trip_k0_t1.sl.r_9 arg6 X_arg6 k) (sl1 23 slices_S64x256_o23_0_S1x256 (trip_k0_t1.sl.r_9 arg6 X_arg6 k)) (trip_k0_t1.sl.r arg11 X_arg11 k) (trip_k0_t1.sl.r_1 arg11 X_arg11 k) (trip_k0_t1.sl.r_2 arg11 X_arg11 k) (trip_k0_t1.sl.r_3 arg11 X_arg11 k)) v0 (trip_k0_t1.sl.r_107 arg2 arg3 arg4 arg5 arg6 arg9 arg11 arg19 v0 v9 X_arg2 X_arg3 X_arg4 X_arg5 X_arg6 X_arg9 X_arg11 k f_arg19) (trip_k0_t1.sl.r_110 arg2 arg3 arg4 arg5 arg6 arg9 arg11 arg19 arg20 v0 v9 X_arg2 X_arg3 X_arg4 X_arg5 X_arg6 X_arg9 X_arg11 k f_arg19 f_arg20) := by
  with_unfolding_all rfl

/-- Group 3: `sbr`. -/
theorem g3_sbr : (trip_k0_t1.sl.r_132 arg2 arg5 arg6 arg9 arg11 arg20 v0 v9 X_arg2 X_arg5 X_arg6 X_arg9 X_arg11 k f_arg20) = Gin.sbr (ginOf 24 slices_S64x256_o24_0_S8x256 v0 (trip_k0_t1.sl.r_4 arg9 v9 X_arg9 k) (trip_k0_t1.sl.r_5 arg2 X_arg2 k) (trip_k0_t1.sl.r_6 arg3 X_arg3 k) (trip_k0_t1.sl.r_7 arg4 X_arg4 k) (trip_k0_t1.sl.r_8 arg5 X_arg5 k) (trip_k0_t1.sl.r_9 arg6 X_arg6 k) (sl1 23 slices_S64x256_o23_0_S1x256 (trip_k0_t1.sl.r_9 arg6 X_arg6 k)) (trip_k0_t1.sl.r arg11 X_arg11 k) (trip_k0_t1.sl.r_1 arg11 X_arg11 k) (trip_k0_t1.sl.r_2 arg11 X_arg11 k) (trip_k0_t1.sl.r_3 arg11 X_arg11 k)) (trip_k0_t1.sl.r_111 arg2 arg5 arg6 arg9 arg11 arg20 v0 v9 X_arg2 X_arg5 X_arg6 X_arg9 X_arg11 k f_arg20) := by
  with_unfolding_all rfl

/-- Group 2: `dout`. -/
theorem g2_dout : (trip_k0_t1.sl.r_145 arg2 arg3 arg4 arg5 arg6 arg9 arg11 arg19 v0 v9 X_arg2 X_arg3 X_arg4 X_arg5 X_arg6 X_arg9 X_arg11 k f_arg19) = Gin.dout (ginOf 16 slices_S64x256_o16_0_S8x256 v0 (trip_k0_t1.sl.r_4 arg9 v9 X_arg9 k) (trip_k0_t1.sl.r_5 arg2 X_arg2 k) (trip_k0_t1.sl.r_6 arg3 X_arg3 k) (trip_k0_t1.sl.r_7 arg4 X_arg4 k) (trip_k0_t1.sl.r_8 arg5 X_arg5 k) (trip_k0_t1.sl.r_9 arg6 X_arg6 k) (sl1 15 slices_S64x256_o15_0_S1x256 (trip_k0_t1.sl.r_9 arg6 X_arg6 k)) (trip_k0_t1.sl.r arg11 X_arg11 k) (trip_k0_t1.sl.r_1 arg11 X_arg11 k) (trip_k0_t1.sl.r_2 arg11 X_arg11 k) (trip_k0_t1.sl.r_3 arg11 X_arg11 k)) v0 (trip_k0_t1.sl.r_128 arg2 arg3 arg4 arg5 arg6 arg9 arg11 arg19 v0 v9 X_arg2 X_arg3 X_arg4 X_arg5 X_arg6 X_arg9 X_arg11 k f_arg19) := by
  with_unfolding_all rfl

/-- Group 2: `svf`. -/
theorem g2_svf : (trip_k0_t1.sl.r_146 arg2 arg3 arg4 arg5 arg6 arg9 arg11 arg19 arg20 v0 v9 X_arg2 X_arg3 X_arg4 X_arg5 X_arg6 X_arg9 X_arg11 k f_arg19 f_arg20) = Gin.svf (ginOf 16 slices_S64x256_o16_0_S8x256 v0 (trip_k0_t1.sl.r_4 arg9 v9 X_arg9 k) (trip_k0_t1.sl.r_5 arg2 X_arg2 k) (trip_k0_t1.sl.r_6 arg3 X_arg3 k) (trip_k0_t1.sl.r_7 arg4 X_arg4 k) (trip_k0_t1.sl.r_8 arg5 X_arg5 k) (trip_k0_t1.sl.r_9 arg6 X_arg6 k) (sl1 15 slices_S64x256_o15_0_S1x256 (trip_k0_t1.sl.r_9 arg6 X_arg6 k)) (trip_k0_t1.sl.r arg11 X_arg11 k) (trip_k0_t1.sl.r_1 arg11 X_arg11 k) (trip_k0_t1.sl.r_2 arg11 X_arg11 k) (trip_k0_t1.sl.r_3 arg11 X_arg11 k)) v0 (trip_k0_t1.sl.r_128 arg2 arg3 arg4 arg5 arg6 arg9 arg11 arg19 v0 v9 X_arg2 X_arg3 X_arg4 X_arg5 X_arg6 X_arg9 X_arg11 k f_arg19) (trip_k0_t1.sl.r_129 arg2 arg3 arg4 arg5 arg6 arg9 arg11 arg19 arg20 v0 v9 X_arg2 X_arg3 X_arg4 X_arg5 X_arg6 X_arg9 X_arg11 k f_arg19 f_arg20) := by
  with_unfolding_all rfl

/-- Group 2: `svr`. -/
theorem g2_svr : (trip_k0_t1.sl.r_147 arg2 arg5 arg6 arg9 arg11 arg20 v0 v9 X_arg2 X_arg5 X_arg6 X_arg9 X_arg11 k f_arg20) = Gin.svr (ginOf 16 slices_S64x256_o16_0_S8x256 v0 (trip_k0_t1.sl.r_4 arg9 v9 X_arg9 k) (trip_k0_t1.sl.r_5 arg2 X_arg2 k) (trip_k0_t1.sl.r_6 arg3 X_arg3 k) (trip_k0_t1.sl.r_7 arg4 X_arg4 k) (trip_k0_t1.sl.r_8 arg5 X_arg5 k) (trip_k0_t1.sl.r_9 arg6 X_arg6 k) (sl1 15 slices_S64x256_o15_0_S1x256 (trip_k0_t1.sl.r_9 arg6 X_arg6 k)) (trip_k0_t1.sl.r arg11 X_arg11 k) (trip_k0_t1.sl.r_1 arg11 X_arg11 k) (trip_k0_t1.sl.r_2 arg11 X_arg11 k) (trip_k0_t1.sl.r_3 arg11 X_arg11 k)) (trip_k0_t1.sl.r_130 arg2 arg5 arg6 arg9 arg11 arg20 v0 v9 X_arg2 X_arg5 X_arg6 X_arg9 X_arg11 k f_arg20) := by
  with_unfolding_all rfl

/-- Group 2: `sbf`. -/
theorem g2_sbf : (trip_k0_t1.sl.r_148 arg2 arg3 arg4 arg5 arg6 arg9 arg11 arg19 arg20 v0 v9 X_arg2 X_arg3 X_arg4 X_arg5 X_arg6 X_arg9 X_arg11 k f_arg19 f_arg20) = Gin.sbf (ginOf 16 slices_S64x256_o16_0_S8x256 v0 (trip_k0_t1.sl.r_4 arg9 v9 X_arg9 k) (trip_k0_t1.sl.r_5 arg2 X_arg2 k) (trip_k0_t1.sl.r_6 arg3 X_arg3 k) (trip_k0_t1.sl.r_7 arg4 X_arg4 k) (trip_k0_t1.sl.r_8 arg5 X_arg5 k) (trip_k0_t1.sl.r_9 arg6 X_arg6 k) (sl1 15 slices_S64x256_o15_0_S1x256 (trip_k0_t1.sl.r_9 arg6 X_arg6 k)) (trip_k0_t1.sl.r arg11 X_arg11 k) (trip_k0_t1.sl.r_1 arg11 X_arg11 k) (trip_k0_t1.sl.r_2 arg11 X_arg11 k) (trip_k0_t1.sl.r_3 arg11 X_arg11 k)) v0 (trip_k0_t1.sl.r_128 arg2 arg3 arg4 arg5 arg6 arg9 arg11 arg19 v0 v9 X_arg2 X_arg3 X_arg4 X_arg5 X_arg6 X_arg9 X_arg11 k f_arg19) (trip_k0_t1.sl.r_131 arg2 arg3 arg4 arg5 arg6 arg9 arg11 arg19 arg20 v0 v9 X_arg2 X_arg3 X_arg4 X_arg5 X_arg6 X_arg9 X_arg11 k f_arg19 f_arg20) := by
  with_unfolding_all rfl

/-- Group 2: `sbr`. -/
theorem g2_sbr : (trip_k0_t1.sl.r_149 arg2 arg5 arg6 arg9 arg11 arg20 v0 v9 X_arg2 X_arg5 X_arg6 X_arg9 X_arg11 k f_arg20) = Gin.sbr (ginOf 16 slices_S64x256_o16_0_S8x256 v0 (trip_k0_t1.sl.r_4 arg9 v9 X_arg9 k) (trip_k0_t1.sl.r_5 arg2 X_arg2 k) (trip_k0_t1.sl.r_6 arg3 X_arg3 k) (trip_k0_t1.sl.r_7 arg4 X_arg4 k) (trip_k0_t1.sl.r_8 arg5 X_arg5 k) (trip_k0_t1.sl.r_9 arg6 X_arg6 k) (sl1 15 slices_S64x256_o15_0_S1x256 (trip_k0_t1.sl.r_9 arg6 X_arg6 k)) (trip_k0_t1.sl.r arg11 X_arg11 k) (trip_k0_t1.sl.r_1 arg11 X_arg11 k) (trip_k0_t1.sl.r_2 arg11 X_arg11 k) (trip_k0_t1.sl.r_3 arg11 X_arg11 k)) (trip_k0_t1.sl.r_132 arg2 arg5 arg6 arg9 arg11 arg20 v0 v9 X_arg2 X_arg5 X_arg6 X_arg9 X_arg11 k f_arg20) := by
  with_unfolding_all rfl

/-- Group 1: `dout`. -/
theorem g1_dout : (trip_k0_t1.sl.r_167 arg2 arg3 arg4 arg5 arg6 arg9 arg11 arg19 v0 v9 X_arg2 X_arg3 X_arg4 X_arg5 X_arg6 X_arg9 X_arg11 k f_arg19) = Gin.dout (ginOf 8 slices_S64x256_o8_0_S8x256 v0 (trip_k0_t1.sl.r_4 arg9 v9 X_arg9 k) (trip_k0_t1.sl.r_5 arg2 X_arg2 k) (trip_k0_t1.sl.r_6 arg3 X_arg3 k) (trip_k0_t1.sl.r_7 arg4 X_arg4 k) (trip_k0_t1.sl.r_8 arg5 X_arg5 k) (trip_k0_t1.sl.r_9 arg6 X_arg6 k) (sl1 7 slices_S64x256_o7_0_S1x256 (trip_k0_t1.sl.r_9 arg6 X_arg6 k)) (trip_k0_t1.sl.r arg11 X_arg11 k) (trip_k0_t1.sl.r_1 arg11 X_arg11 k) (trip_k0_t1.sl.r_2 arg11 X_arg11 k) (trip_k0_t1.sl.r_3 arg11 X_arg11 k)) v0 (trip_k0_t1.sl.r_145 arg2 arg3 arg4 arg5 arg6 arg9 arg11 arg19 v0 v9 X_arg2 X_arg3 X_arg4 X_arg5 X_arg6 X_arg9 X_arg11 k f_arg19) := by
  with_unfolding_all rfl

/-- Group 1: `svf`. -/
theorem g1_svf : (trip_k0_t1.sl.r_169 arg2 arg3 arg4 arg5 arg6 arg9 arg11 arg19 arg20 v0 v9 X_arg2 X_arg3 X_arg4 X_arg5 X_arg6 X_arg9 X_arg11 k f_arg19 f_arg20) = Gin.svf (ginOf 8 slices_S64x256_o8_0_S8x256 v0 (trip_k0_t1.sl.r_4 arg9 v9 X_arg9 k) (trip_k0_t1.sl.r_5 arg2 X_arg2 k) (trip_k0_t1.sl.r_6 arg3 X_arg3 k) (trip_k0_t1.sl.r_7 arg4 X_arg4 k) (trip_k0_t1.sl.r_8 arg5 X_arg5 k) (trip_k0_t1.sl.r_9 arg6 X_arg6 k) (sl1 7 slices_S64x256_o7_0_S1x256 (trip_k0_t1.sl.r_9 arg6 X_arg6 k)) (trip_k0_t1.sl.r arg11 X_arg11 k) (trip_k0_t1.sl.r_1 arg11 X_arg11 k) (trip_k0_t1.sl.r_2 arg11 X_arg11 k) (trip_k0_t1.sl.r_3 arg11 X_arg11 k)) v0 (trip_k0_t1.sl.r_145 arg2 arg3 arg4 arg5 arg6 arg9 arg11 arg19 v0 v9 X_arg2 X_arg3 X_arg4 X_arg5 X_arg6 X_arg9 X_arg11 k f_arg19) (trip_k0_t1.sl.r_146 arg2 arg3 arg4 arg5 arg6 arg9 arg11 arg19 arg20 v0 v9 X_arg2 X_arg3 X_arg4 X_arg5 X_arg6 X_arg9 X_arg11 k f_arg19 f_arg20) := by
  with_unfolding_all rfl

/-- Group 1: `svr`. -/
theorem g1_svr : (trip_k0_t1.sl.r_170 arg2 arg5 arg6 arg9 arg11 arg20 v0 v9 X_arg2 X_arg5 X_arg6 X_arg9 X_arg11 k f_arg20) = Gin.svr (ginOf 8 slices_S64x256_o8_0_S8x256 v0 (trip_k0_t1.sl.r_4 arg9 v9 X_arg9 k) (trip_k0_t1.sl.r_5 arg2 X_arg2 k) (trip_k0_t1.sl.r_6 arg3 X_arg3 k) (trip_k0_t1.sl.r_7 arg4 X_arg4 k) (trip_k0_t1.sl.r_8 arg5 X_arg5 k) (trip_k0_t1.sl.r_9 arg6 X_arg6 k) (sl1 7 slices_S64x256_o7_0_S1x256 (trip_k0_t1.sl.r_9 arg6 X_arg6 k)) (trip_k0_t1.sl.r arg11 X_arg11 k) (trip_k0_t1.sl.r_1 arg11 X_arg11 k) (trip_k0_t1.sl.r_2 arg11 X_arg11 k) (trip_k0_t1.sl.r_3 arg11 X_arg11 k)) (trip_k0_t1.sl.r_147 arg2 arg5 arg6 arg9 arg11 arg20 v0 v9 X_arg2 X_arg5 X_arg6 X_arg9 X_arg11 k f_arg20) := by
  with_unfolding_all rfl

/-- Group 1: `sbf`. -/
theorem g1_sbf : (trip_k0_t1.sl.r_171 arg2 arg3 arg4 arg5 arg6 arg9 arg11 arg19 arg20 v0 v9 X_arg2 X_arg3 X_arg4 X_arg5 X_arg6 X_arg9 X_arg11 k f_arg19 f_arg20) = Gin.sbf (ginOf 8 slices_S64x256_o8_0_S8x256 v0 (trip_k0_t1.sl.r_4 arg9 v9 X_arg9 k) (trip_k0_t1.sl.r_5 arg2 X_arg2 k) (trip_k0_t1.sl.r_6 arg3 X_arg3 k) (trip_k0_t1.sl.r_7 arg4 X_arg4 k) (trip_k0_t1.sl.r_8 arg5 X_arg5 k) (trip_k0_t1.sl.r_9 arg6 X_arg6 k) (sl1 7 slices_S64x256_o7_0_S1x256 (trip_k0_t1.sl.r_9 arg6 X_arg6 k)) (trip_k0_t1.sl.r arg11 X_arg11 k) (trip_k0_t1.sl.r_1 arg11 X_arg11 k) (trip_k0_t1.sl.r_2 arg11 X_arg11 k) (trip_k0_t1.sl.r_3 arg11 X_arg11 k)) v0 (trip_k0_t1.sl.r_145 arg2 arg3 arg4 arg5 arg6 arg9 arg11 arg19 v0 v9 X_arg2 X_arg3 X_arg4 X_arg5 X_arg6 X_arg9 X_arg11 k f_arg19) (trip_k0_t1.sl.r_148 arg2 arg3 arg4 arg5 arg6 arg9 arg11 arg19 arg20 v0 v9 X_arg2 X_arg3 X_arg4 X_arg5 X_arg6 X_arg9 X_arg11 k f_arg19 f_arg20) := by
  with_unfolding_all rfl

/-- Group 1: `sbr`. -/
theorem g1_sbr : (trip_k0_t1.sl.r_172 arg2 arg5 arg6 arg9 arg11 arg20 v0 v9 X_arg2 X_arg5 X_arg6 X_arg9 X_arg11 k f_arg20) = Gin.sbr (ginOf 8 slices_S64x256_o8_0_S8x256 v0 (trip_k0_t1.sl.r_4 arg9 v9 X_arg9 k) (trip_k0_t1.sl.r_5 arg2 X_arg2 k) (trip_k0_t1.sl.r_6 arg3 X_arg3 k) (trip_k0_t1.sl.r_7 arg4 X_arg4 k) (trip_k0_t1.sl.r_8 arg5 X_arg5 k) (trip_k0_t1.sl.r_9 arg6 X_arg6 k) (sl1 7 slices_S64x256_o7_0_S1x256 (trip_k0_t1.sl.r_9 arg6 X_arg6 k)) (trip_k0_t1.sl.r arg11 X_arg11 k) (trip_k0_t1.sl.r_1 arg11 X_arg11 k) (trip_k0_t1.sl.r_2 arg11 X_arg11 k) (trip_k0_t1.sl.r_3 arg11 X_arg11 k)) (trip_k0_t1.sl.r_149 arg2 arg5 arg6 arg9 arg11 arg20 v0 v9 X_arg2 X_arg5 X_arg6 X_arg9 X_arg11 k f_arg20) := by
  with_unfolding_all rfl

/-- Group 0: `dout`. -/
theorem g0_dout : (trip_k0_t1.sl.r_192 arg2 arg3 arg4 arg5 arg6 arg7 arg8 arg9 arg11 arg19 v0 v9 v13 X_arg2 X_arg3 X_arg4 X_arg5 X_arg6 X_arg7 X_arg8 X_arg9 X_arg11 k f_arg19) = Gin.dout (ginOf 0 slices_S64x256_o0_0_S8x256 v0 (trip_k0_t1.sl.r_4 arg9 v9 X_arg9 k) (trip_k0_t1.sl.r_5 arg2 X_arg2 k) (trip_k0_t1.sl.r_6 arg3 X_arg3 k) (trip_k0_t1.sl.r_7 arg4 X_arg4 k) (trip_k0_t1.sl.r_8 arg5 X_arg5 k) (trip_k0_t1.sl.r_9 arg6 X_arg6 k) (trip_k0_t1.sl.r_11 arg7 arg8 v13 X_arg7 X_arg8 k) (trip_k0_t1.sl.r arg11 X_arg11 k) (trip_k0_t1.sl.r_1 arg11 X_arg11 k) (trip_k0_t1.sl.r_2 arg11 X_arg11 k) (trip_k0_t1.sl.r_3 arg11 X_arg11 k)) v0 (trip_k0_t1.sl.r_167 arg2 arg3 arg4 arg5 arg6 arg9 arg11 arg19 v0 v9 X_arg2 X_arg3 X_arg4 X_arg5 X_arg6 X_arg9 X_arg11 k f_arg19) := by
  with_unfolding_all rfl

/-- Group 0: `svf`. -/
theorem g0_svf : (trip_k0_t1.sl.r_195 arg2 arg3 arg4 arg5 arg6 arg7 arg8 arg9 arg11 arg19 arg20 v0 v9 v13 X_arg2 X_arg3 X_arg4 X_arg5 X_arg6 X_arg7 X_arg8 X_arg9 X_arg11 k f_arg19 f_arg20) = Gin.svf (ginOf 0 slices_S64x256_o0_0_S8x256 v0 (trip_k0_t1.sl.r_4 arg9 v9 X_arg9 k) (trip_k0_t1.sl.r_5 arg2 X_arg2 k) (trip_k0_t1.sl.r_6 arg3 X_arg3 k) (trip_k0_t1.sl.r_7 arg4 X_arg4 k) (trip_k0_t1.sl.r_8 arg5 X_arg5 k) (trip_k0_t1.sl.r_9 arg6 X_arg6 k) (trip_k0_t1.sl.r_11 arg7 arg8 v13 X_arg7 X_arg8 k) (trip_k0_t1.sl.r arg11 X_arg11 k) (trip_k0_t1.sl.r_1 arg11 X_arg11 k) (trip_k0_t1.sl.r_2 arg11 X_arg11 k) (trip_k0_t1.sl.r_3 arg11 X_arg11 k)) v0 (trip_k0_t1.sl.r_167 arg2 arg3 arg4 arg5 arg6 arg9 arg11 arg19 v0 v9 X_arg2 X_arg3 X_arg4 X_arg5 X_arg6 X_arg9 X_arg11 k f_arg19) (trip_k0_t1.sl.r_169 arg2 arg3 arg4 arg5 arg6 arg9 arg11 arg19 arg20 v0 v9 X_arg2 X_arg3 X_arg4 X_arg5 X_arg6 X_arg9 X_arg11 k f_arg19 f_arg20) := by
  with_unfolding_all rfl

/-- Group 0: `svr`. -/
theorem g0_svr : (trip_k0_t1.sl.r_196 arg2 arg5 arg6 arg7 arg8 arg9 arg11 arg20 v0 v9 v13 X_arg2 X_arg5 X_arg6 X_arg7 X_arg8 X_arg9 X_arg11 k f_arg20) = Gin.svr (ginOf 0 slices_S64x256_o0_0_S8x256 v0 (trip_k0_t1.sl.r_4 arg9 v9 X_arg9 k) (trip_k0_t1.sl.r_5 arg2 X_arg2 k) (trip_k0_t1.sl.r_6 arg3 X_arg3 k) (trip_k0_t1.sl.r_7 arg4 X_arg4 k) (trip_k0_t1.sl.r_8 arg5 X_arg5 k) (trip_k0_t1.sl.r_9 arg6 X_arg6 k) (trip_k0_t1.sl.r_11 arg7 arg8 v13 X_arg7 X_arg8 k) (trip_k0_t1.sl.r arg11 X_arg11 k) (trip_k0_t1.sl.r_1 arg11 X_arg11 k) (trip_k0_t1.sl.r_2 arg11 X_arg11 k) (trip_k0_t1.sl.r_3 arg11 X_arg11 k)) (trip_k0_t1.sl.r_170 arg2 arg5 arg6 arg9 arg11 arg20 v0 v9 X_arg2 X_arg5 X_arg6 X_arg9 X_arg11 k f_arg20) := by
  with_unfolding_all rfl

/-- Group 0: `sbf`. -/
theorem g0_sbf : (trip_k0_t1.sl.r_197 arg2 arg3 arg4 arg5 arg6 arg7 arg8 arg9 arg11 arg19 arg20 v0 v9 v13 X_arg2 X_arg3 X_arg4 X_arg5 X_arg6 X_arg7 X_arg8 X_arg9 X_arg11 k f_arg19 f_arg20) = Gin.sbf (ginOf 0 slices_S64x256_o0_0_S8x256 v0 (trip_k0_t1.sl.r_4 arg9 v9 X_arg9 k) (trip_k0_t1.sl.r_5 arg2 X_arg2 k) (trip_k0_t1.sl.r_6 arg3 X_arg3 k) (trip_k0_t1.sl.r_7 arg4 X_arg4 k) (trip_k0_t1.sl.r_8 arg5 X_arg5 k) (trip_k0_t1.sl.r_9 arg6 X_arg6 k) (trip_k0_t1.sl.r_11 arg7 arg8 v13 X_arg7 X_arg8 k) (trip_k0_t1.sl.r arg11 X_arg11 k) (trip_k0_t1.sl.r_1 arg11 X_arg11 k) (trip_k0_t1.sl.r_2 arg11 X_arg11 k) (trip_k0_t1.sl.r_3 arg11 X_arg11 k)) v0 (trip_k0_t1.sl.r_167 arg2 arg3 arg4 arg5 arg6 arg9 arg11 arg19 v0 v9 X_arg2 X_arg3 X_arg4 X_arg5 X_arg6 X_arg9 X_arg11 k f_arg19) (trip_k0_t1.sl.r_171 arg2 arg3 arg4 arg5 arg6 arg9 arg11 arg19 arg20 v0 v9 X_arg2 X_arg3 X_arg4 X_arg5 X_arg6 X_arg9 X_arg11 k f_arg19 f_arg20) := by
  with_unfolding_all rfl

/-- Group 0: `sbr`. -/
theorem g0_sbr : (trip_k0_t1.sl.r_198 arg2 arg5 arg6 arg7 arg8 arg9 arg11 arg20 v0 v9 v13 X_arg2 X_arg5 X_arg6 X_arg7 X_arg8 X_arg9 X_arg11 k f_arg20) = Gin.sbr (ginOf 0 slices_S64x256_o0_0_S8x256 v0 (trip_k0_t1.sl.r_4 arg9 v9 X_arg9 k) (trip_k0_t1.sl.r_5 arg2 X_arg2 k) (trip_k0_t1.sl.r_6 arg3 X_arg3 k) (trip_k0_t1.sl.r_7 arg4 X_arg4 k) (trip_k0_t1.sl.r_8 arg5 X_arg5 k) (trip_k0_t1.sl.r_9 arg6 X_arg6 k) (trip_k0_t1.sl.r_11 arg7 arg8 v13 X_arg7 X_arg8 k) (trip_k0_t1.sl.r arg11 X_arg11 k) (trip_k0_t1.sl.r_1 arg11 X_arg11 k) (trip_k0_t1.sl.r_2 arg11 X_arg11 k) (trip_k0_t1.sl.r_3 arg11 X_arg11 k)) (trip_k0_t1.sl.r_172 arg2 arg5 arg6 arg9 arg11 arg20 v0 v9 X_arg2 X_arg5 X_arg6 X_arg9 X_arg11 k f_arg20) := by
  with_unfolding_all rfl

end

end Cert.GatesIdeal.Gen
-- ==== Proof.GMath.lean ====
module

public import Idealize.ShloMosaic.PureOps.Ideal
public import Mathlib.Tactic.Ring
public import Mathlib.Tactic.Linarith
public import Mathlib.Tactic.FieldSimp
public import Mathlib.Tactic.IntervalCases
public import Mathlib.Tactic.Positivity

@[expose] public section

noncomputable section

namespace Cert.GMath

/-- What a token's step reads, in one column: cotangent, input, candidate, the gates' inputs, the
state, and the state before. -/
structure Tok where
  g : ℝ
  x : ℝ
  xt : ℝ
  uf : ℝ
  ur : ℝ
  c : ℝ
  cp : ℝ

/-- A column's parameters. -/
structure Par where
  vf : ℝ
  vr : ℝ
  bf : ℝ
  br : ℝ

/-- The logistic function. -/
def sg (z : ℝ) : ℝ := (1 + Real.exp (-z))⁻¹

theorem tanh_half (z : ℝ) : 1 / 2 * Real.tanh (1 / 2 * z) = sg z - 1 / 2 := by
  unfold sg
  rw [Real.tanh_eq_sinh_div_cosh, Real.sinh_eq, Real.cosh_eq]
  have h1 : Real.exp (-z) = Real.exp (-(1 / 2 * z)) * Real.exp (-(1 / 2 * z)) := by
    rw [← Real.exp_add]; congr 1; ring
  have h2 : Real.exp (1 / 2 * z) * Real.exp (-(1 / 2 * z)) = 1 := by
    rw [← Real.exp_add]; simp
  have p1 := Real.exp_pos (1 / 2 * z)
  have p2 := Real.exp_pos (-(1 / 2 * z))
  rw [h1]
  set u := Real.exp (1 / 2 * z)
  set w := Real.exp (-(1 / 2 * z))
  have h3 : u = 1 / w := by field_simp; linarith
  rw [h3]
  have : (1 + w * w) ≠ 0 := by positivity
  have : (1 / w + w) ≠ 0 := by positivity
  field_simp
  ring

namespace Tok
variable (P : Par) (T : Tok)
def f : ℝ := sg (T.uf + P.vf * T.cp + P.bf)
def r : ℝ := sg (T.ur + P.vr * T.cp + P.br)
def gr : ℝ := T.g * T.r P
def dr : ℝ := (T.c - T.x) * T.r P * (T.g * (1 - T.r P))
def q : ℝ := (T.cp - T.xt) * (T.f P * (1 - T.f P))
def a : ℝ := T.f P + P.vf * T.q P
def e : ℝ := T.gr P * T.a P + T.dr P * P.vr
/-- One step of the recurrence. -/
def nxt (d : ℝ) : ℝ := T.a P * d + T.e P
def df (d : ℝ) : ℝ := (T.gr P + d) * T.q P
end Tok

/-- The recurrence within eight rows, from the last row up. -/
def DD (a e : ℕ → ℝ) (δ : ℝ) : ℕ → ℝ
  | 0 => δ
  | n + 1 => a (7 - n) * DD a e δ n + e (7 - n)

def A1 (a : ℕ → ℝ) (r : ℕ) : ℝ := if r < 7 then a r * a (r + 1) else a r
def E1 (a e : ℕ → ℝ) (r : ℕ) : ℝ := if r < 7 then e r + a r * e (r + 1) else e r
def A2 (a : ℕ → ℝ) (r : ℕ) : ℝ := if r < 6 then A1 a r * A1 a (r + 2) else A1 a r
def E2 (a e : ℕ → ℝ) (r : ℕ) : ℝ := if r < 6 then E1 a e r + A1 a r * E1 a e (r + 2) else E1 a e r
def A3 (a : ℕ → ℝ) (r : ℕ) : ℝ := if r < 4 then A2 a r * A2 a (r + 4) else A2 a r
def E3 (a e : ℕ → ℝ) (r : ℕ) : ℝ := if r < 4 then E2 a e r + A2 a r * E2 a e (r + 4) else E2 a e r

/-- Doubling three times gives the recurrence. -/
theorem doubling (a e : ℕ → ℝ) (δ : ℝ) (r : ℕ) (hr : r < 8) :
    A3 a r * δ + E3 a e r = DD a e δ (8 - r) := by
  interval_cases r <;> simp [A3, E3, A2, E2, A1, E1, DD] <;> ring

/-- The recurrence over both sequences, tokens numbered from the last of the first sequence: what token
`N` takes from the one after it. -/
def Dg (P : Par) (T : ℕ → Tok) (L : ℕ → ℝ) : ℕ → ℝ
  | 0 => L 0
  | N + 1 => if (N + 1) % 4096 = 0 then L ((N + 1) / 4096) else (T N).nxt P (Dg P T L N)

/-- What token `N` gives the one before it. -/
def Do (P : Par) (T : ℕ → Tok) (L : ℕ → ℝ) (N : ℕ) : ℝ := (T N).nxt P (Dg P T L N)

theorem Dg_of_zero (P : Par) (T : ℕ → Tok) (L : ℕ → ℝ) (N : ℕ) (h : N % 4096 = 0) : Dg P T L N = L (N / 4096) := by
  cases N with
  | zero => simp [Dg]
  | succ n => simp only [Dg]; rw [if_pos h]

theorem Dg_succ (P : Par) (T : ℕ → Tok) (L : ℕ → ℝ) (N : ℕ) (h : (N + 1) % 4096 ≠ 0) :
    Dg P T L (N + 1) = Do P T L N := by
  simp only [Dg, Do]; rw [if_neg h]

/-- Eight rows of the recurrence are eight tokens of it. -/
theorem DD_eq (P : Par) (T : ℕ → Tok) (L : ℕ → ℝ) (M : ℕ) (n : ℕ) (hn : n < 8) :
    DD (fun r => (T (8 * M + 7 - r)).a P) (fun r => (T (8 * M + 7 - r)).e P) (Dg P T L (8 * M)) n
        = Dg P T L (8 * M + n)
      ∧ DD (fun r => (T (8 * M + 7 - r)).a P) (fun r => (T (8 * M + 7 - r)).e P) (Dg P T L (8 * M)) (n + 1)
        = Do P T L (8 * M + n) := by
  have key : ∀ n, n < 8 → DD (fun r => (T (8 * M + 7 - r)).a P) (fun r => (T (8 * M + 7 - r)).e P) (Dg P T L (8 * M)) n
        = Dg P T L (8 * M + n) → DD (fun r => (T (8 * M + 7 - r)).a P) (fun r => (T (8 * M + 7 - r)).e P) (Dg P T L (8 * M)) (n + 1)
        = Do P T L (8 * M + n) := by
    intro n hn h
    simp only [DD]
    rw [h]
    have : 8 * M + 7 - (7 - n) = 8 * M + n := by omega
    simp only [this, Do, Tok.nxt]
  have first : DD (fun r => (T (8 * M + 7 - r)).a P) (fun r => (T (8 * M + 7 - r)).e P) (Dg P T L (8 * M)) n
        = Dg P T L (8 * M + n) := by
    induction n with
    | zero => rfl
    | succ n ih =>
      rw [key n (by omega) (ih (by omega))]
      exact (Dg_succ P T L (8 * M + n) (by omega)).symm
  exact ⟨first, key n hn first⟩

/-- The sums that one row of the accumulator holds after `m` groups. -/
def accS (t : ℕ → ℝ) (m r : ℕ) : ℝ := ∑ i ∈ Finset.range m, t (8 * i + 7 - r)

theorem accS_rows (t : ℕ → ℝ) (m : ℕ) : ∑ r : Fin 8, accS t m r.val = ∑ n ∈ Finset.range (8 * m), t n := by
  induction m with
  | zero => simp [accS]
  | succ m ih =>
    have : ∀ r, accS t (m + 1) r = accS t m r + t (8 * m + 7 - r) := fun r => by
      simp only [accS]; rw [Finset.sum_range_succ]
    simp only [this]
    rw [Finset.sum_add_distrib, ih, show 8 * (m + 1) = 8 * m + 8 from by ring, Finset.sum_range_add]
    congr 1
    simp only [Fin.sum_univ_eight, Finset.sum_range_succ, Finset.sum_range_zero]
    simp
    ring

end Cert.GMath
-- ==== Proof.GPt.lean ====
module

public import proofs.«01_k».proof.Proof.GMath
public import proofs.«01_k».proof.Proof.GVec
public import Idealize.ShloMosaic.Lib.ValueIdx
public import Idealize.ShloMosaic.Lib.ValueLayout
public import Idealize.ShloMosaic.Lib.KernelVsHost

@[expose] public section

noncomputable section

namespace Cert.GatesIdeal.Gen

open Idealize.ShloMosaic Idealize.ShloMosaic.TcCoe Cert.GMath
open Idealize.ShloMosaic.ValueIdx (ix2)

/-- Column `j` of a group's vectors holds the real numbers of eight tokens. -/
structure Gin.Rep (G : Gin Ideal) (j : Fin 256) (P : Par) (T : ℕ → Tok) : Prop where
  g : ∀ r : Fin 8, G.g (ix2 r j) = ((T r.val).g : EReal)
  x : ∀ r : Fin 8, G.x (ix2 r j) = ((T r.val).x : EReal)
  xt : ∀ r : Fin 8, G.xt (ix2 r j) = ((T r.val).xt : EReal)
  uf : ∀ r : Fin 8, G.uf (ix2 r j) = ((T r.val).uf : EReal)
  ur : ∀ r : Fin 8, G.ur (ix2 r j) = ((T r.val).ur : EReal)
  c : ∀ r : Fin 8, G.c (ix2 r j) = ((T r.val).c : EReal)
  cp : ∀ r : Fin 8, G.cp (ix2 r j) = ((T r.val).cp : EReal)
  vf : G.vf (ix2 0 j) = (P.vf : EReal)
  vr : G.vr (ix2 0 j) = (P.vr : EReal)
  bf : G.bf (ix2 0 j) = (P.bf : EReal)
  br : G.br (ix2 0 j) = (P.br : EReal)

theorem half_bits : Ideal.ofBits .f32 0x3F000000#32 = ((1 / 2 : ℝ) : EReal) := by
  simp [Ideal.ofBits, Ideal.ieee]
  rw [← EReal.coe_mul]; norm_num
theorem one_bits : Ideal.ofBits .f32 0x3F800000#32 = ((1 : ℝ) : EReal) := by
  simp [Ideal.ofBits, Ideal.ieee]
  rw [← EReal.coe_mul]; norm_num

theorem half_apply (r : Fin 8) (j : Fin 256) : (Gin.half : FVec Ideal S8x256 .f32) (ix2 r j) = ((1 / 2 : ℝ) : EReal) :=
  half_bits

theorem bc8_apply (v : FVec Ideal S1x256 .f32) (r : Fin 8) (j : Fin 256) : bc8 v (ix2 r j) = v (ix2 0 j) :=
  ValueIdx.broadcastTo_1b_ab_apply v _ r j

theorem th_apply (u v b cp : FVec Ideal S8x256 .f32) (r : Fin 8) (j : Fin 256) (u' v' b' c' : ℝ)
    (hu : u (ix2 r j) = (u' : EReal)) (hv : v (ix2 r j) = (v' : EReal)) (hb : b (ix2 r j) = (b' : EReal))
    (hc : cp (ix2 r j) = (c' : EReal)) :
    Gin.th u v b cp (ix2 r j) = ((sg (u' + v' * c' + b') - 1 / 2 : ℝ) : EReal) := by
  rw [← tanh_half]
  unfold Gin.th
  rw [ValueIdx.mulf_apply, half_apply]
  change _ * Ideal.tanh ((mulf Gin.half (addf (addf u (mulf v cp)) b) : FVec Ideal S8x256 .f32) (ix2 r j)) = _
  rw [ValueIdx.mulf_apply, half_apply, ValueIdx.addf_apply, ValueIdx.addf_apply, ValueIdx.mulf_apply, hu, hv, hb, hc]
  rw [← EReal.coe_mul, ← EReal.coe_add, ← EReal.coe_add, ← EReal.coe_mul, Ideal.tanh_coe, ← EReal.coe_mul]

namespace Gin
variable {G : Gin Ideal} {j : Fin 256} {P : Par} {T : ℕ → Tok} (h : G.Rep j P T)
include h

theorem f_apply (r : Fin 8) : G.f (ix2 r j) = ((T r.val).f P : EReal) := by
  unfold Gin.f
  rw [ValueIdx.addf_apply, half_apply, th_apply _ _ _ _ r j _ _ _ _ (h.uf r) ((bc8_apply _ r j).trans h.vf) ((bc8_apply _ r j).trans h.bf) (h.cp r),
    ← EReal.coe_add]
  congr 1; unfold Tok.f; ring
theorem f1_apply (r : Fin 8) : G.f1 (ix2 r j) = ((1 - (T r.val).f P : ℝ) : EReal) := by
  unfold Gin.f1
  rw [ValueIdx.subf_apply, half_apply, th_apply _ _ _ _ r j _ _ _ _ (h.uf r) ((bc8_apply _ r j).trans h.vf) ((bc8_apply _ r j).trans h.bf) (h.cp r),
    ← EReal.coe_sub]
  congr 1; unfold Tok.f; ring
theorem r_apply (r : Fin 8) : G.r (ix2 r j) = ((T r.val).r P : EReal) := by
  unfold Gin.r
  rw [ValueIdx.addf_apply, half_apply, th_apply _ _ _ _ r j _ _ _ _ (h.ur r) ((bc8_apply _ r j).trans h.vr) ((bc8_apply _ r j).trans h.br) (h.cp r),
    ← EReal.coe_add]
  congr 1; unfold Tok.r; ring
theorem r1_apply (r : Fin 8) : G.r1 (ix2 r j) = ((1 - (T r.val).r P : ℝ) : EReal) := by
  unfold Gin.r1
  rw [ValueIdx.subf_apply, half_apply, th_apply _ _ _ _ r j _ _ _ _ (h.ur r) ((bc8_apply _ r j).trans h.vr) ((bc8_apply _ r j).trans h.br) (h.cp r),
    ← EReal.coe_sub]
  congr 1; unfold Tok.r; ring
theorem dr_apply (r : Fin 8) : G.dr (ix2 r j) = ((T r.val).dr P : EReal) := by
  unfold Gin.dr Gin.hw
  rw [ValueIdx.mulf_apply, ValueIdx.mulf_apply, ValueIdx.mulf_apply, ValueIdx.subf_apply, r_apply h, r1_apply h, h.c, h.x, h.g]
  rw [← EReal.coe_sub, ← EReal.coe_mul, ← EReal.coe_mul, ← EReal.coe_mul]; rfl
theorem gr_apply (r : Fin 8) : G.gr (ix2 r j) = ((T r.val).gr P : EReal) := by
  unfold Gin.gr
  rw [ValueIdx.mulf_apply, r_apply h, h.g, ← EReal.coe_mul]; rfl
theorem q_apply (r : Fin 8) : G.q (ix2 r j) = ((T r.val).q P : EReal) := by
  unfold Gin.q
  rw [ValueIdx.mulf_apply, ValueIdx.mulf_apply, ValueIdx.subf_apply, f_apply h, f1_apply h, h.cp, h.xt]
  rw [← EReal.coe_sub, ← EReal.coe_mul, ← EReal.coe_mul]; rfl
theorem a_apply (r : Fin 8) : G.a (ix2 r j) = ((T r.val).a P : EReal) := by
  unfold Gin.a
  rw [ValueIdx.addf_apply, ValueIdx.mulf_apply, f_apply h, q_apply h, bc8_apply, h.vf, ← EReal.coe_mul, ← EReal.coe_add]; rfl
theorem e_apply (r : Fin 8) : G.e (ix2 r j) = ((T r.val).e P : EReal) := by
  unfold Gin.e
  rw [ValueIdx.addf_apply, ValueIdx.mulf_apply, ValueIdx.mulf_apply, a_apply h, gr_apply h, dr_apply h, bc8_apply, h.vr,
    ← EReal.coe_mul, ← EReal.coe_mul, ← EReal.coe_add]; rfl
end Gin

/-- The row numbers. -/
def IsRow (v0 : IVec S8x256 32) : Prop := ∀ (r : Fin 8) (j : Fin 256), v0 (ix2 r j) = BitVec.ofNat 32 r.val

theorem rot8_apply (n : BitVec 32) (v : FVec Ideal S8x256 .f32) (r k : Fin 8) (j : Fin 256)
    (hk : k.val = (r.val + 8 - n.toNat % 8) % 8) : rot8 n v (ix2 r j) = v (ix2 k j) := by
  unfold rot8
  refine dynamicRotate_apply (0 : Fin 2) n v _ (ix2 r j) (ix2 k j) fun b => ?_
  match b with
  | ⟨0, _⟩ => exact hk
  | ⟨1, _⟩ => rfl

section
variable {v0 : IVec S8x256 32} (hv : IsRow v0)
include hv

theorem dblA_apply (n : BitVec 32) (s : ℕ) (hn : n.toNat + s = 8) (hs : 0 < s) (hn0 : 0 < n.toNat) (a : FVec Ideal S8x256 .f32) (a' : ℕ → ℝ) (j : Fin 256)
    (ha : ∀ r : Fin 8, a (ix2 r j) = (a' r.val : EReal)) (r : Fin 8) :
    Gin.dblA n n v0 a (ix2 r j) = ((if r.val < n.toNat then a' r.val * a' (r.val + s) else a' r.val : ℝ) : EReal) := by
  have hr := r.isLt
  unfold Gin.dblA
  rw [ValueIdx.mulf_apply, ValueIdx.select_apply, ha r]
  have hc : cmpi .slt v0 (broadcast S8x256 n) (ix2 r j) = if r.val < n.toNat then 1#1 else 0#1 := by
    change Scalar.cmpi .slt (v0 (ix2 r j)) n = _
    rw [hv r j]
    have h8 : n.toNat ≤ 8 := by omega
    obtain ⟨m, hm⟩ : ∃ m : Fin 9, n = BitVec.ofNat 32 m.val := ⟨⟨n.toNat, by omega⟩, by simp⟩
    subst hm
    clear * -
    revert r m; decide
  rw [hc]
  by_cases hlt : r.val < n.toNat
  · rw [if_pos hlt, if_pos hlt]
    have := rot8_apply n a r ⟨r.val + s, by omega⟩ j (by
      show r.val + s = _
      rw [Nat.mod_eq_of_lt (show n.toNat < 8 by omega), show r.val + 8 - n.toNat = r.val + s by omega, Nat.mod_eq_of_lt (by omega)])
    change _ * (rot8 n a (ix2 r j)) = _
    rw [this, ha, ← EReal.coe_mul]
  · rw [if_neg hlt, if_neg hlt]
    change _ * Ideal.ofBits .f32 0x3F800000#32 = _
    rw [one_bits, ← EReal.coe_mul, mul_one]

theorem dblE_apply (n : BitVec 32) (s : ℕ) (hn : n.toNat + s = 8) (hs : 0 < s) (hn0 : 0 < n.toNat) (a e : FVec Ideal S8x256 .f32) (a' e' : ℕ → ℝ) (j : Fin 256)
    (ha : ∀ r : Fin 8, a (ix2 r j) = (a' r.val : EReal)) (he : ∀ r : Fin 8, e (ix2 r j) = (e' r.val : EReal)) (r : Fin 8) :
    Gin.dblE n n v0 a e (ix2 r j) = ((if r.val < n.toNat then e' r.val + a' r.val * e' (r.val + s) else e' r.val : ℝ) : EReal) := by
  have hr := r.isLt
  unfold Gin.dblE
  rw [ValueIdx.addf_apply, ValueIdx.select_apply, he r]
  have hc : cmpi .slt v0 (broadcast S8x256 n) (ix2 r j) = if r.val < n.toNat then 1#1 else 0#1 := by
    change Scalar.cmpi .slt (v0 (ix2 r j)) n = _
    rw [hv r j]
    have h8 : n.toNat ≤ 8 := by omega
    obtain ⟨m, hm⟩ : ∃ m : Fin 9, n = BitVec.ofNat 32 m.val := ⟨⟨n.toNat, by omega⟩, by simp⟩
    subst hm
    clear * -
    revert r m; decide
  rw [hc]
  by_cases hlt : r.val < n.toNat
  · rw [if_pos hlt, if_pos hlt]
    have := rot8_apply n e r ⟨r.val + s, by omega⟩ j (by
      show r.val + s = _
      rw [Nat.mod_eq_of_lt (show n.toNat < 8 by omega), show r.val + 8 - n.toNat = r.val + s by omega, Nat.mod_eq_of_lt (by omega)])
    change _ + (mulf a (rot8 n e) (ix2 r j)) = _
    rw [ValueIdx.mulf_apply, this, ha, he, ← EReal.coe_mul, ← EReal.coe_add]
  · rw [if_neg hlt, if_neg hlt]
    change _ + Ideal.ofBits .f32 0x00000000#32 = _
    rw [Ideal.ofBits_zero_f32, add_zero]

variable {G : Gin Ideal} {j : Fin 256} {P : Par} {T : ℕ → Tok} (h : G.Rep j P T)
include h

theorem dt_apply (d : FVec Ideal S8x256 .f32) (δ : ℝ) (hd : ∀ r : Fin 8, d (ix2 r j) = (δ : EReal)) (r : Fin 8) :
    G.dt v0 d (ix2 r j) = (DD (fun r => (T r).a P) (fun r => (T r).e P) δ (8 - r.val) : EReal) := by
  rw [← doubling _ _ _ _ r.isLt]
  have a1 : ∀ r : Fin 8, G.a1 v0 (ix2 r j) = (A1 (fun r => (T r).a P) r.val : EReal) :=
    dblA_apply hv 7#32 1 rfl (by norm_num) (by decide) G.a (fun r => (T r).a P) j (Gin.a_apply h)
  have e1 : ∀ r : Fin 8, G.e1 v0 (ix2 r j) = (E1 (fun r => (T r).a P) (fun r => (T r).e P) r.val : EReal) :=
    dblE_apply hv 7#32 1 rfl (by norm_num) (by decide) G.a G.e (fun r => (T r).a P) (fun r => (T r).e P) j (Gin.a_apply h) (Gin.e_apply h)
  have a2 : ∀ r : Fin 8, G.a2 v0 (ix2 r j) = (A2 (fun r => (T r).a P) r.val : EReal) :=
    dblA_apply hv 6#32 2 rfl (by norm_num) (by decide) (G.a1 v0) (A1 fun r => (T r).a P) j a1
  have e2 : ∀ r : Fin 8, G.e2 v0 (ix2 r j) = (E2 (fun r => (T r).a P) (fun r => (T r).e P) r.val : EReal) :=
    dblE_apply hv 6#32 2 rfl (by norm_num) (by decide) _ _ _ _ j a1 e1
  have a3 : ∀ r : Fin 8, G.a3 v0 (ix2 r j) = (A3 (fun r => (T r).a P) r.val : EReal) :=
    dblA_apply hv 4#32 4 rfl (by norm_num) (by decide) _ _ j a2
  have e3 : ∀ r : Fin 8, G.e3 v0 (ix2 r j) = (E3 (fun r => (T r).a P) (fun r => (T r).e P) r.val : EReal) :=
    dblE_apply hv 4#32 4 rfl (by norm_num) (by decide) _ _ _ _ j a2 e2
  unfold Gin.dt
  rw [ValueIdx.addf_apply, ValueIdx.mulf_apply, a3, e3, hd, ← EReal.coe_mul, ← EReal.coe_add]

theorem dn_apply (d : FVec Ideal S8x256 .f32) (δ : ℝ) (hd : ∀ r : Fin 8, d (ix2 r j) = (δ : EReal)) (r : Fin 8) :
    G.dn v0 d (ix2 r j) = (DD (fun r => (T r).a P) (fun r => (T r).e P) δ (7 - r.val) : EReal) := by
  have hr := r.isLt
  unfold Gin.dn
  rw [ValueIdx.select_apply]
  have hc : cmpi .eq v0 (broadcast S8x256 7#32) (ix2 r j) = if r.val = 7 then 1#1 else 0#1 := by
    change Scalar.cmpi .eq (v0 (ix2 r j)) 7#32 = _
    rw [hv r j]
    clear * -
    revert r; decide
  rw [hc]
  by_cases h7 : r.val = 7
  · rw [if_pos h7]
    change d (ix2 r j) = _
    rw [hd, h7]; rfl
  · rw [if_neg h7]
    change rot8 7#32 (G.dt v0 d) (ix2 r j) = _
    rw [rot8_apply 7#32 _ r ⟨r.val + 1, by omega⟩ j (by
      show r.val + 1 = (r.val + 8 - 7 % 8) % 8
      omega), dt_apply hv h d δ hd]
    show _ = (DD (fun r => (T r).a P) (fun r => (T r).e P) δ (7 - r.val) : EReal)
    rw [show 7 - r.val = 8 - (r.val + 1) by omega]

theorem dout_apply (d : FVec Ideal S8x256 .f32) (δ : ℝ) (hd : ∀ r : Fin 8, d (ix2 r j) = (δ : EReal)) (r : Fin 8) :
    G.dout v0 d (ix2 r j) = (DD (fun r => (T r).a P) (fun r => (T r).e P) δ 8 : EReal) := by
  unfold Gin.dout
  rw [bc8_apply, shapeCast_self, ValueIdx.slice2_axis0_apply 0 _ _ (0 : Fin 1) j (0 : Fin 8) rfl, dt_apply hv h d δ hd]
  rfl

theorem df_apply (d : FVec Ideal S8x256 .f32) (δ : ℝ) (hd : ∀ r : Fin 8, d (ix2 r j) = (δ : EReal)) (r : Fin 8) :
    G.df v0 d (ix2 r j) = ((T r.val).df P (DD (fun r => (T r).a P) (fun r => (T r).e P) δ (7 - r.val)) : EReal) := by
  unfold Gin.df
  rw [ValueIdx.mulf_apply, ValueIdx.addf_apply, Gin.gr_apply h, Gin.q_apply h, dn_apply hv h d δ hd, ← EReal.coe_add, ← EReal.coe_mul]
  rfl
end

/-- A token's terms of the four sums. -/
def tvf (P : Par) (T : ℕ → Tok) (L : ℕ → ℝ) (N : ℕ) : ℝ := (T N).df P (Dg P T L N) * (T N).cp
def tvr (P : Par) (T : ℕ → Tok) (N : ℕ) : ℝ := (T N).dr P * (T N).cp
def tbf (P : Par) (T : ℕ → Tok) (L : ℕ → ℝ) (N : ℕ) : ℝ := (T N).df P (Dg P T L N)
def tbr (P : Par) (T : ℕ → Tok) (N : ℕ) : ℝ := (T N).dr P

theorem accS_succ (t : ℕ → ℝ) (m r : ℕ) : accS t (m + 1) r = accS t m r + t (8 * m + 7 - r) := by
  simp only [accS]; rw [Finset.sum_range_succ]

section
variable {v0 : IVec S8x256 32} (hv : IsRow v0) {G : Gin Ideal} {j : Fin 256} {P : Par} {T : ℕ → Tok} (L : ℕ → ℝ) (M : ℕ)
  (h : G.Rep j P (fun r => T (8 * M + 7 - r)))
  (d : FVec Ideal S8x256 .f32) (hd : ∀ r : Fin 8, d (ix2 r j) = (Dg P T L (8 * M) : EReal))
include h

theorem step_svr (s : FVec Ideal S8x256 .f32) (hs : ∀ r : Fin 8, s (ix2 r j) = (accS (tvr P T) M r.val : EReal)) (r : Fin 8) :
    G.svr s (ix2 r j) = (accS (tvr P T) (M + 1) r.val : EReal) := by
  unfold Gin.svr
  rw [ValueIdx.addf_apply, ValueIdx.mulf_apply, hs, Gin.dr_apply h, h.cp, ← EReal.coe_mul, ← EReal.coe_add, accS_succ]
  rfl
theorem step_sbr (s : FVec Ideal S8x256 .f32) (hs : ∀ r : Fin 8, s (ix2 r j) = (accS (tbr P T) M r.val : EReal)) (r : Fin 8) :
    G.sbr s (ix2 r j) = (accS (tbr P T) (M + 1) r.val : EReal) := by
  unfold Gin.sbr
  rw [ValueIdx.addf_apply, hs, Gin.dr_apply h, ← EReal.coe_add, accS_succ]
  rfl
include hv hd
theorem step_dout (r : Fin 8) : G.dout v0 d (ix2 r j) = (Do P T L (8 * M + 7) : EReal) := by
  rw [dout_apply hv h d _ hd]
  exact congrArg _ (DD_eq P T L M 7 (by norm_num)).2
theorem step_df (r : Fin 8) : G.df v0 d (ix2 r j) = (tbf P T L (8 * M + 7 - r.val) : EReal) := by
  have hr := r.isLt
  rw [df_apply hv h d _ hd]
  rw [(DD_eq P T L M (7 - r.val) (by omega)).1, show 8 * M + (7 - r.val) = 8 * M + 7 - r.val by omega]
  rfl
theorem step_svf (s : FVec Ideal S8x256 .f32) (hs : ∀ r : Fin 8, s (ix2 r j) = (accS (tvf P T L) M r.val : EReal)) (r : Fin 8) :
    G.svf v0 d s (ix2 r j) = (accS (tvf P T L) (M + 1) r.val : EReal) := by
  unfold Gin.svf
  rw [ValueIdx.addf_apply, ValueIdx.mulf_apply, hs, step_df hv L M h d hd, h.cp, ← EReal.coe_mul, ← EReal.coe_add, accS_succ]
  rfl
theorem step_sbf (s : FVec Ideal S8x256 .f32) (hs : ∀ r : Fin 8, s (ix2 r j) = (accS (tbf P T L) M r.val : EReal)) (r : Fin 8) :
    G.sbf v0 d s (ix2 r j) = (accS (tbf P T L) (M + 1) r.val : EReal) := by
  unfold Gin.sbf
  rw [ValueIdx.addf_apply, hs, step_df hv L M h d hd, ← EReal.coe_add, accS_succ]
end

/-- Column `j` of a tile holds the real numbers of the tokens `64 p + 63` (row 0) down to `64 p`. -/
structure TileRep (g x xt uf ur c : FVec Ideal S64x256 .f32) (prev vf vr bf br : FVec Ideal S1x256 .f32) (j : Fin 256) (P : Par)
    (T : ℕ → Tok) (p : ℕ) : Prop where
  g : ∀ r : Fin 64, g (ix2 r j) = ((T (64 * p + 63 - r.val)).g : EReal)
  x : ∀ r : Fin 64, x (ix2 r j) = ((T (64 * p + 63 - r.val)).x : EReal)
  xt : ∀ r : Fin 64, xt (ix2 r j) = ((T (64 * p + 63 - r.val)).xt : EReal)
  uf : ∀ r : Fin 64, uf (ix2 r j) = ((T (64 * p + 63 - r.val)).uf : EReal)
  ur : ∀ r : Fin 64, ur (ix2 r j) = ((T (64 * p + 63 - r.val)).ur : EReal)
  c : ∀ r : Fin 64, c (ix2 r j) = ((T (64 * p + 63 - r.val)).c : EReal)
  cp : ∀ r : ℕ, r < 63 → (T (64 * p + 63 - (r + 1))).cp = (T (64 * p + 63 - r)).c
  prev : prev (ix2 0 j) = ((T (64 * p + 63)).cp : EReal)
  vf : vf (ix2 0 j) = (P.vf : EReal)
  vr : vr (ix2 0 j) = (P.vr : EReal)
  bf : bf (ix2 0 j) = (P.bf : EReal)
  br : br (ix2 0 j) = (P.br : EReal)

theorem sl8_apply (o : ℕ) (h : S64x256.Slices ![o, 0] S8x256) (v : FVec Ideal S64x256 .f32) (r : Fin 8) (j : Fin 256) (k : Fin 64)
    (hk : k.val = o + r.val) : sl8 o h v (ix2 r j) = v (ix2 k j) :=
  ValueIdx.slice2_axis0_apply o v h r j k hk

theorem sl1_apply (o : ℕ) (h : S64x256.Slices ![o, 0] S1x256) (v : FVec Ideal S64x256 .f32) (j : Fin 256) (k : Fin 64)
    (hk : k.val = o) : sl1 o h v (ix2 0 j) = v (ix2 k j) :=
  ValueIdx.slice2_axis0_apply o v h (0 : Fin 1) j k hk

theorem cpV_apply {v0 : IVec S8x256 32} (hv : IsRow v0) (before : FVec Ideal S1x256 .f32) (c : FVec Ideal S8x256 .f32) (r : Fin 8) (j : Fin 256) :
    cpV v0 before c (ix2 r j) = if r.val = 0 then before (ix2 0 j) else c (ix2 ⟨r.val - 1, by omega⟩ j) := by
  have hr := r.isLt
  unfold cpV
  rw [ValueIdx.select_apply]
  have hc : cmpi .eq v0 (broadcast S8x256 0#32) (ix2 r j) = if r.val = 0 then 1#1 else 0#1 := by
    change Scalar.cmpi .eq (v0 (ix2 r j)) 0#32 = _
    rw [hv r j]
    clear * -
    revert r; decide
  rw [hc]
  by_cases h0 : r.val = 0
  · rw [if_pos h0, if_pos h0]
    change bc8 (shapeCast S1x256 before shapeCasts_S1x256_S1x256) (ix2 r j) = _
    rw [bc8_apply, shapeCast_self]
  · rw [if_neg h0, if_neg h0]
    change rot8 1#32 c (ix2 r j) = _
    rw [rot8_apply 1#32 c r ⟨r.val - 1, by omega⟩ j (by
      show r.val - 1 = (r.val + 8 - 1 % 8) % 8
      omega)]

/-- A group of a tile. -/
theorem ginOf_rep {v0 : IVec S8x256 32} (hv : IsRow v0) {g x xt uf ur c : FVec Ideal S64x256 .f32} {prev vf vr bf br : FVec Ideal S1x256 .f32}
    {j : Fin 256} {P : Par} {T : ℕ → Tok} {p : ℕ} (H : TileRep g x xt uf ur c prev vf vr bf br j P T p) (γ : ℕ) (hγ : γ < 8)
    (o : ℕ) (ho : o = 8 * γ) (hs : S64x256.Slices ![o, 0] S8x256) (before : FVec Ideal S1x256 .f32)
    (hb : before (ix2 0 j) = ((T (64 * p + 63 - 8 * γ)).cp : EReal)) :
    (ginOf o hs v0 g x xt uf ur c before vf vr bf br).Rep j P (fun r => T (8 * (8 * p + (7 - γ)) + 7 - r)) := by
  subst ho
  have e : ∀ r : Fin 8, 8 * (8 * p + (7 - γ)) + 7 - r.val = 64 * p + 63 - (8 * γ + r.val) := fun r => by
    have := r.isLt; omega
  have l : ∀ r : Fin 8, 8 * γ + r.val < 64 := fun r => by have := r.isLt; omega
  refine ⟨fun r => ?_, fun r => ?_, fun r => ?_, fun r => ?_, fun r => ?_, fun r => ?_, fun r => ?_, H.vf, H.vr, H.bf, H.br⟩ <;>
    simp only [e r]
  · exact (sl8_apply _ hs g r j ⟨_, l r⟩ rfl).trans (H.g ⟨_, l r⟩)
  · exact (sl8_apply _ hs x r j ⟨_, l r⟩ rfl).trans (H.x ⟨_, l r⟩)
  · exact (sl8_apply _ hs xt r j ⟨_, l r⟩ rfl).trans (H.xt ⟨_, l r⟩)
  · exact (sl8_apply _ hs uf r j ⟨_, l r⟩ rfl).trans (H.uf ⟨_, l r⟩)
  · exact (sl8_apply _ hs ur r j ⟨_, l r⟩ rfl).trans (H.ur ⟨_, l r⟩)
  · exact (sl8_apply _ hs c r j ⟨_, l r⟩ rfl).trans (H.c ⟨_, l r⟩)
  · refine (cpV_apply hv before _ r j).trans ?_
    have hr := l r
    by_cases h0 : r.val = 0
    · rw [if_pos h0, h0, hb]; rfl
    · rw [if_neg h0, sl8_apply _ hs c _ j ⟨8 * γ + (r.val - 1), by omega⟩ rfl, H.c]
      have := H.cp (8 * γ + (r.val - 1)) (by omega)
      rw [show 8 * γ + r.val = 8 * γ + (r.val - 1) + 1 by omega, this]

end Cert.GatesIdeal.Gen
-- ==== Proof.GChain.lean ====
module

public import proofs.«01_k».proof.Proof.GVecG
public import proofs.«01_k».proof.Proof.GPt

@[expose] public section

set_option maxRecDepth 16384

noncomputable section

namespace Cert.GatesIdeal.Gen

open Idealize.ShloMosaic Idealize.ShloMosaic.TcCoe Cert.GMath
open Idealize.ShloMosaic.ValueIdx (ix2)

section
variable (𝒱 : Variants) (c : Dev nD) (bd : Option 𝒱.V) (i : grid0.Coords) (arg2 : Memref sig .tc .vmem S1x64x7168 .bf16) (harg2 : arg2.IsWhole) (arg3 : Memref sig .tc .vmem S1x64x7168 .bf16) (harg3 : arg3.IsWhole) (arg4 : Memref sig .tc .vmem S1x64x7168 .bf16) (harg4 : arg4.IsWhole) (arg5 : Memref sig .tc .vmem S1x64x7168 .bf16) (harg5 : arg5.IsWhole) (arg6 : Memref sig .tc .vmem S1x64x7168 .f32) (harg6 : arg6.IsWhole) (arg7 : Memref sig .tc .vmem S1x8x7168 .f32) (harg7 : arg7.IsWhole) (arg8 : Memref sig .tc .vmem S1x1x7168 .f32) (harg8 : arg8.IsWhole) (arg9 : Memref sig .tc .vmem S1x64x7168 .fp8e5m2) (harg9 : arg9.IsWhole) (arg10 : Memref sig .tc .vmem S1x64x1 .f32) (harg10 : arg10.IsWhole) (arg11 : Memref sig .tc .vmem S4x7168 .f32) (harg11 : arg11.IsWhole) (arg12 : Memref sig .tc .vmem S1x1x7168 .f32) (harg12 : arg12.IsWhole) (arg13 : Memref sig .tc .vmem S1x64x21504 .fp8e5m2) (harg13 : arg13.IsWhole) (arg14 : Memref sig .tc .vmem S1x64x3 .f32) (harg14 : arg14.IsWhole) (arg15 : Memref sig .tc .vmem S1x64x7168 .f32) (harg15 : arg15.IsWhole) (arg16 : Memref sig .tc .vmem S1x1x7168 .f32) (harg16 : arg16.IsWhole) (arg17 : Memref sig .tc .vmem S4x7168 .f32) (harg17 : arg17.IsWhole) (arg18 : Memref sig .tc .vmem S3x64x7168 .f32) (harg18 : arg18.IsWhole) (arg19 : Memref sig .tc .vmem S8x7168 .f32) (harg19 : arg19.IsWhole) (arg20 : Memref sig .tc .vmem S4x8x7168 .f32) (harg20 : arg20.IsWhole) (v0 : IVec S8x256 32) (v9 : Vec Ideal S1x64x1 .f32) (v13 : BitVec 1) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (X_arg8 : BufTy.Contents (Elt Ideal) arg8.view.ty) (X_arg9 : BufTy.Contents (Elt Ideal) arg9.view.ty) (X_arg11 : BufTy.Contents (Elt Ideal) arg11.view.ty) (f_arg19 : BufTy.Contents (Elt Ideal) arg19.view.ty) (f_arg20 : BufTy.Contents (Elt Ideal) arg20.view.ty) (k : Fin k0_t1_loop.trips)

/-- Through the eight groups of one tile, in one column: what the tile carries out, and its sums. -/
theorem chain (hv : IsRow v0) (j : Fin 256) (P : Par) (T : ℕ → Tok) (L : ℕ → ℝ) (p : ℕ)
    (H : TileRep (trip_k0_t1.sl.r_4 arg9 v9 X_arg9 k) (trip_k0_t1.sl.r_5 arg2 X_arg2 k) (trip_k0_t1.sl.r_6 arg3 X_arg3 k) (trip_k0_t1.sl.r_7 arg4 X_arg4 k) (trip_k0_t1.sl.r_8 arg5 X_arg5 k) (trip_k0_t1.sl.r_9 arg6 X_arg6 k) (trip_k0_t1.sl.r_11 arg7 arg8 v13 X_arg7 X_arg8 k) (trip_k0_t1.sl.r arg11 X_arg11 k) (trip_k0_t1.sl.r_1 arg11 X_arg11 k) (trip_k0_t1.sl.r_2 arg11 X_arg11 k) (trip_k0_t1.sl.r_3 arg11 X_arg11 k) j P T p)
    (d8 : ∀ r : Fin 8, (trip_k0_t1.sl.r_12 arg19 k f_arg19) (ix2 r j) = (Dg P T L (8 * (8 * p + 0)) : EReal))
    (s8_0 : ∀ r : Fin 8, (trip_k0_t1.sl.r_13 arg20 k f_arg20) (ix2 r j) = (accS (tvf P T L) (8 * p + 0) r.val : EReal))
    (s8_1 : ∀ r : Fin 8, (trip_k0_t1.sl.r_14 arg20 k f_arg20) (ix2 r j) = (accS (tvr P T) (8 * p + 0) r.val : EReal))
    (s8_2 : ∀ r : Fin 8, (trip_k0_t1.sl.r_15 arg20 k f_arg20) (ix2 r j) = (accS (tbf P T L) (8 * p + 0) r.val : EReal))
    (s8_3 : ∀ r : Fin 8, (trip_k0_t1.sl.r_16 arg20 k f_arg20) (ix2 r j) = (accS (tbr P T) (8 * p + 0) r.val : EReal))
    : (∀ r : Fin 8, (trip_k0_t1.sl.r_192 arg2 arg3 arg4 arg5 arg6 arg7 arg8 arg9 arg11 arg19 v0 v9 v13 X_arg2 X_arg3 X_arg4 X_arg5 X_arg6 X_arg7 X_arg8 X_arg9 X_arg11 k f_arg19) (ix2 r j) = (Do P T L (64 * p + 63) : EReal))
      ∧ (∀ r : Fin 8, (trip_k0_t1.sl.r_195 arg2 arg3 arg4 arg5 arg6 arg7 arg8 arg9 arg11 arg19 arg20 v0 v9 v13 X_arg2 X_arg3 X_arg4 X_arg5 X_arg6 X_arg7 X_arg8 X_arg9 X_arg11 k f_arg19 f_arg20) (ix2 r j) = (accS (tvf P T L) (8 * p + 8) r.val : EReal))
      ∧ (∀ r : Fin 8, (trip_k0_t1.sl.r_196 arg2 arg5 arg6 arg7 arg8 arg9 arg11 arg20 v0 v9 v13 X_arg2 X_arg5 X_arg6 X_arg7 X_arg8 X_arg9 X_arg11 k f_arg20) (ix2 r j) = (accS (tvr P T) (8 * p + 8) r.val : EReal))
      ∧ (∀ r : Fin 8, (trip_k0_t1.sl.r_197 arg2 arg3 arg4 arg5 arg6 arg7 arg8 arg9 arg11 arg19 arg20 v0 v9 v13 X_arg2 X_arg3 X_arg4 X_arg5 X_arg6 X_arg7 X_arg8 X_arg9 X_arg11 k f_arg19 f_arg20) (ix2 r j) = (accS (tbf P T L) (8 * p + 8) r.val : EReal))
      ∧ (∀ r : Fin 8, (trip_k0_t1.sl.r_198 arg2 arg5 arg6 arg7 arg8 arg9 arg11 arg20 v0 v9 v13 X_arg2 X_arg5 X_arg6 X_arg7 X_arg8 X_arg9 X_arg11 k f_arg20) (ix2 r j) = (accS (tbr P T) (8 * p + 8) r.val : EReal))
 := by
  have R7 := ginOf_rep hv H 7 (by norm_num) 56 rfl slices_S64x256_o56_0_S8x256 (sl1 55 slices_S64x256_o55_0_S1x256 (trip_k0_t1.sl.r_9 arg6 X_arg6 k)) ((sl1_apply 55 _ _ j ⟨55, by norm_num⟩ rfl).trans ((H.c _).trans (congrArg _ (H.cp 55 (by norm_num)).symm)))
  have d7 : ∀ r : Fin 8, (trip_k0_t1.sl.r_33 arg2 arg3 arg4 arg5 arg6 arg9 arg11 arg19 v0 v9 X_arg2 X_arg3 X_arg4 X_arg5 X_arg6 X_arg9 X_arg11 k f_arg19) (ix2 r j) = (Dg P T L (8 * (8 * p + 1)) : EReal) := fun r => by
    rw [g7_dout, show 8 * (8 * p + 1) = 8 * (8 * p + 0) + 7 + 1 by ring, Dg_succ _ _ _ _ (by omega)]
    exact step_dout hv L (8 * p + 0) R7 _ d8 r
  have s7_0 : ∀ r : Fin 8, (trip_k0_t1.sl.r_35 arg2 arg3 arg4 arg5 arg6 arg9 arg11 arg19 arg20 v0 v9 X_arg2 X_arg3 X_arg4 X_arg5 X_arg6 X_arg9 X_arg11 k f_arg19 f_arg20) (ix2 r j) = (accS (tvf P T L) (8 * p + 1) r.val : EReal) := fun r => by
    rw [g7_svf]
    exact step_svf hv L (8 * p + 0) R7 _ d8 _ s8_0 r
  have s7_1 : ∀ r : Fin 8, (trip_k0_t1.sl.r_36 arg2 arg5 arg6 arg9 arg11 arg20 v0 v9 X_arg2 X_arg5 X_arg6 X_arg9 X_arg11 k f_arg20) (ix2 r j) = (accS (tvr P T) (8 * p + 1) r.val : EReal) := fun r => by
    rw [g7_svr]
    exact step_svr (8 * p + 0) R7 _ s8_1 r
  have s7_2 : ∀ r : Fin 8, (trip_k0_t1.sl.r_37 arg2 arg3 arg4 arg5 arg6 arg9 arg11 arg19 arg20 v0 v9 X_arg2 X_arg3 X_arg4 X_arg5 X_arg6 X_arg9 X_arg11 k f_arg19 f_arg20) (ix2 r j) = (accS (tbf P T L) (8 * p + 1) r.val : EReal) := fun r => by
    rw [g7_sbf]
    exact step_sbf hv L (8 * p + 0) R7 _ d8 _ s8_2 r
  have s7_3 : ∀ r : Fin 8, (trip_k0_t1.sl.r_38 arg2 arg5 arg6 arg9 arg11 arg20 v0 v9 X_arg2 X_arg5 X_arg6 X_arg9 X_arg11 k f_arg20) (ix2 r j) = (accS (tbr P T) (8 * p + 1) r.val : EReal) := fun r => by
    rw [g7_sbr]
    exact step_sbr (8 * p + 0) R7 _ s8_3 r
  have R6 := ginOf_rep hv H 6 (by norm_num) 48 rfl slices_S64x256_o48_0_S8x256 (sl1 47 slices_S64x256_o47_0_S1x256 (trip_k0_t1.sl.r_9 arg6 X_arg6 k)) ((sl1_apply 47 _ _ j ⟨47, by norm_num⟩ rfl).trans ((H.c _).trans (congrArg _ (H.cp 47 (by norm_num)).symm)))
  have d6 : ∀ r : Fin 8, (trip_k0_t1.sl.r_59 arg2 arg3 arg4 arg5 arg6 arg9 arg11 arg19 v0 v9 X_arg2 X_arg3 X_arg4 X_arg5 X_arg6 X_arg9 X_arg11 k f_arg19) (ix2 r j) = (Dg P T L (8 * (8 * p + 2)) : EReal) := fun r => by
    rw [g6_dout, show 8 * (8 * p + 2) = 8 * (8 * p + 1) + 7 + 1 by ring, Dg_succ _ _ _ _ (by omega)]
    exact step_dout hv L (8 * p + 1) R6 _ d7 r
  have s6_0 : ∀ r : Fin 8, (trip_k0_t1.sl.r_61 arg2 arg3 arg4 arg5 arg6 arg9 arg11 arg19 arg20 v0 v9 X_arg2 X_arg3 X_arg4 X_arg5 X_arg6 X_arg9 X_arg11 k f_arg19 f_arg20) (ix2 r j) = (accS (tvf P T L) (8 * p + 2) r.val : EReal) := fun r => by
    rw [g6_svf]
    exact step_svf hv L (8 * p + 1) R6 _ d7 _ s7_0 r
  have s6_1 : ∀ r : Fin 8, (trip_k0_t1.sl.r_62 arg2 arg5 arg6 arg9 arg11 arg20 v0 v9 X_arg2 X_arg5 X_arg6 X_arg9 X_arg11 k f_arg20) (ix2 r j) = (accS (tvr P T) (8 * p + 2) r.val : EReal) := fun r => by
    rw [g6_svr]
    exact step_svr (8 * p + 1) R6 _ s7_1 r
  have s6_2 : ∀ r : Fin 8, (trip_k0_t1.sl.r_63 arg2 arg3 arg4 arg5 arg6 arg9 arg11 arg19 arg20 v0 v9 X_arg2 X_arg3 X_arg4 X_arg5 X_arg6 X_arg9 X_arg11 k f_arg19 f_arg20) (ix2 r j) = (accS (tbf P T L) (8 * p + 2) r.val : EReal) := fun r => by
    rw [g6_sbf]
    exact step_sbf hv L (8 * p + 1) R6 _ d7 _ s7_2 r
  have s6_3 : ∀ r : Fin 8, (trip_k0_t1.sl.r_64 arg2 arg5 arg6 arg9 arg11 arg20 v0 v9 X_arg2 X_arg5 X_arg6 X_arg9 X_arg11 k f_arg20) (ix2 r j) = (accS (tbr P T) (8 * p + 2) r.val : EReal) := fun r => by
    rw [g6_sbr]
    exact step_sbr (8 * p + 1) R6 _ s7_3 r
  have R5 := ginOf_rep hv H 5 (by norm_num) 40 rfl slices_S64x256_o40_0_S8x256 (sl1 39 slices_S64x256_o39_0_S1x256 (trip_k0_t1.sl.r_9 arg6 X_arg6 k)) ((sl1_apply 39 _ _ j ⟨39, by norm_num⟩ rfl).trans ((H.c _).trans (congrArg _ (H.cp 39 (by norm_num)).symm)))
  have d5 : ∀ r : Fin 8, (trip_k0_t1.sl.r_82 arg2 arg3 arg4 arg5 arg6 arg9 arg11 arg19 v0 v9 X_arg2 X_arg3 X_arg4 X_arg5 X_arg6 X_arg9 X_arg11 k f_arg19) (ix2 r j) = (Dg P T L (8 * (8 * p + 3)) : EReal) := fun r => by
    rw [g5_dout, show 8 * (8 * p + 3) = 8 * (8 * p + 2) + 7 + 1 by ring, Dg_succ _ _ _ _ (by omega)]
    exact step_dout hv L (8 * p + 2) R5 _ d6 r
  have s5_0 : ∀ r : Fin 8, (trip_k0_t1.sl.r_83 arg2 arg3 arg4 arg5 arg6 arg9 arg11 arg19 arg20 v0 v9 X_arg2 X_arg3 X_arg4 X_arg5 X_arg6 X_arg9 X_arg11 k f_arg19 f_arg20) (ix2 r j) = (accS (tvf P T L) (8 * p + 3) r.val : EReal) := fun r => by
    rw [g5_svf]
    exact step_svf hv L (8 * p + 2) R5 _ d6 _ s6_0 r
  have s5_1 : ∀ r : Fin 8, (trip_k0_t1.sl.r_84 arg2 arg5 arg6 arg9 arg11 arg20 v0 v9 X_arg2 X_arg5 X_arg6 X_arg9 X_arg11 k f_arg20) (ix2 r j) = (accS (tvr P T) (8 * p + 3) r.val : EReal) := fun r => by
    rw [g5_svr]
    exact step_svr (8 * p + 2) R5 _ s6_1 r
  have s5_2 : ∀ r : Fin 8, (trip_k0_t1.sl.r_85 arg2 arg3 arg4 arg5 arg6 arg9 arg11 arg19 arg20 v0 v9 X_arg2 X_arg3 X_arg4 X_arg5 X_arg6 X_arg9 X_arg11 k f_arg19 f_arg20) (ix2 r j) = (accS (tbf P T L) (8 * p + 3) r.val : EReal) := fun r => by
    rw [g5_sbf]
    exact step_sbf hv L (8 * p + 2) R5 _ d6 _ s6_2 r
  have s5_3 : ∀ r : Fin 8, (trip_k0_t1.sl.r_86 arg2 arg5 arg6 arg9 arg11 arg20 v0 v9 X_arg2 X_arg5 X_arg6 X_arg9 X_arg11 k f_arg20) (ix2 r j) = (accS (tbr P T) (8 * p + 3) r.val : EReal) := fun r => by
    rw [g5_sbr]
    exact step_sbr (8 * p + 2) R5 _ s6_3 r
  have R4 := ginOf_rep hv H 4 (by norm_num) 32 rfl slices_S64x256_o32_0_S8x256 (sl1 31 slices_S64x256_o31_0_S1x256 (trip_k0_t1.sl.r_9 arg6 X_arg6 k)) ((sl1_apply 31 _ _ j ⟨31, by norm_num⟩ rfl).trans ((H.c _).trans (congrArg _ (H.cp 31 (by norm_num)).symm)))
  have d4 : ∀ r : Fin 8, (trip_k0_t1.sl.r_107 arg2 arg3 arg4 arg5 arg6 arg9 arg11 arg19 v0 v9 X_arg2 X_arg3 X_arg4 X_arg5 X_arg6 X_arg9 X_arg11 k f_arg19) (ix2 r j) = (Dg P T L (8 * (8 * p + 4)) : EReal) := fun r => by
    rw [g4_dout, show 8 * (8 * p + 4) = 8 * (8 * p + 3) + 7 + 1 by ring, Dg_succ _ _ _ _ (by omega)]
    exact step_dout hv L (8 * p + 3) R4 _ d5 r
  have s4_0 : ∀ r : Fin 8, (trip_k0_t1.sl.r_108 arg2 arg3 arg4 arg5 arg6 arg9 arg11 arg19 arg20 v0 v9 X_arg2 X_arg3 X_arg4 X_arg5 X_arg6 X_arg9 X_arg11 k f_arg19 f_arg20) (ix2 r j) = (accS (tvf P T L) (8 * p + 4) r.val : EReal) := fun r => by
    rw [g4_svf]
    exact step_svf hv L (8 * p + 3) R4 _ d5 _ s5_0 r
  have s4_1 : ∀ r : Fin 8, (trip_k0_t1.sl.r_109 arg2 arg5 arg6 arg9 arg11 arg20 v0 v9 X_arg2 X_arg5 X_arg6 X_arg9 X_arg11 k f_arg20) (ix2 r j) = (accS (tvr P T) (8 * p + 4) r.val : EReal) := fun r => by
    rw [g4_svr]
    exact step_svr (8 * p + 3) R4 _ s5_1 r
  have s4_2 : ∀ r : Fin 8, (trip_k0_t1.sl.r_110 arg2 arg3 arg4 arg5 arg6 arg9 arg11 arg19 arg20 v0 v9 X_arg2 X_arg3 X_arg4 X_arg5 X_arg6 X_arg9 X_arg11 k f_arg19 f_arg20) (ix2 r j) = (accS (tbf P T L) (8 * p + 4) r.val : EReal) := fun r => by
    rw [g4_sbf]
    exact step_sbf hv L (8 * p + 3) R4 _ d5 _ s5_2 r
  have s4_3 : ∀ r : Fin 8, (trip_k0_t1.sl.r_111 arg2 arg5 arg6 arg9 arg11 arg20 v0 v9 X_arg2 X_arg5 X_arg6 X_arg9 X_arg11 k f_arg20) (ix2 r j) = (accS (tbr P T) (8 * p + 4) r.val : EReal) := fun r => by
    rw [g4_sbr]
    exact step_sbr (8 * p + 3) R4 _ s5_3 r
  have R3 := ginOf_rep hv H 3 (by norm_num) 24 rfl slices_S64x256_o24_0_S8x256 (sl1 23 slices_S64x256_o23_0_S1x256 (trip_k0_t1.sl.r_9 arg6 X_arg6 k)) ((sl1_apply 23 _ _ j ⟨23, by norm_num⟩ rfl).trans ((H.c _).trans (congrArg _ (H.cp 23 (by norm_num)).symm)))
  have d3 : ∀ r : Fin 8, (trip_k0_t1.sl.r_128 arg2 arg3 arg4 arg5 arg6 arg9 arg11 arg19 v0 v9 X_arg2 X_arg3 X_arg4 X_arg5 X_arg6 X_arg9 X_arg11 k f_arg19) (ix2 r j) = (Dg P T L (8 * (8 * p + 5)) : EReal) := fun r => by
    rw [g3_dout, show 8 * (8 * p + 5) = 8 * (8 * p + 4) + 7 + 1 by ring, Dg_succ _ _ _ _ (by omega)]
    exact step_dout hv L (8 * p + 4) R3 _ d4 r
  have s3_0 : ∀ r : Fin 8, (trip_k0_t1.sl.r_129 arg2 arg3 arg4 arg5 arg6 arg9 arg11 arg19 arg20 v0 v9 X_arg2 X_arg3 X_arg4 X_arg5 X_arg6 X_arg9 X_arg11 k f_arg19 f_arg20) (ix2 r j) = (accS (tvf P T L) (8 * p + 5) r.val : EReal) := fun r => by
    rw [g3_svf]
    exact step_svf hv L (8 * p + 4) R3 _ d4 _ s4_0 r
  have s3_1 : ∀ r : Fin 8, (trip_k0_t1.sl.r_130 arg2 arg5 arg6 arg9 arg11 arg20 v0 v9 X_arg2 X_arg5 X_arg6 X_arg9 X_arg11 k f_arg20) (ix2 r j) = (accS (tvr P T) (8 * p + 5) r.val : EReal) := fun r => by
    rw [g3_svr]
    exact step_svr (8 * p + 4) R3 _ s4_1 r
  have s3_2 : ∀ r : Fin 8, (trip_k0_t1.sl.r_131 arg2 arg3 arg4 arg5 arg6 arg9 arg11 arg19 arg20 v0 v9 X_arg2 X_arg3 X_arg4 X_arg5 X_arg6 X_arg9 X_arg11 k f_arg19 f_arg20) (ix2 r j) = (accS (tbf P T L) (8 * p + 5) r.val : EReal) := fun r => by
    rw [g3_sbf]
    exact step_sbf hv L (8 * p + 4) R3 _ d4 _ s4_2 r
  have s3_3 : ∀ r : Fin 8, (trip_k0_t1.sl.r_132 arg2 arg5 arg6 arg9 arg11 arg20 v0 v9 X_arg2 X_arg5 X_arg6 X_arg9 X_arg11 k f_arg20) (ix2 r j) = (accS (tbr P T) (8 * p + 5) r.val : EReal) := fun r => by
    rw [g3_sbr]
    exact step_sbr (8 * p + 4) R3 _ s4_3 r
  have R2 := ginOf_rep hv H 2 (by norm_num) 16 rfl slices_S64x256_o16_0_S8x256 (sl1 15 slices_S64x256_o15_0_S1x256 (trip_k0_t1.sl.r_9 arg6 X_arg6 k)) ((sl1_apply 15 _ _ j ⟨15, by norm_num⟩ rfl).trans ((H.c _).trans (congrArg _ (H.cp 15 (by norm_num)).symm)))
  have d2 : ∀ r : Fin 8, (trip_k0_t1.sl.r_145 arg2 arg3 arg4 arg5 arg6 arg9 arg11 arg19 v0 v9 X_arg2 X_arg3 X_arg4 X_arg5 X_arg6 X_arg9 X_arg11 k f_arg19) (ix2 r j) = (Dg P T L (8 * (8 * p + 6)) : EReal) := fun r => by
    rw [g2_dout, show 8 * (8 * p + 6) = 8 * (8 * p + 5) + 7 + 1 by ring, Dg_succ _ _ _ _ (by omega)]
    exact step_dout hv L (8 * p + 5) R2 _ d3 r
  have s2_0 : ∀ r : Fin 8, (trip_k0_t1.sl.r_146 arg2 arg3 arg4 arg5 arg6 arg9 arg11 arg19 arg20 v0 v9 X_arg2 X_arg3 X_arg4 X_arg5 X_arg6 X_arg9 X_arg11 k f_arg19 f_arg20) (ix2 r j) = (accS (tvf P T L) (8 * p + 6) r.val : EReal) := fun r => by
    rw [g2_svf]
    exact step_svf hv L (8 * p + 5) R2 _ d3 _ s3_0 r
  have s2_1 : ∀ r : Fin 8, (trip_k0_t1.sl.r_147 arg2 arg5 arg6 arg9 arg11 arg20 v0 v9 X_arg2 X_arg5 X_arg6 X_arg9 X_arg11 k f_arg20) (ix2 r j) = (accS (tvr P T) (8 * p + 6) r.val : EReal) := fun r => by
    rw [g2_svr]
    exact step_svr (8 * p + 5) R2 _ s3_1 r
  have s2_2 : ∀ r : Fin 8, (trip_k0_t1.sl.r_148 arg2 arg3 arg4 arg5 arg6 arg9 arg11 arg19 arg20 v0 v9 X_arg2 X_arg3 X_arg4 X_arg5 X_arg6 X_arg9 X_arg11 k f_arg19 f_arg20) (ix2 r j) = (accS (tbf P T L) (8 * p + 6) r.val : EReal) := fun r => by
    rw [g2_sbf]
    exact step_sbf hv L (8 * p + 5) R2 _ d3 _ s3_2 r
  have s2_3 : ∀ r : Fin 8, (trip_k0_t1.sl.r_149 arg2 arg5 arg6 arg9 arg11 arg20 v0 v9 X_arg2 X_arg5 X_arg6 X_arg9 X_arg11 k f_arg20) (ix2 r j) = (accS (tbr P T) (8 * p + 6) r.val : EReal) := fun r => by
    rw [g2_sbr]
    exact step_sbr (8 * p + 5) R2 _ s3_3 r
  have R1 := ginOf_rep hv H 1 (by norm_num) 8 rfl slices_S64x256_o8_0_S8x256 (sl1 7 slices_S64x256_o7_0_S1x256 (trip_k0_t1.sl.r_9 arg6 X_arg6 k)) ((sl1_apply 7 _ _ j ⟨7, by norm_num⟩ rfl).trans ((H.c _).trans (congrArg _ (H.cp 7 (by norm_num)).symm)))
  have d1 : ∀ r : Fin 8, (trip_k0_t1.sl.r_167 arg2 arg3 arg4 arg5 arg6 arg9 arg11 arg19 v0 v9 X_arg2 X_arg3 X_arg4 X_arg5 X_arg6 X_arg9 X_arg11 k f_arg19) (ix2 r j) = (Dg P T L (8 * (8 * p + 7)) : EReal) := fun r => by
    rw [g1_dout, show 8 * (8 * p + 7) = 8 * (8 * p + 6) + 7 + 1 by ring, Dg_succ _ _ _ _ (by omega)]
    exact step_dout hv L (8 * p + 6) R1 _ d2 r
  have s1_0 : ∀ r : Fin 8, (trip_k0_t1.sl.r_169 arg2 arg3 arg4 arg5 arg6 arg9 arg11 arg19 arg20 v0 v9 X_arg2 X_arg3 X_arg4 X_arg5 X_arg6 X_arg9 X_arg11 k f_arg19 f_arg20) (ix2 r j) = (accS (tvf P T L) (8 * p + 7) r.val : EReal) := fun r => by
    rw [g1_svf]
    exact step_svf hv L (8 * p + 6) R1 _ d2 _ s2_0 r
  have s1_1 : ∀ r : Fin 8, (trip_k0_t1.sl.r_170 arg2 arg5 arg6 arg9 arg11 arg20 v0 v9 X_arg2 X_arg5 X_arg6 X_arg9 X_arg11 k f_arg20) (ix2 r j) = (accS (tvr P T) (8 * p + 7) r.val : EReal) := fun r => by
    rw [g1_svr]
    exact step_svr (8 * p + 6) R1 _ s2_1 r
  have s1_2 : ∀ r : Fin 8, (trip_k0_t1.sl.r_171 arg2 arg3 arg4 arg5 arg6 arg9 arg11 arg19 arg20 v0 v9 X_arg2 X_arg3 X_arg4 X_arg5 X_arg6 X_arg9 X_arg11 k f_arg19 f_arg20) (ix2 r j) = (accS (tbf P T L) (8 * p + 7) r.val : EReal) := fun r => by
    rw [g1_sbf]
    exact step_sbf hv L (8 * p + 6) R1 _ d2 _ s2_2 r
  have s1_3 : ∀ r : Fin 8, (trip_k0_t1.sl.r_172 arg2 arg5 arg6 arg9 arg11 arg20 v0 v9 X_arg2 X_arg5 X_arg6 X_arg9 X_arg11 k f_arg20) (ix2 r j) = (accS (tbr P T) (8 * p + 7) r.val : EReal) := fun r => by
    rw [g1_sbr]
    exact step_sbr (8 * p + 6) R1 _ s2_3 r
  have R0 := ginOf_rep hv H 0 (by norm_num) 0 rfl slices_S64x256_o0_0_S8x256 _ H.prev
  have d0 : ∀ r : Fin 8, (trip_k0_t1.sl.r_192 arg2 arg3 arg4 arg5 arg6 arg7 arg8 arg9 arg11 arg19 v0 v9 v13 X_arg2 X_arg3 X_arg4 X_arg5 X_arg6 X_arg7 X_arg8 X_arg9 X_arg11 k f_arg19) (ix2 r j) = (Do P T L (64 * p + 63) : EReal) := fun r => by
    rw [g0_dout, show 64 * p + 63 = 8 * (8 * p + 7) + 7 by ring]
    exact step_dout hv L (8 * p + 7) R0 _ d1 r
  have s0_0 : ∀ r : Fin 8, (trip_k0_t1.sl.r_195 arg2 arg3 arg4 arg5 arg6 arg7 arg8 arg9 arg11 arg19 arg20 v0 v9 v13 X_arg2 X_arg3 X_arg4 X_arg5 X_arg6 X_arg7 X_arg8 X_arg9 X_arg11 k f_arg19 f_arg20) (ix2 r j) = (accS (tvf P T L) (8 * p + 8) r.val : EReal) := fun r => by
    rw [g0_svf]
    exact step_svf hv L (8 * p + 7) R0 _ d1 _ s1_0 r
  have s0_1 : ∀ r : Fin 8, (trip_k0_t1.sl.r_196 arg2 arg5 arg6 arg7 arg8 arg9 arg11 arg20 v0 v9 v13 X_arg2 X_arg5 X_arg6 X_arg7 X_arg8 X_arg9 X_arg11 k f_arg20) (ix2 r j) = (accS (tvr P T) (8 * p + 8) r.val : EReal) := fun r => by
    rw [g0_svr]
    exact step_svr (8 * p + 7) R0 _ s1_1 r
  have s0_2 : ∀ r : Fin 8, (trip_k0_t1.sl.r_197 arg2 arg3 arg4 arg5 arg6 arg7 arg8 arg9 arg11 arg19 arg20 v0 v9 v13 X_arg2 X_arg3 X_arg4 X_arg5 X_arg6 X_arg7 X_arg8 X_arg9 X_arg11 k f_arg19 f_arg20) (ix2 r j) = (accS (tbf P T L) (8 * p + 8) r.val : EReal) := fun r => by
    rw [g0_sbf]
    exact step_sbf hv L (8 * p + 7) R0 _ d1 _ s1_2 r
  have s0_3 : ∀ r : Fin 8, (trip_k0_t1.sl.r_198 arg2 arg5 arg6 arg7 arg8 arg9 arg11 arg20 v0 v9 v13 X_arg2 X_arg5 X_arg6 X_arg7 X_arg8 X_arg9 X_arg11 k f_arg20) (ix2 r j) = (accS (tbr P T) (8 * p + 8) r.val : EReal) := fun r => by
    rw [g0_sbr]
    exact step_sbr (8 * p + 7) R0 _ s1_3 r
  exact ⟨d0, s0_0, s0_1, s0_2, s0_3⟩
end

end Cert.GatesIdeal.Gen
-- ==== Proof.GLoop.lean ====
module

public import proofs.«01_k».proof.Proof.GChain
public import Idealize.ShloMosaic.Lib.WholeRead
public import Idealize.ShloMosaic.Lib.WritesUnit
public import Idealize.ShloMosaic.Lib.Writes

@[expose] public section

set_option maxRecDepth 16384

noncomputable section

namespace Cert.GatesIdeal.Gen

open Idealize.ShloMosaic Idealize.ShloMosaic.TcCoe Cert.GMath
open Idealize.ShloMosaic.ValueIdx (ix2 ix3)

/-- A load at a unit-stride rectangle, of any contents, at an index. -/
theorem ld_any {sig : RefSig} {κ : Kind} {sp : Space} {s : Shape} {e : EltTy} {Val : EltTy → Type} (v : View sig κ sp s e)
    (f : v.ty.Contents Val) {off off' size : Fin s.rank → ℕ} (inb : ∀ a, off a + size a ≤ s.size a) (heq : off = off')
    (x : (Rect.unit off size inb).toLoadRect.shape.Idx) (y : s.Idx) (hy : ∀ a, (y a).val = off' a + (x a).val) :
    View.readAt Val v (Rect.unit off size inb).toLoadRect f x = v.read Val f y := by
  subst heq
  exact congrArg (v.read Val f) (funext fun a => Fin.ext (by
    show off a + 1 * (x a).val = (y a).val
    rw [hy a, Nat.one_mul]))

/-- A load at a unit-stride rectangle of a whole memref that holds `X`, at an index. -/
theorem ld_whole {sig : RefSig} {κ : Kind} {sp : Space} {s : Shape} {e : EltTy} {Val : EltTy → Type} {m : Memref sig κ sp s e}
    (h : m.IsWhole) (X : s.Idx → Val e) {off off' size : Fin s.rank → ℕ} (inb : ∀ a, off a + size a ≤ s.size a) (heq : off = off')
    (x : (Rect.unit off size inb).toLoadRect.shape.Idx) (y : s.Idx) (hy : ∀ a, (y a).val = off' a + (x a).val) :
    View.readAt Val m.view (Rect.unit off size inb).toLoadRect (h.unread X) x = X y :=
  (ld_any m.view (h.unread X) inb heq x y hy).trans (congrFun (h.read_unread X) y)

/-- A point's blocks hold the real numbers of the tokens `64 p + 63` (row 0) down to `64 p`, in every column. -/
structure BlockRep (v9 : Vec Ideal S1x64x1 .f32) (v13 : BitVec 1) (x0 : Vec Ideal S1x64x7168 .bf16) (x1 : Vec Ideal S1x64x7168 .bf16) (x2 : Vec Ideal S1x64x7168 .bf16) (x3 : Vec Ideal S1x64x7168 .bf16) (x4 : Vec Ideal S1x64x7168 .f32) (x5 : Vec Ideal S1x8x7168 .f32) (x6 : Vec Ideal S1x1x7168 .f32) (x7 : Vec Ideal S1x64x7168 .fp8e5m2) (x9 : Vec Ideal S4x7168 .f32)
    (P : Fin 7168 → Par) (T : Fin 7168 → ℕ → Tok) (p : ℕ) : Prop where
  g : ∀ (r : Fin 64) (j : Fin 7168), (x7 (ix3 0 r j) * v9 (ix3 0 r 0) : EReal) = ((T j (64 * p + 63 - r.val)).g : EReal)
  x : ∀ (r : Fin 64) (j : Fin 7168), x0 (ix3 0 r j) = ((T j (64 * p + 63 - r.val)).x : EReal)
  xt : ∀ (r : Fin 64) (j : Fin 7168), x1 (ix3 0 r j) = ((T j (64 * p + 63 - r.val)).xt : EReal)
  uf : ∀ (r : Fin 64) (j : Fin 7168), x2 (ix3 0 r j) = ((T j (64 * p + 63 - r.val)).uf : EReal)
  ur : ∀ (r : Fin 64) (j : Fin 7168), x3 (ix3 0 r j) = ((T j (64 * p + 63 - r.val)).ur : EReal)
  c : ∀ (r : Fin 64) (j : Fin 7168), x4 (ix3 0 r j) = ((T j (64 * p + 63 - r.val)).c : EReal)
  cp : ∀ (r : ℕ) (j : Fin 7168), r < 63 → (T j (64 * p + 63 - (r + 1))).cp = (T j (64 * p + 63 - r)).c
  prev : ∀ j : Fin 7168, Scalar.select v13 (x6 (ix3 0 0 j)) (x5 (ix3 0 7 j)) = ((T j (64 * p + 63)).cp : EReal)
  vf : ∀ j : Fin 7168, x9 (ix2 0 j) = ((P j).vf : EReal)
  vr : ∀ j : Fin 7168, x9 (ix2 1 j) = ((P j).vr : EReal)
  bf : ∀ j : Fin 7168, x9 (ix2 2 j) = ((P j).bf : EReal)
  br : ∀ j : Fin 7168, x9 (ix2 3 j) = ((P j).br : EReal)

theorem trips_eq : k0_t1_loop.trips = 28 := by decide +kernel

/-- Column `j` of trip `k`'s strip, in the array. -/
def colOf (k : Fin k0_t1_loop.trips) (j : Fin 256) : Fin 7168 :=
  ⟨256 * k.val + j.val, by have : k.val < 28 := lt_of_lt_of_eq k.isLt trips_eq; have := j.isLt; omega⟩

section
variable (𝒱 : Variants) (c : Dev nD) (bd : Option 𝒱.V) (i : grid0.Coords) (arg2 : Memref sig .tc .vmem S1x64x7168 .bf16) (harg2 : arg2.IsWhole) (arg3 : Memref sig .tc .vmem S1x64x7168 .bf16) (harg3 : arg3.IsWhole) (arg4 : Memref sig .tc .vmem S1x64x7168 .bf16) (harg4 : arg4.IsWhole) (arg5 : Memref sig .tc .vmem S1x64x7168 .bf16) (harg5 : arg5.IsWhole) (arg6 : Memref sig .tc .vmem S1x64x7168 .f32) (harg6 : arg6.IsWhole) (arg7 : Memref sig .tc .vmem S1x8x7168 .f32) (harg7 : arg7.IsWhole) (arg8 : Memref sig .tc .vmem S1x1x7168 .f32) (harg8 : arg8.IsWhole) (arg9 : Memref sig .tc .vmem S1x64x7168 .fp8e5m2) (harg9 : arg9.IsWhole) (arg10 : Memref sig .tc .vmem S1x64x1 .f32) (harg10 : arg10.IsWhole) (arg11 : Memref sig .tc .vmem S4x7168 .f32) (harg11 : arg11.IsWhole) (arg12 : Memref sig .tc .vmem S1x1x7168 .f32) (harg12 : arg12.IsWhole) (arg13 : Memref sig .tc .vmem S1x64x21504 .fp8e5m2) (harg13 : arg13.IsWhole) (arg14 : Memref sig .tc .vmem S1x64x3 .f32) (harg14 : arg14.IsWhole) (arg15 : Memref sig .tc .vmem S1x64x7168 .f32) (harg15 : arg15.IsWhole) (arg16 : Memref sig .tc .vmem S1x1x7168 .f32) (harg16 : arg16.IsWhole) (arg17 : Memref sig .tc .vmem S4x7168 .f32) (harg17 : arg17.IsWhole) (arg18 : Memref sig .tc .vmem S3x64x7168 .f32) (harg18 : arg18.IsWhole) (arg19 : Memref sig .tc .vmem S8x7168 .f32) (harg19 : arg19.IsWhole) (arg20 : Memref sig .tc .vmem S4x8x7168 .f32) (harg20 : arg20.IsWhole) (v0 : IVec S8x256 32) (v9 : Vec Ideal S1x64x1 .f32) (v13 : BitVec 1) (x0 : Vec Ideal S1x64x7168 .bf16) (x1 : Vec Ideal S1x64x7168 .bf16) (x2 : Vec Ideal S1x64x7168 .bf16) (x3 : Vec Ideal S1x64x7168 .bf16) (x4 : Vec Ideal S1x64x7168 .f32) (x5 : Vec Ideal S1x8x7168 .f32) (x6 : Vec Ideal S1x1x7168 .f32) (x7 : Vec Ideal S1x64x7168 .fp8e5m2) (x9 : Vec Ideal S4x7168 .f32)

/-- A strip of a point's blocks. -/
theorem tileRep (P : Fin 7168 → Par) (T : Fin 7168 → ℕ → Tok) (p : ℕ) (H : BlockRep v9 v13 x0 x1 x2 x3 x4 x5 x6 x7 x9 P T p) (k : Fin k0_t1_loop.trips) (j : Fin 256) :
    TileRep (trip_k0_t1.sl.r_4 arg9 v9 (harg9.unread x7) k) (trip_k0_t1.sl.r_5 arg2 (harg2.unread x0) k) (trip_k0_t1.sl.r_6 arg3 (harg3.unread x1) k) (trip_k0_t1.sl.r_7 arg4 (harg4.unread x2) k) (trip_k0_t1.sl.r_8 arg5 (harg5.unread x3) k) (trip_k0_t1.sl.r_9 arg6 (harg6.unread x4) k) (trip_k0_t1.sl.r_11 arg7 arg8 v13 (harg7.unread x5) (harg8.unread x6) k) (trip_k0_t1.sl.r arg11 (harg11.unread x9) k) (trip_k0_t1.sl.r_1 arg11 (harg11.unread x9) k) (trip_k0_t1.sl.r_2 arg11 (harg11.unread x9) k) (trip_k0_t1.sl.r_3 arg11 (harg11.unread x9) k) j (P (colOf k j)) (T (colOf k j)) p := by
  have e5 : ∀ r : Fin 64, (trip_k0_t1.sl.r_5 arg2 (harg2.unread x0) k) (ix2 r j) = x0 (ix3 0 r (colOf k j)) := fun r => by
    delta trip_k0_t1.sl.r_5 k0_pay12
    dsimp only
    rw [ValueIdx.extf_apply]
    rw [ValueIdx.shapeCast_1ab_ab_apply]
    exact ld_whole harg2 x0 _ (k0_off5_eq k) _ (ix3 0 r (colOf k j)) (fun a => by match a with | ⟨0, _⟩ => rfl | ⟨1, _⟩ => exact (Nat.zero_add _).symm | ⟨2, _⟩ => rfl)
  have e6 : ∀ r : Fin 64, (trip_k0_t1.sl.r_6 arg3 (harg3.unread x1) k) (ix2 r j) = x1 (ix3 0 r (colOf k j)) := fun r => by
    delta trip_k0_t1.sl.r_6 k0_pay13
    dsimp only
    rw [ValueIdx.extf_apply]
    rw [ValueIdx.shapeCast_1ab_ab_apply]
    exact ld_whole harg3 x1 _ (k0_off5_eq k) _ (ix3 0 r (colOf k j)) (fun a => by match a with | ⟨0, _⟩ => rfl | ⟨1, _⟩ => exact (Nat.zero_add _).symm | ⟨2, _⟩ => rfl)
  have e7 : ∀ r : Fin 64, (trip_k0_t1.sl.r_7 arg4 (harg4.unread x2) k) (ix2 r j) = x2 (ix3 0 r (colOf k j)) := fun r => by
    delta trip_k0_t1.sl.r_7 k0_pay14
    dsimp only
    rw [ValueIdx.extf_apply]
    rw [ValueIdx.shapeCast_1ab_ab_apply]
    exact ld_whole harg4 x2 _ (k0_off5_eq k) _ (ix3 0 r (colOf k j)) (fun a => by match a with | ⟨0, _⟩ => rfl | ⟨1, _⟩ => exact (Nat.zero_add _).symm | ⟨2, _⟩ => rfl)
  have e8 : ∀ r : Fin 64, (trip_k0_t1.sl.r_8 arg5 (harg5.unread x3) k) (ix2 r j) = x3 (ix3 0 r (colOf k j)) := fun r => by
    delta trip_k0_t1.sl.r_8 k0_pay15
    dsimp only
    rw [ValueIdx.extf_apply]
    rw [ValueIdx.shapeCast_1ab_ab_apply]
    exact ld_whole harg5 x3 _ (k0_off5_eq k) _ (ix3 0 r (colOf k j)) (fun a => by match a with | ⟨0, _⟩ => rfl | ⟨1, _⟩ => exact (Nat.zero_add _).symm | ⟨2, _⟩ => rfl)
  have e9 : ∀ r : Fin 64, (trip_k0_t1.sl.r_9 arg6 (harg6.unread x4) k) (ix2 r j) = x4 (ix3 0 r (colOf k j)) := fun r => by
    delta trip_k0_t1.sl.r_9 k0_pay16
    dsimp only
    rw [ValueIdx.shapeCast_1ab_ab_apply]
    exact ld_whole harg6 x4 _ (k0_off5_eq k) _ (ix3 0 r (colOf k j)) (fun a => by match a with | ⟨0, _⟩ => rfl | ⟨1, _⟩ => exact (Nat.zero_add _).symm | ⟨2, _⟩ => rfl)
  have e4 : ∀ r : Fin 64, (trip_k0_t1.sl.r_4 arg9 v9 (harg9.unread x7) k) (ix2 r j) = (x7 (ix3 0 r (colOf k j)) * v9 (ix3 0 r 0) : EReal) := fun r => by
    delta trip_k0_t1.sl.r_4 k0_pay11 k0_pay325
    dsimp only
    rw [ValueIdx.mulf_apply, ValueIdx.extf_apply, ValueIdx.shapeCast_1ab_ab_apply]
    refine congrArg₂ (· * ·) (ld_whole harg9 x7 _ (k0_off5_eq k) _ (ix3 0 r (colOf k j)) (fun a => by match a with | ⟨0, _⟩ => rfl | ⟨1, _⟩ => exact (Nat.zero_add _).symm | ⟨2, _⟩ => rfl)) ?_
    refine (broadcastTo_apply _ _ (ix2 r j) (ix2 r 0) fun a => by match a with | ⟨0, _⟩ => rfl | ⟨1, _⟩ => rfl).trans ?_
    rw [shapeCast_self, ValueIdx.shapeCast_1ab_ab_apply]
  have p0 : (trip_k0_t1.sl.r arg11 (harg11.unread x9) k) (ix2 0 j) = x9 (ix2 0 (colOf k j)) := by
    delta trip_k0_t1.sl.r k0_pay7
    dsimp only
    rw [shapeCast_self]
    exact ld_whole harg11 x9 _ (k0_off1_eq k) _ (ix2 0 (colOf k j)) (fun a => by match a with | ⟨0, _⟩ => rfl | ⟨1, _⟩ => rfl)
  have p1 : (trip_k0_t1.sl.r_1 arg11 (harg11.unread x9) k) (ix2 0 j) = x9 (ix2 1 (colOf k j)) := by
    delta trip_k0_t1.sl.r_1 k0_pay8
    dsimp only
    rw [shapeCast_self]
    exact ld_whole harg11 x9 _ (k0_off2_eq k) _ (ix2 1 (colOf k j)) (fun a => by match a with | ⟨0, _⟩ => rfl | ⟨1, _⟩ => rfl)
  have p2 : (trip_k0_t1.sl.r_2 arg11 (harg11.unread x9) k) (ix2 0 j) = x9 (ix2 2 (colOf k j)) := by
    delta trip_k0_t1.sl.r_2 k0_pay9
    dsimp only
    rw [shapeCast_self]
    exact ld_whole harg11 x9 _ (k0_off3_eq k) _ (ix2 2 (colOf k j)) (fun a => by match a with | ⟨0, _⟩ => rfl | ⟨1, _⟩ => rfl)
  have p3 : (trip_k0_t1.sl.r_3 arg11 (harg11.unread x9) k) (ix2 0 j) = x9 (ix2 3 (colOf k j)) := by
    delta trip_k0_t1.sl.r_3 k0_pay10
    dsimp only
    rw [shapeCast_self]
    exact ld_whole harg11 x9 _ (k0_off4_eq k) _ (ix2 3 (colOf k j)) (fun a => by match a with | ⟨0, _⟩ => rfl | ⟨1, _⟩ => rfl)
  have e11 : (trip_k0_t1.sl.r_11 arg7 arg8 v13 (harg7.unread x5) (harg8.unread x6) k) (ix2 0 j) = Scalar.select v13 (x6 (ix3 0 0 (colOf k j))) (x5 (ix3 0 7 (colOf k j))) := by
    delta trip_k0_t1.sl.r_11 trip_k0_t1.sl.r_10 k0_pay17
    dsimp only
    have s1 : shapeCast S1x256 (View.readAt (Elt Ideal) arg8.view (Rect.unit (s := S1x1x7168) (k0_off6 k) S1x1x256.size (k0_off6_inb k)).toLoadRect (harg8.unread x6)) shapeCasts_S1x1x256_S1x256 (ix2 0 j)
        = x6 (ix3 0 0 (colOf k j)) := by
      rw [ValueIdx.shapeCast_1ab_ab_apply]
      exact ld_whole harg8 x6 _ (k0_off6_eq k) _ (ix3 0 0 (colOf k j)) (fun a => by match a with | ⟨0, _⟩ => rfl | ⟨1, _⟩ => rfl | ⟨2, _⟩ => rfl)
    have s2 : shapeCast S1x256 (View.readAt (Elt Ideal) arg7.view (Rect.unit (s := S1x8x7168) (k0_off7 k) S1x1x256.size (k0_off7_inb k)).toLoadRect (harg7.unread x5)) shapeCasts_S1x1x256_S1x256 (ix2 0 j)
        = x5 (ix3 0 7 (colOf k j)) := by
      rw [ValueIdx.shapeCast_1ab_ab_apply]
      exact ld_whole harg7 x5 _ (k0_off7_eq k) _ (ix3 0 7 (colOf k j)) (fun a => by match a with | ⟨0, _⟩ => rfl | ⟨1, _⟩ => rfl | ⟨2, _⟩ => rfl)
    rw [← s1, ← s2]
    unfold Scalar.select
    split <;> rfl
  exact ⟨fun r => (e4 r).trans (H.g r _), fun r => (e5 r).trans (H.x r _), fun r => (e6 r).trans (H.xt r _), fun r => (e7 r).trans (H.uf r _),
    fun r => (e8 r).trans (H.ur r _), fun r => (e9 r).trans (H.c r _), fun r hr => H.cp r _ hr, e11.trans (H.prev _),
    p0.trans (H.vf _), p1.trans (H.vr _), p2.trans (H.bf _), p3.trans (H.br _)⟩
end

end Cert.GatesIdeal.Gen
-- ==== Proof.GLoop2.lean ====
module

public import proofs.«01_k».proof.Proof.GLoop

@[expose] public section

set_option maxRecDepth 16384

noncomputable section

namespace Cert.GatesIdeal.Gen

open Idealize.ShloMosaic Idealize.ShloMosaic.TcCoe Cert.GMath
open Idealize.ShloMosaic.ValueIdx (ix2 ix3)

/-- A token's term of sum `q`: the gates' two vectors, then their two biases. -/
def tAll (q : Fin 4) (P : Par) (T : ℕ → Tok) (L : ℕ → ℝ) : ℕ → ℝ :=
  match q with
  | 0 => tvf P T L
  | 1 => tvr P T
  | 2 => tbf P T L
  | 3 => tbr P T

section
variable (𝒱 : Variants) (c : Dev nD) (bd : Option 𝒱.V) (i : grid0.Coords) (arg2 : Memref sig .tc .vmem S1x64x7168 .bf16) (harg2 : arg2.IsWhole) (arg3 : Memref sig .tc .vmem S1x64x7168 .bf16) (harg3 : arg3.IsWhole) (arg4 : Memref sig .tc .vmem S1x64x7168 .bf16) (harg4 : arg4.IsWhole) (arg5 : Memref sig .tc .vmem S1x64x7168 .bf16) (harg5 : arg5.IsWhole) (arg6 : Memref sig .tc .vmem S1x64x7168 .f32) (harg6 : arg6.IsWhole) (arg7 : Memref sig .tc .vmem S1x8x7168 .f32) (harg7 : arg7.IsWhole) (arg8 : Memref sig .tc .vmem S1x1x7168 .f32) (harg8 : arg8.IsWhole) (arg9 : Memref sig .tc .vmem S1x64x7168 .fp8e5m2) (harg9 : arg9.IsWhole) (arg10 : Memref sig .tc .vmem S1x64x1 .f32) (harg10 : arg10.IsWhole) (arg11 : Memref sig .tc .vmem S4x7168 .f32) (harg11 : arg11.IsWhole) (arg12 : Memref sig .tc .vmem S1x1x7168 .f32) (harg12 : arg12.IsWhole) (arg13 : Memref sig .tc .vmem S1x64x21504 .fp8e5m2) (harg13 : arg13.IsWhole) (arg14 : Memref sig .tc .vmem S1x64x3 .f32) (harg14 : arg14.IsWhole) (arg15 : Memref sig .tc .vmem S1x64x7168 .f32) (harg15 : arg15.IsWhole) (arg16 : Memref sig .tc .vmem S1x1x7168 .f32) (harg16 : arg16.IsWhole) (arg17 : Memref sig .tc .vmem S4x7168 .f32) (harg17 : arg17.IsWhole) (arg18 : Memref sig .tc .vmem S3x64x7168 .f32) (harg18 : arg18.IsWhole) (arg19 : Memref sig .tc .vmem S8x7168 .f32) (harg19 : arg19.IsWhole) (arg20 : Memref sig .tc .vmem S4x8x7168 .f32) (harg20 : arg20.IsWhole) (v0 : IVec S8x256 32) (v9 : Vec Ideal S1x64x1 .f32) (v13 : BitVec 1) (x0 : Vec Ideal S1x64x7168 .bf16) (x1 : Vec Ideal S1x64x7168 .bf16) (x2 : Vec Ideal S1x64x7168 .bf16) (x3 : Vec Ideal S1x64x7168 .bf16) (x4 : Vec Ideal S1x64x7168 .f32) (x5 : Vec Ideal S1x8x7168 .f32) (x6 : Vec Ideal S1x1x7168 .f32) (x7 : Vec Ideal S1x64x7168 .fp8e5m2) (x9 : Vec Ideal S4x7168 .f32)

/-- A trip's piece of the carried rows. -/
theorem trip19 (k : Fin k0_t1_loop.trips) (accC : FVec Ideal S64x128 .f32 × FVec Ideal S64x128 .f32 × FVec Ideal S64x128 .f32) (f15 : BufTy.Contents (Elt Ideal) arg15.view.ty) (f18 : BufTy.Contents (Elt Ideal) arg18.view.ty) (f19 : BufTy.Contents (Elt Ideal) arg19.view.ty) (f20 : BufTy.Contents (Elt Ideal) arg20.view.ty) :
    (trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v9 v13 (harg2.unread x0) (harg3.unread x1) (harg4.unread x2) (harg5.unread x3) (harg6.unread x4) (harg7.unread x5) (harg8.unread x6) (harg9.unread x7) (harg11.unread x9) k).2.2.2.1 accC f15 f18 f19 f20
      = [⟨Rect.unit (k0_off8 k) S8x256.size (k0_off8_inb k), k0_pay318 (trip_k0_t1.sl.r_192 arg2 arg3 arg4 arg5 arg6 arg7 arg8 arg9 arg11 arg19 v0 v9 v13 (harg2.unread x0) (harg3.unread x1) (harg4.unread x2) (harg5.unread x3) (harg6.unread x4) (harg7.unread x5) (harg8.unread x6) (harg9.unread x7) (harg11.unread x9) k f19)⟩] := by
  unfold trip_k0_t1
  rfl

/-- A trip's pieces of the accumulator. -/
theorem trip20 (k : Fin k0_t1_loop.trips) (accC : FVec Ideal S64x128 .f32 × FVec Ideal S64x128 .f32 × FVec Ideal S64x128 .f32) (f15 : BufTy.Contents (Elt Ideal) arg15.view.ty) (f18 : BufTy.Contents (Elt Ideal) arg18.view.ty) (f19 : BufTy.Contents (Elt Ideal) arg19.view.ty) (f20 : BufTy.Contents (Elt Ideal) arg20.view.ty) :
    (trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v9 v13 (harg2.unread x0) (harg3.unread x1) (harg4.unread x2) (harg5.unread x3) (harg6.unread x4) (harg7.unread x5) (harg8.unread x6) (harg9.unread x7) (harg11.unread x9) k).2.2.2.2.1 accC f15 f18 f19 f20
      = [⟨Rect.unit (k0_off12 k) S1x8x256.size (k0_off12_inb k), k0_pay328 (trip_k0_t1.sl.r_198 arg2 arg5 arg6 arg7 arg8 arg9 arg11 arg20 v0 v9 v13 (harg2.unread x0) (harg5.unread x3) (harg6.unread x4) (harg7.unread x5) (harg8.unread x6) (harg9.unread x7) (harg11.unread x9) k f20)⟩,
         ⟨Rect.unit (k0_off11 k) S1x8x256.size (k0_off11_inb k), k0_pay327 (trip_k0_t1.sl.r_197 arg2 arg3 arg4 arg5 arg6 arg7 arg8 arg9 arg11 arg19 arg20 v0 v9 v13 (harg2.unread x0) (harg3.unread x1) (harg4.unread x2) (harg5.unread x3) (harg6.unread x4) (harg7.unread x5) (harg8.unread x6) (harg9.unread x7) (harg11.unread x9) k f19 f20)⟩,
         ⟨Rect.unit (k0_off10 k) S1x8x256.size (k0_off10_inb k), k0_pay320 (trip_k0_t1.sl.r_196 arg2 arg5 arg6 arg7 arg8 arg9 arg11 arg20 v0 v9 v13 (harg2.unread x0) (harg5.unread x3) (harg6.unread x4) (harg7.unread x5) (harg8.unread x6) (harg9.unread x7) (harg11.unread x9) k f20)⟩,
         ⟨Rect.unit (k0_off9 k) S1x8x256.size (k0_off9_inb k), k0_pay319 (trip_k0_t1.sl.r_195 arg2 arg3 arg4 arg5 arg6 arg7 arg8 arg9 arg11 arg19 arg20 v0 v9 v13 (harg2.unread x0) (harg3.unread x1) (harg4.unread x2) (harg5.unread x3) (harg6.unread x4) (harg7.unread x5) (harg8.unread x6) (harg9.unread x7) (harg11.unread x9) k f19 f20)⟩] := by
  unfold trip_k0_t1
  delta trip_k0_t1.sl.r_202
  rfl

/-- One trip: the strip `n` gets what the tile carries out and its sums; the other strips keep what they hold. -/
theorem trip_vals (hv : IsRow v0) (P : Fin 7168 → Par) (T : Fin 7168 → ℕ → Tok) (L : Fin 7168 → ℕ → ℝ) (p : ℕ) (H : BlockRep v9 v13 x0 x1 x2 x3 x4 x5 x6 x7 x9 P T p) (n : ℕ) (hk : n < k0_t1_loop.trips) (accC : FVec Ideal S64x128 .f32 × FVec Ideal S64x128 .f32 × FVec Ideal S64x128 .f32) (f15 : BufTy.Contents (Elt Ideal) arg15.view.ty) (f18 : BufTy.Contents (Elt Ideal) arg18.view.ty) (f19 : BufTy.Contents (Elt Ideal) arg19.view.ty) (f20 : BufTy.Contents (Elt Ideal) arg20.view.ty)
    (i19 : ∀ (r : Fin 8) (j : Fin 7168), arg19.view.read (Elt Ideal) f19 (ix2 r j)
        = ((if j.val < 256 * n then Do (P j) (T j) (L j) (64 * p + 63) else Dg (P j) (T j) (L j) (64 * p) : ℝ) : EReal))
    (i20 : ∀ (q : Fin 4) (r : Fin 8) (j : Fin 7168), arg20.view.read (Elt Ideal) f20 (ix3 q r j)
        = (accS (tAll q (P j) (T j) (L j)) (if j.val < 256 * n then 8 * p + 8 else 8 * p) r.val : EReal)) :
    (∀ (r : Fin 8) (j : Fin 7168), arg19.view.read (Elt Ideal) (arg19.view.writes (Elt Ideal) f19 ((trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v9 v13 (harg2.unread x0) (harg3.unread x1) (harg4.unread x2) (harg5.unread x3) (harg6.unread x4) (harg7.unread x5) (harg8.unread x6) (harg9.unread x7) (harg11.unread x9) ⟨n, hk⟩).2.2.2.1 accC f15 f18 f19 f20)) (ix2 r j)
        = ((if j.val < 256 * (n + 1) then Do (P j) (T j) (L j) (64 * p + 63) else Dg (P j) (T j) (L j) (64 * p) : ℝ) : EReal))
      ∧ (∀ (q : Fin 4) (r : Fin 8) (j : Fin 7168), arg20.view.read (Elt Ideal) (arg20.view.writes (Elt Ideal) f20 ((trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v9 v13 (harg2.unread x0) (harg3.unread x1) (harg4.unread x2) (harg5.unread x3) (harg6.unread x4) (harg7.unread x5) (harg8.unread x6) (harg9.unread x7) (harg11.unread x9) ⟨n, hk⟩).2.2.2.2.1 accC f15 f18 f19 f20)) (ix3 q r j)
        = (accS (tAll q (P j) (T j) (L j)) (if j.val < 256 * (n + 1) then 8 * p + 8 else 8 * p) r.val : EReal)) := by
    have t19 := trip19 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v9 v13 x0 x1 x2 x3 x4 x5 x6 x7 x9 ⟨n, hk⟩ accC f15 f18 f19 f20
    have t20 := trip20 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v9 v13 x0 x1 x2 x3 x4 x5 x6 x7 x9 ⟨n, hk⟩ accC f15 f18 f19 f20
    have ch := fun j : Fin 256 => chain arg2 arg3 arg4 arg5 arg6 arg7 arg8 arg9 arg11 arg19 arg20 v0 v9 v13 (harg2.unread x0) (harg3.unread x1) (harg4.unread x2) (harg5.unread x3) (harg6.unread x4) (harg7.unread x5) (harg8.unread x6) (harg9.unread x7) (harg11.unread x9) f19 f20 ⟨n, hk⟩ hv j (P (colOf ⟨n, hk⟩ j)) (T (colOf ⟨n, hk⟩ j)) (L (colOf ⟨n, hk⟩ j)) p
      (tileRep arg2 harg2 arg3 harg3 arg4 harg4 arg5 harg5 arg6 harg6 arg7 harg7 arg8 harg8 arg9 harg9 arg11 harg11 v9 v13 x0 x1 x2 x3 x4 x5 x6 x7 x9 P T p H ⟨n, hk⟩ j)
      (fun r => by
        refine (ld_any arg19.view f19 _ (k0_off8_eq ⟨n, hk⟩) (ix2 r j) (ix2 r (colOf ⟨n, hk⟩ j)) (fun a => by match a with | ⟨0, _⟩ => exact (Nat.zero_add _).symm | ⟨1, _⟩ => rfl)).trans ?_
        rw [i19, if_neg (by simp [colOf])]
        rw [show 8 * (8 * p + 0) = 64 * p by ring])
      (fun r => by
        delta trip_k0_t1.sl.r_13 k0_pay18
        dsimp only
        rw [ValueIdx.shapeCast_1ab_ab_apply]
        refine (ld_any arg20.view f20 _ (k0_off9_eq ⟨n, hk⟩) (ix3 0 r j) (ix3 0 r (colOf ⟨n, hk⟩ j)) (fun a => by match a with | ⟨0, _⟩ => rfl | ⟨1, _⟩ => exact (Nat.zero_add _).symm | ⟨2, _⟩ => rfl)).trans ?_
        rw [i20 0, if_neg (by simp [colOf])]
        rfl)
      (fun r => by
        delta trip_k0_t1.sl.r_14 k0_pay19
        dsimp only
        rw [ValueIdx.shapeCast_1ab_ab_apply]
        refine (ld_any arg20.view f20 _ (k0_off10_eq ⟨n, hk⟩) (ix3 0 r j) (ix3 1 r (colOf ⟨n, hk⟩ j)) (fun a => by match a with | ⟨0, _⟩ => rfl | ⟨1, _⟩ => exact (Nat.zero_add _).symm | ⟨2, _⟩ => rfl)).trans ?_
        rw [i20 1, if_neg (by simp [colOf])]
        rfl)
      (fun r => by
        delta trip_k0_t1.sl.r_15 k0_pay20
        dsimp only
        rw [ValueIdx.shapeCast_1ab_ab_apply]
        refine (ld_any arg20.view f20 _ (k0_off11_eq ⟨n, hk⟩) (ix3 0 r j) (ix3 2 r (colOf ⟨n, hk⟩ j)) (fun a => by match a with | ⟨0, _⟩ => rfl | ⟨1, _⟩ => exact (Nat.zero_add _).symm | ⟨2, _⟩ => rfl)).trans ?_
        rw [i20 2, if_neg (by simp [colOf])]
        rfl)
      (fun r => by
        delta trip_k0_t1.sl.r_16 k0_pay21
        dsimp only
        rw [ValueIdx.shapeCast_1ab_ab_apply]
        refine (ld_any arg20.view f20 _ (k0_off12_eq ⟨n, hk⟩) (ix3 0 r j) (ix3 3 r (colOf ⟨n, hk⟩ j)) (fun a => by match a with | ⟨0, _⟩ => rfl | ⟨1, _⟩ => exact (Nat.zero_add _).symm | ⟨2, _⟩ => rfl)).trans ?_
        rw [i20 3, if_neg (by simp [colOf])]
        rfl)
    have split : ∀ j : Fin 7168, (j.val < 256 * n ∨ 256 * n + 256 ≤ j.val) ∨ ∃ j' : Fin 256, j = colOf ⟨n, hk⟩ j' := fun j => by
      by_cases h1 : j.val < 256 * n
      · exact .inl (.inl h1)
      by_cases h2 : 256 * n + 256 ≤ j.val
      · exact .inl (.inr h2)
      · exact .inr ⟨⟨j.val - 256 * n, by omega⟩, Fin.ext (by simp only [colOf]; omega)⟩
    refine ⟨fun r j => ?_, fun q r j => ?_⟩
    · refine (congrArg (fun l => arg19.view.read (Elt Ideal) (arg19.view.writes (Elt Ideal) f19 l) (ix2 r j)) t19).trans ?_
      rcases split j with hj | ⟨j', rfl⟩
      · refine (View.read_writes_cons_unit_of_not_mem arg19.view f19 _ _ _ (ix2 r j) (k0_off8_eq ⟨n, hk⟩) (1 : Fin 2) (by exact hj)).trans ?_
        refine (i19 r j).trans ?_
        congr 2
        exact propext (by omega)
      · refine (View.read_writes_cons_unit_of_mem arg19.view f19 _ _ _ (ix2 r (colOf ⟨n, hk⟩ j')) (ix2 r j') (k0_off8_eq ⟨n, hk⟩) (fun a => by match a with | ⟨0, _⟩ => exact (Nat.zero_add _).symm | ⟨1, _⟩ => rfl)).trans ?_
        rw [if_pos (by simp only [colOf]; omega)]
        delta k0_pay318
        rw [shapeCast_self]
        exact (ch j').1 r
    · refine (congrArg (fun l => arg20.view.read (Elt Ideal) (arg20.view.writes (Elt Ideal) f20 l) (ix3 q r j)) t20).trans ?_
      rcases split j with hj | ⟨j', rfl⟩
      · refine (View.read_writes_cons_unit_of_not_mem arg20.view f20 _ _ _ (ix3 q r j) (k0_off12_eq ⟨n, hk⟩) (2 : Fin 3) (by exact hj)).trans ?_
        refine (View.read_writes_cons_unit_of_not_mem arg20.view f20 _ _ _ (ix3 q r j) (k0_off11_eq ⟨n, hk⟩) (2 : Fin 3) (by exact hj)).trans ?_
        refine (View.read_writes_cons_unit_of_not_mem arg20.view f20 _ _ _ (ix3 q r j) (k0_off10_eq ⟨n, hk⟩) (2 : Fin 3) (by exact hj)).trans ?_
        refine (View.read_writes_cons_unit_of_not_mem arg20.view f20 _ _ _ (ix3 q r j) (k0_off9_eq ⟨n, hk⟩) (2 : Fin 3) (by exact hj)).trans ?_
        refine (i20 q r j).trans ?_
        congr 3
        exact propext (by omega)
      · rw [if_pos (by simp only [colOf]; omega)]
        match q with
        | 0 =>
          refine (View.read_writes_cons_unit_of_not_mem arg20.view f20 _ _ _ (ix3 _ r (colOf ⟨n, hk⟩ j')) (k0_off12_eq ⟨n, hk⟩) (0 : Fin 3) (.inl (by show 0 < 3; norm_num))).trans ?_
          refine (View.read_writes_cons_unit_of_not_mem arg20.view f20 _ _ _ (ix3 _ r (colOf ⟨n, hk⟩ j')) (k0_off11_eq ⟨n, hk⟩) (0 : Fin 3) (.inl (by show 0 < 2; norm_num))).trans ?_
          refine (View.read_writes_cons_unit_of_not_mem arg20.view f20 _ _ _ (ix3 _ r (colOf ⟨n, hk⟩ j')) (k0_off10_eq ⟨n, hk⟩) (0 : Fin 3) (.inl (by show 0 < 1; norm_num))).trans ?_
          refine (View.read_writes_cons_unit_of_mem arg20.view f20 _ _ _ (ix3 0 r (colOf ⟨n, hk⟩ j')) (ix3 0 r j') (k0_off9_eq ⟨n, hk⟩) (fun a => by match a with | ⟨0, _⟩ => rfl | ⟨1, _⟩ => exact (Nat.zero_add _).symm | ⟨2, _⟩ => rfl)).trans ?_
          delta k0_pay319
          rw [ValueIdx.shapeCast_ab_1ab_apply]
          exact (ch j').2.1 r
        | 1 =>
          refine (View.read_writes_cons_unit_of_not_mem arg20.view f20 _ _ _ (ix3 _ r (colOf ⟨n, hk⟩ j')) (k0_off12_eq ⟨n, hk⟩) (0 : Fin 3) (.inl (by show 1 < 3; norm_num))).trans ?_
          refine (View.read_writes_cons_unit_of_not_mem arg20.view f20 _ _ _ (ix3 _ r (colOf ⟨n, hk⟩ j')) (k0_off11_eq ⟨n, hk⟩) (0 : Fin 3) (.inl (by show 1 < 2; norm_num))).trans ?_
          refine (View.read_writes_cons_unit_of_mem arg20.view f20 _ _ _ (ix3 1 r (colOf ⟨n, hk⟩ j')) (ix3 0 r j') (k0_off10_eq ⟨n, hk⟩) (fun a => by match a with | ⟨0, _⟩ => rfl | ⟨1, _⟩ => exact (Nat.zero_add _).symm | ⟨2, _⟩ => rfl)).trans ?_
          delta k0_pay320
          rw [ValueIdx.shapeCast_ab_1ab_apply]
          exact (ch j').2.2.1 r
        | 2 =>
          refine (View.read_writes_cons_unit_of_not_mem arg20.view f20 _ _ _ (ix3 _ r (colOf ⟨n, hk⟩ j')) (k0_off12_eq ⟨n, hk⟩) (0 : Fin 3) (.inl (by show 2 < 3; norm_num))).trans ?_
          refine (View.read_writes_cons_unit_of_mem arg20.view f20 _ _ _ (ix3 2 r (colOf ⟨n, hk⟩ j')) (ix3 0 r j') (k0_off11_eq ⟨n, hk⟩) (fun a => by match a with | ⟨0, _⟩ => rfl | ⟨1, _⟩ => exact (Nat.zero_add _).symm | ⟨2, _⟩ => rfl)).trans ?_
          delta k0_pay327
          rw [ValueIdx.shapeCast_ab_1ab_apply]
          exact (ch j').2.2.2.1 r
        | 3 =>
          refine (View.read_writes_cons_unit_of_mem arg20.view f20 _ _ _ (ix3 3 r (colOf ⟨n, hk⟩ j')) (ix3 0 r j') (k0_off12_eq ⟨n, hk⟩) (fun a => by match a with | ⟨0, _⟩ => rfl | ⟨1, _⟩ => exact (Nat.zero_add _).symm | ⟨2, _⟩ => rfl)).trans ?_
          delta k0_pay328
          rw [ValueIdx.shapeCast_ab_1ab_apply]
          exact (ch j').2.2.2.2 r

/-- The loop over the strips: before trip `n` the strips below `n` hold what the tile carries out and its sums,
the others what was there before. -/
theorem loop_vals (hv : IsRow v0) (P : Fin 7168 → Par) (T : Fin 7168 → ℕ → Tok) (L : Fin 7168 → ℕ → ℝ) (p : ℕ) (H : BlockRep v9 v13 x0 x1 x2 x3 x4 x5 x6 x7 x9 P T p) (G15 : BufTy.Contents (Elt Ideal) arg15.view.ty) (G18 : BufTy.Contents (Elt Ideal) arg18.view.ty) (G19 : BufTy.Contents (Elt Ideal) arg19.view.ty) (G20 : BufTy.Contents (Elt Ideal) arg20.view.ty) (init : FVec Ideal S64x128 .f32 × FVec Ideal S64x128 .f32 × FVec Ideal S64x128 .f32)
    (h19 : ∀ (r : Fin 8) (j : Fin 7168), arg19.view.read (Elt Ideal) G19 (ix2 r j) = (Dg (P j) (T j) (L j) (64 * p) : EReal))
    (h20 : ∀ (q : Fin 4) (r : Fin 8) (j : Fin 7168), arg20.view.read (Elt Ideal) G20 (ix3 q r j) = (accS (tAll q (P j) (T j) (L j)) (8 * p) r.val : EReal))
    (n : ℕ) (hn : n ≤ k0_t1_loop.trips) :
    (∀ (r : Fin 8) (j : Fin 7168), arg19.view.read (Elt Ideal) (arg19.view.writes (Elt Ideal) G19 (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v9 v13 (harg2.unread x0) (harg3.unread x1) (harg4.unread x2) (harg5.unread x3) (harg6.unread x4) (harg7.unread x5) (harg8.unread x6) (harg9.unread x7) (harg11.unread x9) G15 G18 G19 G20 init n).2.2.2.1) (ix2 r j)
        = ((if j.val < 256 * n then Do (P j) (T j) (L j) (64 * p + 63) else Dg (P j) (T j) (L j) (64 * p) : ℝ) : EReal))
      ∧ (∀ (q : Fin 4) (r : Fin 8) (j : Fin 7168), arg20.view.read (Elt Ideal) (arg20.view.writes (Elt Ideal) G20 (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v9 v13 (harg2.unread x0) (harg3.unread x1) (harg4.unread x2) (harg5.unread x3) (harg6.unread x4) (harg7.unread x5) (harg8.unread x6) (harg9.unread x7) (harg11.unread x9) G15 G18 G19 G20 init n).2.2.2.2) (ix3 q r j)
        = (accS (tAll q (P j) (T j) (L j)) (if j.val < 256 * n then 8 * p + 8 else 8 * p) r.val : EReal)) := by
  induction n with
  | zero =>
    refine ⟨fun r j => ?_, fun q r j => ?_⟩
    · rw [if_neg (by omega)]; exact h19 r j
    · rw [if_neg (by omega)]; exact h20 q r j
  | succ n ih =>
    obtain ⟨i19, i20⟩ := ih (Nat.le_of_succ_le hn)
    have es := st_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v9 v13 (harg2.unread x0) (harg3.unread x1) (harg4.unread x2) (harg5.unread x3) (harg6.unread x4) (harg7.unread x5) (harg8.unread x6) (harg9.unread x7) (harg11.unread x9) G15 G18 G19 G20 init ⟨n, hn⟩
    dsimp only at es
    rw [es]
    clear es
    generalize (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v9 v13 (harg2.unread x0) (harg3.unread x1) (harg4.unread x2) (harg5.unread x3) (harg6.unread x4) (harg7.unread x5) (harg8.unread x6) (harg9.unread x7) (harg11.unread x9) G15 G18 G19 G20 init n) = S at i19 i20 ⊢
    dsimp only
    rw [View.writes_append, View.writes_append]
    exact trip_vals 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v9 v13 x0 x1 x2 x3 x4 x5 x6 x7 x9 hv P T L p H n hn S.1 _ _ _ _ i19 i20
end

end Cert.GatesIdeal.Gen
-- ==== Proof.GData.lean ====
/- The numbers both programs work on, as real numbers, and the recurrence over one sequence. -/
module

public import proofs.«01_k».proof.Proof.GMath

@[expose] public section

noncomputable section

namespace Cert.GMath

/-- The arguments as real numbers, by sequence, token and column. -/
structure Nums where
  g : Fin 2 → Fin 4096 → Fin 7168 → ℝ
  x : Fin 2 → Fin 4096 → Fin 7168 → ℝ
  xt : Fin 2 → Fin 4096 → Fin 7168 → ℝ
  uf : Fin 2 → Fin 4096 → Fin 7168 → ℝ
  ur : Fin 2 → Fin 4096 → Fin 7168 → ℝ
  c : Fin 2 → Fin 4096 → Fin 7168 → ℝ
  c0 : Fin 2 → Fin 7168 → ℝ
  dl : Fin 2 → Fin 7168 → ℝ
  vf : Fin 7168 → ℝ
  vr : Fin 7168 → ℝ
  bf : Fin 7168 → ℝ
  br : Fin 7168 → ℝ

/-- The sequence and the position of token number `N`, tokens numbered from the last of the first sequence. -/
def seqOf (N : ℕ) : Fin 2 := ⟨N / 4096 % 2, Nat.mod_lt _ (by norm_num)⟩
def posOf (N : ℕ) : Fin 4096 := ⟨4095 - N % 4096, by omega⟩

namespace Nums
variable (D : Nums)

def par (j : Fin 7168) : Par := ⟨D.vf j, D.vr j, D.bf j, D.br j⟩

/-- The state before position `t`. -/
def cprev (b : Fin 2) (t : Fin 4096) (j : Fin 7168) : ℝ :=
  if t.val = 0 then D.c0 b j else D.c b ⟨t.val - 1, Nat.lt_of_le_of_lt (Nat.sub_le _ _) t.isLt⟩ j

def tokAt (j : Fin 7168) (b : Fin 2) (t : Fin 4096) : Tok :=
  ⟨D.g b t j, D.x b t j, D.xt b t j, D.uf b t j, D.ur b t j, D.c b t j, D.cprev b t j⟩

def tok (j : Fin 7168) (N : ℕ) : Tok := D.tokAt j (seqOf N) (posOf N)

def lst (j : Fin 7168) (b : ℕ) : ℝ := D.dl ⟨b % 2, Nat.mod_lt _ (by norm_num)⟩ j

/-- Step `n` of sequence `b` is position `4095 - n`. -/
def stp (j : Fin 7168) (b : Fin 2) (n : ℕ) : Tok := D.tokAt j b ⟨4095 - n, by omega⟩

/-- What the recurrence over sequence `b` holds before step `n`. -/
def bk (j : Fin 7168) (b : Fin 2) : ℕ → ℝ
  | 0 => D.dl b j
  | n + 1 => (D.stp j b n).nxt (D.par j) (bk j b n)

theorem tok_eq (j : Fin 7168) (b : Fin 2) (n : ℕ) (hn : n < 4096) : D.tok j (4096 * b.val + n) = D.stp j b n := by
  have hb := b.isLt
  have h1 : seqOf (4096 * b.val + n) = b := Fin.ext (by show (4096 * b.val + n) / 4096 % 2 = b.val; omega)
  have h2 : posOf (4096 * b.val + n) = ⟨4095 - n, by omega⟩ :=
    Fin.ext (by show 4095 - (4096 * b.val + n) % 4096 = 4095 - n; omega)
  unfold tok stp
  rw [h1, h2]

theorem bk_eq (j : Fin 7168) (b : Fin 2) (n : ℕ) (hn : n < 4096) :
    Dg (D.par j) (D.tok j) (D.lst j) (4096 * b.val + n) = D.bk j b n
      ∧ Do (D.par j) (D.tok j) (D.lst j) (4096 * b.val + n) = D.bk j b (n + 1) := by
  have hb := b.isLt
  have key : Dg (D.par j) (D.tok j) (D.lst j) (4096 * b.val + n) = D.bk j b n →
      Do (D.par j) (D.tok j) (D.lst j) (4096 * b.val + n) = D.bk j b (n + 1) := fun h => by
    unfold Do
    rw [h, D.tok_eq j b n hn]
    rfl
  have first : Dg (D.par j) (D.tok j) (D.lst j) (4096 * b.val + n) = D.bk j b n := by
    clear key
    induction n with
    | zero =>
      rw [Dg_of_zero _ _ _ _ (by omega)]
      show D.dl _ j = D.dl b j
      congr 1
      exact Fin.ext (by show (4096 * b.val + 0) / 4096 % 2 = b.val; omega)
    | succ n ih =>
      rw [← Nat.add_assoc, Dg_succ _ _ _ _ (by omega)]
      unfold Do
      rw [ih (by omega), D.tok_eq j b n (by omega)]
      rfl
  exact ⟨first, key first⟩

/-- Step `n`'s term of sum `q`. -/
def term (q : Fin 4) (j : Fin 7168) (b : Fin 2) (n : ℕ) : ℝ :=
  match q with
  | 0 => (D.stp j b n).df (D.par j) (D.bk j b n) * (D.stp j b n).cp
  | 1 => (D.stp j b n).dr (D.par j) * (D.stp j b n).cp
  | 2 => (D.stp j b n).df (D.par j) (D.bk j b n)
  | 3 => (D.stp j b n).dr (D.par j)

/-- Sum `q` over both sequences. -/
def total (q : Fin 4) (j : Fin 7168) : ℝ := ∑ b : Fin 2, ∑ n ∈ Finset.range 4096, D.term q j b n

/-- What the recurrence hands out of sequence `b`'s first token. -/
def out (b : Fin 2) (j : Fin 7168) : ℝ := D.bk j b 4096

end Nums

theorem sum_split (t : ℕ → ℝ) :
    ∑ n ∈ Finset.range 8192, t n = ∑ b : Fin 2, ∑ n ∈ Finset.range 4096, t (4096 * b.val + n) := by
  rw [show 8192 = 4096 + 4096 from rfl, Finset.sum_range_add, Fin.sum_univ_two]
  simp

end Cert.GMath
-- ==== Proof.GBlk.lean ====
/- The blocks of a point hold the real numbers of its tokens. -/
module

public import proofs.«01_k».proof.Proof.GLoop
public import proofs.«01_k».proof.Proof.GData
public import proofs.«01_k».proof.Proof.GFrame
public import Idealize.ShloMosaic.Lib.Pipeline.ValueKit

@[expose] public section

set_option maxRecDepth 16384

noncomputable section

namespace Cert.GatesIdeal.Gen

open Idealize.ShloMosaic hiding ix2 ix3
open Idealize.ShloMosaic.TcCoe Cert.GMath
open Idealize.ShloMosaic.ValueIdx (ix2 ix3)

/-- Column `j` of part `p` of the fused array. -/
def ucol (p : Fin 3) (j : Fin 7168) : Fin 21504 := ⟨7168 * p.val + j.val, by have := p.isLt; have := j.isLt; omega⟩

/-- The call's arrays hold the numbers `D`. -/
structure KRep (D : Nums) (X : Vec Ideal S2x4096x7168 .bf16) (U : Vec Ideal S2x4096x21504 .bf16) (C : Vec Ideal S2x4096x7168 .f32)
    (C0 : Vec Ideal S2x1x7168 .f32) (H : Vec Ideal S2x4096x7168 .fp8e5m2) (S : Vec Ideal S2x4096x1 .f32) (W : Vec Ideal S4x7168 .f32)
    (DL : Vec Ideal S2x1x7168 .f32) : Prop where
  g : ∀ b t j, (H (ix3 b t j) * S (ix3 b t 0) : EReal) = (D.g b t j : EReal)
  x : ∀ b t j, X (ix3 b t j) = (D.x b t j : EReal)
  xt : ∀ b t j, U (ix3 b t (ucol 0 j)) = (D.xt b t j : EReal)
  uf : ∀ b t j, U (ix3 b t (ucol 1 j)) = (D.uf b t j : EReal)
  ur : ∀ b t j, U (ix3 b t (ucol 2 j)) = (D.ur b t j : EReal)
  c : ∀ b t j, C (ix3 b t j) = (D.c b t j : EReal)
  c0 : ∀ b j, C0 (ix3 b 0 j) = (D.c0 b j : EReal)
  dl : ∀ b j, DL (ix3 b 0 j) = (D.dl b j : EReal)
  vf : ∀ j, W (ix2 0 j) = (D.vf j : EReal)
  vr : ∀ j, W (ix2 1 j) = (D.vr j : EReal)
  bf : ∀ j, W (ix2 2 j) = (D.bf j : EReal)
  br : ∀ j, W (ix2 3 j) = (D.br j : EReal)

theorem gix0 : ∀ t : Fin cfg0.N, win0_0.index t = ![t.val / 64, 63 - t.val % 64, 0] := (by decide +kernel : ∀ t : Fin grid0.N, _)
theorem gix1 : ∀ t : Fin cfg0.N, win0_1.index t = ![t.val / 64, 63 - t.val % 64, 0] := (by decide +kernel : ∀ t : Fin grid0.N, _)
theorem gix2 : ∀ t : Fin cfg0.N, win0_2.index t = ![t.val / 64, 63 - t.val % 64, 1] := (by decide +kernel : ∀ t : Fin grid0.N, _)
theorem gix3 : ∀ t : Fin cfg0.N, win0_3.index t = ![t.val / 64, 63 - t.val % 64, 2] := (by decide +kernel : ∀ t : Fin grid0.N, _)
theorem gix4 : ∀ t : Fin cfg0.N, win0_4.index t = ![t.val / 64, 63 - t.val % 64, 0] := (by decide +kernel : ∀ t : Fin grid0.N, _)
theorem gix5 : ∀ t : Fin cfg0.N, win0_5.index t = ![t.val / 64, 8 * (63 - t.val % 64) - 1, 0] := (by decide +kernel : ∀ t : Fin grid0.N, _)
theorem gix6 : ∀ t : Fin cfg0.N, win0_6.index t = ![t.val / 64, 0, 0] := (by decide +kernel : ∀ t : Fin grid0.N, _)
theorem gix7 : ∀ t : Fin cfg0.N, win0_7.index t = ![t.val / 64, 63 - t.val % 64, 0] := (by decide +kernel : ∀ t : Fin grid0.N, _)
theorem gix8 : ∀ t : Fin cfg0.N, win0_8.index t = ![t.val / 64, 63 - t.val % 64, 0] := (by decide +kernel : ∀ t : Fin grid0.N, _)
theorem gix9 : ∀ t : Fin cfg0.N, win0_9.index t = ![0, 0] := (by decide +kernel : ∀ t : Fin grid0.N, _)
theorem gix10 : ∀ t : Fin cfg0.N, win0_10.index t = ![t.val / 64, 0, 0] := (by decide +kernel : ∀ t : Fin grid0.N, _)

/-- A point's sequence, and the position of row `r` of its tile. -/
def ptSeq (t : Fin cfg0.N) : Fin 2 := ⟨t.val / 64, by have : t.val < 128 := t.isLt; omega⟩
def ptPos (t : Fin cfg0.N) (r : Fin 64) : Fin 4096 := ⟨64 * (63 - t.val % 64) + r.val, by have := r.isLt; omega⟩

theorem seqOf_pt (t : Fin cfg0.N) (r : Fin 64) : seqOf (64 * t.val + 63 - r.val) = ptSeq t := Fin.ext (by
  have : t.val < 128 := t.isLt
  have := r.isLt
  show (64 * t.val + 63 - r.val) / 4096 % 2 = t.val / 64
  omega)
theorem posOf_pt (t : Fin cfg0.N) (r : Fin 64) : posOf (64 * t.val + 63 - r.val) = ptPos t r := Fin.ext (by
  have : t.val < 128 := t.isLt
  have := r.isLt
  show 4095 - (64 * t.val + 63 - r.val) % 4096 = 64 * (63 - t.val % 64) + r.val
  omega)

theorem tok_pt (D : Nums) (j : Fin 7168) (t : Fin cfg0.N) (r : Fin 64) :
    D.tok j (64 * t.val + 63 - r.val) = D.tokAt j (ptSeq t) (ptPos t r) := by
  unfold Nums.tok
  rw [seqOf_pt, posOf_pt]

section
variable (m : (ℓ : Loc nD τ sig) → Buf (Elt Ideal) ℓ) (c : Dev nD) (t : Fin cfg0.N)

theorem blk_0 (r : Fin 64) (j : Fin 7168) : iblk m c 0 t (ix3 0 r j) = V m c main_arg0 (ix3 (ptSeq t) (ptPos t r) j) := by
  have h : (win0_0.blk t).view.emb (ix3 0 r j) = ix3 (ptSeq t) (ptPos t r) j := funext fun a => Fin.ext (by
    fin_cases a <;> blk_simp [gix0] <;> simp [ix3, ptSeq, ptPos] <;> ring)
  exact congrArg (V m c main_arg0) h
theorem blk_1 (r : Fin 64) (j : Fin 7168) : iblk m c 1 t (ix3 0 r j) = V m c main_arg4 (ix3 (ptSeq t) (ptPos t r) (ucol 0 j)) := by
  have h : (win0_1.blk t).view.emb (ix3 0 r j) = ix3 (ptSeq t) (ptPos t r) (ucol 0 j) := funext fun a => Fin.ext (by
    fin_cases a <;> blk_simp [gix1] <;> simp [ix3, ptSeq, ptPos, ucol] <;> ring)
  exact congrArg (V m c main_arg4) h
theorem blk_2 (r : Fin 64) (j : Fin 7168) : iblk m c 2 t (ix3 0 r j) = V m c main_arg4 (ix3 (ptSeq t) (ptPos t r) (ucol 1 j)) := by
  have h : (win0_2.blk t).view.emb (ix3 0 r j) = ix3 (ptSeq t) (ptPos t r) (ucol 1 j) := funext fun a => Fin.ext (by
    fin_cases a <;> blk_simp [gix2] <;> simp [ix3, ptSeq, ptPos, ucol] <;> ring)
  exact congrArg (V m c main_arg4) h
theorem blk_3 (r : Fin 64) (j : Fin 7168) : iblk m c 3 t (ix3 0 r j) = V m c main_arg4 (ix3 (ptSeq t) (ptPos t r) (ucol 2 j)) := by
  have h : (win0_3.blk t).view.emb (ix3 0 r j) = ix3 (ptSeq t) (ptPos t r) (ucol 2 j) := funext fun a => Fin.ext (by
    fin_cases a <;> blk_simp [gix3] <;> simp [ix3, ptSeq, ptPos, ucol] <;> ring)
  exact congrArg (V m c main_arg4) h
theorem blk_4 (r : Fin 64) (j : Fin 7168) : iblk m c 4 t (ix3 0 r j) = V m c main_arg5 (ix3 (ptSeq t) (ptPos t r) j) := by
  have h : (win0_4.blk t).view.emb (ix3 0 r j) = ix3 (ptSeq t) (ptPos t r) j := funext fun a => Fin.ext (by
    fin_cases a <;> blk_simp [gix4] <;> simp [ix3, ptSeq, ptPos] <;> ring)
  exact congrArg (V m c main_arg5) h
theorem blk_5 (ht : t.val % 64 ≠ 63) (j : Fin 7168) : iblk m c 5 t (ix3 0 7 j)
    = V m c main_arg5 (ix3 (ptSeq t) ⟨(ptPos t 0).val - 1, Nat.lt_of_le_of_lt (Nat.sub_le _ _) (ptPos t 0).isLt⟩ j) := by
  have h : (win0_5.blk t).view.emb (ix3 0 7 j) = ix3 (ptSeq t) ⟨(ptPos t 0).val - 1, Nat.lt_of_le_of_lt (Nat.sub_le _ _) (ptPos t 0).isLt⟩ j := funext fun a => Fin.ext (by
    fin_cases a <;> blk_simp [gix5] <;> simp [ix3, ptSeq, ptPos] <;> omega)
  exact congrArg (V m c main_arg5) h
theorem blk_6 (j : Fin 7168) : iblk m c 6 t (ix3 0 0 j) = V m c main_v4 (ix3 (ptSeq t) 0 j) := by
  have h : (win0_6.blk t).view.emb (ix3 0 0 j) = ix3 (ptSeq t) 0 j := funext fun a => Fin.ext (by
    fin_cases a <;> blk_simp [gix6] <;> simp [ix3, ptSeq])
  exact congrArg (V m c main_v4) h
theorem blk_7 (r : Fin 64) (j : Fin 7168) : iblk m c 7 t (ix3 0 r j) = V m c main_v0 (ix3 (ptSeq t) (ptPos t r) j) := by
  have h : (win0_7.blk t).view.emb (ix3 0 r j) = ix3 (ptSeq t) (ptPos t r) j := funext fun a => Fin.ext (by
    fin_cases a <;> blk_simp [gix7] <;> simp [ix3, ptSeq, ptPos] <;> ring)
  exact congrArg (V m c main_v0) h
theorem blk_8 (r : Fin 64) : iblk m c 8 t (ix3 0 r 0) = V m c main_v5 (ix3 (ptSeq t) (ptPos t r) 0) := by
  have h : (win0_8.blk t).view.emb (ix3 0 r 0) = ix3 (ptSeq t) (ptPos t r) 0 := funext fun a => Fin.ext (by
    fin_cases a <;> blk_simp [gix8] <;> simp [ix3, ptSeq, ptPos] <;> ring)
  exact congrArg (V m c main_v5) h
theorem blk_9 (r : Fin 4) (j : Fin 7168) : iblk m c 9 t (ix2 r j) = V m c main_v3 (ix2 r j) := by
  have h : (win0_9.blk t).view.emb (ix2 r j) = ix2 r j := funext fun a => Fin.ext (by
    fin_cases a <;> blk_simp [gix9] <;> simp [ix2])
  exact congrArg (V m c main_v3) h
theorem blk_10 (j : Fin 7168) : iblk m c 10 t (ix3 0 0 j) = V m c main_v6 (ix3 (ptSeq t) 0 j) := by
  have h : (win0_10.blk t).view.emb (ix3 0 0 j) = ix3 (ptSeq t) 0 j := funext fun a => Fin.ext (by
    fin_cases a <;> blk_simp [gix10] <;> simp [ix3, ptSeq])
  exact congrArg (V m c main_v6) h

/-- The block's whole load of the scales. -/
theorem scales_ld : View.readAt (Elt Ideal) (ms0_8 t).view (Rect.unit ![0, 0, 0] ![1, 64, 1] inb_S1x64x1_S1x64x1_0_0_0).toLoadRect
    ((hs0_8 t).unread (iblk m c 8 t)) = iblk m c 8 t :=
  funext fun y => ld_whole (hs0_8 t) (iblk m c 8 t) _ rfl y y (fun a => by
    match a with | ⟨0, _⟩ => exact (Nat.zero_add _).symm | ⟨1, _⟩ => exact (Nat.zero_add _).symm | ⟨2, _⟩ => exact (Nat.zero_add _).symm)

/-- The blocks of point `t`. -/
theorem blockRep (D : Nums) (R : KRep D (V m c main_arg0) (V m c main_arg4) (V m c main_arg5) (V m c main_v4) (V m c main_v0) (V m c main_v5) (V m c main_v3) (V m c main_v6))
    (v9 : Vec Ideal S1x64x1 .f32) (h9 : v9 = iblk m c 8 t) (v13 : BitVec 1) (h13 : v13 = if t.val % 64 = 63 then 1#1 else 0#1) :
    BlockRep v9 v13 (iblk m c 0 t) (iblk m c 1 t) (iblk m c 2 t) (iblk m c 3 t) (iblk m c 4 t) (iblk m c 5 t) (iblk m c 6 t) (iblk m c 7 t) (iblk m c 9 t)
      D.par D.tok t.val := by
  subst h9
  refine ⟨fun r j => ?_, fun r j => ?_, fun r j => ?_, fun r j => ?_, fun r j => ?_, fun r j => ?_, fun r j hr => ?_, fun j => ?_,
    fun j => ?_, fun j => ?_, fun j => ?_, fun j => ?_⟩
  · rw [tok_pt, blk_7, blk_8]; exact R.g _ _ _
  · rw [tok_pt, blk_0]; exact R.x _ _ _
  · rw [tok_pt, blk_1]; exact R.xt _ _ _
  · rw [tok_pt, blk_2]; exact R.uf _ _ _
  · rw [tok_pt, blk_3]; exact R.ur _ _ _
  · rw [tok_pt, blk_4]; exact R.c _ _ _
  · have h1 := tok_pt D j t ⟨r + 1, by omega⟩
    have h2 := tok_pt D j t ⟨r, by omega⟩
    dsimp only at h1 h2
    rw [h1, h2]
    show D.cprev (ptSeq t) (ptPos t ⟨r + 1, by omega⟩) j = D.c (ptSeq t) (ptPos t ⟨r, by omega⟩) j
    unfold Nums.cprev
    rw [if_neg (by simp only [ptPos]; omega)]
    congr 1
  · have h1 := tok_pt D j t 0
    rw [show 64 * t.val + 63 = 64 * t.val + 63 - (0 : Fin 64).val from rfl, h1]
    show _ = ((D.cprev (ptSeq t) (ptPos t 0) j : ℝ) : EReal)
    unfold Nums.cprev
    by_cases h : t.val % 64 = 63
    · rw [h13, if_pos h, if_pos (by simp only [ptPos]; simp [h])]
      show iblk m c 6 t (ix3 0 0 j) = _
      rw [blk_6]; exact R.c0 _ _
    · rw [h13, if_neg h, if_neg (by simp only [ptPos]; simp; omega)]
      show iblk m c 5 t (ix3 0 7 j) = _
      rw [blk_5 m c t h]; exact R.c _ _ _
  · exact (blk_9 m c t 0 j).trans (R.vf j)
  · exact (blk_9 m c t 1 j).trans (R.vr j)
  · exact (blk_9 m c t 2 j).trans (R.bf j)
  · exact (blk_9 m c t 3 j).trans (R.br j)
end

end Cert.GatesIdeal.Gen
-- ==== Proof.GPoint.lean ====
/- What each case of a grid point leaves in the carried row, the accumulator and the results. -/
module

public import proofs.«01_k».proof.Proof.GLoop2
public import proofs.«01_k».proof.Proof.GBlk
public import Idealize.ShloMosaic.PureOps.Ideal

@[expose] public section

set_option maxRecDepth 16384

noncomputable section

namespace Cert.GatesIdeal.Gen

open Idealize.ShloMosaic hiding ix2 ix3
open Idealize.ShloMosaic.TcCoe Cert.GMath
open Idealize.ShloMosaic.ValueIdx (ix2 ix3)

/-- The sum over eight rows, as the last point takes it of one part of the accumulator. -/
theorem sum8_apply (v : Vec Ideal S1x8x7168 .f32) (j : Fin 7168) : k0_pay3 v (ix2 0 j) = ∑ r : Fin 8, v (ix3 0 r j) := by
  unfold k0_pay3
  dsimp only
  rw [ValueIdx.shapeCast_a_1a_apply]
  refine (Ideal.multiReduction_add_single _ _ _ _ _ _).trans ?_
  refine Finset.sum_congr rfl fun r _ => ?_
  have e : reduces_S8x7168_S7168.lift (ValueIdx.ix1 j) r = ix2 r j := by
    funext a
    refine Fin.ext ?_
    match a with
    | ⟨0, _⟩ => rfl
    | ⟨1, _⟩ => rfl
  rw [e]
  exact ValueIdx.shapeCast_1ab_ab_apply _ _ _ _

theorem coe_sum8 (f : Fin 8 → ℝ) : ∑ r : Fin 8, ((f r : ℝ) : EReal) = ((∑ r : Fin 8, f r : ℝ) : EReal) := by
  simp only [Fin.sum_univ_eight, EReal.coe_add]

variable (m : (ℓ : Loc nD τ sig) → Buf (Elt Ideal) ℓ) (c : Dev nD) (t : Fin cfg0.N)

/-- The iota of the eight rows, and the test for a sequence's first tile. -/
theorem row0 : IsRow kernelRun0_A.sl.v0 := fun r j => by
  unfold kernelRun0_A.sl.v0
  exact iota_single_apply _ _ _ _ _ _
theorem v13_eq : ∀ t : Fin cfg0.N, kernelRun0_A.sl.v13 (grid0.coords t) = if t.val % 64 = 63 then 1#1 else 0#1 :=
  (by decide +kernel : ∀ t : Fin grid0.N, _)

theorem init1 (D : Nums) (R : KRep D (V m c main_arg0) (V m c main_arg4) (V m c main_arg5) (V m c main_v4) (V m c main_v0) (V m c main_v5) (V m c main_v3) (V m c main_v6)) (r : Fin 8) (j : Fin 7168) (G : BufTy.Contents (Elt Ideal) (View.whole cc0_scratch1).ty) :
    (View.whole cc0_scratch1).read (Elt Ideal) ((View.whole cc0_scratch1).writes (Elt Ideal) G (kernelRun0_A.sl.HS1_1 c (ms0_10 t) (hs0_10 t) (iblk m c 10 t))) (ix2 r j)
      = (D.dl (ptSeq t) j : EReal) := by
  unfold kernelRun0_A.sl.HS1_1
  refine (View.read_writes_cons_unit_of_mem (View.whole cc0_scratch1) _ _ _ _ (ix2 r j) (ix2 r j) rfl (fun a => by
    match a with | ⟨0, _⟩ => exact (Nat.zero_add _).symm | ⟨1, _⟩ => exact (Nat.zero_add _).symm)).trans ?_
  unfold k0_pay323
  simp only [shapeCast_self]
  rw [ValueIdx.broadcastTo_1b_ab_apply, ValueIdx.shapeCast_1ab_ab_apply]
  refine (ld_whole (hs0_10 t) (iblk m c 10 t) _ rfl (ix3 0 0 j) (ix3 0 0 j) (fun a => by
    match a with | ⟨0, _⟩ => rfl | ⟨1, _⟩ => rfl | ⟨2, _⟩ => exact (Nat.zero_add _).symm)).trans ?_
  exact (blk_10 m c t j).trans (R.dl _ j)
theorem init2 (q : Fin 4) (r : Fin 8) (j : Fin 7168) (G : BufTy.Contents (Elt Ideal) (View.whole cc0_scratch2).ty) :
    (View.whole cc0_scratch2).read (Elt Ideal) ((View.whole cc0_scratch2).writes (Elt Ideal) G kernelRun0_A.sl.HS2_1) (ix3 q r j)
      = ((0 : ℝ) : EReal) := by
  unfold kernelRun0_A.sl.HS2_1
  refine (View.read_writes_cons_unit_of_mem (View.whole cc0_scratch2) _ _ _ _ (ix3 q r j) (ix3 q r j) rfl (fun a => by
    match a with | ⟨0, _⟩ => exact (Nat.zero_add _).symm | ⟨1, _⟩ => exact (Nat.zero_add _).symm | ⟨2, _⟩ => exact (Nat.zero_add _).symm)).trans ?_
  unfold k0_pay324
  simp only [shapeCast_self]
  exact (Ideal.ofBits_zero_f32).trans (by simp)

/-- Case A's loop: what its contents of the carried row and of the accumulator read as. -/
theorem loopA (D : Nums) (R : KRep D (V m c main_arg0) (V m c main_arg4) (V m c main_arg5) (V m c main_v4) (V m c main_v0) (V m c main_v5) (V m c main_v3) (V m c main_v6))
    (h1 : ∀ j : Fin 7168, D.dl (ptSeq t) j = Dg (D.par j) (D.tok j) (D.lst j) (64 * t.val))
    (hz : t.val = 0) :
    (∀ (r : Fin 8) (j : Fin 7168), (View.whole cc0_scratch1).read (Elt Ideal) ((View.whole cc0_scratch1).writes (Elt Ideal) ((View.whole cc0_scratch1).writes (Elt Ideal) (View.whole cc0_scratch1).junk (kernelRun0_A.sl.HS1_1 c (ms0_10 t) (hs0_10 t) (iblk m c 10 t))) (st_k0_t1 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) kernelRun0_A.sl.v0 (View.readAt (Elt Ideal) (ms0_8 t).view (Rect.unit (s := S1x64x1) ![0, 0, 0] ![1, 64, 1] inb_S1x64x1_S1x64x1_0_0_0).toLoadRect ((hs0_8 t).unread (iblk m c 8 t))) (kernelRun0_A.sl.v13 (grid0.coords t)) ((hs0_0 t).unread (iblk m c 0 t)) ((hs0_1 t).unread (iblk m c 1 t)) ((hs0_2 t).unread (iblk m c 2 t)) ((hs0_3 t).unread (iblk m c 3 t)) ((hs0_4 t).unread (iblk m c 4 t)) ((hs0_5 t).unread (iblk m c 5 t)) ((hs0_6 t).unread (iblk m c 6 t)) ((hs0_7 t).unread (iblk m c 7 t)) ((hs0_9 t).unread (iblk m c 9 t)) (ms0_13 t).view.junk (View.whole cc0_scratch0).junk ((View.whole cc0_scratch1).writes (Elt Ideal) (View.whole cc0_scratch1).junk (kernelRun0_A.sl.HS1_1 c (ms0_10 t) (hs0_10 t) (iblk m c 10 t))) ((View.whole cc0_scratch2).writes (Elt Ideal) (View.whole cc0_scratch2).junk kernelRun0_A.sl.HS2_1) (k0_pay326, k0_pay326, k0_pay326) k0_t1_loop.trips).2.2.2.1) (ix2 r j)
        = (Do (D.par j) (D.tok j) (D.lst j) (64 * t.val + 63) : EReal))
      ∧ (∀ (q : Fin 4) (r : Fin 8) (j : Fin 7168), (View.whole cc0_scratch2).read (Elt Ideal) ((View.whole cc0_scratch2).writes (Elt Ideal) ((View.whole cc0_scratch2).writes (Elt Ideal) (View.whole cc0_scratch2).junk kernelRun0_A.sl.HS2_1) (st_k0_t1 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) kernelRun0_A.sl.v0 (View.readAt (Elt Ideal) (ms0_8 t).view (Rect.unit (s := S1x64x1) ![0, 0, 0] ![1, 64, 1] inb_S1x64x1_S1x64x1_0_0_0).toLoadRect ((hs0_8 t).unread (iblk m c 8 t))) (kernelRun0_A.sl.v13 (grid0.coords t)) ((hs0_0 t).unread (iblk m c 0 t)) ((hs0_1 t).unread (iblk m c 1 t)) ((hs0_2 t).unread (iblk m c 2 t)) ((hs0_3 t).unread (iblk m c 3 t)) ((hs0_4 t).unread (iblk m c 4 t)) ((hs0_5 t).unread (iblk m c 5 t)) ((hs0_6 t).unread (iblk m c 6 t)) ((hs0_7 t).unread (iblk m c 7 t)) ((hs0_9 t).unread (iblk m c 9 t)) (ms0_13 t).view.junk (View.whole cc0_scratch0).junk ((View.whole cc0_scratch1).writes (Elt Ideal) (View.whole cc0_scratch1).junk (kernelRun0_A.sl.HS1_1 c (ms0_10 t) (hs0_10 t) (iblk m c 10 t))) ((View.whole cc0_scratch2).writes (Elt Ideal) (View.whole cc0_scratch2).junk kernelRun0_A.sl.HS2_1) (k0_pay326, k0_pay326, k0_pay326) k0_t1_loop.trips).2.2.2.2) (ix3 q r j)
        = (accS (tAll q (D.par j) (D.tok j) (D.lst j)) (8 * t.val + 8) r.val : EReal)) := by
  have LV := loop_vals Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) kernelRun0_A.sl.v0 (View.readAt (Elt Ideal) (ms0_8 t).view (Rect.unit (s := S1x64x1) ![0, 0, 0] ![1, 64, 1] inb_S1x64x1_S1x64x1_0_0_0).toLoadRect ((hs0_8 t).unread (iblk m c 8 t))) (kernelRun0_A.sl.v13 (grid0.coords t)) (iblk m c 0 t) (iblk m c 1 t) (iblk m c 2 t) (iblk m c 3 t) (iblk m c 4 t) (iblk m c 5 t) (iblk m c 6 t) (iblk m c 7 t) (iblk m c 9 t) row0 D.par D.tok D.lst t.val
    (blockRep m c t D R _ (scales_ld m c t) _ (v13_eq t)) (ms0_13 t).view.junk (View.whole cc0_scratch0).junk ((View.whole cc0_scratch1).writes (Elt Ideal) (View.whole cc0_scratch1).junk (kernelRun0_A.sl.HS1_1 c (ms0_10 t) (hs0_10 t) (iblk m c 10 t))) ((View.whole cc0_scratch2).writes (Elt Ideal) (View.whole cc0_scratch2).junk kernelRun0_A.sl.HS2_1) (k0_pay326, k0_pay326, k0_pay326)
    (fun r j => by
      rw [← h1 j]; exact init1 m c t D R r j _)
    (fun q r j => by
      rw [hz]; exact (init2 q r j _).trans (by simp [accS]))
    k0_t1_loop.trips le_rfl
  have hj : ∀ j : Fin 7168, j.val < 256 * k0_t1_loop.trips := fun j => by rw [trips_eq]; have := j.isLt; omega
  refine ⟨fun r j => ?_, fun q r j => ?_⟩
  · exact (LV.1 r j).trans (by rw [if_pos (hj j)])
  · exact (LV.2 q r j).trans (by rw [if_pos (hj j)])

theorem valsA (h : conds0_A (grid0.coords t)) (D : Nums) (R : KRep D (V m c main_arg0) (V m c main_arg4) (V m c main_arg5) (V m c main_v4) (V m c main_v0) (V m c main_v5) (V m c main_v3) (V m c main_v6))
    (h1 : ∀ j : Fin 7168, D.dl (ptSeq t) j = Dg (D.par j) (D.tok j) (D.lst j) (64 * t.val))
    (hz : t.val = 0) :
    (∀ (r : Fin 8) (j : Fin 7168), (outsA m c t h).2.2.2.2.2.1 (ix2 r j) = (Do (D.par j) (D.tok j) (D.lst j) (64 * t.val + 63) : EReal))
      ∧ (∀ (q : Fin 4) (r : Fin 8) (j : Fin 7168), (outsA m c t h).2.2.2.2.2.2 (ix3 q r j)
        = (accS (tAll q (D.par j) (D.tok j) (D.lst j)) (8 * t.val + 8) r.val : EReal)) := by
  have LV := loopA m c t D R h1 hz
  refine ⟨fun r j => ?_, fun q r j => ?_⟩
  · show VS0_1.read (Elt Ideal) (VS0_1.writes (Elt Ideal) VS0_1.junk (runA m c t h).2.2.2.2.2.1) (ix2 r j) = _
    have e : (runA m c t h).2.2.2.2.2.1 = (st_k0_t1 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) kernelRun0_A.sl.v0 (View.readAt (Elt Ideal) (ms0_8 t).view (Rect.unit (s := S1x64x1) ![0, 0, 0] ![1, 64, 1] inb_S1x64x1_S1x64x1_0_0_0).toLoadRect ((hs0_8 t).unread (iblk m c 8 t))) (kernelRun0_A.sl.v13 (grid0.coords t)) ((hs0_0 t).unread (iblk m c 0 t)) ((hs0_1 t).unread (iblk m c 1 t)) ((hs0_2 t).unread (iblk m c 2 t)) ((hs0_3 t).unread (iblk m c 3 t)) ((hs0_4 t).unread (iblk m c 4 t)) ((hs0_5 t).unread (iblk m c 5 t)) ((hs0_6 t).unread (iblk m c 6 t)) ((hs0_7 t).unread (iblk m c 7 t)) ((hs0_9 t).unread (iblk m c 9 t)) (ms0_13 t).view.junk (View.whole cc0_scratch0).junk ((View.whole cc0_scratch1).writes (Elt Ideal) (View.whole cc0_scratch1).junk (kernelRun0_A.sl.HS1_1 c (ms0_10 t) (hs0_10 t) (iblk m c 10 t))) ((View.whole cc0_scratch2).writes (Elt Ideal) (View.whole cc0_scratch2).junk kernelRun0_A.sl.HS2_1) (k0_pay326, k0_pay326, k0_pay326) k0_t1_loop.trips).2.2.2.1 ++ kernelRun0_A.sl.HS1_1 c (ms0_10 t) (hs0_10 t) (iblk m c 10 t) := rfl
    rw [e, View.writes_append]
    exact LV.1 r j
  · show VS0_2.read (Elt Ideal) (VS0_2.writes (Elt Ideal) VS0_2.junk (runA m c t h).2.2.2.2.2.2.1) (ix3 q r j) = _
    have e : (runA m c t h).2.2.2.2.2.2.1 = (st_k0_t1 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) kernelRun0_A.sl.v0 (View.readAt (Elt Ideal) (ms0_8 t).view (Rect.unit (s := S1x64x1) ![0, 0, 0] ![1, 64, 1] inb_S1x64x1_S1x64x1_0_0_0).toLoadRect ((hs0_8 t).unread (iblk m c 8 t))) (kernelRun0_A.sl.v13 (grid0.coords t)) ((hs0_0 t).unread (iblk m c 0 t)) ((hs0_1 t).unread (iblk m c 1 t)) ((hs0_2 t).unread (iblk m c 2 t)) ((hs0_3 t).unread (iblk m c 3 t)) ((hs0_4 t).unread (iblk m c 4 t)) ((hs0_5 t).unread (iblk m c 5 t)) ((hs0_6 t).unread (iblk m c 6 t)) ((hs0_7 t).unread (iblk m c 7 t)) ((hs0_9 t).unread (iblk m c 9 t)) (ms0_13 t).view.junk (View.whole cc0_scratch0).junk ((View.whole cc0_scratch1).writes (Elt Ideal) (View.whole cc0_scratch1).junk (kernelRun0_A.sl.HS1_1 c (ms0_10 t) (hs0_10 t) (iblk m c 10 t))) ((View.whole cc0_scratch2).writes (Elt Ideal) (View.whole cc0_scratch2).junk kernelRun0_A.sl.HS2_1) (k0_pay326, k0_pay326, k0_pay326) k0_t1_loop.trips).2.2.2.2 ++ kernelRun0_A.sl.HS2_1 := rfl
    rw [e, View.writes_append]
    exact LV.2 q r j

/-- Case B's loop: what its contents of the carried row and of the accumulator read as. -/
theorem loopB (D : Nums) (R : KRep D (V m c main_arg0) (V m c main_arg4) (V m c main_arg5) (V m c main_v4) (V m c main_v0) (V m c main_v5) (V m c main_v3) (V m c main_v6)) (xs1 : Vec Ideal S8x7168 .f32) (xs2 : Vec Ideal S4x8x7168 .f32)
    (h1 : ∀ (r : Fin 8) (j : Fin 7168), xs1 (ix2 r j) = (Dg (D.par j) (D.tok j) (D.lst j) (64 * t.val) : EReal))
    (h2 : ∀ (q : Fin 4) (r : Fin 8) (j : Fin 7168), xs2 (ix3 q r j) = (accS (tAll q (D.par j) (D.tok j) (D.lst j)) (8 * t.val) r.val : EReal)) :
    (∀ (r : Fin 8) (j : Fin 7168), (View.whole cc0_scratch1).read (Elt Ideal) ((View.whole cc0_scratch1).writes (Elt Ideal) ((Memref.isWhole_whole _).unread xs1) (st_k0_t1 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) kernelRun0_A.sl.v0 (View.readAt (Elt Ideal) (ms0_8 t).view (Rect.unit (s := S1x64x1) ![0, 0, 0] ![1, 64, 1] inb_S1x64x1_S1x64x1_0_0_0).toLoadRect ((hs0_8 t).unread (iblk m c 8 t))) (kernelRun0_A.sl.v13 (grid0.coords t)) ((hs0_0 t).unread (iblk m c 0 t)) ((hs0_1 t).unread (iblk m c 1 t)) ((hs0_2 t).unread (iblk m c 2 t)) ((hs0_3 t).unread (iblk m c 3 t)) ((hs0_4 t).unread (iblk m c 4 t)) ((hs0_5 t).unread (iblk m c 5 t)) ((hs0_6 t).unread (iblk m c 6 t)) ((hs0_7 t).unread (iblk m c 7 t)) ((hs0_9 t).unread (iblk m c 9 t)) (ms0_13 t).view.junk (View.whole cc0_scratch0).junk ((Memref.isWhole_whole _).unread xs1) ((Memref.isWhole_whole _).unread xs2) (k0_pay326, k0_pay326, k0_pay326) k0_t1_loop.trips).2.2.2.1) (ix2 r j)
        = (Do (D.par j) (D.tok j) (D.lst j) (64 * t.val + 63) : EReal))
      ∧ (∀ (q : Fin 4) (r : Fin 8) (j : Fin 7168), (View.whole cc0_scratch2).read (Elt Ideal) ((View.whole cc0_scratch2).writes (Elt Ideal) ((Memref.isWhole_whole _).unread xs2) (st_k0_t1 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) kernelRun0_A.sl.v0 (View.readAt (Elt Ideal) (ms0_8 t).view (Rect.unit (s := S1x64x1) ![0, 0, 0] ![1, 64, 1] inb_S1x64x1_S1x64x1_0_0_0).toLoadRect ((hs0_8 t).unread (iblk m c 8 t))) (kernelRun0_A.sl.v13 (grid0.coords t)) ((hs0_0 t).unread (iblk m c 0 t)) ((hs0_1 t).unread (iblk m c 1 t)) ((hs0_2 t).unread (iblk m c 2 t)) ((hs0_3 t).unread (iblk m c 3 t)) ((hs0_4 t).unread (iblk m c 4 t)) ((hs0_5 t).unread (iblk m c 5 t)) ((hs0_6 t).unread (iblk m c 6 t)) ((hs0_7 t).unread (iblk m c 7 t)) ((hs0_9 t).unread (iblk m c 9 t)) (ms0_13 t).view.junk (View.whole cc0_scratch0).junk ((Memref.isWhole_whole _).unread xs1) ((Memref.isWhole_whole _).unread xs2) (k0_pay326, k0_pay326, k0_pay326) k0_t1_loop.trips).2.2.2.2) (ix3 q r j)
        = (accS (tAll q (D.par j) (D.tok j) (D.lst j)) (8 * t.val + 8) r.val : EReal)) := by
  have LV := loop_vals Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) kernelRun0_A.sl.v0 (View.readAt (Elt Ideal) (ms0_8 t).view (Rect.unit (s := S1x64x1) ![0, 0, 0] ![1, 64, 1] inb_S1x64x1_S1x64x1_0_0_0).toLoadRect ((hs0_8 t).unread (iblk m c 8 t))) (kernelRun0_A.sl.v13 (grid0.coords t)) (iblk m c 0 t) (iblk m c 1 t) (iblk m c 2 t) (iblk m c 3 t) (iblk m c 4 t) (iblk m c 5 t) (iblk m c 6 t) (iblk m c 7 t) (iblk m c 9 t) row0 D.par D.tok D.lst t.val
    (blockRep m c t D R _ (scales_ld m c t) _ (v13_eq t)) (ms0_13 t).view.junk (View.whole cc0_scratch0).junk ((Memref.isWhole_whole _).unread xs1) ((Memref.isWhole_whole _).unread xs2) (k0_pay326, k0_pay326, k0_pay326)
    (fun r j => by
      exact (congrFun ((Memref.isWhole_whole cc0_scratch1).read_unread xs1) (ix2 r j)).trans (h1 r j))
    (fun q r j => by
      exact (congrFun ((Memref.isWhole_whole cc0_scratch2).read_unread xs2) (ix3 q r j)).trans (h2 q r j))
    k0_t1_loop.trips le_rfl
  have hj : ∀ j : Fin 7168, j.val < 256 * k0_t1_loop.trips := fun j => by rw [trips_eq]; have := j.isLt; omega
  refine ⟨fun r j => ?_, fun q r j => ?_⟩
  · exact (LV.1 r j).trans (by rw [if_pos (hj j)])
  · exact (LV.2 q r j).trans (by rw [if_pos (hj j)])

theorem valsB (h : conds0_B (grid0.coords t)) (D : Nums) (R : KRep D (V m c main_arg0) (V m c main_arg4) (V m c main_arg5) (V m c main_v4) (V m c main_v0) (V m c main_v5) (V m c main_v3) (V m c main_v6)) (xs1 : Vec Ideal S8x7168 .f32) (xs2 : Vec Ideal S4x8x7168 .f32)
    (h1 : ∀ (r : Fin 8) (j : Fin 7168), xs1 (ix2 r j) = (Dg (D.par j) (D.tok j) (D.lst j) (64 * t.val) : EReal))
    (h2 : ∀ (q : Fin 4) (r : Fin 8) (j : Fin 7168), xs2 (ix3 q r j) = (accS (tAll q (D.par j) (D.tok j) (D.lst j)) (8 * t.val) r.val : EReal)) :
    (∀ (r : Fin 8) (j : Fin 7168), (outsB m c t h xs1 xs2).2.2.2.2.2.1 (ix2 r j) = (Do (D.par j) (D.tok j) (D.lst j) (64 * t.val + 63) : EReal))
      ∧ (∀ (q : Fin 4) (r : Fin 8) (j : Fin 7168), (outsB m c t h xs1 xs2).2.2.2.2.2.2 (ix3 q r j)
        = (accS (tAll q (D.par j) (D.tok j) (D.lst j)) (8 * t.val + 8) r.val : EReal)) := by
  have LV := loopB m c t D R xs1 xs2 h1 h2
  refine ⟨fun r j => ?_, fun q r j => ?_⟩
  · show VS0_1.read (Elt Ideal) (VS0_1.writes (Elt Ideal) VS0_1.junk (runB m c t h xs1 xs2).2.2.2.2.2.1) (ix2 r j) = _
    rw [View.read_writes_of_cover VS0_1 _ VS0_1 ((Memref.isWhole_whole _).unread xs1) _ (covB_s1 m c t h xs1 xs2)]
    exact LV.1 r j
  · show VS0_2.read (Elt Ideal) (VS0_2.writes (Elt Ideal) VS0_2.junk (runB m c t h xs1 xs2).2.2.2.2.2.2.1) (ix3 q r j) = _
    rw [View.read_writes_of_cover VS0_2 _ VS0_2 ((Memref.isWhole_whole _).unread xs2) _ (covB_s2 m c t h xs1 xs2)]
    exact LV.2 q r j

/-- Case C's loop: what its contents of the carried row and of the accumulator read as. -/
theorem loopC (D : Nums) (R : KRep D (V m c main_arg0) (V m c main_arg4) (V m c main_arg5) (V m c main_v4) (V m c main_v0) (V m c main_v5) (V m c main_v3) (V m c main_v6)) (xs1 : Vec Ideal S8x7168 .f32) (xs2 : Vec Ideal S4x8x7168 .f32)
    (h1 : ∀ (r : Fin 8) (j : Fin 7168), xs1 (ix2 r j) = (Dg (D.par j) (D.tok j) (D.lst j) (64 * t.val) : EReal))
    (h2 : ∀ (q : Fin 4) (r : Fin 8) (j : Fin 7168), xs2 (ix3 q r j) = (accS (tAll q (D.par j) (D.tok j) (D.lst j)) (8 * t.val) r.val : EReal)) :
    (∀ (r : Fin 8) (j : Fin 7168), (View.whole cc0_scratch1).read (Elt Ideal) ((View.whole cc0_scratch1).writes (Elt Ideal) ((Memref.isWhole_whole _).unread xs1) (st_k0_t1 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) kernelRun0_A.sl.v0 (View.readAt (Elt Ideal) (ms0_8 t).view (Rect.unit (s := S1x64x1) ![0, 0, 0] ![1, 64, 1] inb_S1x64x1_S1x64x1_0_0_0).toLoadRect ((hs0_8 t).unread (iblk m c 8 t))) (kernelRun0_A.sl.v13 (grid0.coords t)) ((hs0_0 t).unread (iblk m c 0 t)) ((hs0_1 t).unread (iblk m c 1 t)) ((hs0_2 t).unread (iblk m c 2 t)) ((hs0_3 t).unread (iblk m c 3 t)) ((hs0_4 t).unread (iblk m c 4 t)) ((hs0_5 t).unread (iblk m c 5 t)) ((hs0_6 t).unread (iblk m c 6 t)) ((hs0_7 t).unread (iblk m c 7 t)) ((hs0_9 t).unread (iblk m c 9 t)) (ms0_13 t).view.junk (View.whole cc0_scratch0).junk ((Memref.isWhole_whole _).unread xs1) ((Memref.isWhole_whole _).unread xs2) (k0_pay326, k0_pay326, k0_pay326) k0_t1_loop.trips).2.2.2.1) (ix2 r j)
        = (Do (D.par j) (D.tok j) (D.lst j) (64 * t.val + 63) : EReal))
      ∧ (∀ (q : Fin 4) (r : Fin 8) (j : Fin 7168), (View.whole cc0_scratch2).read (Elt Ideal) ((View.whole cc0_scratch2).writes (Elt Ideal) ((Memref.isWhole_whole _).unread xs2) (st_k0_t1 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) kernelRun0_A.sl.v0 (View.readAt (Elt Ideal) (ms0_8 t).view (Rect.unit (s := S1x64x1) ![0, 0, 0] ![1, 64, 1] inb_S1x64x1_S1x64x1_0_0_0).toLoadRect ((hs0_8 t).unread (iblk m c 8 t))) (kernelRun0_A.sl.v13 (grid0.coords t)) ((hs0_0 t).unread (iblk m c 0 t)) ((hs0_1 t).unread (iblk m c 1 t)) ((hs0_2 t).unread (iblk m c 2 t)) ((hs0_3 t).unread (iblk m c 3 t)) ((hs0_4 t).unread (iblk m c 4 t)) ((hs0_5 t).unread (iblk m c 5 t)) ((hs0_6 t).unread (iblk m c 6 t)) ((hs0_7 t).unread (iblk m c 7 t)) ((hs0_9 t).unread (iblk m c 9 t)) (ms0_13 t).view.junk (View.whole cc0_scratch0).junk ((Memref.isWhole_whole _).unread xs1) ((Memref.isWhole_whole _).unread xs2) (k0_pay326, k0_pay326, k0_pay326) k0_t1_loop.trips).2.2.2.2) (ix3 q r j)
        = (accS (tAll q (D.par j) (D.tok j) (D.lst j)) (8 * t.val + 8) r.val : EReal)) := by
  have LV := loop_vals Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) kernelRun0_A.sl.v0 (View.readAt (Elt Ideal) (ms0_8 t).view (Rect.unit (s := S1x64x1) ![0, 0, 0] ![1, 64, 1] inb_S1x64x1_S1x64x1_0_0_0).toLoadRect ((hs0_8 t).unread (iblk m c 8 t))) (kernelRun0_A.sl.v13 (grid0.coords t)) (iblk m c 0 t) (iblk m c 1 t) (iblk m c 2 t) (iblk m c 3 t) (iblk m c 4 t) (iblk m c 5 t) (iblk m c 6 t) (iblk m c 7 t) (iblk m c 9 t) row0 D.par D.tok D.lst t.val
    (blockRep m c t D R _ (scales_ld m c t) _ (v13_eq t)) (ms0_13 t).view.junk (View.whole cc0_scratch0).junk ((Memref.isWhole_whole _).unread xs1) ((Memref.isWhole_whole _).unread xs2) (k0_pay326, k0_pay326, k0_pay326)
    (fun r j => by
      exact (congrFun ((Memref.isWhole_whole cc0_scratch1).read_unread xs1) (ix2 r j)).trans (h1 r j))
    (fun q r j => by
      exact (congrFun ((Memref.isWhole_whole cc0_scratch2).read_unread xs2) (ix3 q r j)).trans (h2 q r j))
    k0_t1_loop.trips le_rfl
  have hj : ∀ j : Fin 7168, j.val < 256 * k0_t1_loop.trips := fun j => by rw [trips_eq]; have := j.isLt; omega
  refine ⟨fun r j => ?_, fun q r j => ?_⟩
  · exact (LV.1 r j).trans (by rw [if_pos (hj j)])
  · exact (LV.2 q r j).trans (by rw [if_pos (hj j)])

theorem valsC (h : conds0_C (grid0.coords t)) (D : Nums) (R : KRep D (V m c main_arg0) (V m c main_arg4) (V m c main_arg5) (V m c main_v4) (V m c main_v0) (V m c main_v5) (V m c main_v3) (V m c main_v6)) (xs1 : Vec Ideal S8x7168 .f32) (xs2 : Vec Ideal S4x8x7168 .f32)
    (h1 : ∀ (r : Fin 8) (j : Fin 7168), xs1 (ix2 r j) = (Dg (D.par j) (D.tok j) (D.lst j) (64 * t.val) : EReal))
    (h2 : ∀ (q : Fin 4) (r : Fin 8) (j : Fin 7168), xs2 (ix3 q r j) = (accS (tAll q (D.par j) (D.tok j) (D.lst j)) (8 * t.val) r.val : EReal)) :
    (∀ (r : Fin 8) (j : Fin 7168), (outsC m c t h xs1 xs2).2.2.2.2.2.1 (ix2 r j) = (Do (D.par j) (D.tok j) (D.lst j) (64 * t.val + 63) : EReal))
      ∧ (∀ (q : Fin 4) (r : Fin 8) (j : Fin 7168), (outsC m c t h xs1 xs2).2.2.2.2.2.2 (ix3 q r j)
        = (accS (tAll q (D.par j) (D.tok j) (D.lst j)) (8 * t.val + 8) r.val : EReal)) := by
  have LV := loopC m c t D R xs1 xs2 h1 h2
  refine ⟨fun r j => ?_, fun q r j => ?_⟩
  · show VS0_1.read (Elt Ideal) (VS0_1.writes (Elt Ideal) VS0_1.junk (runC m c t h xs1 xs2).2.2.2.2.2.1) (ix2 r j) = _
    rw [View.read_writes_of_cover VS0_1 _ VS0_1 ((Memref.isWhole_whole _).unread xs1) _ (covC_s1 m c t h xs1 xs2)]
    exact LV.1 r j
  · show VS0_2.read (Elt Ideal) (VS0_2.writes (Elt Ideal) VS0_2.junk (runC m c t h xs1 xs2).2.2.2.2.2.2.1) (ix3 q r j) = _
    rw [View.read_writes_of_cover VS0_2 _ VS0_2 ((Memref.isWhole_whole _).unread xs2) _ (covC_s2 m c t h xs1 xs2)]
    exact LV.2 q r j

theorem dc0C (h : conds0_C (grid0.coords t)) (D : Nums) (R : KRep D (V m c main_arg0) (V m c main_arg4) (V m c main_arg5) (V m c main_v4) (V m c main_v0) (V m c main_v5) (V m c main_v3) (V m c main_v6)) (xs1 : Vec Ideal S8x7168 .f32) (xs2 : Vec Ideal S4x8x7168 .f32)
    (h1 : ∀ (r : Fin 8) (j : Fin 7168), xs1 (ix2 r j) = (Dg (D.par j) (D.tok j) (D.lst j) (64 * t.val) : EReal))
    (h2 : ∀ (q : Fin 4) (r : Fin 8) (j : Fin 7168), xs2 (ix3 q r j) = (accS (tAll q (D.par j) (D.tok j) (D.lst j)) (8 * t.val) r.val : EReal)) (j : Fin 7168) :
    (outsC m c t h xs1 xs2).2.2.2.1 (ix3 0 0 j) = (Do (D.par j) (D.tok j) (D.lst j) (64 * t.val + 63) : EReal) := by
  have LV := loopC m c t D R xs1 xs2 h1 h2
  unfold outsC
  dsimp only
  have e : (runC m c t h xs1 xs2).2.2.2.1 = [⟨Rect.unit ![0, 0, 0] ![1, 1, 7168] inb_S1x1x7168_S1x1x7168_0_0_0,
      k0_pay2 (View.readAt (Elt Ideal) (View.whole cc0_scratch1) (Rect.unit ![0, 0] ![1, 7168] inb_S8x7168_S1x7168_0_0).toLoadRect
        ((View.whole cc0_scratch1).writes (Elt Ideal) ((Memref.isWhole_whole _).unread xs1) (st_k0_t1 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) kernelRun0_A.sl.v0 (View.readAt (Elt Ideal) (ms0_8 t).view (Rect.unit (s := S1x64x1) ![0, 0, 0] ![1, 64, 1] inb_S1x64x1_S1x64x1_0_0_0).toLoadRect ((hs0_8 t).unread (iblk m c 8 t))) (kernelRun0_A.sl.v13 (grid0.coords t)) ((hs0_0 t).unread (iblk m c 0 t)) ((hs0_1 t).unread (iblk m c 1 t)) ((hs0_2 t).unread (iblk m c 2 t)) ((hs0_3 t).unread (iblk m c 3 t)) ((hs0_4 t).unread (iblk m c 4 t)) ((hs0_5 t).unread (iblk m c 5 t)) ((hs0_6 t).unread (iblk m c 6 t)) ((hs0_7 t).unread (iblk m c 7 t)) ((hs0_9 t).unread (iblk m c 9 t)) (ms0_13 t).view.junk (View.whole cc0_scratch0).junk ((Memref.isWhole_whole _).unread xs1) ((Memref.isWhole_whole _).unread xs2) (k0_pay326, k0_pay326, k0_pay326) k0_t1_loop.trips).2.2.2.1))⟩] := rfl
  rw [e]
  refine (View.read_writes_cons_unit_of_mem VO0_14 _ _ _ _ (ix3 0 0 j) (ix3 0 0 j) rfl (fun a => by
    match a with | ⟨0, _⟩ => rfl | ⟨1, _⟩ => rfl | ⟨2, _⟩ => exact (Nat.zero_add _).symm)).trans ?_
  unfold k0_pay2
  rw [ValueIdx.shapeCast_ab_1ab_apply]
  refine (ld_any (View.whole cc0_scratch1) _ _ rfl (ix2 0 j) (ix2 0 j) (fun a => by
    match a with | ⟨0, _⟩ => rfl | ⟨1, _⟩ => exact (Nat.zero_add _).symm)).trans ?_
  exact LV.1 0 j

/-- Case D's loop: what its contents of the carried row and of the accumulator read as. -/
theorem loopD (D : Nums) (R : KRep D (V m c main_arg0) (V m c main_arg4) (V m c main_arg5) (V m c main_v4) (V m c main_v0) (V m c main_v5) (V m c main_v3) (V m c main_v6)) (xs1 : Vec Ideal S8x7168 .f32) (xs2 : Vec Ideal S4x8x7168 .f32)
    (h1 : ∀ j : Fin 7168, D.dl (ptSeq t) j = Dg (D.par j) (D.tok j) (D.lst j) (64 * t.val))
    (h2 : ∀ (q : Fin 4) (r : Fin 8) (j : Fin 7168), xs2 (ix3 q r j) = (accS (tAll q (D.par j) (D.tok j) (D.lst j)) (8 * t.val) r.val : EReal)) :
    (∀ (r : Fin 8) (j : Fin 7168), (View.whole cc0_scratch1).read (Elt Ideal) ((View.whole cc0_scratch1).writes (Elt Ideal) ((View.whole cc0_scratch1).writes (Elt Ideal) (View.whole cc0_scratch1).junk (kernelRun0_D.sl.HS1_1 c (ms0_10 t) (hs0_10 t) (iblk m c 10 t))) (st_k0_t1 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) kernelRun0_A.sl.v0 (View.readAt (Elt Ideal) (ms0_8 t).view (Rect.unit (s := S1x64x1) ![0, 0, 0] ![1, 64, 1] inb_S1x64x1_S1x64x1_0_0_0).toLoadRect ((hs0_8 t).unread (iblk m c 8 t))) (kernelRun0_A.sl.v13 (grid0.coords t)) ((hs0_0 t).unread (iblk m c 0 t)) ((hs0_1 t).unread (iblk m c 1 t)) ((hs0_2 t).unread (iblk m c 2 t)) ((hs0_3 t).unread (iblk m c 3 t)) ((hs0_4 t).unread (iblk m c 4 t)) ((hs0_5 t).unread (iblk m c 5 t)) ((hs0_6 t).unread (iblk m c 6 t)) ((hs0_7 t).unread (iblk m c 7 t)) ((hs0_9 t).unread (iblk m c 9 t)) (ms0_13 t).view.junk (View.whole cc0_scratch0).junk ((View.whole cc0_scratch1).writes (Elt Ideal) (View.whole cc0_scratch1).junk (kernelRun0_D.sl.HS1_1 c (ms0_10 t) (hs0_10 t) (iblk m c 10 t))) ((Memref.isWhole_whole _).unread xs2) (k0_pay326, k0_pay326, k0_pay326) k0_t1_loop.trips).2.2.2.1) (ix2 r j)
        = (Do (D.par j) (D.tok j) (D.lst j) (64 * t.val + 63) : EReal))
      ∧ (∀ (q : Fin 4) (r : Fin 8) (j : Fin 7168), (View.whole cc0_scratch2).read (Elt Ideal) ((View.whole cc0_scratch2).writes (Elt Ideal) ((Memref.isWhole_whole _).unread xs2) (st_k0_t1 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) kernelRun0_A.sl.v0 (View.readAt (Elt Ideal) (ms0_8 t).view (Rect.unit (s := S1x64x1) ![0, 0, 0] ![1, 64, 1] inb_S1x64x1_S1x64x1_0_0_0).toLoadRect ((hs0_8 t).unread (iblk m c 8 t))) (kernelRun0_A.sl.v13 (grid0.coords t)) ((hs0_0 t).unread (iblk m c 0 t)) ((hs0_1 t).unread (iblk m c 1 t)) ((hs0_2 t).unread (iblk m c 2 t)) ((hs0_3 t).unread (iblk m c 3 t)) ((hs0_4 t).unread (iblk m c 4 t)) ((hs0_5 t).unread (iblk m c 5 t)) ((hs0_6 t).unread (iblk m c 6 t)) ((hs0_7 t).unread (iblk m c 7 t)) ((hs0_9 t).unread (iblk m c 9 t)) (ms0_13 t).view.junk (View.whole cc0_scratch0).junk ((View.whole cc0_scratch1).writes (Elt Ideal) (View.whole cc0_scratch1).junk (kernelRun0_D.sl.HS1_1 c (ms0_10 t) (hs0_10 t) (iblk m c 10 t))) ((Memref.isWhole_whole _).unread xs2) (k0_pay326, k0_pay326, k0_pay326) k0_t1_loop.trips).2.2.2.2) (ix3 q r j)
        = (accS (tAll q (D.par j) (D.tok j) (D.lst j)) (8 * t.val + 8) r.val : EReal)) := by
  have LV := loop_vals Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) kernelRun0_A.sl.v0 (View.readAt (Elt Ideal) (ms0_8 t).view (Rect.unit (s := S1x64x1) ![0, 0, 0] ![1, 64, 1] inb_S1x64x1_S1x64x1_0_0_0).toLoadRect ((hs0_8 t).unread (iblk m c 8 t))) (kernelRun0_A.sl.v13 (grid0.coords t)) (iblk m c 0 t) (iblk m c 1 t) (iblk m c 2 t) (iblk m c 3 t) (iblk m c 4 t) (iblk m c 5 t) (iblk m c 6 t) (iblk m c 7 t) (iblk m c 9 t) row0 D.par D.tok D.lst t.val
    (blockRep m c t D R _ (scales_ld m c t) _ (v13_eq t)) (ms0_13 t).view.junk (View.whole cc0_scratch0).junk ((View.whole cc0_scratch1).writes (Elt Ideal) (View.whole cc0_scratch1).junk (kernelRun0_D.sl.HS1_1 c (ms0_10 t) (hs0_10 t) (iblk m c 10 t))) ((Memref.isWhole_whole _).unread xs2) (k0_pay326, k0_pay326, k0_pay326)
    (fun r j => by
      rw [← h1 j]; exact init1 m c t D R r j _)
    (fun q r j => by
      exact (congrFun ((Memref.isWhole_whole cc0_scratch2).read_unread xs2) (ix3 q r j)).trans (h2 q r j))
    k0_t1_loop.trips le_rfl
  have hj : ∀ j : Fin 7168, j.val < 256 * k0_t1_loop.trips := fun j => by rw [trips_eq]; have := j.isLt; omega
  refine ⟨fun r j => ?_, fun q r j => ?_⟩
  · exact (LV.1 r j).trans (by rw [if_pos (hj j)])
  · exact (LV.2 q r j).trans (by rw [if_pos (hj j)])

theorem valsD (h : conds0_D (grid0.coords t)) (D : Nums) (R : KRep D (V m c main_arg0) (V m c main_arg4) (V m c main_arg5) (V m c main_v4) (V m c main_v0) (V m c main_v5) (V m c main_v3) (V m c main_v6)) (xs1 : Vec Ideal S8x7168 .f32) (xs2 : Vec Ideal S4x8x7168 .f32)
    (h1 : ∀ j : Fin 7168, D.dl (ptSeq t) j = Dg (D.par j) (D.tok j) (D.lst j) (64 * t.val))
    (h2 : ∀ (q : Fin 4) (r : Fin 8) (j : Fin 7168), xs2 (ix3 q r j) = (accS (tAll q (D.par j) (D.tok j) (D.lst j)) (8 * t.val) r.val : EReal)) :
    (∀ (r : Fin 8) (j : Fin 7168), (outsD m c t h xs1 xs2).2.2.2.2.2.1 (ix2 r j) = (Do (D.par j) (D.tok j) (D.lst j) (64 * t.val + 63) : EReal))
      ∧ (∀ (q : Fin 4) (r : Fin 8) (j : Fin 7168), (outsD m c t h xs1 xs2).2.2.2.2.2.2 (ix3 q r j)
        = (accS (tAll q (D.par j) (D.tok j) (D.lst j)) (8 * t.val + 8) r.val : EReal)) := by
  have LV := loopD m c t D R xs1 xs2 h1 h2
  refine ⟨fun r j => ?_, fun q r j => ?_⟩
  · show VS0_1.read (Elt Ideal) (VS0_1.writes (Elt Ideal) VS0_1.junk (runD m c t h xs1 xs2).2.2.2.2.2.1) (ix2 r j) = _
    have e : (runD m c t h xs1 xs2).2.2.2.2.2.1 = (st_k0_t1 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) kernelRun0_A.sl.v0 (View.readAt (Elt Ideal) (ms0_8 t).view (Rect.unit (s := S1x64x1) ![0, 0, 0] ![1, 64, 1] inb_S1x64x1_S1x64x1_0_0_0).toLoadRect ((hs0_8 t).unread (iblk m c 8 t))) (kernelRun0_A.sl.v13 (grid0.coords t)) ((hs0_0 t).unread (iblk m c 0 t)) ((hs0_1 t).unread (iblk m c 1 t)) ((hs0_2 t).unread (iblk m c 2 t)) ((hs0_3 t).unread (iblk m c 3 t)) ((hs0_4 t).unread (iblk m c 4 t)) ((hs0_5 t).unread (iblk m c 5 t)) ((hs0_6 t).unread (iblk m c 6 t)) ((hs0_7 t).unread (iblk m c 7 t)) ((hs0_9 t).unread (iblk m c 9 t)) (ms0_13 t).view.junk (View.whole cc0_scratch0).junk ((View.whole cc0_scratch1).writes (Elt Ideal) (View.whole cc0_scratch1).junk (kernelRun0_D.sl.HS1_1 c (ms0_10 t) (hs0_10 t) (iblk m c 10 t))) ((Memref.isWhole_whole _).unread xs2) (k0_pay326, k0_pay326, k0_pay326) k0_t1_loop.trips).2.2.2.1 ++ kernelRun0_D.sl.HS1_1 c (ms0_10 t) (hs0_10 t) (iblk m c 10 t) := rfl
    rw [e, View.writes_append]
    exact LV.1 r j
  · show VS0_2.read (Elt Ideal) (VS0_2.writes (Elt Ideal) VS0_2.junk (runD m c t h xs1 xs2).2.2.2.2.2.2.1) (ix3 q r j) = _
    rw [View.read_writes_of_cover VS0_2 _ VS0_2 ((Memref.isWhole_whole _).unread xs2) _ (covD_s2 m c t h xs1 xs2)]
    exact LV.2 q r j

/-- Case E's loop: what its contents of the carried row and of the accumulator read as. -/
theorem loopE (D : Nums) (R : KRep D (V m c main_arg0) (V m c main_arg4) (V m c main_arg5) (V m c main_v4) (V m c main_v0) (V m c main_v5) (V m c main_v3) (V m c main_v6)) (xs1 : Vec Ideal S8x7168 .f32) (xs2 : Vec Ideal S4x8x7168 .f32)
    (h1 : ∀ (r : Fin 8) (j : Fin 7168), xs1 (ix2 r j) = (Dg (D.par j) (D.tok j) (D.lst j) (64 * t.val) : EReal))
    (h2 : ∀ (q : Fin 4) (r : Fin 8) (j : Fin 7168), xs2 (ix3 q r j) = (accS (tAll q (D.par j) (D.tok j) (D.lst j)) (8 * t.val) r.val : EReal)) :
    (∀ (r : Fin 8) (j : Fin 7168), (View.whole cc0_scratch1).read (Elt Ideal) ((View.whole cc0_scratch1).writes (Elt Ideal) ((Memref.isWhole_whole _).unread xs1) (st_k0_t1 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) kernelRun0_A.sl.v0 (View.readAt (Elt Ideal) (ms0_8 t).view (Rect.unit (s := S1x64x1) ![0, 0, 0] ![1, 64, 1] inb_S1x64x1_S1x64x1_0_0_0).toLoadRect ((hs0_8 t).unread (iblk m c 8 t))) (kernelRun0_A.sl.v13 (grid0.coords t)) ((hs0_0 t).unread (iblk m c 0 t)) ((hs0_1 t).unread (iblk m c 1 t)) ((hs0_2 t).unread (iblk m c 2 t)) ((hs0_3 t).unread (iblk m c 3 t)) ((hs0_4 t).unread (iblk m c 4 t)) ((hs0_5 t).unread (iblk m c 5 t)) ((hs0_6 t).unread (iblk m c 6 t)) ((hs0_7 t).unread (iblk m c 7 t)) ((hs0_9 t).unread (iblk m c 9 t)) (ms0_13 t).view.junk (View.whole cc0_scratch0).junk ((Memref.isWhole_whole _).unread xs1) ((Memref.isWhole_whole _).unread xs2) (k0_pay326, k0_pay326, k0_pay326) k0_t1_loop.trips).2.2.2.1) (ix2 r j)
        = (Do (D.par j) (D.tok j) (D.lst j) (64 * t.val + 63) : EReal))
      ∧ (∀ (q : Fin 4) (r : Fin 8) (j : Fin 7168), (View.whole cc0_scratch2).read (Elt Ideal) ((View.whole cc0_scratch2).writes (Elt Ideal) ((Memref.isWhole_whole _).unread xs2) (st_k0_t1 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) kernelRun0_A.sl.v0 (View.readAt (Elt Ideal) (ms0_8 t).view (Rect.unit (s := S1x64x1) ![0, 0, 0] ![1, 64, 1] inb_S1x64x1_S1x64x1_0_0_0).toLoadRect ((hs0_8 t).unread (iblk m c 8 t))) (kernelRun0_A.sl.v13 (grid0.coords t)) ((hs0_0 t).unread (iblk m c 0 t)) ((hs0_1 t).unread (iblk m c 1 t)) ((hs0_2 t).unread (iblk m c 2 t)) ((hs0_3 t).unread (iblk m c 3 t)) ((hs0_4 t).unread (iblk m c 4 t)) ((hs0_5 t).unread (iblk m c 5 t)) ((hs0_6 t).unread (iblk m c 6 t)) ((hs0_7 t).unread (iblk m c 7 t)) ((hs0_9 t).unread (iblk m c 9 t)) (ms0_13 t).view.junk (View.whole cc0_scratch0).junk ((Memref.isWhole_whole _).unread xs1) ((Memref.isWhole_whole _).unread xs2) (k0_pay326, k0_pay326, k0_pay326) k0_t1_loop.trips).2.2.2.2) (ix3 q r j)
        = (accS (tAll q (D.par j) (D.tok j) (D.lst j)) (8 * t.val + 8) r.val : EReal)) := by
  have LV := loop_vals Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) kernelRun0_A.sl.v0 (View.readAt (Elt Ideal) (ms0_8 t).view (Rect.unit (s := S1x64x1) ![0, 0, 0] ![1, 64, 1] inb_S1x64x1_S1x64x1_0_0_0).toLoadRect ((hs0_8 t).unread (iblk m c 8 t))) (kernelRun0_A.sl.v13 (grid0.coords t)) (iblk m c 0 t) (iblk m c 1 t) (iblk m c 2 t) (iblk m c 3 t) (iblk m c 4 t) (iblk m c 5 t) (iblk m c 6 t) (iblk m c 7 t) (iblk m c 9 t) row0 D.par D.tok D.lst t.val
    (blockRep m c t D R _ (scales_ld m c t) _ (v13_eq t)) (ms0_13 t).view.junk (View.whole cc0_scratch0).junk ((Memref.isWhole_whole _).unread xs1) ((Memref.isWhole_whole _).unread xs2) (k0_pay326, k0_pay326, k0_pay326)
    (fun r j => by
      exact (congrFun ((Memref.isWhole_whole cc0_scratch1).read_unread xs1) (ix2 r j)).trans (h1 r j))
    (fun q r j => by
      exact (congrFun ((Memref.isWhole_whole cc0_scratch2).read_unread xs2) (ix3 q r j)).trans (h2 q r j))
    k0_t1_loop.trips le_rfl
  have hj : ∀ j : Fin 7168, j.val < 256 * k0_t1_loop.trips := fun j => by rw [trips_eq]; have := j.isLt; omega
  refine ⟨fun r j => ?_, fun q r j => ?_⟩
  · exact (LV.1 r j).trans (by rw [if_pos (hj j)])
  · exact (LV.2 q r j).trans (by rw [if_pos (hj j)])

theorem valsE (h : conds0_E (grid0.coords t)) (D : Nums) (R : KRep D (V m c main_arg0) (V m c main_arg4) (V m c main_arg5) (V m c main_v4) (V m c main_v0) (V m c main_v5) (V m c main_v3) (V m c main_v6)) (xs1 : Vec Ideal S8x7168 .f32) (xs2 : Vec Ideal S4x8x7168 .f32)
    (h1 : ∀ (r : Fin 8) (j : Fin 7168), xs1 (ix2 r j) = (Dg (D.par j) (D.tok j) (D.lst j) (64 * t.val) : EReal))
    (h2 : ∀ (q : Fin 4) (r : Fin 8) (j : Fin 7168), xs2 (ix3 q r j) = (accS (tAll q (D.par j) (D.tok j) (D.lst j)) (8 * t.val) r.val : EReal)) :
    (∀ (r : Fin 8) (j : Fin 7168), (outsE m c t h xs1 xs2).2.2.2.2.2.1 (ix2 r j) = (Do (D.par j) (D.tok j) (D.lst j) (64 * t.val + 63) : EReal))
      ∧ (∀ (q : Fin 4) (r : Fin 8) (j : Fin 7168), (outsE m c t h xs1 xs2).2.2.2.2.2.2 (ix3 q r j)
        = (accS (tAll q (D.par j) (D.tok j) (D.lst j)) (8 * t.val + 8) r.val : EReal)) := by
  have LV := loopE m c t D R xs1 xs2 h1 h2
  refine ⟨fun r j => ?_, fun q r j => ?_⟩
  · show VS0_1.read (Elt Ideal) (VS0_1.writes (Elt Ideal) VS0_1.junk (runE m c t h xs1 xs2).2.2.2.2.2.1) (ix2 r j) = _
    rw [View.read_writes_of_cover VS0_1 _ VS0_1 ((Memref.isWhole_whole _).unread xs1) _ (covE_s1 m c t h xs1 xs2)]
    exact LV.1 r j
  · show VS0_2.read (Elt Ideal) (VS0_2.writes (Elt Ideal) VS0_2.junk (runE m c t h xs1 xs2).2.2.2.2.2.2.1) (ix3 q r j) = _
    rw [View.read_writes_of_cover VS0_2 _ VS0_2 ((Memref.isWhole_whole _).unread xs2) _ (covE_s2 m c t h xs1 xs2)]
    exact LV.2 q r j

theorem dc0E (h : conds0_E (grid0.coords t)) (D : Nums) (R : KRep D (V m c main_arg0) (V m c main_arg4) (V m c main_arg5) (V m c main_v4) (V m c main_v0) (V m c main_v5) (V m c main_v3) (V m c main_v6)) (xs1 : Vec Ideal S8x7168 .f32) (xs2 : Vec Ideal S4x8x7168 .f32)
    (h1 : ∀ (r : Fin 8) (j : Fin 7168), xs1 (ix2 r j) = (Dg (D.par j) (D.tok j) (D.lst j) (64 * t.val) : EReal))
    (h2 : ∀ (q : Fin 4) (r : Fin 8) (j : Fin 7168), xs2 (ix3 q r j) = (accS (tAll q (D.par j) (D.tok j) (D.lst j)) (8 * t.val) r.val : EReal)) (j : Fin 7168) :
    (outsE m c t h xs1 xs2).2.2.2.1 (ix3 0 0 j) = (Do (D.par j) (D.tok j) (D.lst j) (64 * t.val + 63) : EReal) := by
  have LV := loopE m c t D R xs1 xs2 h1 h2
  unfold outsE
  dsimp only
  have e : (runE m c t h xs1 xs2).2.2.2.1 = [⟨Rect.unit ![0, 0, 0] ![1, 1, 7168] inb_S1x1x7168_S1x1x7168_0_0_0,
      k0_pay2 (View.readAt (Elt Ideal) (View.whole cc0_scratch1) (Rect.unit ![0, 0] ![1, 7168] inb_S8x7168_S1x7168_0_0).toLoadRect
        ((View.whole cc0_scratch1).writes (Elt Ideal) ((Memref.isWhole_whole _).unread xs1) (st_k0_t1 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) kernelRun0_A.sl.v0 (View.readAt (Elt Ideal) (ms0_8 t).view (Rect.unit (s := S1x64x1) ![0, 0, 0] ![1, 64, 1] inb_S1x64x1_S1x64x1_0_0_0).toLoadRect ((hs0_8 t).unread (iblk m c 8 t))) (kernelRun0_A.sl.v13 (grid0.coords t)) ((hs0_0 t).unread (iblk m c 0 t)) ((hs0_1 t).unread (iblk m c 1 t)) ((hs0_2 t).unread (iblk m c 2 t)) ((hs0_3 t).unread (iblk m c 3 t)) ((hs0_4 t).unread (iblk m c 4 t)) ((hs0_5 t).unread (iblk m c 5 t)) ((hs0_6 t).unread (iblk m c 6 t)) ((hs0_7 t).unread (iblk m c 7 t)) ((hs0_9 t).unread (iblk m c 9 t)) (ms0_13 t).view.junk (View.whole cc0_scratch0).junk ((Memref.isWhole_whole _).unread xs1) ((Memref.isWhole_whole _).unread xs2) (k0_pay326, k0_pay326, k0_pay326) k0_t1_loop.trips).2.2.2.1))⟩] := rfl
  rw [e]
  refine (View.read_writes_cons_unit_of_mem VO0_14 _ _ _ _ (ix3 0 0 j) (ix3 0 0 j) rfl (fun a => by
    match a with | ⟨0, _⟩ => rfl | ⟨1, _⟩ => rfl | ⟨2, _⟩ => exact (Nat.zero_add _).symm)).trans ?_
  unfold k0_pay2
  rw [ValueIdx.shapeCast_ab_1ab_apply]
  refine (ld_any (View.whole cc0_scratch1) _ _ rfl (ix2 0 j) (ix2 0 j) (fun a => by
    match a with | ⟨0, _⟩ => rfl | ⟨1, _⟩ => exact (Nat.zero_add _).symm)).trans ?_
  exact LV.1 0 j

theorem sumsE (h : conds0_E (grid0.coords t)) (D : Nums) (R : KRep D (V m c main_arg0) (V m c main_arg4) (V m c main_arg5) (V m c main_v4) (V m c main_v0) (V m c main_v5) (V m c main_v3) (V m c main_v6)) (xs1 : Vec Ideal S8x7168 .f32) (xs2 : Vec Ideal S4x8x7168 .f32)
    (h1 : ∀ (r : Fin 8) (j : Fin 7168), xs1 (ix2 r j) = (Dg (D.par j) (D.tok j) (D.lst j) (64 * t.val) : EReal))
    (h2 : ∀ (q : Fin 4) (r : Fin 8) (j : Fin 7168), xs2 (ix3 q r j) = (accS (tAll q (D.par j) (D.tok j) (D.lst j)) (8 * t.val) r.val : EReal)) (q : Fin 4) (j : Fin 7168) :
    (outsE m c t h xs1 xs2).2.2.2.2.1 (ix2 q j) = ((∑ n ∈ Finset.range (8 * (8 * t.val + 8)), tAll q (D.par j) (D.tok j) (D.lst j) n : ℝ) : EReal) := by
  have LV := loopE m c t D R xs1 xs2 h1 h2
  obtain ⟨SS, e, LV2⟩ : ∃ SS : BufTy.Contents (Elt Ideal) (View.whole cc0_scratch2).ty, (runE m c t h xs1 xs2).2.2.2.2.1 = [⟨Rect.unit ![3, 0] ![1, 7168] inb_S4x7168_S1x7168_3_0, k0_pay6 (View.readAt (Elt Ideal) (View.whole cc0_scratch2) (Rect.unit ![3, 0, 0] ![1, 8, 7168] inb_S4x8x7168_S1x8x7168_3_0_0).toLoadRect SS)⟩,
      ⟨Rect.unit ![2, 0] ![1, 7168] inb_S4x7168_S1x7168_2_0, k0_pay5 (View.readAt (Elt Ideal) (View.whole cc0_scratch2) (Rect.unit ![2, 0, 0] ![1, 8, 7168] inb_S4x8x7168_S1x8x7168_2_0_0).toLoadRect SS)⟩,
      ⟨Rect.unit ![1, 0] ![1, 7168] inb_S4x7168_S1x7168_1_0, k0_pay4 (View.readAt (Elt Ideal) (View.whole cc0_scratch2) (Rect.unit ![1, 0, 0] ![1, 8, 7168] inb_S4x8x7168_S1x8x7168_1_0_0).toLoadRect SS)⟩,
      ⟨Rect.unit ![0, 0] ![1, 7168] inb_S4x7168_S1x7168_0_0, k0_pay3 (View.readAt (Elt Ideal) (View.whole cc0_scratch2) (Rect.unit ![0, 0, 0] ![1, 8, 7168] inb_S4x8x7168_S1x8x7168_0_0_0).toLoadRect SS)⟩]
      ∧ ∀ (q : Fin 4) (r : Fin 8) (j : Fin 7168), (View.whole cc0_scratch2).read (Elt Ideal) SS (ix3 q r j) = (accS (tAll q (D.par j) (D.tok j) (D.lst j)) (8 * t.val + 8) r.val : EReal) :=
    ⟨_, rfl, LV.2⟩
  unfold outsE
  dsimp only
  rw [e, ← accS_rows, ← coe_sum8]
  match q with
  | 0 =>
    refine (View.read_writes_cons_unit_of_not_mem VO0_15 _ _ _ _ (ix2 0 j) rfl (0 : Fin 2) (.inl (by show 0 < 3; norm_num))).trans ?_
    refine (View.read_writes_cons_unit_of_not_mem VO0_15 _ _ _ _ (ix2 0 j) rfl (0 : Fin 2) (.inl (by show 0 < 2; norm_num))).trans ?_
    refine (View.read_writes_cons_unit_of_not_mem VO0_15 _ _ _ _ (ix2 0 j) rfl (0 : Fin 2) (.inl (by show 0 < 1; norm_num))).trans ?_
    refine (View.read_writes_cons_unit_of_mem VO0_15 _ _ _ _ (ix2 0 j) (ix2 0 j) rfl (fun a => by
      match a with | ⟨0, _⟩ => rfl | ⟨1, _⟩ => exact (Nat.zero_add _).symm)).trans ?_
    refine (sum8_apply _ j).trans (Finset.sum_congr rfl fun r _ => ?_)
    refine (ld_any (View.whole cc0_scratch2) _ _ rfl (ix3 0 r j) (ix3 0 r j) (fun a => by
      match a with | ⟨0, _⟩ => rfl | ⟨1, _⟩ => exact (Nat.zero_add _).symm | ⟨2, _⟩ => exact (Nat.zero_add _).symm)).trans ?_
    exact LV2 0 r j
  | 1 =>
    refine (View.read_writes_cons_unit_of_not_mem VO0_15 _ _ _ _ (ix2 1 j) rfl (0 : Fin 2) (.inl (by show 1 < 3; norm_num))).trans ?_
    refine (View.read_writes_cons_unit_of_not_mem VO0_15 _ _ _ _ (ix2 1 j) rfl (0 : Fin 2) (.inl (by show 1 < 2; norm_num))).trans ?_
    refine (View.read_writes_cons_unit_of_mem VO0_15 _ _ _ _ (ix2 1 j) (ix2 0 j) rfl (fun a => by
      match a with | ⟨0, _⟩ => rfl | ⟨1, _⟩ => exact (Nat.zero_add _).symm)).trans ?_
    refine (sum8_apply _ j).trans (Finset.sum_congr rfl fun r _ => ?_)
    refine (ld_any (View.whole cc0_scratch2) _ _ rfl (ix3 0 r j) (ix3 1 r j) (fun a => by
      match a with | ⟨0, _⟩ => rfl | ⟨1, _⟩ => exact (Nat.zero_add _).symm | ⟨2, _⟩ => exact (Nat.zero_add _).symm)).trans ?_
    exact LV2 1 r j
  | 2 =>
    refine (View.read_writes_cons_unit_of_not_mem VO0_15 _ _ _ _ (ix2 2 j) rfl (0 : Fin 2) (.inl (by show 2 < 3; norm_num))).trans ?_
    refine (View.read_writes_cons_unit_of_mem VO0_15 _ _ _ _ (ix2 2 j) (ix2 0 j) rfl (fun a => by
      match a with | ⟨0, _⟩ => rfl | ⟨1, _⟩ => exact (Nat.zero_add _).symm)).trans ?_
    refine (sum8_apply _ j).trans (Finset.sum_congr rfl fun r _ => ?_)
    refine (ld_any (View.whole cc0_scratch2) _ _ rfl (ix3 0 r j) (ix3 2 r j) (fun a => by
      match a with | ⟨0, _⟩ => rfl | ⟨1, _⟩ => exact (Nat.zero_add _).symm | ⟨2, _⟩ => exact (Nat.zero_add _).symm)).trans ?_
    exact LV2 2 r j
  | 3 =>
    refine (View.read_writes_cons_unit_of_mem VO0_15 _ _ _ _ (ix2 3 j) (ix2 0 j) rfl (fun a => by
      match a with | ⟨0, _⟩ => rfl | ⟨1, _⟩ => exact (Nat.zero_add _).symm)).trans ?_
    refine (sum8_apply _ j).trans (Finset.sum_congr rfl fun r _ => ?_)
    refine (ld_any (View.whole cc0_scratch2) _ _ rfl (ix3 0 r j) (ix3 3 r j) (fun a => by
      match a with | ⟨0, _⟩ => rfl | ⟨1, _⟩ => exact (Nat.zero_add _).symm | ⟨2, _⟩ => exact (Nat.zero_add _).symm)).trans ?_
    exact LV2 3 r j

end Cert.GatesIdeal.Gen
-- ==== Proof.GFinal.lean ====
/- The two results of the first call after the run, as sums and recurrences over the real numbers. -/
module

public import proofs.«01_k».proof.Proof.GPoint
public import Idealize.ShloMosaic.Lib.Pipeline.Value

@[expose] public section

set_option maxRecDepth 16384

noncomputable section

namespace Cert.GatesIdeal.Gen

open Idealize.ShloMosaic hiding ix2 ix3
open Idealize.ShloMosaic.TcCoe Cert.GMath
open Idealize.ShloMosaic.ValueIdx (ix2 ix3)

theorem gix14 : ∀ t : Fin cfg0.N, win0_14.index t = ![t.val / 64, 0, 0] := (by decide +kernel : ∀ t : Fin grid0.N, _)
theorem gix15 : ∀ t : Fin cfg0.N, win0_15.index t = ![0, 0] := (by decide +kernel : ∀ t : Fin grid0.N, _)
theorem fl14 : ∀ t : Fin cfg0.N, (cfg0.win 14).flush t = true → t.val % 64 = 63 := by decide +kernel
theorem fl15 : ∀ t : Fin cfg0.N, (cfg0.win 15).flush t = true → t.val % 128 = 127 := by decide +kernel

theorem emb14 (t : Fin cfg0.N) (j : Fin 7168) : (win0_14.blk t).view.emb (ix3 0 0 j) = ix3 (ptSeq t) 0 j := funext fun a => Fin.ext (by
  fin_cases a <;> blk_simp [gix14] <;> simp [ix3, ptSeq])
theorem emb15 (t : Fin cfg0.N) (q : Fin 4) (j : Fin 7168) : (win0_15.blk t).view.emb (ix2 q j) = ix2 q j := funext fun a => Fin.ext (by
  fin_cases a <;> blk_simp [gix15] <;> simp [ix2])

section
variable (m : (ℓ : Loc nD τ sig) → Buf (Elt Ideal) ℓ) (c : Dev nD) (D : Nums)
  (R : KRep D (V m c main_arg0) (V m c main_arg4) (V m c main_arg5) (V m c main_v4) (V m c main_v0) (V m c main_v5) (V m c main_v3) (V m c main_v6))
include R

/-- What a point is handed: the carried row and the sums so far. -/
theorem Dg_start (t : Fin cfg0.N) (h : t.val % 64 = 0) (j : Fin 7168) :
    D.dl (ptSeq t) j = Dg (D.par j) (D.tok j) (D.lst j) (64 * t.val) := by
  rw [Dg_of_zero _ _ _ _ (by omega)]
  show D.dl _ j = D.dl _ j
  congr 1
  have : t.val < 128 := t.isLt
  exact Fin.ext (by show t.val / 64 = 64 * t.val / 4096 % 2; omega)

/-- After every point: the carried row holds the recurrence, the accumulator the sums by row. -/
theorem points : ∀ (n : ℕ) (hn : n < cfg0.N),
    (∀ (r : Fin 8) (j : Fin 7168), (outsAt0 m c n hn).2.2.2.2.2.1 (ix2 r j) = (Do (D.par j) (D.tok j) (D.lst j) (64 * n + 63) : EReal))
      ∧ (∀ (q : Fin 4) (r : Fin 8) (j : Fin 7168), (outsAt0 m c n hn).2.2.2.2.2.2 (ix3 q r j)
        = (accS (tAll q (D.par j) (D.tok j) (D.lst j)) (8 * n + 8) r.val : EReal)) := by
  intro n
  induction n with
  | zero =>
    intro hn
    rw [outsAt0_A m c ⟨0, hn⟩ rfl]
    exact valsA m c ⟨0, hn⟩ _ D R (Dg_start m c D R ⟨0, hn⟩ rfl) rfl
  | succ n ih =>
    intro hn
    obtain ⟨i1, i2⟩ := ih (Nat.lt_of_succ_lt hn)
    have p2 : ∀ (q : Fin 4) (r : Fin 8) (j : Fin 7168), prev2 m c ⟨n + 1, hn⟩ (ix3 q r j)
        = (accS (tAll q (D.par j) (D.tok j) (D.lst j)) (8 * (n + 1)) r.val : EReal) := fun q r j => i2 q r j
    have p1 : (n + 1) % 64 ≠ 0 → ∀ (r : Fin 8) (j : Fin 7168), prev1 m c ⟨n + 1, hn⟩ (ix2 r j)
        = (Dg (D.par j) (D.tok j) (D.lst j) (64 * (n + 1)) : EReal) := fun h r j => by
      rw [show 64 * (n + 1) = 64 * n + 63 + 1 by ring, Dg_succ _ _ _ _ (by omega)]
      exact i1 r j
    by_cases h0 : (n + 1) % 64 = 0
    · rw [outsAt0_D m c ⟨n + 1, hn⟩ (Nat.succ_ne_zero n) h0]
      exact valsD m c ⟨n + 1, hn⟩ _ D R _ _ (Dg_start m c D R ⟨n + 1, hn⟩ h0) p2
    · by_cases h2 : (n + 1) % 64 = 63
      · by_cases h3 : (n + 1) % 128 = 127
        · rw [outsAt0_E m c ⟨n + 1, hn⟩ h3]
          exact valsE m c ⟨n + 1, hn⟩ _ D R _ _ (p1 h0) p2
        · rw [outsAt0_C m c ⟨n + 1, hn⟩ h2 h3]
          exact valsC m c ⟨n + 1, hn⟩ _ D R _ _ (p1 h0) p2
      · rw [outsAt0_B m c ⟨n + 1, hn⟩ h0 h2]
        exact valsB m c ⟨n + 1, hn⟩ _ D R _ _ (p1 h0) p2

/-- What a point that is not the first of its sequence is handed. -/
theorem handed (t : Fin cfg0.N) (h : t.val % 64 ≠ 0) :
    (∀ (r : Fin 8) (j : Fin 7168), prev1 m c t (ix2 r j) = (Dg (D.par j) (D.tok j) (D.lst j) (64 * t.val) : EReal))
      ∧ (∀ (q : Fin 4) (r : Fin 8) (j : Fin 7168), prev2 m c t (ix3 q r j)
        = (accS (tAll q (D.par j) (D.tok j) (D.lst j)) (8 * t.val) r.val : EReal)) := by
  obtain ⟨n, hn⟩ := t
  dsimp only at h ⊢
  obtain ⟨n, rfl⟩ : ∃ k, n = k + 1 := ⟨n - 1, by omega⟩
  obtain ⟨i1, i2⟩ := points m c D R n (Nat.lt_of_succ_lt hn)
  refine ⟨fun r j => ?_, fun q r j => i2 q r j⟩
  rw [show 64 * (n + 1) = 64 * n + 63 + 1 by ring, Dg_succ _ _ _ _ (by omega)]
  exact i1 r j

/-- What a sequence's last point writes back of the state's derivative. -/
theorem last_dc0 (t : Fin cfg0.N) (h : t.val % 64 = 63) (j : Fin 7168) :
    (outsAt0 m c t.val t.isLt).2.2.2.1 (ix3 0 0 j) = (D.out (ptSeq t) j : EReal) := by
  obtain ⟨h1, h2⟩ := handed m c D R t (by omega)
  have e : Do (D.par j) (D.tok j) (D.lst j) (64 * t.val + 63) = D.out (ptSeq t) j := by
    have := (D.bk_eq j (ptSeq t) 4095 (by norm_num)).2
    rw [← show 4096 * (ptSeq t).val + 4095 = 64 * t.val + 63 by simp only [ptSeq]; omega]
    exact this
  by_cases h3 : t.val % 128 = 127
  · rw [outsAt0_E m c t h3]
    exact (dc0E m c t _ D R _ _ h1 h2 j).trans (by rw [e])
  · rw [outsAt0_C m c t h h3]
    exact (dc0C m c t _ D R _ _ h1 h2 j).trans (by rw [e])

theorem total_eq (q : Fin 4) (j : Fin 7168) :
    ∑ n ∈ Finset.range 8192, tAll q (D.par j) (D.tok j) (D.lst j) n = D.total q j := by
  rw [sum_split]
  unfold Nums.total
  refine Finset.sum_congr rfl fun b _ => Finset.sum_congr rfl fun n hn => ?_
  have hn := Finset.mem_range.1 hn
  match q with
  | 0 => simp only [tAll, tvf, tbf, Nums.term, D.tok_eq j b n hn, (D.bk_eq j b n hn).1]
  | 1 => simp only [tAll, tvr, tbr, Nums.term, D.tok_eq j b n hn]
  | 2 => simp only [tAll, tbf, Nums.term, D.tok_eq j b n hn, (D.bk_eq j b n hn).1]
  | 3 => simp only [tAll, tbr, Nums.term, D.tok_eq j b n hn]

/-- What the last point writes back of the sums. -/
theorem last_sums (t : Fin cfg0.N) (h : t.val % 128 = 127) (q : Fin 4) (j : Fin 7168) :
    (outsAt0 m c t.val t.isLt).2.2.2.2.1 (ix2 q j) = (D.total q j : EReal) := by
  obtain ⟨h1, h2⟩ := handed m c D R t (by omega)
  rw [outsAt0_E m c t h, sumsE m c t _ D R _ _ h1 h2 q j]
  have : t.val < 128 := t.isLt
  rw [show 8 * (8 * t.val + 8) = 8192 by omega, total_eq m c D R q j]

/-- The first call's `dc0`. -/
theorem final14 : (dats m 0 c).arrAt 14 cfg0.N = fun i : S2x1x7168.Idx => (D.out (i 0) (i 2) : EReal) := by
  refine (dats m 0 c).arrAt_eq_of_covers 14 _ (by decide +kernel) fun t hf y => ?_
  blk_simp
  rw [after0_14]
  have hy : y = ix3 0 0 (y 2) := funext fun a => by
    match a with
    | ⟨0, _⟩ => exact Subsingleton.elim (α := Fin 1) _ _
    | ⟨1, _⟩ => exact Subsingleton.elim (α := Fin 1) _ _
    | ⟨2, _⟩ => rfl
  obtain ⟨j, rfl⟩ : ∃ (j : Fin 7168), y = ix3 0 0 j := ⟨y 2, hy⟩
  exact (last_dc0 m c D R t (fl14 t hf) j).trans (congrArg (fun i : S2x1x7168.Idx => (D.out (i 0) (i 2) : EReal)) (emb14 t j)).symm

/-- The first call's sums. -/
theorem final15 : (dats m 0 c).arrAt 15 cfg0.N = fun i : S4x7168.Idx => (D.total (i 0) (i 1) : EReal) := by
  refine (dats m 0 c).arrAt_eq_of_covers 15 _ (by decide +kernel) fun t hf y => ?_
  blk_simp
  rw [after0_15]
  obtain ⟨q, j, rfl⟩ : ∃ (q : Fin 4) (j : Fin 7168), y = ix2 q j := ⟨y 0, y 1, ValueIdx.eq_ix2 y⟩
  exact (last_sums m c D R t (fl15 t hf) q j).trans (congrArg (fun i : S4x7168.Idx => (D.total (i 0) (i 1) : EReal)) (emb15 t q j)).symm
end

end Cert.GatesIdeal.Gen

end
-- ==== Proof.GRef.lean ====
/- The reference of the first call: what its loop holds after every step, in real numbers. -/
module

public import proofs.«01_k».proof.Proof.GPt
public import proofs.«01_k».proof.Proof.GLoop
public import proofs.«01_k».proof.Proof.GData
public import proofs.«01_k».proof.Proof.Gen.GatesReferenceIdeal.Value
public import Idealize.ShloMosaic.Lib.Pipeline.ValueKit

@[expose] public section

set_option maxRecDepth 16384

noncomputable section

namespace Cert.GatesReferenceIdeal.Gen

open Idealize.ShloMosaic hiding ix2 ix3
open Idealize.ShloMosaic.TcCoe Cert.GMath
open Idealize.ShloMosaic.ValueIdx (ix2 ix3)

/-- Column `j` of part `p` of the fused array. -/
def ucol (p : Fin 3) (j : Fin 7168) : Fin 21504 := ⟨7168 * p.val + j.val, by have := p.isLt; have := j.isLt; omega⟩

/-- The arrays of the reference hold the numbers `D`. -/
structure RRep (D : Nums) (x0 : Vec Ideal S2x4096x7168 .bf16) (x1 : Vec Ideal S2x4096x21504 .bf16) (x2 : Vec Ideal S2x4096x7168 .f32) (x3 : Vec Ideal S2x4096x7168 .f32) (x4 : Vec Ideal S2x4096x7168 .fp8e5m2) (x5 : Vec Ideal S2x4096x1 .f32) (x6 : Vec Ideal S1x1x7168 .f32) (x7 : Vec Ideal S1x1x7168 .f32) (x8 : Vec Ideal S1x1x7168 .f32) (x9 : Vec Ideal S1x1x7168 .f32) (x10 : Vec Ideal S2x1x7168 .f32) : Prop where
  g : ∀ b t j, (x4 (ix3 b t j) * x5 (ix3 b t 0) : EReal) = (D.g b t j : EReal)
  x : ∀ b t j, x0 (ix3 b t j) = (D.x b t j : EReal)
  xt : ∀ b t j, x1 (ix3 b t (ucol 0 j)) = (D.xt b t j : EReal)
  uf : ∀ b t j, x1 (ix3 b t (ucol 1 j)) = (D.uf b t j : EReal)
  ur : ∀ b t j, x1 (ix3 b t (ucol 2 j)) = (D.ur b t j : EReal)
  c : ∀ b t j, x2 (ix3 b t j) = (D.c b t j : EReal)
  cp : ∀ b t j, x3 (ix3 b t j) = (D.cprev b t j : EReal)
  vf : ∀ j, x6 (ix3 0 0 j) = (D.vf j : EReal)
  vr : ∀ j, x7 (ix3 0 0 j) = (D.vr j : EReal)
  bf : ∀ j, x8 (ix3 0 0 j) = (D.bf j : EReal)
  br : ∀ j, x9 (ix3 0 0 j) = (D.br j : EReal)
  dl : ∀ b j, x10 (ix3 b 0 j) = (D.dl b j : EReal)

/-- One step on the carried values, from what it reads. -/
def stepV (v16 : Vec Ideal S2x1x7168 .fp8e5m2) (v20 : Vec Ideal S2x1x1 .f32) (v25 v28 v31 v34 : Vec Ideal S2x1x7168 .bf16) (v37 v39 : Vec Ideal S2x1x7168 .f32)
    (vf vr bf br : Vec Ideal S1x1x7168 .f32) (acc : FVec Ideal S2x1x7168 .f32 × FVec Ideal S2x1x7168 .f32 × FVec Ideal S2x1x7168 .f32 × FVec Ideal S2x1x7168 .f32 × FVec Ideal S2x1x7168 .f32) : FVec Ideal S2x1x7168 .f32 × FVec Ideal S2x1x7168 .f32 × FVec Ideal S2x1x7168 .f32 × FVec Ideal S2x1x7168 .f32 × FVec Ideal S2x1x7168 .f32 :=
  (k0_pay20 acc.1 (k0_pay7 v16 v20) (k0_pay8 v25) (k0_pay9 v28) (k0_pay10 v34) v37 (k0_pay11 v39) (k0_pay12 v31 v39 vf bf) vr br vf vr,
   k0_pay21 acc.1 acc.2.1 (k0_pay7 v16 v20) (k0_pay9 v28) (k0_pay10 v34) (k0_pay11 v39) (k0_pay12 v31 v39 vf bf) vr br,
   k0_pay22 acc.2.2.1 (k0_pay7 v16 v20) (k0_pay8 v25) (k0_pay10 v34) v37 (k0_pay11 v39) vr br,
   k0_pay23 acc.1 acc.2.2.2.1 (k0_pay7 v16 v20) (k0_pay9 v28) (k0_pay10 v34) (k0_pay11 v39) (k0_pay12 v31 v39 vf bf) vr br,
   k0_pay24 acc.2.2.2.2 (k0_pay7 v16 v20) (k0_pay8 v25) (k0_pay10 v34) v37 (k0_pay11 v39) vr br)

theorem bcRow (v : FVec Ideal S1x1x7168 .f32) (b : Fin 2) (j : Fin 7168) :
    broadcastTo S2x1x7168 v broadcasts_S1x1x7168_S2x1x7168 (ix3 b 0 j) = v (ix3 0 0 j) :=
  broadcastTo_apply _ _ _ _ fun a => by match a with | ⟨0, _⟩ => rfl | ⟨1, _⟩ => rfl | ⟨2, _⟩ => rfl
theorem bcCol (v : FVec Ideal S2x1x1 .f32) (b : Fin 2) (j : Fin 7168) :
    broadcastTo S2x1x7168 v broadcasts_S2x1x1_S2x1x7168 (ix3 b 0 j) = v (ix3 b 0 0) :=
  broadcastTo_apply _ _ _ _ fun a => by match a with | ⟨0, _⟩ => rfl | ⟨1, _⟩ => rfl | ⟨2, _⟩ => rfl

theorem logistic_real (z : ℝ) : Ideal.logistic (z : EReal) = ((sg z : ℝ) : EReal) := Ideal.logistic_coe z

/-- One step in real numbers, at sequence `b` and column `j`. -/
theorem stepV_apply (v16 : Vec Ideal S2x1x7168 .fp8e5m2) (v20 : Vec Ideal S2x1x1 .f32) (v25 v28 v31 v34 : Vec Ideal S2x1x7168 .bf16) (v37 v39 : Vec Ideal S2x1x7168 .f32)
    (vf vr bf br : Vec Ideal S1x1x7168 .f32) (acc : FVec Ideal S2x1x7168 .f32 × FVec Ideal S2x1x7168 .f32 × FVec Ideal S2x1x7168 .f32 × FVec Ideal S2x1x7168 .f32 × FVec Ideal S2x1x7168 .f32)
    (P : Par) (T : Tok) (b : Fin 2) (j : Fin 7168) (d s0 s1 s2 s3 : ℝ)
    (hg : (v16 (ix3 b 0 j) * v20 (ix3 b 0 0) : EReal) = (T.g : EReal)) (hx : v25 (ix3 b 0 j) = (T.x : EReal)) (hxt : v28 (ix3 b 0 j) = (T.xt : EReal))
    (huf : v31 (ix3 b 0 j) = (T.uf : EReal)) (hur : v34 (ix3 b 0 j) = (T.ur : EReal)) (hc : v37 (ix3 b 0 j) = (T.c : EReal)) (hcp : v39 (ix3 b 0 j) = (T.cp : EReal))
    (hvf : vf (ix3 0 0 j) = (P.vf : EReal)) (hvr : vr (ix3 0 0 j) = (P.vr : EReal)) (hbf : bf (ix3 0 0 j) = (P.bf : EReal)) (hbr : br (ix3 0 0 j) = (P.br : EReal))
    (hd : acc.1 (ix3 b 0 j) = (d : EReal)) (h0 : acc.2.1 (ix3 b 0 j) = (s0 : EReal)) (h1 : acc.2.2.1 (ix3 b 0 j) = (s1 : EReal))
    (h2 : acc.2.2.2.1 (ix3 b 0 j) = (s2 : EReal)) (h3 : acc.2.2.2.2 (ix3 b 0 j) = (s3 : EReal)) :
    (stepV v16 v20 v25 v28 v31 v34 v37 v39 vf vr bf br acc).1 (ix3 b 0 j) = (T.nxt P d : EReal)
      ∧ (stepV v16 v20 v25 v28 v31 v34 v37 v39 vf vr bf br acc).2.1 (ix3 b 0 j) = ((s0 + T.df P d * T.cp : ℝ) : EReal)
      ∧ (stepV v16 v20 v25 v28 v31 v34 v37 v39 vf vr bf br acc).2.2.1 (ix3 b 0 j) = ((s1 + T.dr P * T.cp : ℝ) : EReal)
      ∧ (stepV v16 v20 v25 v28 v31 v34 v37 v39 vf vr bf br acc).2.2.2.1 (ix3 b 0 j) = ((s2 + T.df P d : ℝ) : EReal)
      ∧ (stepV v16 v20 v25 v28 v31 v34 v37 v39 vf vr bf br acc).2.2.2.2 (ix3 b 0 j) = ((s3 + T.dr P : ℝ) : EReal) := by
  have e1 : (Scalar.ofBits (F := Ideal) .f32 0x3F800000#32 : EReal) = ((1 : ℝ) : EReal) := GatesIdeal.Gen.one_bits
  have eg : k0_pay7 v16 v20 (ix3 b 0 j) = (T.g : EReal) := by
    unfold k0_pay7
    simp only [shapeCast_self, ValueIdx.mulf_apply, ValueIdx.extf_apply, bcCol]
    exact hg
  have ex : k0_pay8 v25 (ix3 b 0 j) = (T.x : EReal) := hx
  have ext : k0_pay9 v28 (ix3 b 0 j) = (T.xt : EReal) := hxt
  have eur : k0_pay10 v34 (ix3 b 0 j) = (T.ur : EReal) := hur
  have ecp : k0_pay11 v39 (ix3 b 0 j) = (T.cp : EReal) := by
    unfold k0_pay11
    simp only [shapeCast_self]
    exact hcp
  have ez : k0_pay12 v31 v39 vf bf (ix3 b 0 j) = ((T.uf + P.vf * T.cp + P.bf : ℝ) : EReal) := by
    unfold k0_pay12
    simp only [shapeCast_self, ValueIdx.mulf_apply, ValueIdx.addf_apply, ValueIdx.extf_apply, bcRow, ecp, hvf, hbf]
    rw [EReal.coe_add, EReal.coe_add, EReal.coe_mul, ← huf]
  have ef : k0_pay13 (k0_pay12 v31 v39 vf bf) (ix3 b 0 j) = (T.f P : EReal) := by
    unfold k0_pay13
    refine (congrArg Ideal.logistic ez).trans ?_
    exact logistic_real _
  have er : k0_pay14 (k0_pay10 v34) (k0_pay11 v39) vr br (ix3 b 0 j) = (T.r P : EReal) := by
    unfold k0_pay14
    simp only [shapeCast_self]
    refine (congrArg Ideal.logistic ?_).trans (logistic_real (T.ur + P.vr * T.cp + P.br))
    simp only [ValueIdx.mulf_apply, ValueIdx.addf_apply, bcRow, ecp, hvr, hbr, eur]
    rw [EReal.coe_add, EReal.coe_add, EReal.coe_mul]
  have edr : k0_pay15 (k0_pay7 v16 v20) (k0_pay8 v25) (k0_pay10 v34) v37 (k0_pay11 v39) vr br (ix3 b 0 j) = (T.dr P : EReal) := by
    unfold k0_pay15
    simp only [ValueIdx.mulf_apply, ValueIdx.subf_apply, ValueIdx.broadcast_apply, er, eg, ex, hc, e1]
    simp only [← EReal.coe_sub, ← EReal.coe_mul]
    congr 1
    unfold Tok.dr
    ring
  have egr : k0_pay16 (k0_pay7 v16 v20) (k0_pay10 v34) (k0_pay11 v39) vr br (ix3 b 0 j) = (T.gr P : EReal) := by
    unfold k0_pay16
    simp only [ValueIdx.mulf_apply, er, eg]
    rw [← EReal.coe_mul]
    rfl
  have efd : k0_pay17 (k0_pay12 v31 v39 vf bf) (ix3 b 0 j) = ((T.f P * (1 - T.f P) : ℝ) : EReal) := by
    unfold k0_pay17
    simp only [ValueIdx.mulf_apply, ValueIdx.subf_apply, ValueIdx.broadcast_apply, ef, e1]
    simp only [← EReal.coe_sub, ← EReal.coe_mul]
  have ecx : k0_pay18 (k0_pay9 v28) (k0_pay11 v39) (ix3 b 0 j) = ((T.cp - T.xt : ℝ) : EReal) := by
    unfold k0_pay18
    simp only [ValueIdx.subf_apply, ecp, ext, ← EReal.coe_sub]
  have edf : k0_pay19 acc.1 (k0_pay7 v16 v20) (k0_pay9 v28) (k0_pay10 v34) (k0_pay11 v39) (k0_pay12 v31 v39 vf bf) vr br (ix3 b 0 j) = (T.df P d : EReal) := by
    unfold k0_pay19
    simp only [ValueIdx.mulf_apply, ValueIdx.addf_apply, egr, ecx, efd, hd]
    simp only [← EReal.coe_add, ← EReal.coe_mul]
    congr 1
    unfold Tok.df Tok.q
    ring
  unfold stepV
  dsimp only
  refine ⟨?_, ?_, ?_, ?_, ?_⟩
  · unfold k0_pay20
    simp only [shapeCast_self, ValueIdx.mulf_apply, ValueIdx.addf_apply, bcRow, ef, egr, edr, ecx, efd, hd, hvf, hvr]
    simp only [← EReal.coe_add, ← EReal.coe_mul]
    congr 1
    unfold Tok.nxt Tok.e Tok.a Tok.q
    ring
  · unfold k0_pay21
    simp only [ValueIdx.mulf_apply, ValueIdx.addf_apply, edf, ecp, h0, ← EReal.coe_add, ← EReal.coe_mul]
  · unfold k0_pay22
    simp only [ValueIdx.mulf_apply, ValueIdx.addf_apply, edr, ecp, h1, ← EReal.coe_add, ← EReal.coe_mul]
  · unfold k0_pay23
    simp only [ValueIdx.addf_apply, edf, h2, ← EReal.coe_add]
  · unfold k0_pay24
    simp only [ValueIdx.addf_apply, edr, h3, ← EReal.coe_add]

/-- The sum over the two sequences. -/
theorem sum2_apply (v : FVec Ideal S2x1x7168 .f32) (j : Fin 7168) : k0_pay3 v (ix2 0 j) = ∑ b : Fin 2, v (ix3 b 0 j) := by
  unfold k0_pay3
  dsimp only
  refine (Ideal.multiReduction_add_single _ _ _ _ _ _).trans ?_
  refine Finset.sum_congr rfl fun (b : Fin 2) _ => congrArg v ?_
  funext a
  refine Fin.ext ?_
  match a with
  | ⟨0, _⟩ => rfl
  | ⟨1, _⟩ => rfl
  | ⟨2, _⟩ => rfl

theorem rtrips : k0_t1_loop.trips = 4096 := by decide +kernel

section
variable (𝒱 : Variants) (c : Dev nD) (bd : Option 𝒱.V) (arg0 : Memref sig .tc .vmem S2x4096x7168 .bf16) (harg0 : arg0.IsWhole) (arg1 : Memref sig .tc .vmem S2x4096x21504 .bf16) (harg1 : arg1.IsWhole) (arg2 : Memref sig .tc .vmem S2x4096x7168 .f32) (harg2 : arg2.IsWhole) (arg3 : Memref sig .tc .vmem S2x4096x7168 .f32) (harg3 : arg3.IsWhole) (arg4 : Memref sig .tc .vmem S2x4096x7168 .fp8e5m2) (harg4 : arg4.IsWhole) (arg5 : Memref sig .tc .vmem S2x4096x1 .f32) (harg5 : arg5.IsWhole) (arg6 : Memref sig .tc .vmem S1x1x7168 .f32) (harg6 : arg6.IsWhole) (arg7 : Memref sig .tc .vmem S1x1x7168 .f32) (harg7 : arg7.IsWhole) (arg8 : Memref sig .tc .vmem S1x1x7168 .f32) (harg8 : arg8.IsWhole) (arg9 : Memref sig .tc .vmem S1x1x7168 .f32) (harg9 : arg9.IsWhole) (arg10 : Memref sig .tc .vmem S2x1x7168 .f32) (harg10 : arg10.IsWhole) (arg11 : Memref sig .tc .vmem S2x1x7168 .f32) (harg11 : arg11.IsWhole) (arg12 : Memref sig .tc .vmem S4x7168 .f32) (harg12 : arg12.IsWhole) (x0 : Vec Ideal S2x4096x7168 .bf16) (x1 : Vec Ideal S2x4096x21504 .bf16) (x2 : Vec Ideal S2x4096x7168 .f32) (x3 : Vec Ideal S2x4096x7168 .f32) (x4 : Vec Ideal S2x4096x7168 .fp8e5m2) (x5 : Vec Ideal S2x4096x1 .f32) (x6 : Vec Ideal S1x1x7168 .f32) (x7 : Vec Ideal S1x1x7168 .f32) (x8 : Vec Ideal S1x1x7168 .f32) (x9 : Vec Ideal S1x1x7168 .f32) (x10 : Vec Ideal S2x1x7168 .f32)

/-- A trip of the loop is one step. -/
theorem trip_eq (k : Fin k0_t1_loop.trips) (acc : FVec Ideal S2x1x7168 .f32 × FVec Ideal S2x1x7168 .f32 × FVec Ideal S2x1x7168 .f32 × FVec Ideal S2x1x7168 .f32 × FVec Ideal S2x1x7168 .f32) :
    tripR_k0_t1 (F := Ideal) 𝒱 c bd arg0 harg0 arg1 harg1 arg2 harg2 arg3 harg3 arg4 harg4 arg5 harg5 arg6 harg6 arg7 harg7 arg8 harg8 arg9 harg9 arg10 harg10 arg11 harg11 arg12 harg12 (harg0.unread x0) (harg1.unread x1) (harg2.unread x2) (harg3.unread x3) (harg4.unread x4) (harg5.unread x5) (harg6.unread x6) (harg7.unread x7) (harg8.unread x8) (harg9.unread x9) k acc
      = stepV (View.readAt (Elt Ideal) arg4.view (Rect.unit (s := S2x4096x7168) (k0_off1 k) S2x1x7168.size (k0_off1_inb k)).toLoadRect (harg4.unread x4)) (View.readAt (Elt Ideal) arg5.view (Rect.unit (s := S2x4096x1) (k0_off2 k) S2x1x1.size (k0_off2_inb k)).toLoadRect (harg5.unread x5)) (View.readAt (Elt Ideal) arg0.view (Rect.unit (s := S2x4096x7168) (k0_off1 k) S2x1x7168.size (k0_off1_inb k)).toLoadRect (harg0.unread x0)) (View.readAt (Elt Ideal) arg1.view (Rect.unit (s := S2x4096x21504) (k0_off3 k) S2x1x7168.size (k0_off3_inb k)).toLoadRect (harg1.unread x1)) (View.readAt (Elt Ideal) arg1.view (Rect.unit (s := S2x4096x21504) (k0_off4 k) S2x1x7168.size (k0_off4_inb k)).toLoadRect (harg1.unread x1)) (View.readAt (Elt Ideal) arg1.view (Rect.unit (s := S2x4096x21504) (k0_off5 k) S2x1x7168.size (k0_off5_inb k)).toLoadRect (harg1.unread x1)) (View.readAt (Elt Ideal) arg2.view (Rect.unit (s := S2x4096x7168) (k0_off1 k) S2x1x7168.size (k0_off1_inb k)).toLoadRect (harg2.unread x2)) (View.readAt (Elt Ideal) arg3.view (Rect.unit (s := S2x4096x7168) (k0_off1 k) S2x1x7168.size (k0_off1_inb k)).toLoadRect (harg3.unread x3)) (View.readAt (Elt Ideal) arg6.view (Rect.unit (s := S1x1x7168) (![0, 0, 0]) S1x1x7168.size inb_S1x1x7168_S1x1x7168_0_0_0).toLoadRect (harg6.unread x6)) (View.readAt (Elt Ideal) arg7.view (Rect.unit (s := S1x1x7168) (![0, 0, 0]) S1x1x7168.size inb_S1x1x7168_S1x1x7168_0_0_0).toLoadRect (harg7.unread x7)) (View.readAt (Elt Ideal) arg8.view (Rect.unit (s := S1x1x7168) (![0, 0, 0]) S1x1x7168.size inb_S1x1x7168_S1x1x7168_0_0_0).toLoadRect (harg8.unread x8)) (View.readAt (Elt Ideal) arg9.view (Rect.unit (s := S1x1x7168) (![0, 0, 0]) S1x1x7168.size inb_S1x1x7168_S1x1x7168_0_0_0).toLoadRect (harg9.unread x9)) acc := by
  delta tripR_k0_t1 trip_k0_t1
  rfl

/-- What the loop holds before step `n`. -/
theorem rloop (D : Nums) (R : RRep D x0 x1 x2 x3 x4 x5 x6 x7 x8 x9 x10) (w : Vec Ideal S2x1x7168 .f32) (hw : w = x10) (n : ℕ) (hn : n ≤ k0_t1_loop.trips) (b : Fin 2) (j : Fin 7168) :
    (st_k0_t1 (F := Ideal) 𝒱 c bd arg0 harg0 arg1 harg1 arg2 harg2 arg3 harg3 arg4 harg4 arg5 harg5 arg6 harg6 arg7 harg7 arg8 harg8 arg9 harg9 arg10 harg10 arg11 harg11 arg12 harg12 (harg0.unread x0) (harg1.unread x1) (harg2.unread x2) (harg3.unread x3) (harg4.unread x4) (harg5.unread x5) (harg6.unread x6) (harg7.unread x7) (harg8.unread x8) (harg9.unread x9) (k0_pay2 w, k0_pay1, k0_pay1, k0_pay1, k0_pay1) n).1 (ix3 b 0 j) = (D.bk j b n : EReal)
      ∧ (st_k0_t1 (F := Ideal) 𝒱 c bd arg0 harg0 arg1 harg1 arg2 harg2 arg3 harg3 arg4 harg4 arg5 harg5 arg6 harg6 arg7 harg7 arg8 harg8 arg9 harg9 arg10 harg10 arg11 harg11 arg12 harg12 (harg0.unread x0) (harg1.unread x1) (harg2.unread x2) (harg3.unread x3) (harg4.unread x4) (harg5.unread x5) (harg6.unread x6) (harg7.unread x7) (harg8.unread x8) (harg9.unread x9) (k0_pay2 w, k0_pay1, k0_pay1, k0_pay1, k0_pay1) n).2.1 (ix3 b 0 j) = ((∑ i ∈ Finset.range n, D.term 0 j b i : ℝ) : EReal)
      ∧ (st_k0_t1 (F := Ideal) 𝒱 c bd arg0 harg0 arg1 harg1 arg2 harg2 arg3 harg3 arg4 harg4 arg5 harg5 arg6 harg6 arg7 harg7 arg8 harg8 arg9 harg9 arg10 harg10 arg11 harg11 arg12 harg12 (harg0.unread x0) (harg1.unread x1) (harg2.unread x2) (harg3.unread x3) (harg4.unread x4) (harg5.unread x5) (harg6.unread x6) (harg7.unread x7) (harg8.unread x8) (harg9.unread x9) (k0_pay2 w, k0_pay1, k0_pay1, k0_pay1, k0_pay1) n).2.2.1 (ix3 b 0 j) = ((∑ i ∈ Finset.range n, D.term 1 j b i : ℝ) : EReal)
      ∧ (st_k0_t1 (F := Ideal) 𝒱 c bd arg0 harg0 arg1 harg1 arg2 harg2 arg3 harg3 arg4 harg4 arg5 harg5 arg6 harg6 arg7 harg7 arg8 harg8 arg9 harg9 arg10 harg10 arg11 harg11 arg12 harg12 (harg0.unread x0) (harg1.unread x1) (harg2.unread x2) (harg3.unread x3) (harg4.unread x4) (harg5.unread x5) (harg6.unread x6) (harg7.unread x7) (harg8.unread x8) (harg9.unread x9) (k0_pay2 w, k0_pay1, k0_pay1, k0_pay1, k0_pay1) n).2.2.2.1 (ix3 b 0 j) = ((∑ i ∈ Finset.range n, D.term 2 j b i : ℝ) : EReal)
      ∧ (st_k0_t1 (F := Ideal) 𝒱 c bd arg0 harg0 arg1 harg1 arg2 harg2 arg3 harg3 arg4 harg4 arg5 harg5 arg6 harg6 arg7 harg7 arg8 harg8 arg9 harg9 arg10 harg10 arg11 harg11 arg12 harg12 (harg0.unread x0) (harg1.unread x1) (harg2.unread x2) (harg3.unread x3) (harg4.unread x4) (harg5.unread x5) (harg6.unread x6) (harg7.unread x7) (harg8.unread x8) (harg9.unread x9) (k0_pay2 w, k0_pay1, k0_pay1, k0_pay1, k0_pay1) n).2.2.2.2 (ix3 b 0 j) = ((∑ i ∈ Finset.range n, D.term 3 j b i : ℝ) : EReal) := by
  induction n with
  | zero =>
    have z : ((∑ i ∈ Finset.range 0, (0 : ℝ) : ℝ) : EReal) = 0 := by simp
    have e0 : (k0_pay1 : FVec Ideal S2x1x7168 .f32) (ix3 b 0 j) = (0 : EReal) := Ideal.ofBits_zero_f32
    rw [st_k0_t1.eq_1]
    simp only [Finset.range_zero, Finset.sum_empty, EReal.coe_zero]
    refine ⟨?_, e0, e0, e0, e0⟩
    unfold k0_pay2
    simp only [shapeCast_self]
    rw [hw]
    exact R.dl b j
  | succ n ih =>
    have hn' : n < 4096 := by have := rtrips; omega
    obtain ⟨i0, i1, i2, i3, i4⟩ := ih (by omega)
    have ss := st_k0_t1_succ (F := Ideal) 𝒱 c bd arg0 harg0 arg1 harg1 arg2 harg2 arg3 harg3 arg4 harg4 arg5 harg5 arg6 harg6 arg7 harg7 arg8 harg8 arg9 harg9 arg10 harg10 arg11 harg11 arg12 harg12 (harg0.unread x0) (harg1.unread x1) (harg2.unread x2) (harg3.unread x3) (harg4.unread x4) (harg5.unread x5) (harg6.unread x6) (harg7.unread x7) (harg8.unread x8) (harg9.unread x9) (k0_pay2 w, k0_pay1, k0_pay1, k0_pay1, k0_pay1) ⟨n, hn⟩
    rw [trip_eq] at ss
    dsimp only at ss
    rw [ss]
    generalize (st_k0_t1 (F := Ideal) 𝒱 c bd arg0 harg0 arg1 harg1 arg2 harg2 arg3 harg3 arg4 harg4 arg5 harg5 arg6 harg6 arg7 harg7 arg8 harg8 arg9 harg9 arg10 harg10 arg11 harg11 arg12 harg12 (harg0.unread x0) (harg1.unread x1) (harg2.unread x2) (harg3.unread x3) (harg4.unread x4) (harg5.unread x5) (harg6.unread x6) (harg7.unread x7) (harg8.unread x8) (harg9.unread x9) (k0_pay2 w, k0_pay1, k0_pay1, k0_pay1, k0_pay1) n) = S at i0 i1 i2 i3 i4
    simp only [Finset.sum_range_succ]
    refine stepV_apply _ _ _ _ _ _ _ _ _ _ _ _ S (D.par j) (D.stp j b n) b j _ _ _ _ _
      ?hg ?hx ?hxt ?huf ?hur ?hc ?hcp ?hvf ?hvr ?hbf ?hbr i0 i1 i2 i3 i4
    case hg => exact (congrArg₂ (fun (p q : EReal) => p * q) (GatesIdeal.Gen.ld_whole harg4 x4 _ (k0_off1_eq ⟨n, hn⟩) (ix3 b 0 j) (ix3 b (⟨4095 - n, by omega⟩ : Fin 4096) j) (fun a => by match a with | ⟨0, _⟩ => exact (Nat.zero_add _).symm | ⟨1, _⟩ => rfl | ⟨2, _⟩ => exact (Nat.zero_add _).symm)) (GatesIdeal.Gen.ld_whole harg5 x5 _ (k0_off2_eq ⟨n, hn⟩) (ix3 b 0 0) (ix3 b (⟨4095 - n, by omega⟩ : Fin 4096) 0) (fun a => by match a with | ⟨0, _⟩ => exact (Nat.zero_add _).symm | ⟨1, _⟩ => rfl | ⟨2, _⟩ => exact (Nat.zero_add _).symm))).trans (R.g b _ j)
    case hx => exact (GatesIdeal.Gen.ld_whole harg0 x0 _ (k0_off1_eq ⟨n, hn⟩) (ix3 b 0 j) (ix3 b (⟨4095 - n, by omega⟩ : Fin 4096) j) (fun a => by match a with | ⟨0, _⟩ => exact (Nat.zero_add _).symm | ⟨1, _⟩ => rfl | ⟨2, _⟩ => exact (Nat.zero_add _).symm)).trans (R.x b _ j)
    case hxt => exact (GatesIdeal.Gen.ld_whole harg1 x1 _ (k0_off3_eq ⟨n, hn⟩) (ix3 b 0 j) (ix3 b (⟨4095 - n, by omega⟩ : Fin 4096) (ucol 0 j)) (fun a => by match a with | ⟨0, _⟩ => exact (Nat.zero_add _).symm | ⟨1, _⟩ => rfl | ⟨2, _⟩ => rfl)).trans (R.xt b _ j)
    case huf => exact (GatesIdeal.Gen.ld_whole harg1 x1 _ (k0_off4_eq ⟨n, hn⟩) (ix3 b 0 j) (ix3 b (⟨4095 - n, by omega⟩ : Fin 4096) (ucol 1 j)) (fun a => by match a with | ⟨0, _⟩ => exact (Nat.zero_add _).symm | ⟨1, _⟩ => rfl | ⟨2, _⟩ => rfl)).trans (R.uf b _ j)
    case hur => exact (GatesIdeal.Gen.ld_whole harg1 x1 _ (k0_off5_eq ⟨n, hn⟩) (ix3 b 0 j) (ix3 b (⟨4095 - n, by omega⟩ : Fin 4096) (ucol 2 j)) (fun a => by match a with | ⟨0, _⟩ => exact (Nat.zero_add _).symm | ⟨1, _⟩ => rfl | ⟨2, _⟩ => rfl)).trans (R.ur b _ j)
    case hc => exact (GatesIdeal.Gen.ld_whole harg2 x2 _ (k0_off1_eq ⟨n, hn⟩) (ix3 b 0 j) (ix3 b (⟨4095 - n, by omega⟩ : Fin 4096) j) (fun a => by match a with | ⟨0, _⟩ => exact (Nat.zero_add _).symm | ⟨1, _⟩ => rfl | ⟨2, _⟩ => exact (Nat.zero_add _).symm)).trans (R.c b _ j)
    case hcp => exact (GatesIdeal.Gen.ld_whole harg3 x3 _ (k0_off1_eq ⟨n, hn⟩) (ix3 b 0 j) (ix3 b (⟨4095 - n, by omega⟩ : Fin 4096) j) (fun a => by match a with | ⟨0, _⟩ => exact (Nat.zero_add _).symm | ⟨1, _⟩ => rfl | ⟨2, _⟩ => exact (Nat.zero_add _).symm)).trans (R.cp b _ j)
    case hvf => exact (GatesIdeal.Gen.ld_whole harg6 x6 _ (rfl) (ix3 0 0 j) (ix3 0 0 j) (fun a => by match a with | ⟨0, _⟩ => exact (Nat.zero_add _).symm | ⟨1, _⟩ => rfl | ⟨2, _⟩ => exact (Nat.zero_add _).symm)).trans (R.vf j)
    case hvr => exact (GatesIdeal.Gen.ld_whole harg7 x7 _ (rfl) (ix3 0 0 j) (ix3 0 0 j) (fun a => by match a with | ⟨0, _⟩ => exact (Nat.zero_add _).symm | ⟨1, _⟩ => rfl | ⟨2, _⟩ => exact (Nat.zero_add _).symm)).trans (R.vr j)
    case hbf => exact (GatesIdeal.Gen.ld_whole harg8 x8 _ (rfl) (ix3 0 0 j) (ix3 0 0 j) (fun a => by match a with | ⟨0, _⟩ => exact (Nat.zero_add _).symm | ⟨1, _⟩ => rfl | ⟨2, _⟩ => exact (Nat.zero_add _).symm)).trans (R.bf j)
    case hbr => exact (GatesIdeal.Gen.ld_whole harg9 x9 _ (rfl) (ix3 0 0 j) (ix3 0 0 j) (fun a => by match a with | ⟨0, _⟩ => exact (Nat.zero_add _).symm | ⟨1, _⟩ => rfl | ⟨2, _⟩ => exact (Nat.zero_add _).symm)).trans (R.br j)

omit 𝒱 bd in
/-- What the run leaves: the state's derivative and the four sums. -/
theorem rpieces (D : Nums) (R : RRep D x0 x1 x2 x3 x4 x5 x6 x7 x8 x9 x10) : ∃ S : FVec Ideal S2x1x7168 .f32 × FVec Ideal S2x1x7168 .f32 × FVec Ideal S2x1x7168 .f32 × FVec Ideal S2x1x7168 .f32 × FVec Ideal S2x1x7168 .f32,
    (kernelRun0_A (F := Ideal) c arg0 harg0 arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10).1 = [⟨Rect.unit (s := S2x1x7168) ![0, 0, 0] S2x1x7168.size inb_S2x1x7168_S2x1x7168_0_0_0, S.1⟩]
    ∧ (kernelRun0_A (F := Ideal) c arg0 harg0 arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10).2.1 = [⟨Rect.unit (s := S4x7168) ![3, 0] S1x7168.size inb_S4x7168_S1x7168_3_0, k0_pay6 S.2.2.2.2⟩,
      ⟨Rect.unit (s := S4x7168) ![2, 0] S1x7168.size inb_S4x7168_S1x7168_2_0, k0_pay5 S.2.2.2.1⟩,
      ⟨Rect.unit (s := S4x7168) ![1, 0] S1x7168.size inb_S4x7168_S1x7168_1_0, k0_pay4 S.2.2.1⟩,
      ⟨Rect.unit (s := S4x7168) ![0, 0] S1x7168.size inb_S4x7168_S1x7168_0_0, k0_pay3 S.2.1⟩]
    ∧ ∀ (b : Fin 2) (j : Fin 7168), S.1 (ix3 b 0 j) = (D.bk j b k0_t1_loop.trips : EReal)
      ∧ S.2.1 (ix3 b 0 j) = ((∑ i ∈ Finset.range k0_t1_loop.trips, D.term 0 j b i : ℝ) : EReal)
      ∧ S.2.2.1 (ix3 b 0 j) = ((∑ i ∈ Finset.range k0_t1_loop.trips, D.term 1 j b i : ℝ) : EReal)
      ∧ S.2.2.2.1 (ix3 b 0 j) = ((∑ i ∈ Finset.range k0_t1_loop.trips, D.term 2 j b i : ℝ) : EReal)
      ∧ S.2.2.2.2 (ix3 b 0 j) = ((∑ i ∈ Finset.range k0_t1_loop.trips, D.term 3 j b i : ℝ) : EReal) := by
  have hw : View.readAt (Elt Ideal) arg10.view (Rect.unit (s := S2x1x7168) ![0, 0, 0] S2x1x7168.size inb_S2x1x7168_S2x1x7168_0_0_0).toLoadRect (harg10.unread x10) = x10 :=
    funext fun y => GatesIdeal.Gen.ld_whole harg10 x10 _ rfl y y (fun a => by
      match a with | ⟨0, _⟩ => exact (Nat.zero_add _).symm | ⟨1, _⟩ => exact (Nat.zero_add _).symm | ⟨2, _⟩ => exact (Nat.zero_add _).symm)
  refine ⟨_, ?_, ?_, fun b j => rloop Variants.none c none arg0 harg0 arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 D R _ hw _ le_rfl b j⟩
  · rfl
  · rfl

omit 𝒱 bd in
theorem rout11 (D : Nums) (R : RRep D x0 x1 x2 x3 x4 x5 x6 x7 x8 x9 x10) (b : Fin 2) (j : Fin 7168) :
    out0_A_11 c arg0 harg0 arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 (ix3 b 0 j) = (D.out b j : EReal) := by
  obtain ⟨S, e, -, L⟩ := rpieces c arg0 harg0 arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 D R
  unfold out0_A_11
  rw [e]
  refine (View.read_writes_cons_unit_of_mem VO0_11 _ _ _ _ (ix3 b 0 j) (ix3 b 0 j) rfl (fun a => by
    match a with | ⟨0, _⟩ => exact (Nat.zero_add _).symm | ⟨1, _⟩ => rfl | ⟨2, _⟩ => exact (Nat.zero_add _).symm)).trans ?_
  rw [(L b j).1, rtrips]
  rfl

omit 𝒱 bd in
theorem rout12 (D : Nums) (R : RRep D x0 x1 x2 x3 x4 x5 x6 x7 x8 x9 x10) (q : Fin 4) (j : Fin 7168) :
    out0_A_12 c arg0 harg0 arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 (ix2 q j) = (D.total q j : EReal) := by
  obtain ⟨S, -, e, L⟩ := rpieces c arg0 harg0 arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 D R
  unfold out0_A_12
  rw [e]
  rw [rtrips] at L
  match q with
  | 0 =>
    refine (View.read_writes_cons_unit_of_not_mem VO0_12 _ _ _ _ (ix2 0 j) rfl (0 : Fin 2) (.inl (by show 0 < 3; norm_num))).trans ?_
    refine (View.read_writes_cons_unit_of_not_mem VO0_12 _ _ _ _ (ix2 0 j) rfl (0 : Fin 2) (.inl (by show 0 < 2; norm_num))).trans ?_
    refine (View.read_writes_cons_unit_of_not_mem VO0_12 _ _ _ _ (ix2 0 j) rfl (0 : Fin 2) (.inl (by show 0 < 1; norm_num))).trans ?_
    refine (View.read_writes_cons_unit_of_mem VO0_12 _ _ _ _ (ix2 0 j) (ix2 0 j) rfl (fun a => by
      match a with | ⟨0, _⟩ => rfl | ⟨1, _⟩ => exact (Nat.zero_add _).symm)).trans ?_
    refine (sum2_apply _ j).trans ?_
    unfold Nums.total
    rw [Fin.sum_univ_two, Fin.sum_univ_two, EReal.coe_add]
    exact congrArg₂ (fun (p q : EReal) => p + q) (L 0 j).2.1 (L 1 j).2.1
  | 1 =>
    refine (View.read_writes_cons_unit_of_not_mem VO0_12 _ _ _ _ (ix2 1 j) rfl (0 : Fin 2) (.inl (by show 1 < 3; norm_num))).trans ?_
    refine (View.read_writes_cons_unit_of_not_mem VO0_12 _ _ _ _ (ix2 1 j) rfl (0 : Fin 2) (.inl (by show 1 < 2; norm_num))).trans ?_
    refine (View.read_writes_cons_unit_of_mem VO0_12 _ _ _ _ (ix2 1 j) (ix2 0 j) rfl (fun a => by
      match a with | ⟨0, _⟩ => rfl | ⟨1, _⟩ => exact (Nat.zero_add _).symm)).trans ?_
    refine (sum2_apply _ j).trans ?_
    unfold Nums.total
    rw [Fin.sum_univ_two, Fin.sum_univ_two, EReal.coe_add]
    exact congrArg₂ (fun (p q : EReal) => p + q) (L 0 j).2.2.1 (L 1 j).2.2.1
  | 2 =>
    refine (View.read_writes_cons_unit_of_not_mem VO0_12 _ _ _ _ (ix2 2 j) rfl (0 : Fin 2) (.inl (by show 2 < 3; norm_num))).trans ?_
    refine (View.read_writes_cons_unit_of_mem VO0_12 _ _ _ _ (ix2 2 j) (ix2 0 j) rfl (fun a => by
      match a with | ⟨0, _⟩ => rfl | ⟨1, _⟩ => exact (Nat.zero_add _).symm)).trans ?_
    refine (sum2_apply _ j).trans ?_
    unfold Nums.total
    rw [Fin.sum_univ_two, Fin.sum_univ_two, EReal.coe_add]
    exact congrArg₂ (fun (p q : EReal) => p + q) (L 0 j).2.2.2.1 (L 1 j).2.2.2.1
  | 3 =>
    refine (View.read_writes_cons_unit_of_mem VO0_12 _ _ _ _ (ix2 3 j) (ix2 0 j) rfl (fun a => by
      match a with | ⟨0, _⟩ => rfl | ⟨1, _⟩ => exact (Nat.zero_add _).symm)).trans ?_
    refine (sum2_apply _ j).trans ?_
    unfold Nums.total
    rw [Fin.sum_univ_two, Fin.sum_univ_two, EReal.coe_add]
    exact congrArg₂ (fun (p q : EReal) => p + q) (L 0 j).2.2.2.2 (L 1 j).2.2.2.2
end

end Cert.GatesReferenceIdeal.Gen

end
-- ==== Proof.GRefF.lean ====
/- The reference of the first call: what its two result arrays hold after the run. -/
module

public import proofs.«01_k».proof.Proof.GRef

@[expose] public section

set_option maxRecDepth 16384

noncomputable section

namespace Cert.GatesReferenceIdeal.Gen

open Idealize.ShloMosaic hiding ix2 ix3
open Idealize.ShloMosaic.TcCoe Idealize.SL.Sem Cert.GMath
open Idealize.ShloMosaic.Pipeline (Dat)
open Idealize.ShloMosaic.ValueIdx (ix2 ix3)

theorem rix0 : ∀ t : Fin cfg0.N, win0_0.index t = ![0, 0, 0] := (by decide +kernel : ∀ t : Fin grid0.N, _)
theorem rix1 : ∀ t : Fin cfg0.N, win0_1.index t = ![0, 0, 0] := (by decide +kernel : ∀ t : Fin grid0.N, _)
theorem rix2 : ∀ t : Fin cfg0.N, win0_2.index t = ![0, 0, 0] := (by decide +kernel : ∀ t : Fin grid0.N, _)
theorem rix3 : ∀ t : Fin cfg0.N, win0_3.index t = ![0, 0, 0] := (by decide +kernel : ∀ t : Fin grid0.N, _)
theorem rix4 : ∀ t : Fin cfg0.N, win0_4.index t = ![0, 0, 0] := (by decide +kernel : ∀ t : Fin grid0.N, _)
theorem rix5 : ∀ t : Fin cfg0.N, win0_5.index t = ![0, 0, 0] := (by decide +kernel : ∀ t : Fin grid0.N, _)
theorem rix6 : ∀ t : Fin cfg0.N, win0_6.index t = ![0, 0, 0] := (by decide +kernel : ∀ t : Fin grid0.N, _)
theorem rix7 : ∀ t : Fin cfg0.N, win0_7.index t = ![0, 0, 0] := (by decide +kernel : ∀ t : Fin grid0.N, _)
theorem rix8 : ∀ t : Fin cfg0.N, win0_8.index t = ![0, 0, 0] := (by decide +kernel : ∀ t : Fin grid0.N, _)
theorem rix9 : ∀ t : Fin cfg0.N, win0_9.index t = ![0, 0, 0] := (by decide +kernel : ∀ t : Fin grid0.N, _)
theorem rix10 : ∀ t : Fin cfg0.N, win0_10.index t = ![0, 0, 0] := (by decide +kernel : ∀ t : Fin grid0.N, _)
theorem rix11 : ∀ t : Fin cfg0.N, win0_11.index t = ![0, 0, 0] := (by decide +kernel : ∀ t : Fin grid0.N, _)
theorem rix12 : ∀ t : Fin cfg0.N, win0_12.index t = ![0, 0] := (by decide +kernel : ∀ t : Fin grid0.N, _)

theorem remb11 (t : Fin cfg0.N) (b : Fin 2) (j : Fin 7168) : (win0_11.blk t).view.emb (ix3 b 0 j) = (ix3 b 0 j : S2x1x7168.Idx) := by
  blk_ext [rix11]
theorem remb12 (t : Fin cfg0.N) (q : Fin 4) (j : Fin 7168) : (win0_12.blk t).view.emb (ix2 q j) = (ix2 q j : S4x7168.Idx) := by
  blk_ext [rix12]

section
variable (m : (ℓ : Loc nD τ sig) → Buf (Elt Ideal) ℓ) (c : Dev nD)

theorem rblk0 (t : Fin cfg0.N) : iblk m c 0 t = V m c main_arg0 := funext fun i => by
  blk_simp [iblk]; exact congrArg (V m c main_arg0) (by blk_ext [rix0])
theorem rblk1 (t : Fin cfg0.N) : iblk m c 1 t = V m c main_arg4 := funext fun i => by
  blk_simp [iblk]; exact congrArg (V m c main_arg4) (by blk_ext [rix1])
theorem rblk2 (t : Fin cfg0.N) : iblk m c 2 t = V m c main_arg5 := funext fun i => by
  blk_simp [iblk]; exact congrArg (V m c main_arg5) (by blk_ext [rix2])
theorem rblk3 (t : Fin cfg0.N) : iblk m c 3 t = V m c main_v3 := funext fun i => by
  blk_simp [iblk]; exact congrArg (V m c main_v3) (by blk_ext [rix3])
theorem rblk4 (t : Fin cfg0.N) : iblk m c 4 t = V m c main_v0 := funext fun i => by
  blk_simp [iblk]; exact congrArg (V m c main_v0) (by blk_ext [rix4])
theorem rblk5 (t : Fin cfg0.N) : iblk m c 5 t = V m c main_v4 := funext fun i => by
  blk_simp [iblk]; exact congrArg (V m c main_v4) (by blk_ext [rix5])
theorem rblk6 (t : Fin cfg0.N) : iblk m c 6 t = V m c main_v5 := funext fun i => by
  blk_simp [iblk]; exact congrArg (V m c main_v5) (by blk_ext [rix6])
theorem rblk7 (t : Fin cfg0.N) : iblk m c 7 t = V m c main_v6 := funext fun i => by
  blk_simp [iblk]; exact congrArg (V m c main_v6) (by blk_ext [rix7])
theorem rblk8 (t : Fin cfg0.N) : iblk m c 8 t = V m c main_v8 := funext fun i => by
  blk_simp [iblk]; exact congrArg (V m c main_v8) (by blk_ext [rix8])
theorem rblk9 (t : Fin cfg0.N) : iblk m c 9 t = V m c main_v10 := funext fun i => by
  blk_simp [iblk]; exact congrArg (V m c main_v10) (by blk_ext [rix9])
theorem rblk10 (t : Fin cfg0.N) : iblk m c 10 t = V m c main_v11 := funext fun i => by
  blk_simp [iblk]; exact congrArg (V m c main_v11) (by blk_ext [rix10])

/-- The derivative of the state before the first position. -/
theorem rfinal11 (D : Nums) (R : RRep D (V m c main_arg0) (V m c main_arg4) (V m c main_arg5) (V m c main_v3) (V m c main_v0) (V m c main_v4) (V m c main_v5) (V m c main_v6) (V m c main_v8) (V m c main_v10) (V m c main_v11)) :
    (dats m 0 c).arrAt 11 cfg0.N = fun i : S2x1x7168.Idx => (D.out (i 0) (i 2) : EReal) := by
  refine (dats m 0 c).arrAt_eq_of_covers 11 _ (by decide +kernel) fun t hf y => ?_
  blk_simp
  rw [after0_11]
  have hy : y = ix3 (y 0) 0 (y 2) := funext fun a => by
    match a with
    | ⟨0, _⟩ => rfl
    | ⟨1, _⟩ => exact Subsingleton.elim (α := Fin 1) _ _
    | ⟨2, _⟩ => rfl
  obtain ⟨b, j, rfl⟩ : ∃ (b : Fin 2) (j : Fin 7168), y = ix3 b 0 j := ⟨y 0, y 2, hy⟩
  dsimp only [outsAt0]
  rw [rblk0, rblk1, rblk2, rblk3, rblk4, rblk5, rblk6, rblk7, rblk8, rblk9, rblk10]
  exact (rout11 c _ _ _ _ _ _ _ _ _ _ _ _ _ _ _ _ _ _ _ _ _ _ _ _ _ _ _ _ _ _ _ _ _ _ _ _ _ D R b j).trans
    (congrArg (fun i : S2x1x7168.Idx => (D.out (i 0) (i 2) : EReal)) (remb11 t b j)).symm

/-- The four sums. -/
theorem rfinal12 (D : Nums) (R : RRep D (V m c main_arg0) (V m c main_arg4) (V m c main_arg5) (V m c main_v3) (V m c main_v0) (V m c main_v4) (V m c main_v5) (V m c main_v6) (V m c main_v8) (V m c main_v10) (V m c main_v11)) :
    (dats m 0 c).arrAt 12 cfg0.N = fun i : S4x7168.Idx => (D.total (i 0) (i 1) : EReal) := by
  refine (dats m 0 c).arrAt_eq_of_covers 12 _ (by decide +kernel) fun t hf y => ?_
  blk_simp
  rw [after0_12]
  obtain ⟨q, j, rfl⟩ : ∃ (q : Fin 4) (j : Fin 7168), y = ix2 q j := ⟨y 0, y 1, ValueIdx.eq_ix2 y⟩
  dsimp only [outsAt0]
  rw [rblk0, rblk1, rblk2, rblk3, rblk4, rblk5, rblk6, rblk7, rblk8, rblk9, rblk10]
  exact (rout12 c _ _ _ _ _ _ _ _ _ _ _ _ _ _ _ _ _ _ _ _ _ _ _ _ _ _ _ _ _ _ _ _ _ _ _ _ _ D R q j).trans
    (congrArg (fun i : S4x7168.Idx => (D.total (i 0) (i 1) : EReal)) (remb12 t q j)).symm
end

end Cert.GatesReferenceIdeal.Gen

end
-- ==== Proof.GHost.lean ====
/- The first call's arguments as real numbers: what the precondition gives, and what the two programs' host operations make of them. -/
module

public import proofs.«01_k».proof.Proof.GFinal
public import proofs.«01_k».proof.Proof.GRefF
public import proofs.«01_k».proof.Proof.GFrame2
public import proofs.«01_k».proof.Pre_all_finite
public import proofs.«01_k».proof.Defs

@[expose] public section

set_option maxRecDepth 16384

noncomputable section

namespace Cert.Proof.GHost

open Idealize.ShloMosaic hiding ix2 ix3
open Idealize.ShloMosaic.TcCoe Idealize.SL.Sem Cert.GMath
open Idealize.ShloMosaic.ValueIdx (ix2 ix3)

/-- The predicate's side conditions: a scalar broadcasts to any shape. -/
theorem preFacts : Cert.Pre_all_finite.Facts := ⟨by decide, by decide, by decide, by decide, by decide, by decide⟩

/-- The one-axis index. -/
abbrev jx (j : Fin 7168) : Cert.Pre_all_finite.S7168.Idx := ValueIdx.ix1 j

/-- A code's value is a real number where its exponent is not all ones. -/
theorem code_real (x : BitVec 8) (h : (BitVec.signExtend 32 x &&& 124#32) ≠ 124#32) :
    Ideal.ofBits .fp8e5m2 x = ((Ideal.ofBits .fp8e5m2 x : EReal).toReal : EReal) := by
  have hx : (x.extractLsb' 2 5).toNat ≠ 31 := by
    revert h; revert x; decide
  show Ideal.ieee 5 2 x = ((Ideal.ieee 5 2 x).toReal : EReal)
  unfold Ideal.ieee
  dsimp only
  rw [if_neg (by norm_num; exact hx)]
  split
  · rw [EReal.toReal_coe]
  · rw [EReal.toReal_coe]

theorem real_of_abs (x b : EReal) (hb : b = ⊤) (h : Ideal.cmp .olt (max x (-x)) b = 1#1) : x = (x.toReal : EReal) := by
  subst hb
  have h1 := (Ideal.cmp_olt_eq_one _ _).1 h
  refine (EReal.coe_toReal (fun e => ?_) (fun e => ?_)).symm
  · rw [e] at h1; simp at h1
  · rw [e] at h1; simp at h1

theorem inf32 : Ideal.ofBits .f32 0x7F800000#32 = ⊤ := by simp [Ideal.ofBits, Ideal.ieee]
theorem inf16 : Ideal.ofBits .bf16 0x7F80#16 = ⊤ := by simp [Ideal.ofBits, Ideal.ieee]

/-- Every argument is a real number in every entry. -/
structure Reals (a0 : FVec Ideal (Cert.Pre_all_finite.S2x4096x7168) .bf16) (a1 : FVec Ideal (Cert.Pre_all_finite.S7168) .f32) (a2 : FVec Ideal (Cert.Pre_all_finite.S7168) .f32) (a3 : FVec Ideal (Cert.Pre_all_finite.S2x7168) .f32) (a4 : FVec Ideal (Cert.Pre_all_finite.S2x4096x21504) .bf16) (a5 : FVec Ideal (Cert.Pre_all_finite.S2x4096x7168) .f32) (a6 : FVec Ideal (Cert.Pre_all_finite.S2x7168) .f32) (a7 : IVec (Cert.Pre_all_finite.S2x4096x7168) 8) (a8 : FVec Ideal (Cert.Pre_all_finite.S2x4096) .f32) (a9 : FVec Ideal (Cert.Pre_all_finite.S2x7168) .f32) : Prop where
  r0 : ∀ i, (a0 i : EReal) = ((a0 i : EReal).toReal : EReal)
  r1 : ∀ i, (a1 i : EReal) = ((a1 i : EReal).toReal : EReal)
  r2 : ∀ i, (a2 i : EReal) = ((a2 i : EReal).toReal : EReal)
  r3 : ∀ i, (a3 i : EReal) = ((a3 i : EReal).toReal : EReal)
  r4 : ∀ i, (a4 i : EReal) = ((a4 i : EReal).toReal : EReal)
  r5 : ∀ i, (a5 i : EReal) = ((a5 i : EReal).toReal : EReal)
  r6 : ∀ i, (a6 i : EReal) = ((a6 i : EReal).toReal : EReal)
  r7 : ∀ i, (Ideal.ofBits .fp8e5m2 (a7 i) : EReal) = ((Ideal.ofBits .fp8e5m2 (a7 i) : EReal).toReal : EReal)
  r8 : ∀ i, (a8 i : EReal) = ((a8 i : EReal).toReal : EReal)
  r9 : ∀ i, (a9 i : EReal) = ((a9 i : EReal).toReal : EReal)

/-- What the precondition says of the arguments. -/
theorem reals_of_pre [Cert.Pre_all_finite.Facts] (a0 : FVec Ideal (Cert.Pre_all_finite.S2x4096x7168) .bf16) (a1 : FVec Ideal (Cert.Pre_all_finite.S7168) .f32) (a2 : FVec Ideal (Cert.Pre_all_finite.S7168) .f32) (a3 : FVec Ideal (Cert.Pre_all_finite.S2x7168) .f32) (a4 : FVec Ideal (Cert.Pre_all_finite.S2x4096x21504) .bf16) (a5 : FVec Ideal (Cert.Pre_all_finite.S2x4096x7168) .f32) (a6 : FVec Ideal (Cert.Pre_all_finite.S2x7168) .f32) (a7 : IVec (Cert.Pre_all_finite.S2x4096x7168) 8) (a8 : FVec Ideal (Cert.Pre_all_finite.S2x4096) .f32) (a9 : FVec Ideal (Cert.Pre_all_finite.S2x7168) .f32)
    (h : ((Cert.Pre_all_finite.fn (F := Ideal) a0 a1 a2 a3 a4 a5 a6 a7 a8 a9).1 = fun _ => 1#1) ∧ ((Cert.Pre_all_finite.fn (F := Ideal) a0 a1 a2 a3 a4 a5 a6 a7 a8 a9).2.1 = fun _ => 1#1) ∧ ((Cert.Pre_all_finite.fn (F := Ideal) a0 a1 a2 a3 a4 a5 a6 a7 a8 a9).2.2.1 = fun _ => 1#1) ∧ ((Cert.Pre_all_finite.fn (F := Ideal) a0 a1 a2 a3 a4 a5 a6 a7 a8 a9).2.2.2.1 = fun _ => 1#1) ∧ ((Cert.Pre_all_finite.fn (F := Ideal) a0 a1 a2 a3 a4 a5 a6 a7 a8 a9).2.2.2.2.1 = fun _ => 1#1) ∧ ((Cert.Pre_all_finite.fn (F := Ideal) a0 a1 a2 a3 a4 a5 a6 a7 a8 a9).2.2.2.2.2.1 = fun _ => 1#1) ∧ ((Cert.Pre_all_finite.fn (F := Ideal) a0 a1 a2 a3 a4 a5 a6 a7 a8 a9).2.2.2.2.2.2.1 = fun _ => 1#1) ∧ ((Cert.Pre_all_finite.fn (F := Ideal) a0 a1 a2 a3 a4 a5 a6 a7 a8 a9).2.2.2.2.2.2.2.1 = fun _ => 1#1) ∧ ((Cert.Pre_all_finite.fn (F := Ideal) a0 a1 a2 a3 a4 a5 a6 a7 a8 a9).2.2.2.2.2.2.2.2.1 = fun _ => 1#1) ∧ ((Cert.Pre_all_finite.fn (F := Ideal) a0 a1 a2 a3 a4 a5 a6 a7 a8 a9).2.2.2.2.2.2.2.2.2 = fun _ => 1#1)) : Reals a0 a1 a2 a3 a4 a5 a6 a7 a8 a9 where
  r0 i := by
    have e := congrFun (h.1) i
    simp only [Cert.Pre_all_finite.fn, Cert.Pre_all_finite.fn_part1, ValueIdx.cmpf_apply, Ideal.cmpf_def] at e
    exact real_of_abs _ _ inf16 e
  r1 i := by
    have e := congrFun (h.2.1) i
    simp only [Cert.Pre_all_finite.fn, Cert.Pre_all_finite.fn_part1, ValueIdx.cmpf_apply, Ideal.cmpf_def] at e
    exact real_of_abs _ _ inf32 e
  r2 i := by
    have e := congrFun (h.2.2.1) i
    simp only [Cert.Pre_all_finite.fn, Cert.Pre_all_finite.fn_part1, ValueIdx.cmpf_apply, Ideal.cmpf_def] at e
    exact real_of_abs _ _ inf32 e
  r3 i := by
    have e := congrFun (h.2.2.2.1) i
    simp only [Cert.Pre_all_finite.fn, Cert.Pre_all_finite.fn_part1, ValueIdx.cmpf_apply, Ideal.cmpf_def] at e
    exact real_of_abs _ _ inf32 e
  r4 i := by
    have e := congrFun (h.2.2.2.2.1) i
    simp only [Cert.Pre_all_finite.fn, Cert.Pre_all_finite.fn_part1, ValueIdx.cmpf_apply, Ideal.cmpf_def] at e
    exact real_of_abs _ _ inf16 e
  r5 i := by
    have e := congrFun (h.2.2.2.2.2.1) i
    simp only [Cert.Pre_all_finite.fn, Cert.Pre_all_finite.fn_part1, ValueIdx.cmpf_apply, Ideal.cmpf_def] at e
    exact real_of_abs _ _ inf32 e
  r6 i := by
    have e := congrFun (h.2.2.2.2.2.2.1) i
    simp only [Cert.Pre_all_finite.fn, Cert.Pre_all_finite.fn_part1, ValueIdx.cmpf_apply, Ideal.cmpf_def] at e
    exact real_of_abs _ _ inf32 e
  r7 i := by
    have e := congrFun (h.2.2.2.2.2.2.2.2.2) i
    simp only [Cert.Pre_all_finite.fn, Cert.Pre_all_finite.fn_part1] at e
    refine code_real (a7 i) fun hc => ?_
    have e' : BitVec.ofBool ((BitVec.signExtend 32 (a7 i) &&& 124#32) != 124#32) = 1#1 := e
    rw [hc] at e'
    exact absurd e' (by decide)
  r8 i := by
    have e := congrFun (h.2.2.2.2.2.2.2.1) i
    simp only [Cert.Pre_all_finite.fn, Cert.Pre_all_finite.fn_part1, ValueIdx.cmpf_apply, Ideal.cmpf_def] at e
    exact real_of_abs _ _ inf32 e
  r9 i := by
    have e := congrFun (h.2.2.2.2.2.2.2.2.1) i
    simp only [Cert.Pre_all_finite.fn, Cert.Pre_all_finite.fn_part1, ValueIdx.cmpf_apply, Ideal.cmpf_def] at e
    exact real_of_abs _ _ inf32 e

/-- The arguments as real numbers. -/
def nums (a0 : FVec Ideal (Cert.Pre_all_finite.S2x4096x7168) .bf16) (a1 : FVec Ideal (Cert.Pre_all_finite.S7168) .f32) (a2 : FVec Ideal (Cert.Pre_all_finite.S7168) .f32) (a3 : FVec Ideal (Cert.Pre_all_finite.S2x7168) .f32) (a4 : FVec Ideal (Cert.Pre_all_finite.S2x4096x21504) .bf16) (a5 : FVec Ideal (Cert.Pre_all_finite.S2x4096x7168) .f32) (a6 : FVec Ideal (Cert.Pre_all_finite.S2x7168) .f32) (a7 : IVec (Cert.Pre_all_finite.S2x4096x7168) 8) (a8 : FVec Ideal (Cert.Pre_all_finite.S2x4096) .f32) (a9 : FVec Ideal (Cert.Pre_all_finite.S2x7168) .f32) : Nums where
  g b t j := (Ideal.ofBits .fp8e5m2 (a7 (ix3 b t j)) : EReal).toReal * (a8 (ix2 b t) : EReal).toReal
  x b t j := (a0 (ix3 b t j) : EReal).toReal
  xt b t j := (a4 (ix3 b t (GatesIdeal.Gen.ucol 0 j)) : EReal).toReal
  uf b t j := (a4 (ix3 b t (GatesIdeal.Gen.ucol 1 j)) : EReal).toReal
  ur b t j := (a4 (ix3 b t (GatesIdeal.Gen.ucol 2 j)) : EReal).toReal
  c b t j := (a5 (ix3 b t j) : EReal).toReal
  c0 b j := (a6 (ix2 b j) : EReal).toReal
  dl b j := (a9 (ix2 b j) : EReal).toReal
  vf j := (a1 (jx j) : EReal).toReal
  vr j := (a2 (jx j) : EReal).toReal
  bf j := (a3 (ix2 0 j) : EReal).toReal
  br j := (a3 (ix2 1 j) : EReal).toReal

theorem g_real {x y : EReal} (h1 : x = (x.toReal : EReal)) (h2 : y = (y.toReal : EReal)) : x * y = ((x.toReal * y.toReal : ℝ) : EReal) := by
  rw [EReal.coe_mul, ← h1, ← h2]

section Kernel
open Cert.GatesIdeal Cert.GatesIdeal.Gen
variable (m : (ℓ : Loc nD τ sig) → Buf (Elt Ideal) ℓ) (c : Dev nD)

theorem cat3_congr (x x' y y' : Vec Ideal S1x7168 .f32) (z z' : Vec Ideal S2x7168 .f32) (h) (hx : x = x') (hy : y = y') (hz : z = z') :
    concatenate S4x7168 0 [⟨S1x7168, x⟩, ⟨S1x7168, y⟩, ⟨S2x7168, z⟩] h = concatenate S4x7168 0 [⟨S1x7168, x'⟩, ⟨S1x7168, y'⟩, ⟨S2x7168, z'⟩] h := by
  subst hx; subst hy; subst hz; rfl
theorem cat3_0 (x y : Vec Ideal S1x7168 .f32) (z : Vec Ideal S2x7168 .f32) (h) (j : Fin 7168) :
    concatenate S4x7168 0 [⟨S1x7168, x⟩, ⟨S1x7168, y⟩, ⟨S2x7168, z⟩] h (ix2 0 j) = x (ix2 0 j) :=
  concatenate_apply_piece 0 [⟨S1x7168, x⟩, ⟨S1x7168, y⟩, ⟨S2x7168, z⟩] h (ix2 0 j) 0 (by simp) S1x7168 x rfl rfl 0 rfl (ix2 0 j) (fun b hb => by
    match b with | ⟨0, _⟩ => exact absurd rfl hb | ⟨1, _⟩ => rfl) rfl
theorem cat3_1 (x y : Vec Ideal S1x7168 .f32) (z : Vec Ideal S2x7168 .f32) (h) (j : Fin 7168) :
    concatenate S4x7168 0 [⟨S1x7168, x⟩, ⟨S1x7168, y⟩, ⟨S2x7168, z⟩] h (ix2 1 j) = y (ix2 0 j) :=
  concatenate_apply_piece 0 [⟨S1x7168, x⟩, ⟨S1x7168, y⟩, ⟨S2x7168, z⟩] h (ix2 1 j) 1 (by simp) S1x7168 y rfl rfl 1 rfl (ix2 0 j) (fun b hb => by
    match b with | ⟨0, _⟩ => exact absurd rfl hb | ⟨1, _⟩ => rfl) rfl
theorem cat3_2 (x y : Vec Ideal S1x7168 .f32) (z : Vec Ideal S2x7168 .f32) (h) (j : Fin 7168) :
    concatenate S4x7168 0 [⟨S1x7168, x⟩, ⟨S1x7168, y⟩, ⟨S2x7168, z⟩] h (ix2 2 j) = z (ix2 0 j) :=
  concatenate_apply_piece 0 [⟨S1x7168, x⟩, ⟨S1x7168, y⟩, ⟨S2x7168, z⟩] h (ix2 2 j) 2 (by simp) S2x7168 z rfl rfl 2 rfl (ix2 0 j) (fun b hb => by
    match b with | ⟨0, _⟩ => exact absurd rfl hb | ⟨1, _⟩ => rfl) rfl
theorem cat3_3 (x y : Vec Ideal S1x7168 .f32) (z : Vec Ideal S2x7168 .f32) (h) (j : Fin 7168) :
    concatenate S4x7168 0 [⟨S1x7168, x⟩, ⟨S1x7168, y⟩, ⟨S2x7168, z⟩] h (ix2 3 j) = z (ix2 1 j) :=
  concatenate_apply_piece 0 [⟨S1x7168, x⟩, ⟨S1x7168, y⟩, ⟨S2x7168, z⟩] h (ix2 3 j) 2 (by simp) S2x7168 z rfl rfl 2 rfl (ix2 1 j) (fun b hb => by
    match b with | ⟨0, _⟩ => exact absurd rfl hb | ⟨1, _⟩ => rfl) rfl

theorem kv0 : V m c main_v0 = (bitcastToFloat (F := Ideal) (s := S2x4096x7168) .fp8e5m2 (m ((c : Thread nD τ).loc main_arg7))) := by
  show StableHlo.after hostOps0 _ _ = _
  after_results
theorem kv3 : V m c main_v3 = concatenate S4x7168 0 [⟨S1x7168, broadcastInDim S1x7168 ![1] bcast_S7168_S1x7168_1 (m ((c : Thread nD τ).loc main_arg1))⟩, ⟨S1x7168, broadcastInDim S1x7168 ![1] bcast_S7168_S1x7168_1 (m ((c : Thread nD τ).loc main_arg2))⟩, ⟨S2x7168, (m ((c : Thread nD τ).loc main_arg3))⟩] concatenates_S1x7168_S1x7168_S2x7168_S4x7168_d0 := by
  show StableHlo.after hostOps0 _ _ = _
  after_results
  exact cat3_congr _ _ _ _ _ _ _ (by show HloOp.result _ _ (Proc.devRef .tc main_v1) = _; exact (StableHlo.unary_result_ne _ _ _ _ _ _ (by decide)).trans ((StableHlo.unary_result _ _ _ _ _ _).trans (congrArg _ (StableHlo.unary_result_ne _ _ _ _ _ _ (by decide))))) (by show HloOp.result _ _ (Proc.devRef .tc main_v2) = _; exact (StableHlo.unary_result _ _ _ _ _ _).trans (congrArg _ ((StableHlo.unary_result_ne _ _ _ _ _ _ (by decide)).trans (StableHlo.unary_result_ne _ _ _ _ _ _ (by decide))))) (by show HloOp.result _ _ (Proc.devRef .tc main_arg3) = _; exact (StableHlo.unary_result_ne _ _ _ _ _ _ (by decide)).trans ((StableHlo.unary_result_ne _ _ _ _ _ _ (by decide)).trans (StableHlo.unary_result_ne _ _ _ _ _ _ (by decide))))
theorem kv4 : V m c main_v4 = broadcastInDim S2x1x7168 ![0, 2] bcast_S2x7168_S2x1x7168_0_2 (m ((c : Thread nD τ).loc main_arg6)) := by
  show StableHlo.after hostOps0 _ _ = _
  after_results
theorem kv5 : V m c main_v5 = broadcastInDim S2x4096x1 ![0, 1] bcast_S2x4096_S2x4096x1_0_1 (m ((c : Thread nD τ).loc main_arg8)) := by
  show StableHlo.after hostOps0 _ _ = _
  after_results
theorem kv6 : V m c main_v6 = broadcastInDim S2x1x7168 ![0, 2] bcast_S2x7168_S2x1x7168_0_2 (m ((c : Thread nD τ).loc main_arg9)) := by
  show StableHlo.after hostOps0 _ _ = _
  after_results

/-- The kernel's arrays hold the arguments' numbers. -/
theorem krep (R : Reals (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) : KRep (nums (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (V m c main_arg0) (V m c main_arg4) (V m c main_arg5) (V m c main_v4) (V m c main_v0) (V m c main_v5) (V m c main_v3) (V m c main_v6) where
  g b t j := by
    rw [kv0, kv5]
    rw [show (broadcastInDim S2x4096x1 ![0, 1] bcast_S2x4096_S2x4096x1_0_1 (m ((c : Thread nD τ).loc main_arg8)) (ix3 b t 0) : Ideal .f32) = (m ((c : Thread nD τ).loc main_arg8)) (ix2 b t) from
      broadcastInDim_apply _ _ _ _ _ fun a => by match a with | ⟨0, _⟩ => rfl | ⟨1, _⟩ => rfl]
    exact g_real (R.r7 _) (R.r8 _)
  x b t j := by rw [V_main_arg0]; exact R.r0 _
  xt b t j := by rw [V_main_arg4]; exact R.r4 _
  uf b t j := by rw [V_main_arg4]; exact R.r4 _
  ur b t j := by rw [V_main_arg4]; exact R.r4 _
  c b t j := by rw [V_main_arg5]; exact R.r5 _
  c0 b j := by
    rw [kv4]
    exact (broadcastInDim_apply _ _ _ _ (ix2 b j) fun a => by match a with | ⟨0, _⟩ => rfl | ⟨1, _⟩ => rfl).trans (R.r6 _)
  dl b j := by
    rw [kv6]
    exact (broadcastInDim_apply _ _ _ _ (ix2 b j) fun a => by match a with | ⟨0, _⟩ => rfl | ⟨1, _⟩ => rfl).trans (R.r9 _)
  vf j := by
    rw [kv3]
    refine (cat3_0 _ _ _ _ j).trans ?_
    exact (broadcastInDim_apply _ _ _ _ (jx j) fun a => by match a with | ⟨0, _⟩ => rfl).trans (R.r1 _)
  vr j := by
    rw [kv3]
    refine (cat3_1 _ _ _ _ j).trans ?_
    exact (broadcastInDim_apply _ _ _ _ (jx j) fun a => by match a with | ⟨0, _⟩ => rfl).trans (R.r2 _)
  bf j := by
    rw [kv3]
    refine (cat3_2 _ _ _ _ j).trans ?_
    exact R.r3 _
  br j := by
    rw [kv3]
    refine (cat3_3 _ _ _ _ j).trans ?_
    exact R.r3 _
end Kernel

section Reference
open Cert.GatesReferenceIdeal Cert.GatesReferenceIdeal.Gen
variable (m : (ℓ : Loc nD τ sig) → Buf (Elt Ideal) ℓ) (c : Dev nD)

theorem cat2_left (x : Vec Ideal S2x1x7168 .f32) (y : Vec Ideal S2x4095x7168 .f32) (h) (b : Fin 2) (t : Fin 4096) (j : Fin 7168) (ht : t.val = 0) :
    concatenate S2x4096x7168 1 [⟨S2x1x7168, x⟩, ⟨S2x4095x7168, y⟩] h (ix3 b t j) = x (ix3 b 0 j) :=
  concatenate_pair_apply_left 1 x y h (ix3 b t j) rfl (ix3 b 0 j) fun a => by
    match a with | ⟨0, _⟩ => rfl | ⟨1, _⟩ => exact ht.symm | ⟨2, _⟩ => rfl
theorem cat2_right (x : Vec Ideal S2x1x7168 .f32) (y : Vec Ideal S2x4095x7168 .f32) (h) (b : Fin 2) (t : Fin 4096) (j : Fin 7168) (u : Fin 4095) (ht : u.val + 1 = t.val) :
    concatenate S2x4096x7168 1 [⟨S2x1x7168, x⟩, ⟨S2x4095x7168, y⟩] h (ix3 b t j) = y (ix3 b u j) :=
  concatenate_pair_apply_right 1 x y h (ix3 b t j) rfl rfl (ix3 b u j) (fun a ha => by
    match a with | ⟨0, _⟩ => rfl | ⟨1, _⟩ => exact absurd rfl ha | ⟨2, _⟩ => rfl) ht

theorem rv0 : V m c main_v0 = (bitcastToFloat (F := Ideal) (s := S2x4096x7168) .fp8e5m2 (m ((c : Thread nD τ).loc main_arg7))) := by
  show StableHlo.after hostOps0 _ _ = _
  after_results
theorem rv3 : V m c main_v3 = concatenate S2x4096x7168 1 [⟨S2x1x7168, broadcastInDim S2x1x7168 ![0, 2] bcast_S2x7168_S2x1x7168_0_2 (m ((c : Thread nD τ).loc main_arg6))⟩, ⟨S2x4095x7168, extractStridedSlice S2x4095x7168 ![0, 0, 0] (m ((c : Thread nD τ).loc main_arg5)) slices_S2x4096x7168_S2x4095x7168_0_0_0⟩] concatenates_S2x1x7168_S2x4095x7168_S2x4096x7168_d1 := by
  show StableHlo.after hostOps0 _ _ = _
  after_results
theorem rv4 : V m c main_v4 = broadcastInDim S2x4096x1 ![0, 1] bcast_S2x4096_S2x4096x1_0_1 (m ((c : Thread nD τ).loc main_arg8)) := by
  show StableHlo.after hostOps0 _ _ = _
  after_results
theorem rv5 : V m c main_v5 = broadcastInDim S1x1x7168 ![2] bcast_S7168_S1x1x7168_2 (m ((c : Thread nD τ).loc main_arg1)) := by
  show StableHlo.after hostOps0 _ _ = _
  after_results
theorem rv6 : V m c main_v6 = broadcastInDim S1x1x7168 ![2] bcast_S7168_S1x1x7168_2 (m ((c : Thread nD τ).loc main_arg2)) := by
  show StableHlo.after hostOps0 _ _ = _
  after_results
theorem rv8 : V m c main_v8 = broadcastInDim S1x1x7168 ![0, 2] bcast_S1x7168_S1x1x7168_0_2 (extractStridedSlice S1x7168 ![0, 0] (m ((c : Thread nD τ).loc main_arg3)) slices_S2x7168_S1x7168_0_0) := by
  show StableHlo.after hostOps0 _ _ = _
  after_results
theorem rv10 : V m c main_v10 = broadcastInDim S1x1x7168 ![0, 2] bcast_S1x7168_S1x1x7168_0_2 (extractStridedSlice S1x7168 ![1, 0] (m ((c : Thread nD τ).loc main_arg3)) slices_S2x7168_S1x7168_1_0) := by
  show StableHlo.after hostOps0 _ _ = _
  after_results
theorem rv11 : V m c main_v11 = broadcastInDim S2x1x7168 ![0, 2] bcast_S2x7168_S2x1x7168_0_2 (m ((c : Thread nD τ).loc main_arg9)) := by
  show StableHlo.after hostOps0 _ _ = _
  after_results

/-- The reference's arrays hold the arguments' numbers. -/
theorem rrep (R : Reals (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) : RRep (nums (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (V m c main_arg0) (V m c main_arg4) (V m c main_arg5) (V m c main_v3) (V m c main_v0) (V m c main_v4) (V m c main_v5) (V m c main_v6) (V m c main_v8) (V m c main_v10) (V m c main_v11) where
  g b t j := by
    rw [rv0, rv4]
    rw [show (broadcastInDim S2x4096x1 ![0, 1] bcast_S2x4096_S2x4096x1_0_1 (m ((c : Thread nD τ).loc main_arg8)) (ix3 b t 0) : Ideal .f32) = (m ((c : Thread nD τ).loc main_arg8)) (ix2 b t) from
      broadcastInDim_apply _ _ _ _ _ fun a => by match a with | ⟨0, _⟩ => rfl | ⟨1, _⟩ => rfl]
    exact g_real (R.r7 _) (R.r8 _)
  x b t j := by rw [V_main_arg0]; exact R.r0 _
  xt b t j := by rw [V_main_arg4]; exact R.r4 _
  uf b t j := by rw [V_main_arg4]; exact R.r4 _
  ur b t j := by rw [V_main_arg4]; exact R.r4 _
  c b t j := by rw [V_main_arg5]; exact R.r5 _
  cp b t j := by
    rw [rv3]
    by_cases h : t.val = 0
    · refine (cat2_left _ _ _ b t j h).trans ?_
      refine (broadcastInDim_apply _ _ _ _ (ix2 b j) fun a => by match a with | ⟨0, _⟩ => rfl | ⟨1, _⟩ => rfl).trans ?_
      unfold Nums.cprev
      rw [if_pos h]
      exact R.r6 _
    · have ht := t.isLt
      refine (cat2_right _ _ _ b t j (⟨t.val - 1, by omega⟩ : Fin 4095) (by show t.val - 1 + 1 = t.val; omega)).trans ?_
      refine (extractStridedSlice_apply _ _ _ _ (ix3 b (⟨t.val - 1, by omega⟩ : Fin 4096) j) fun a => by
        match a with | ⟨0, _⟩ => exact (Nat.zero_add _).symm | ⟨1, _⟩ => exact (Nat.zero_add _).symm | ⟨2, _⟩ => exact (Nat.zero_add _).symm).trans ?_
      unfold Nums.cprev
      rw [if_neg h]
      exact R.r5 _
  vf j := by
    rw [rv5]
    exact (broadcastInDim_apply _ _ _ _ (jx j) fun a => by match a with | ⟨0, _⟩ => rfl).trans (R.r1 _)
  vr j := by
    rw [rv6]
    exact (broadcastInDim_apply _ _ _ _ (jx j) fun a => by match a with | ⟨0, _⟩ => rfl).trans (R.r2 _)
  bf j := by
    rw [rv8]
    refine (broadcastInDim_apply _ _ _ _ (ix2 0 j) fun a => by match a with | ⟨0, _⟩ => rfl | ⟨1, _⟩ => rfl).trans ?_
    exact (extractStridedSlice_apply _ _ _ _ (ix2 0 j) fun a => by
      match a with | ⟨0, _⟩ => rfl | ⟨1, _⟩ => exact (Nat.zero_add _).symm).trans (R.r3 _)
  br j := by
    rw [rv10]
    refine (broadcastInDim_apply _ _ _ _ (ix2 0 j) fun a => by match a with | ⟨0, _⟩ => rfl | ⟨1, _⟩ => rfl).trans ?_
    exact (extractStridedSlice_apply _ _ _ _ (ix2 1 j) fun a => by
      match a with | ⟨0, _⟩ => rfl | ⟨1, _⟩ => exact (Nat.zero_add _).symm).trans (R.r3 _)
  dl b j := by
    rw [rv11]
    exact (broadcastInDim_apply _ _ _ _ (ix2 b j) fun a => by match a with | ⟨0, _⟩ => rfl | ⟨1, _⟩ => rfl).trans (R.r9 _)
end Reference

/-- The kernel's run: its two results and its arguments. -/
theorem krun (m : (ℓ : Loc Cert.GatesIdeal.nD Cert.GatesIdeal.τ Cert.GatesIdeal.sig) → Buf (Elt Ideal) ℓ) (g : Dev Cert.GatesIdeal.nD → PrngReg) :
    θ_run (Cert.GatesIdeal.defs (F := Ideal)) (onTc (τ := Cert.GatesIdeal.τ) (Cert.GatesIdeal.main (F := Ideal))) ⟨m, fun _ => 0, g⟩ (fun r => ∀ c : Dev Cert.GatesIdeal.nD,
      r.2.mem ((c.tc : Thread Cert.GatesIdeal.nD Cert.GatesIdeal.τ).loc Cert.GatesIdeal.main_v7_3) = (Cert.GatesIdeal.Gen.dats m 0 c).arrAt 14 Cert.GatesIdeal.cfg0.N
      ∧ r.2.mem ((c.tc : Thread Cert.GatesIdeal.nD Cert.GatesIdeal.τ).loc Cert.GatesIdeal.main_v7_4) = (Cert.GatesIdeal.Gen.dats m 0 c).arrAt 15 Cert.GatesIdeal.cfg0.N
      ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
      ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2)
      ∧ r.2.mem ((c.tc : Thread Cert.GatesIdeal.nD Cert.GatesIdeal.τ).loc Cert.GatesIdeal.main_arg3) = m ((c.tc : Thread Cert.GatesIdeal.nD Cert.GatesIdeal.τ).loc Cert.GatesIdeal.main_arg3)
      ∧ r.2.mem ((c.tc : Thread Cert.GatesIdeal.nD Cert.GatesIdeal.τ).loc Cert.GatesIdeal.main_arg4) = m ((c.tc : Thread Cert.GatesIdeal.nD Cert.GatesIdeal.τ).loc Cert.GatesIdeal.main_arg4)
      ∧ r.2.mem ((c.tc : Thread Cert.GatesIdeal.nD Cert.GatesIdeal.τ).loc Cert.GatesIdeal.main_arg5) = m ((c.tc : Thread Cert.GatesIdeal.nD Cert.GatesIdeal.τ).loc Cert.GatesIdeal.main_arg5)
      ∧ r.2.mem ((c.tc : Thread Cert.GatesIdeal.nD Cert.GatesIdeal.τ).loc Cert.GatesIdeal.main_arg6) = m ((c.tc : Thread Cert.GatesIdeal.nD Cert.GatesIdeal.τ).loc Cert.GatesIdeal.main_arg6)
      ∧ r.2.mem ((c.tc : Thread Cert.GatesIdeal.nD Cert.GatesIdeal.τ).loc Cert.GatesIdeal.main_arg7) = m ((c.tc : Thread Cert.GatesIdeal.nD Cert.GatesIdeal.τ).loc Cert.GatesIdeal.main_arg7)
      ∧ r.2.mem ((c.tc : Thread Cert.GatesIdeal.nD Cert.GatesIdeal.τ).loc Cert.GatesIdeal.main_arg8) = m ((c.tc : Thread Cert.GatesIdeal.nD Cert.GatesIdeal.τ).loc Cert.GatesIdeal.main_arg8)
      ∧ r.2.mem ((c.tc : Thread Cert.GatesIdeal.nD Cert.GatesIdeal.τ).loc Cert.GatesIdeal.main_arg9) = m ((c.tc : Thread Cert.GatesIdeal.nD Cert.GatesIdeal.τ).loc Cert.GatesIdeal.main_arg9)) :=
  (θ_run _ _ _).mono (fun r h c => ⟨(h.1 c).1 14, (h.1 c).1 15, h.2 c⟩)
    (θ_run_and (Cert.GatesIdeal.Gen.run_main m g) (Cert.GatesIdeal.Gen.unchanged m g))

/-- The first call: the kernel's two results are the reference's. -/
theorem algebraic [Cert.Pre_all_finite.Facts] : Cert.algebraic_GatesIdeal_GatesReferenceIdeal_pre_all_finite (hGatesIdeal := Cert.GatesIdeal.Gen.facts)
    (hGatesReferenceIdeal := Cert.GatesReferenceIdeal.Gen.facts) := by
  intro m g m' g' hp hm
  refine ⟨_, _, krun m g,
    (θ_run _ _ _).mono (fun r h c => ⟨(h c).1.trans ?_, (h c).2.1.trans ?_, (h c).2.2⟩) (Cert.GatesReferenceIdeal.Value.run_blocks m' g')⟩
  · obtain ⟨e0, e1, e2, e3, e4, e5, e6, e7, e8, e9⟩ := hm c
    have R : Reals (m ((c.tc : Thread Cert.GatesIdeal.nD Cert.GatesIdeal.τ).loc Cert.GatesIdeal.main_arg0)) (m ((c.tc : Thread Cert.GatesIdeal.nD Cert.GatesIdeal.τ).loc Cert.GatesIdeal.main_arg1)) (m ((c.tc : Thread Cert.GatesIdeal.nD Cert.GatesIdeal.τ).loc Cert.GatesIdeal.main_arg2)) (m ((c.tc : Thread Cert.GatesIdeal.nD Cert.GatesIdeal.τ).loc Cert.GatesIdeal.main_arg3)) (m ((c.tc : Thread Cert.GatesIdeal.nD Cert.GatesIdeal.τ).loc Cert.GatesIdeal.main_arg4)) (m ((c.tc : Thread Cert.GatesIdeal.nD Cert.GatesIdeal.τ).loc Cert.GatesIdeal.main_arg5)) (m ((c.tc : Thread Cert.GatesIdeal.nD Cert.GatesIdeal.τ).loc Cert.GatesIdeal.main_arg6)) (m ((c.tc : Thread Cert.GatesIdeal.nD Cert.GatesIdeal.τ).loc Cert.GatesIdeal.main_arg7)) (m ((c.tc : Thread Cert.GatesIdeal.nD Cert.GatesIdeal.τ).loc Cert.GatesIdeal.main_arg8)) (m ((c.tc : Thread Cert.GatesIdeal.nD Cert.GatesIdeal.τ).loc Cert.GatesIdeal.main_arg9)) := reals_of_pre _ _ _ _ _ _ _ _ _ _ (hp c)
    have R' := R
    rw [← e0, ← e1, ← e2, ← e3, ← e4, ← e5, ← e6, ← e7, ← e8, ← e9] at R'
    rw [Cert.GatesReferenceIdeal.Gen.rfinal11 m' c _ (rrep m' c R'), Cert.GatesIdeal.Gen.final14 m c _ (krep m c R)]
    rw [e0, e1, e2, e3, e4, e5, e6, e7, e8, e9]
  · obtain ⟨e0, e1, e2, e3, e4, e5, e6, e7, e8, e9⟩ := hm c
    have R : Reals (m ((c.tc : Thread Cert.GatesIdeal.nD Cert.GatesIdeal.τ).loc Cert.GatesIdeal.main_arg0)) (m ((c.tc : Thread Cert.GatesIdeal.nD Cert.GatesIdeal.τ).loc Cert.GatesIdeal.main_arg1)) (m ((c.tc : Thread Cert.GatesIdeal.nD Cert.GatesIdeal.τ).loc Cert.GatesIdeal.main_arg2)) (m ((c.tc : Thread Cert.GatesIdeal.nD Cert.GatesIdeal.τ).loc Cert.GatesIdeal.main_arg3)) (m ((c.tc : Thread Cert.GatesIdeal.nD Cert.GatesIdeal.τ).loc Cert.GatesIdeal.main_arg4)) (m ((c.tc : Thread Cert.GatesIdeal.nD Cert.GatesIdeal.τ).loc Cert.GatesIdeal.main_arg5)) (m ((c.tc : Thread Cert.GatesIdeal.nD Cert.GatesIdeal.τ).loc Cert.GatesIdeal.main_arg6)) (m ((c.tc : Thread Cert.GatesIdeal.nD Cert.GatesIdeal.τ).loc Cert.GatesIdeal.main_arg7)) (m ((c.tc : Thread Cert.GatesIdeal.nD Cert.GatesIdeal.τ).loc Cert.GatesIdeal.main_arg8)) (m ((c.tc : Thread Cert.GatesIdeal.nD Cert.GatesIdeal.τ).loc Cert.GatesIdeal.main_arg9)) := reals_of_pre _ _ _ _ _ _ _ _ _ _ (hp c)
    have R' := R
    rw [← e0, ← e1, ← e2, ← e3, ← e4, ← e5, ← e6, ← e7, ← e8, ← e9] at R'
    rw [Cert.GatesReferenceIdeal.Gen.rfinal12 m' c _ (rrep m' c R'), Cert.GatesIdeal.Gen.final15 m c _ (krep m c R)]
    rw [e0, e1, e2, e3, e4, e5, e6, e7, e8, e9]

end Cert.Proof.GHost

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.Gen.ReferenceIdeal.Value
public import proofs.«01_k».proof.Proof.KVal
public import proofs.«01_k».proof.Proof.RVal
public import proofs.«01_k».proof.Proof.Gen.Gates
public import proofs.«01_k».proof.Proof.Gen.GatesIdeal
public import proofs.«01_k».proof.Proof.Gen.GatesReferenceIdeal
public import proofs.«01_k».proof.Proof.Gen.GatesReferenceIdeal.Skeleton
public import proofs.«01_k».proof.Proof.Gen.GatesReferenceIdeal.Launch
public import proofs.«01_k».proof.Proof.Gen.GatesReferenceIdeal.Points
public import proofs.«01_k».proof.Proof.Gen.GatesReferenceIdeal.Loops
public import proofs.«01_k».proof.Proof.Gen.GatesReferenceIdeal.Frame
public import proofs.«01_k».proof.Proof.Gen.GatesReferenceIdeal.Value
public import proofs.«01_k».proof.Proof.PFrame2
public import proofs.«01_k».proof.Proof.GFrame2
public import proofs.«01_k».proof.Proof.GHost
public import Idealize.ShloMosaic.Adequacy
public import Idealize.ShloMosaic.Init

@[expose] public section

noncomputable section

namespace Cert.Proof

open Idealize.ShloMosaic Idealize.ShloMosaic.TcCoe Idealize.SL.Sem

/-- The predicate's side condition: a scalar broadcasts to any shape. -/
theorem preFacts : Cert.Pre_scales_nonneg.Facts := ⟨by decide⟩

section Kernel
open Cert.KernelIdeal Cert.KernelIdeal.Gen
variable (m : (ℓ : Loc nD τ sig) → Buf (Elt Ideal) ℓ)

/-- The codes as the region finds them: two axes of the argument made one. -/
theorem kv0 (c : Dev nD) : V m c main_v0 = shapeCast S8192x21504 (m ((c : Thread nD τ).loc main_arg0)) shapeCasts_S2x4096x21504_S8192x21504 := by
  show StableHlo.after hostOps0 _ _ = _
  after_results
  rfl
theorem kv1 (c : Dev nD) : V m c main_v1 = shapeCast S8192x3 (m ((c : Thread nD τ).loc main_arg2)) shapeCasts_S2x4096x3_S8192x3 := by
  show StableHlo.after hostOps0 _ _ = _
  after_results
  rfl
theorem kv2 (c : Dev nD) : V m c main_v2 = broadcastInDim S1x7168 ![1] bcast_S7168_S1x7168_1 (m ((c : Thread nD τ).loc main_arg3)) := by
  show StableHlo.after hostOps0 _ _ = _
  after_results
theorem kv3 (c : Dev nD) : V m c main_v3 = shapeCast S8192x7168 (m ((c : Thread nD τ).loc main_arg4)) shapeCasts_S2x4096x7168_S8192x7168 := by
  show StableHlo.after hostOps0 _ _ = _
  after_results
  rfl
end Kernel

section Reference
open Cert.ReferenceIdeal Cert.ReferenceIdeal.Gen
variable (m : (ℓ : Loc nD τ sig) → Buf (Elt Ideal) ℓ)

theorem rv0 (c : Dev nD) : V m c main_v0 = shapeCast S8192x21504 (m ((c : Thread nD τ).loc main_arg0)) shapeCasts_S2x4096x21504_S8192x21504 := by
  show StableHlo.after hostOps0 _ _ = _
  after_results
  rfl
theorem rv1 (c : Dev nD) : V m c main_v1 = shapeCast S8192x3 (m ((c : Thread nD τ).loc main_arg2)) shapeCasts_S2x4096x3_S8192x3 := by
  show StableHlo.after hostOps0 _ _ = _
  after_results
  rfl
theorem rv2 (c : Dev nD) : V m c main_v2 = broadcastInDim S1x7168 ![1] bcast_S7168_S1x7168_1 (m ((c : Thread nD τ).loc main_arg3)) := by
  show StableHlo.after hostOps0 _ _ = _
  after_results
theorem rv3 (c : Dev nD) : V m c main_v3 = shapeCast S8192x7168 (m ((c : Thread nD τ).loc main_arg4)) shapeCasts_S2x4096x7168_S8192x7168 := by
  show StableHlo.after hostOps0 _ _ = _
  after_results
  rfl
end Reference

/-- What the precondition says of one scale: not negative, not infinite. -/
theorem scale_of_pre (a0 a1 a3 a4) (x : FVec Ideal Cert.Pre_scales_nonneg.S2x4096x3 .f32) [Cert.Pre_scales_nonneg.Facts]
    (h1 : (Cert.Pre_scales_nonneg.fn (F := Ideal) a0 a1 x a3 a4).1 = fun _ => 1#1)
    (h2 : (Cert.Pre_scales_nonneg.fn (F := Ideal) a0 a1 x a3 a4).2 = fun _ => 1#1) (i : Cert.Pre_scales_nonneg.S2x4096x3.Idx) :
    0 ≤ x i ∧ x i ≠ ⊤ := by
  have e1 := congrFun h1 i
  have e2 := congrFun h2 i
  simp only [Cert.Pre_scales_nonneg.fn, ValueIdx.cmpf_apply, Ideal.cmpf_def] at e1 e2
  have z0 : Ideal.ofBits .f32 0x00000000#32 = 0 := Ideal.ofBits_zero_f32
  have z1 : Ideal.ofBits .f32 0x7F800000#32 = ⊤ := by simp [Ideal.ofBits, Ideal.ieee]
  have b1 := (Ideal.cmp_oge_eq_one _ _).1 e1
  have b2 := (Ideal.cmp_olt_eq_one _ _).1 e2
  replace b1 : Ideal.ofBits .f32 0x00000000#32 ≤ x i := b1
  replace b2 : x i < Ideal.ofBits .f32 0x7F800000#32 := b2
  rw [z0] at b1
  rw [z1] at b2
  exact ⟨b1, b2.ne⟩

theorem algebraic [Cert.Pre_scales_nonneg.Facts] : Cert.algebraic_KernelIdeal_ReferenceIdeal_pre_scales_nonneg (hKernelIdeal := Cert.KernelIdeal.Gen.facts)
    (hReferenceIdeal := Cert.ReferenceIdeal.Gen.facts) := by
  intro m g m' g' hp hm
  refine ⟨_, Cert.KernelIdeal.Value.run_blocks m g,
    (θ_run _ _ _).mono (fun r h c => ⟨(h c).1.trans ?_, (h c).2⟩) (Cert.ReferenceIdeal.Value.run_blocks m' g')⟩
  obtain ⟨e0, e1, e2, e3, e4⟩ := hm c
  rw [KVal.final, RVal.final, kv0, kv1, kv2, kv3, rv0, rv1, rv2, rv3, Cert.KernelIdeal.Gen.V_main_arg1, Cert.ReferenceIdeal.Gen.V_main_arg1]
  have hs := scale_of_pre _ _ _ _ _ (hp c).1 (hp c).2
  funext i
  refine Eq.trans ?_ (Math.dx_eq _ _ _ _ _ (fun j => ?_) (fun j => ?_) _ _).symm
  · rw [e0, e1, e2, e3, e4]
  · exact (hs _).1
  · exact (hs _).2

theorem claim : Cert.Claim := ⟨Cert.Kernel.Gen.facts, Cert.KernelIdeal.Gen.facts, Cert.ReferenceIdeal.Gen.facts, Cert.Gates.Gen.facts, Cert.GatesIdeal.Gen.facts,
  Cert.GatesReferenceIdeal.Gen.facts, preFacts, GHost.preFacts,
  fun m ρ _ => Cert.Kernel.Gen.frame m ρ,
  fun m ρ _ => Cert.KernelIdeal.Gen.frame m ρ,
  fun m ρ _ => Cert.KernelIdeal.Gen.frame m ρ,
  fun m ρ _ => Cert.ReferenceIdeal.Gen.frame m ρ,
  fun m ρ _ => Cert.ReferenceIdeal.Gen.frame m ρ,
  fun m ρ _ => Cert.Gates.Gen.frame m ρ,
  fun m ρ _ => Cert.GatesIdeal.Gen.frame m ρ,
  fun m ρ _ => Cert.GatesIdeal.Gen.frame m ρ,
  fun m ρ _ => Cert.GatesReferenceIdeal.Gen.frame m ρ,
  fun m ρ _ => Cert.GatesReferenceIdeal.Gen.frame m ρ,
  trivial,
  @algebraic preFacts,
  trivial,
  @GHost.algebraic GHost.preFacts⟩

end Cert.Proof

end
